-- ==== Defs.lean ====
def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_scores [hPre_finite_scores : Cert.Pre_finite_scores.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_scores.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_scores [hPre_finite_scores : Cert.Pre_finite_scores.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_scores.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelQkv4 (m : (ℓ : Loc Cert.KernelQkv4.nD Cert.KernelQkv4.τ Cert.KernelQkv4.sig) → Buf (Elt Bits) ℓ) : Prop :=
  True

def Pre_KernelQkv4Ideal (m : (ℓ : Loc Cert.KernelQkv4Ideal.nD Cert.KernelQkv4Ideal.τ Cert.KernelQkv4Ideal.sig) → Buf (Elt Ideal) ℓ) : Prop :=
  True

def Pre_ReferenceQkv4Ideal (m : (ℓ : Loc Cert.ReferenceQkv4Ideal.nD Cert.ReferenceQkv4Ideal.τ Cert.ReferenceQkv4Ideal.sig) → Buf (Elt Ideal) ℓ) : Prop :=
  True

def Pre_KernelQkv16 (m : (ℓ : Loc Cert.KernelQkv16.nD Cert.KernelQkv16.τ Cert.KernelQkv16.sig) → Buf (Elt Bits) ℓ) : Prop :=
  True

def Pre_KernelQkv16Ideal (m : (ℓ : Loc Cert.KernelQkv16Ideal.nD Cert.KernelQkv16Ideal.τ Cert.KernelQkv16Ideal.sig) → Buf (Elt Ideal) ℓ) : Prop :=
  True

def Pre_ReferenceQkv16Ideal (m : (ℓ : Loc Cert.ReferenceQkv16Ideal.nD Cert.ReferenceQkv16Ideal.τ Cert.ReferenceQkv16Ideal.sig) → Buf (Elt Ideal) ℓ) : Prop :=
  True

def Pre_KernelKvb (m : (ℓ : Loc Cert.KernelKvb.nD Cert.KernelKvb.τ Cert.KernelKvb.sig) → Buf (Elt Bits) ℓ) : Prop :=
  True

def Pre_KernelKvbIdeal (m : (ℓ : Loc Cert.KernelKvbIdeal.nD Cert.KernelKvbIdeal.τ Cert.KernelKvbIdeal.sig) → Buf (Elt Ideal) ℓ) : Prop :=
  True

def Pre_ReferenceKvbIdeal (m : (ℓ : Loc Cert.ReferenceKvbIdeal.nD Cert.ReferenceKvbIdeal.τ Cert.ReferenceKvbIdeal.sig) → Buf (Elt Ideal) ℓ) : Prop :=
  True

def Pre_KernelQb (m : (ℓ : Loc Cert.KernelQb.nD Cert.KernelQb.τ Cert.KernelQb.sig) → Buf (Elt Bits) ℓ) : Prop :=
  True

def Pre_KernelQbIdeal (m : (ℓ : Loc Cert.KernelQbIdeal.nD Cert.KernelQbIdeal.τ Cert.KernelQbIdeal.sig) → Buf (Elt Ideal) ℓ) : Prop :=
  True

def Pre_ReferenceQbIdeal (m : (ℓ : Loc Cert.ReferenceQbIdeal.nD Cert.ReferenceQbIdeal.τ Cert.ReferenceQbIdeal.sig) → Buf (Elt Ideal) ℓ) : Prop :=
  True

def Pre_KernelOa (m : (ℓ : Loc Cert.KernelOa.nD Cert.KernelOa.τ Cert.KernelOa.sig) → Buf (Elt Bits) ℓ) : Prop :=
  True

def Pre_KernelOaIdeal (m : (ℓ : Loc Cert.KernelOaIdeal.nD Cert.KernelOaIdeal.τ Cert.KernelOaIdeal.sig) → Buf (Elt Ideal) ℓ) : Prop :=
  True

def Pre_ReferenceOaIdeal (m : (ℓ : Loc Cert.ReferenceOaIdeal.nD Cert.ReferenceOaIdeal.τ Cert.ReferenceOaIdeal.sig) → Buf (Elt Ideal) ℓ) : Prop :=
  True

def Pre_KernelOb (m : (ℓ : Loc Cert.KernelOb.nD Cert.KernelOb.τ Cert.KernelOb.sig) → Buf (Elt Bits) ℓ) : Prop :=
  True

def Pre_KernelObIdeal (m : (ℓ : Loc Cert.KernelObIdeal.nD Cert.KernelObIdeal.τ Cert.KernelObIdeal.sig) → Buf (Elt Ideal) ℓ) : Prop :=
  True

def Pre_ReferenceObIdeal (m : (ℓ : Loc Cert.ReferenceObIdeal.nD Cert.ReferenceObIdeal.τ Cert.ReferenceObIdeal.sig) → Buf (Elt Ideal) ℓ) : Prop :=
  True

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_KernelAttnIdeal_pre_finite_scores [hKernelAttnIdeal : Cert.KernelAttnIdeal.Facts] [hPre_finite_scores : Cert.Pre_finite_scores.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_scores m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_ReferenceAttnIdeal_pre_finite_scores [hReferenceAttnIdeal : Cert.ReferenceAttnIdeal.Facts] [hPre_finite_scores : Cert.Pre_finite_scores.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_scores m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelQkv4 [hKernelQkv4 : Cert.KernelQkv4.Facts] : Prop :=
  ∀ (m : (ℓ : Loc Cert.KernelQkv4.nD Cert.KernelQkv4.τ Cert.KernelQkv4.sig) → Buf (Elt Bits) ℓ) (g : Dev Cert.KernelQkv4.nD → PrngReg), Pre_KernelQkv4 m →
    θ_run (Cert.KernelQkv4.defs (F := Bits)) (onTc (τ := Cert.KernelQkv4.τ) (Cert.KernelQkv4.main (F := Bits))) ⟨m, fun _ => 0, g⟩ (fun r => (∀ c : Dev Cert.KernelQkv4.nD,
      r.2.mem ((c.tc : Thread Cert.KernelQkv4.nD Cert.KernelQkv4.τ).loc Cert.KernelQkv4.main_arg0) = m ((c.tc : Thread Cert.KernelQkv4.nD Cert.KernelQkv4.τ).loc Cert.KernelQkv4.main_arg0)
      ∧ r.2.mem ((c.tc : Thread Cert.KernelQkv4.nD Cert.KernelQkv4.τ).loc Cert.KernelQkv4.main_arg1) = m ((c.tc : Thread Cert.KernelQkv4.nD Cert.KernelQkv4.τ).loc Cert.KernelQkv4.main_arg1))
      ∧ r.2.sem = fun _ => 0)

def quiescent_KernelQkv4Ideal [hKernelQkv4Ideal : Cert.KernelQkv4Ideal.Facts] : Prop :=
  ∀ (m : (ℓ : Loc Cert.KernelQkv4Ideal.nD Cert.KernelQkv4Ideal.τ Cert.KernelQkv4Ideal.sig) → Buf (Elt Ideal) ℓ) (g : Dev Cert.KernelQkv4Ideal.nD → PrngReg), Pre_KernelQkv4Ideal m →
    θ_run (Cert.KernelQkv4Ideal.defs (F := Ideal)) (onTc (τ := Cert.KernelQkv4Ideal.τ) (Cert.KernelQkv4Ideal.main (F := Ideal))) ⟨m, fun _ => 0, g⟩ (fun r => (∀ c : Dev Cert.KernelQkv4Ideal.nD,
      r.2.mem ((c.tc : Thread Cert.KernelQkv4Ideal.nD Cert.KernelQkv4Ideal.τ).loc Cert.KernelQkv4Ideal.main_arg0) = m ((c.tc : Thread Cert.KernelQkv4Ideal.nD Cert.KernelQkv4Ideal.τ).loc Cert.KernelQkv4Ideal.main_arg0)
      ∧ r.2.mem ((c.tc : Thread Cert.KernelQkv4Ideal.nD Cert.KernelQkv4Ideal.τ).loc Cert.KernelQkv4Ideal.main_arg1) = m ((c.tc : Thread Cert.KernelQkv4Ideal.nD Cert.KernelQkv4Ideal.τ).loc Cert.KernelQkv4Ideal.main_arg1))
      ∧ r.2.sem = fun _ => 0)

def quiescent_ReferenceQkv4Ideal [hReferenceQkv4Ideal : Cert.ReferenceQkv4Ideal.Facts] : Prop :=
  ∀ (m : (ℓ : Loc Cert.ReferenceQkv4Ideal.nD Cert.ReferenceQkv4Ideal.τ Cert.ReferenceQkv4Ideal.sig) → Buf (Elt Ideal) ℓ) (g : Dev Cert.ReferenceQkv4Ideal.nD → PrngReg), Pre_ReferenceQkv4Ideal m →
    θ_run (Cert.ReferenceQkv4Ideal.defs (F := Ideal)) (onTc (τ := Cert.ReferenceQkv4Ideal.τ) (Cert.ReferenceQkv4Ideal.main (F := Ideal))) ⟨m, fun _ => 0, g⟩ (fun r => (∀ c : Dev Cert.ReferenceQkv4Ideal.nD,
      r.2.mem ((c.tc : Thread Cert.ReferenceQkv4Ideal.nD Cert.ReferenceQkv4Ideal.τ).loc Cert.ReferenceQkv4Ideal.main_arg0) = m ((c.tc : Thread Cert.ReferenceQkv4Ideal.nD Cert.ReferenceQkv4Ideal.τ).loc Cert.ReferenceQkv4Ideal.main_arg0)
      ∧ r.2.mem ((c.tc : Thread Cert.ReferenceQkv4Ideal.nD Cert.ReferenceQkv4Ideal.τ).loc Cert.ReferenceQkv4Ideal.main_arg1) = m ((c.tc : Thread Cert.ReferenceQkv4Ideal.nD Cert.ReferenceQkv4Ideal.τ).loc Cert.ReferenceQkv4Ideal.main_arg1))
      ∧ r.2.sem = fun _ => 0)

def quiescent_KernelQkv16 [hKernelQkv16 : Cert.KernelQkv16.Facts] : Prop :=
  ∀ (m : (ℓ : Loc Cert.KernelQkv16.nD Cert.KernelQkv16.τ Cert.KernelQkv16.sig) → Buf (Elt Bits) ℓ) (g : Dev Cert.KernelQkv16.nD → PrngReg), Pre_KernelQkv16 m →
    θ_run (Cert.KernelQkv16.defs (F := Bits)) (onTc (τ := Cert.KernelQkv16.τ) (Cert.KernelQkv16.main (F := Bits))) ⟨m, fun _ => 0, g⟩ (fun r => (∀ c : Dev Cert.KernelQkv16.nD,
      r.2.mem ((c.tc : Thread Cert.KernelQkv16.nD Cert.KernelQkv16.τ).loc Cert.KernelQkv16.main_arg0) = m ((c.tc : Thread Cert.KernelQkv16.nD Cert.KernelQkv16.τ).loc Cert.KernelQkv16.main_arg0)
      ∧ r.2.mem ((c.tc : Thread Cert.KernelQkv16.nD Cert.KernelQkv16.τ).loc Cert.KernelQkv16.main_arg1) = m ((c.tc : Thread Cert.KernelQkv16.nD Cert.KernelQkv16.τ).loc Cert.KernelQkv16.main_arg1))
      ∧ r.2.sem = fun _ => 0)

def quiescent_KernelQkv16Ideal [hKernelQkv16Ideal : Cert.KernelQkv16Ideal.Facts] : Prop :=
  ∀ (m : (ℓ : Loc Cert.KernelQkv16Ideal.nD Cert.KernelQkv16Ideal.τ Cert.KernelQkv16Ideal.sig) → Buf (Elt Ideal) ℓ) (g : Dev Cert.KernelQkv16Ideal.nD → PrngReg), Pre_KernelQkv16Ideal m →
    θ_run (Cert.KernelQkv16Ideal.defs (F := Ideal)) (onTc (τ := Cert.KernelQkv16Ideal.τ) (Cert.KernelQkv16Ideal.main (F := Ideal))) ⟨m, fun _ => 0, g⟩ (fun r => (∀ c : Dev Cert.KernelQkv16Ideal.nD,
      r.2.mem ((c.tc : Thread Cert.KernelQkv16Ideal.nD Cert.KernelQkv16Ideal.τ).loc Cert.KernelQkv16Ideal.main_arg0) = m ((c.tc : Thread Cert.KernelQkv16Ideal.nD Cert.KernelQkv16Ideal.τ).loc Cert.KernelQkv16Ideal.main_arg0)
      ∧ r.2.mem ((c.tc : Thread Cert.KernelQkv16Ideal.nD Cert.KernelQkv16Ideal.τ).loc Cert.KernelQkv16Ideal.main_arg1) = m ((c.tc : Thread Cert.KernelQkv16Ideal.nD Cert.KernelQkv16Ideal.τ).loc Cert.KernelQkv16Ideal.main_arg1))
      ∧ r.2.sem = fun _ => 0)

def quiescent_ReferenceQkv16Ideal [hReferenceQkv16Ideal : Cert.ReferenceQkv16Ideal.Facts] : Prop :=
  ∀ (m : (ℓ : Loc Cert.ReferenceQkv16Ideal.nD Cert.ReferenceQkv16Ideal.τ Cert.ReferenceQkv16Ideal.sig) → Buf (Elt Ideal) ℓ) (g : Dev Cert.ReferenceQkv16Ideal.nD → PrngReg), Pre_ReferenceQkv16Ideal m →
    θ_run (Cert.ReferenceQkv16Ideal.defs (F := Ideal)) (onTc (τ := Cert.ReferenceQkv16Ideal.τ) (Cert.ReferenceQkv16Ideal.main (F := Ideal))) ⟨m, fun _ => 0, g⟩ (fun r => (∀ c : Dev Cert.ReferenceQkv16Ideal.nD,
      r.2.mem ((c.tc : Thread Cert.ReferenceQkv16Ideal.nD Cert.ReferenceQkv16Ideal.τ).loc Cert.ReferenceQkv16Ideal.main_arg0) = m ((c.tc : Thread Cert.ReferenceQkv16Ideal.nD Cert.ReferenceQkv16Ideal.τ).loc Cert.ReferenceQkv16Ideal.main_arg0)
      ∧ r.2.mem ((c.tc : Thread Cert.ReferenceQkv16Ideal.nD Cert.ReferenceQkv16Ideal.τ).loc Cert.ReferenceQkv16Ideal.main_arg1) = m ((c.tc : Thread Cert.ReferenceQkv16Ideal.nD Cert.ReferenceQkv16Ideal.τ).loc Cert.ReferenceQkv16Ideal.main_arg1))
      ∧ r.2.sem = fun _ => 0)

def quiescent_KernelKvb [hKernelKvb : Cert.KernelKvb.Facts] : Prop :=
  ∀ (m : (ℓ : Loc Cert.KernelKvb.nD Cert.KernelKvb.τ Cert.KernelKvb.sig) → Buf (Elt Bits) ℓ) (g : Dev Cert.KernelKvb.nD → PrngReg), Pre_KernelKvb m →
    θ_run (Cert.KernelKvb.defs (F := Bits)) (onTc (τ := Cert.KernelKvb.τ) (Cert.KernelKvb.main (F := Bits))) ⟨m, fun _ => 0, g⟩ (fun r => (∀ c : Dev Cert.KernelKvb.nD,
      r.2.mem ((c.tc : Thread Cert.KernelKvb.nD Cert.KernelKvb.τ).loc Cert.KernelKvb.main_arg0) = m ((c.tc : Thread Cert.KernelKvb.nD Cert.KernelKvb.τ).loc Cert.KernelKvb.main_arg0)
      ∧ r.2.mem ((c.tc : Thread Cert.KernelKvb.nD Cert.KernelKvb.τ).loc Cert.KernelKvb.main_arg1) = m ((c.tc : Thread Cert.KernelKvb.nD Cert.KernelKvb.τ).loc Cert.KernelKvb.main_arg1))
      ∧ r.2.sem = fun _ => 0)

def quiescent_KernelKvbIdeal [hKernelKvbIdeal : Cert.KernelKvbIdeal.Facts] : Prop :=
  ∀ (m : (ℓ : Loc Cert.KernelKvbIdeal.nD Cert.KernelKvbIdeal.τ Cert.KernelKvbIdeal.sig) → Buf (Elt Ideal) ℓ) (g : Dev Cert.KernelKvbIdeal.nD → PrngReg), Pre_KernelKvbIdeal m →
    θ_run (Cert.KernelKvbIdeal.defs (F := Ideal)) (onTc (τ := Cert.KernelKvbIdeal.τ) (Cert.KernelKvbIdeal.main (F := Ideal))) ⟨m, fun _ => 0, g⟩ (fun r => (∀ c : Dev Cert.KernelKvbIdeal.nD,
      r.2.mem ((c.tc : Thread Cert.KernelKvbIdeal.nD Cert.KernelKvbIdeal.τ).loc Cert.KernelKvbIdeal.main_arg0) = m ((c.tc : Thread Cert.KernelKvbIdeal.nD Cert.KernelKvbIdeal.τ).loc Cert.KernelKvbIdeal.main_arg0)
      ∧ r.2.mem ((c.tc : Thread Cert.KernelKvbIdeal.nD Cert.KernelKvbIdeal.τ).loc Cert.KernelKvbIdeal.main_arg1) = m ((c.tc : Thread Cert.KernelKvbIdeal.nD Cert.KernelKvbIdeal.τ).loc Cert.KernelKvbIdeal.main_arg1))
      ∧ r.2.sem = fun _ => 0)

def quiescent_ReferenceKvbIdeal [hReferenceKvbIdeal : Cert.ReferenceKvbIdeal.Facts] : Prop :=
  ∀ (m : (ℓ : Loc Cert.ReferenceKvbIdeal.nD Cert.ReferenceKvbIdeal.τ Cert.ReferenceKvbIdeal.sig) → Buf (Elt Ideal) ℓ) (g : Dev Cert.ReferenceKvbIdeal.nD → PrngReg), Pre_ReferenceKvbIdeal m →
    θ_run (Cert.ReferenceKvbIdeal.defs (F := Ideal)) (onTc (τ := Cert.ReferenceKvbIdeal.τ) (Cert.ReferenceKvbIdeal.main (F := Ideal))) ⟨m, fun _ => 0, g⟩ (fun r => (∀ c : Dev Cert.ReferenceKvbIdeal.nD,
      r.2.mem ((c.tc : Thread Cert.ReferenceKvbIdeal.nD Cert.ReferenceKvbIdeal.τ).loc Cert.ReferenceKvbIdeal.main_arg0) = m ((c.tc : Thread Cert.ReferenceKvbIdeal.nD Cert.ReferenceKvbIdeal.τ).loc Cert.ReferenceKvbIdeal.main_arg0)
      ∧ r.2.mem ((c.tc : Thread Cert.ReferenceKvbIdeal.nD Cert.ReferenceKvbIdeal.τ).loc Cert.ReferenceKvbIdeal.main_arg1) = m ((c.tc : Thread Cert.ReferenceKvbIdeal.nD Cert.ReferenceKvbIdeal.τ).loc Cert.ReferenceKvbIdeal.main_arg1))
      ∧ r.2.sem = fun _ => 0)

def quiescent_KernelQb [hKernelQb : Cert.KernelQb.Facts] : Prop :=
  ∀ (m : (ℓ : Loc Cert.KernelQb.nD Cert.KernelQb.τ Cert.KernelQb.sig) → Buf (Elt Bits) ℓ) (g : Dev Cert.KernelQb.nD → PrngReg), Pre_KernelQb m →
    θ_run (Cert.KernelQb.defs (F := Bits)) (onTc (τ := Cert.KernelQb.τ) (Cert.KernelQb.main (F := Bits))) ⟨m, fun _ => 0, g⟩ (fun r => (∀ c : Dev Cert.KernelQb.nD,
      r.2.mem ((c.tc : Thread Cert.KernelQb.nD Cert.KernelQb.τ).loc Cert.KernelQb.main_arg0) = m ((c.tc : Thread Cert.KernelQb.nD Cert.KernelQb.τ).loc Cert.KernelQb.main_arg0)
      ∧ r.2.mem ((c.tc : Thread Cert.KernelQb.nD Cert.KernelQb.τ).loc Cert.KernelQb.main_arg1) = m ((c.tc : Thread Cert.KernelQb.nD Cert.KernelQb.τ).loc Cert.KernelQb.main_arg1))
      ∧ r.2.sem = fun _ => 0)

def quiescent_KernelQbIdeal [hKernelQbIdeal : Cert.KernelQbIdeal.Facts] : Prop :=
  ∀ (m : (ℓ : Loc Cert.KernelQbIdeal.nD Cert.KernelQbIdeal.τ Cert.KernelQbIdeal.sig) → Buf (Elt Ideal) ℓ) (g : Dev Cert.KernelQbIdeal.nD → PrngReg), Pre_KernelQbIdeal m →
    θ_run (Cert.KernelQbIdeal.defs (F := Ideal)) (onTc (τ := Cert.KernelQbIdeal.τ) (Cert.KernelQbIdeal.main (F := Ideal))) ⟨m, fun _ => 0, g⟩ (fun r => (∀ c : Dev Cert.KernelQbIdeal.nD,
      r.2.mem ((c.tc : Thread Cert.KernelQbIdeal.nD Cert.KernelQbIdeal.τ).loc Cert.KernelQbIdeal.main_arg0) = m ((c.tc : Thread Cert.KernelQbIdeal.nD Cert.KernelQbIdeal.τ).loc Cert.KernelQbIdeal.main_arg0)
      ∧ r.2.mem ((c.tc : Thread Cert.KernelQbIdeal.nD Cert.KernelQbIdeal.τ).loc Cert.KernelQbIdeal.main_arg1) = m ((c.tc : Thread Cert.KernelQbIdeal.nD Cert.KernelQbIdeal.τ).loc Cert.KernelQbIdeal.main_arg1))
      ∧ r.2.sem = fun _ => 0)

def quiescent_ReferenceQbIdeal [hReferenceQbIdeal : Cert.ReferenceQbIdeal.Facts] : Prop :=
  ∀ (m : (ℓ : Loc Cert.ReferenceQbIdeal.nD Cert.ReferenceQbIdeal.τ Cert.ReferenceQbIdeal.sig) → Buf (Elt Ideal) ℓ) (g : Dev Cert.ReferenceQbIdeal.nD → PrngReg), Pre_ReferenceQbIdeal m →
    θ_run (Cert.ReferenceQbIdeal.defs (F := Ideal)) (onTc (τ := Cert.ReferenceQbIdeal.τ) (Cert.ReferenceQbIdeal.main (F := Ideal))) ⟨m, fun _ => 0, g⟩ (fun r => (∀ c : Dev Cert.ReferenceQbIdeal.nD,
      r.2.mem ((c.tc : Thread Cert.ReferenceQbIdeal.nD Cert.ReferenceQbIdeal.τ).loc Cert.ReferenceQbIdeal.main_arg0) = m ((c.tc : Thread Cert.ReferenceQbIdeal.nD Cert.ReferenceQbIdeal.τ).loc Cert.ReferenceQbIdeal.main_arg0)
      ∧ r.2.mem ((c.tc : Thread Cert.ReferenceQbIdeal.nD Cert.ReferenceQbIdeal.τ).loc Cert.ReferenceQbIdeal.main_arg1) = m ((c.tc : Thread Cert.ReferenceQbIdeal.nD Cert.ReferenceQbIdeal.τ).loc Cert.ReferenceQbIdeal.main_arg1))
      ∧ r.2.sem = fun _ => 0)

def quiescent_KernelOa [hKernelOa : Cert.KernelOa.Facts] : Prop :=
  ∀ (m : (ℓ : Loc Cert.KernelOa.nD Cert.KernelOa.τ Cert.KernelOa.sig) → Buf (Elt Bits) ℓ) (g : Dev Cert.KernelOa.nD → PrngReg), Pre_KernelOa m →
    θ_run (Cert.KernelOa.defs (F := Bits)) (onTc (τ := Cert.KernelOa.τ) (Cert.KernelOa.main (F := Bits))) ⟨m, fun _ => 0, g⟩ (fun r => (∀ c : Dev Cert.KernelOa.nD,
      r.2.mem ((c.tc : Thread Cert.KernelOa.nD Cert.KernelOa.τ).loc Cert.KernelOa.main_arg0) = m ((c.tc : Thread Cert.KernelOa.nD Cert.KernelOa.τ).loc Cert.KernelOa.main_arg0)
      ∧ r.2.mem ((c.tc : Thread Cert.KernelOa.nD Cert.KernelOa.τ).loc Cert.KernelOa.main_arg1) = m ((c.tc : Thread Cert.KernelOa.nD Cert.KernelOa.τ).loc Cert.KernelOa.main_arg1)
      ∧ r.2.mem ((c.tc : Thread Cert.KernelOa.nD Cert.KernelOa.τ).loc Cert.KernelOa.main_arg2) = m ((c.tc : Thread Cert.KernelOa.nD Cert.KernelOa.τ).loc Cert.KernelOa.main_arg2))
      ∧ r.2.sem = fun _ => 0)

def quiescent_KernelOaIdeal [hKernelOaIdeal : Cert.KernelOaIdeal.Facts] : Prop :=
  ∀ (m : (ℓ : Loc Cert.KernelOaIdeal.nD Cert.KernelOaIdeal.τ Cert.KernelOaIdeal.sig) → Buf (Elt Ideal) ℓ) (g : Dev Cert.KernelOaIdeal.nD → PrngReg), Pre_KernelOaIdeal m →
    θ_run (Cert.KernelOaIdeal.defs (F := Ideal)) (onTc (τ := Cert.KernelOaIdeal.τ) (Cert.KernelOaIdeal.main (F := Ideal))) ⟨m, fun _ => 0, g⟩ (fun r => (∀ c : Dev Cert.KernelOaIdeal.nD,
      r.2.mem ((c.tc : Thread Cert.KernelOaIdeal.nD Cert.KernelOaIdeal.τ).loc Cert.KernelOaIdeal.main_arg0) = m ((c.tc : Thread Cert.KernelOaIdeal.nD Cert.KernelOaIdeal.τ).loc Cert.KernelOaIdeal.main_arg0)
      ∧ r.2.mem ((c.tc : Thread Cert.KernelOaIdeal.nD Cert.KernelOaIdeal.τ).loc Cert.KernelOaIdeal.main_arg1) = m ((c.tc : Thread Cert.KernelOaIdeal.nD Cert.KernelOaIdeal.τ).loc Cert.KernelOaIdeal.main_arg1)
      ∧ r.2.mem ((c.tc : Thread Cert.KernelOaIdeal.nD Cert.KernelOaIdeal.τ).loc Cert.KernelOaIdeal.main_arg2) = m ((c.tc : Thread Cert.KernelOaIdeal.nD Cert.KernelOaIdeal.τ).loc Cert.KernelOaIdeal.main_arg2))
      ∧ r.2.sem = fun _ => 0)

def quiescent_ReferenceOaIdeal [hReferenceOaIdeal : Cert.ReferenceOaIdeal.Facts] : Prop :=
  ∀ (m : (ℓ : Loc Cert.ReferenceOaIdeal.nD Cert.ReferenceOaIdeal.τ Cert.ReferenceOaIdeal.sig) → Buf (Elt Ideal) ℓ) (g : Dev Cert.ReferenceOaIdeal.nD → PrngReg), Pre_ReferenceOaIdeal m →
    θ_run (Cert.ReferenceOaIdeal.defs (F := Ideal)) (onTc (τ := Cert.ReferenceOaIdeal.τ) (Cert.ReferenceOaIdeal.main (F := Ideal))) ⟨m, fun _ => 0, g⟩ (fun r => (∀ c : Dev Cert.ReferenceOaIdeal.nD,
      r.2.mem ((c.tc : Thread Cert.ReferenceOaIdeal.nD Cert.ReferenceOaIdeal.τ).loc Cert.ReferenceOaIdeal.main_arg0) = m ((c.tc : Thread Cert.ReferenceOaIdeal.nD Cert.ReferenceOaIdeal.τ).loc Cert.ReferenceOaIdeal.main_arg0)
      ∧ r.2.mem ((c.tc : Thread Cert.ReferenceOaIdeal.nD Cert.ReferenceOaIdeal.τ).loc Cert.ReferenceOaIdeal.main_arg1) = m ((c.tc : Thread Cert.ReferenceOaIdeal.nD Cert.ReferenceOaIdeal.τ).loc Cert.ReferenceOaIdeal.main_arg1)
      ∧ r.2.mem ((c.tc : Thread Cert.ReferenceOaIdeal.nD Cert.ReferenceOaIdeal.τ).loc Cert.ReferenceOaIdeal.main_arg2) = m ((c.tc : Thread Cert.ReferenceOaIdeal.nD Cert.ReferenceOaIdeal.τ).loc Cert.ReferenceOaIdeal.main_arg2))
      ∧ r.2.sem = fun _ => 0)

def quiescent_KernelOb [hKernelOb : Cert.KernelOb.Facts] : Prop :=
  ∀ (m : (ℓ : Loc Cert.KernelOb.nD Cert.KernelOb.τ Cert.KernelOb.sig) → Buf (Elt Bits) ℓ) (g : Dev Cert.KernelOb.nD → PrngReg), Pre_KernelOb m →
    θ_run (Cert.KernelOb.defs (F := Bits)) (onTc (τ := Cert.KernelOb.τ) (Cert.KernelOb.main (F := Bits))) ⟨m, fun _ => 0, g⟩ (fun r => (∀ c : Dev Cert.KernelOb.nD,
      r.2.mem ((c.tc : Thread Cert.KernelOb.nD Cert.KernelOb.τ).loc Cert.KernelOb.main_arg0) = m ((c.tc : Thread Cert.KernelOb.nD Cert.KernelOb.τ).loc Cert.KernelOb.main_arg0)
      ∧ r.2.mem ((c.tc : Thread Cert.KernelOb.nD Cert.KernelOb.τ).loc Cert.KernelOb.main_arg1) = m ((c.tc : Thread Cert.KernelOb.nD Cert.KernelOb.τ).loc Cert.KernelOb.main_arg1)
      ∧ r.2.mem ((c.tc : Thread Cert.KernelOb.nD Cert.KernelOb.τ).loc Cert.KernelOb.main_arg2) = m ((c.tc : Thread Cert.KernelOb.nD Cert.KernelOb.τ).loc Cert.KernelOb.main_arg2))
      ∧ r.2.sem = fun _ => 0)

def quiescent_KernelObIdeal [hKernelObIdeal : Cert.KernelObIdeal.Facts] : Prop :=
  ∀ (m : (ℓ : Loc Cert.KernelObIdeal.nD Cert.KernelObIdeal.τ Cert.KernelObIdeal.sig) → Buf (Elt Ideal) ℓ) (g : Dev Cert.KernelObIdeal.nD → PrngReg), Pre_KernelObIdeal m →
    θ_run (Cert.KernelObIdeal.defs (F := Ideal)) (onTc (τ := Cert.KernelObIdeal.τ) (Cert.KernelObIdeal.main (F := Ideal))) ⟨m, fun _ => 0, g⟩ (fun r => (∀ c : Dev Cert.KernelObIdeal.nD,
      r.2.mem ((c.tc : Thread Cert.KernelObIdeal.nD Cert.KernelObIdeal.τ).loc Cert.KernelObIdeal.main_arg0) = m ((c.tc : Thread Cert.KernelObIdeal.nD Cert.KernelObIdeal.τ).loc Cert.KernelObIdeal.main_arg0)
      ∧ r.2.mem ((c.tc : Thread Cert.KernelObIdeal.nD Cert.KernelObIdeal.τ).loc Cert.KernelObIdeal.main_arg1) = m ((c.tc : Thread Cert.KernelObIdeal.nD Cert.KernelObIdeal.τ).loc Cert.KernelObIdeal.main_arg1)
      ∧ r.2.mem ((c.tc : Thread Cert.KernelObIdeal.nD Cert.KernelObIdeal.τ).loc Cert.KernelObIdeal.main_arg2) = m ((c.tc : Thread Cert.KernelObIdeal.nD Cert.KernelObIdeal.τ).loc Cert.KernelObIdeal.main_arg2))
      ∧ r.2.sem = fun _ => 0)

def quiescent_ReferenceObIdeal [hReferenceObIdeal : Cert.ReferenceObIdeal.Facts] : Prop :=
  ∀ (m : (ℓ : Loc Cert.ReferenceObIdeal.nD Cert.ReferenceObIdeal.τ Cert.ReferenceObIdeal.sig) → Buf (Elt Ideal) ℓ) (g : Dev Cert.ReferenceObIdeal.nD → PrngReg), Pre_ReferenceObIdeal m →
    θ_run (Cert.ReferenceObIdeal.defs (F := Ideal)) (onTc (τ := Cert.ReferenceObIdeal.τ) (Cert.ReferenceObIdeal.main (F := Ideal))) ⟨m, fun _ => 0, g⟩ (fun r => (∀ c : Dev Cert.ReferenceObIdeal.nD,
      r.2.mem ((c.tc : Thread Cert.ReferenceObIdeal.nD Cert.ReferenceObIdeal.τ).loc Cert.ReferenceObIdeal.main_arg0) = m ((c.tc : Thread Cert.ReferenceObIdeal.nD Cert.ReferenceObIdeal.τ).loc Cert.ReferenceObIdeal.main_arg0)
      ∧ r.2.mem ((c.tc : Thread Cert.ReferenceObIdeal.nD Cert.ReferenceObIdeal.τ).loc Cert.ReferenceObIdeal.main_arg1) = m ((c.tc : Thread Cert.ReferenceObIdeal.nD Cert.ReferenceObIdeal.τ).loc Cert.ReferenceObIdeal.main_arg1)
      ∧ r.2.mem ((c.tc : Thread Cert.ReferenceObIdeal.nD Cert.ReferenceObIdeal.τ).loc Cert.ReferenceObIdeal.main_arg2) = m ((c.tc : Thread Cert.ReferenceObIdeal.nD Cert.ReferenceObIdeal.τ).loc Cert.ReferenceObIdeal.main_arg2))
      ∧ r.2.sem = fun _ => 0)

def preserves_KernelAttn_KernelAttnIdeal : Prop :=
  IdealRules.named_const.Statement Cert.KernelAttnIdeal.κ "mask" .f32 0xF149F2CA#32 ⊥

def algebraic_KernelAttnIdeal_ReferenceAttnIdeal_pre_finite_scores [hKernelAttnIdeal : Cert.KernelAttnIdeal.Facts] [hReferenceAttnIdeal : Cert.ReferenceAttnIdeal.Facts] [hPre_finite_scores : Cert.Pre_finite_scores.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_scores m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)) →
    ∃ (v0 : (c : Dev Cert.KernelAttnIdeal.nD) → Buf (Elt Ideal) ((c.tc : Thread Cert.KernelAttnIdeal.nD Cert.KernelAttnIdeal.τ).loc Cert.KernelAttnIdeal.main_v2_0)) (v1 : (c : Dev Cert.KernelAttnIdeal.nD) → Buf (Elt Ideal) ((c.tc : Thread Cert.KernelAttnIdeal.nD Cert.KernelAttnIdeal.τ).loc Cert.KernelAttnIdeal.main_v2_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v2_0) = v0 c
          ∧ r.2.mem ((c.tc : Thread Cert.KernelAttnIdeal.nD Cert.KernelAttnIdeal.τ).loc Cert.KernelAttnIdeal.main_v2_1) = v1 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v70) = v0 c
          ∧ r.2.mem ((c.tc : Thread Cert.ReferenceAttnIdeal.nD Cert.ReferenceAttnIdeal.τ).loc Cert.ReferenceAttnIdeal.main_v71) = v1 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v39) = v0 c
          ∧ r.2.mem ((c.tc : Thread Cert.ReferenceUpIdeal.nD Cert.ReferenceUpIdeal.τ).loc Cert.ReferenceUpIdeal.main_v41) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v45_0)) (v1 : (c : Dev Cert.KernelQkvIdeal.nD) → Buf (Elt Ideal) ((c.tc : Thread Cert.KernelQkvIdeal.nD Cert.KernelQkvIdeal.τ).loc Cert.KernelQkvIdeal.main_v45_1)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v45_0) = v0 c
          ∧ r.2.mem ((c.tc : Thread Cert.KernelQkvIdeal.nD Cert.KernelQkvIdeal.τ).loc Cert.KernelQkvIdeal.main_v45_1) = v1 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v90) = v0 c
          ∧ r.2.mem ((c.tc : Thread Cert.ReferenceQkvIdeal.nD Cert.ReferenceQkvIdeal.τ).loc Cert.ReferenceQkvIdeal.main_v91) = v1 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelQkv4_KernelQkv4Ideal : Prop :=
  True

def algebraic_KernelQkv4Ideal_ReferenceQkv4Ideal [hKernelQkv4Ideal : Cert.KernelQkv4Ideal.Facts] [hReferenceQkv4Ideal : Cert.ReferenceQkv4Ideal.Facts] : Prop :=
  ∀ (m : (ℓ : Loc Cert.KernelQkv4Ideal.nD Cert.KernelQkv4Ideal.τ Cert.KernelQkv4Ideal.sig) → Buf (Elt Ideal) ℓ) (g : Dev Cert.KernelQkv4Ideal.nD → PrngReg)
    (m' : (ℓ : Loc Cert.ReferenceQkv4Ideal.nD Cert.ReferenceQkv4Ideal.τ Cert.ReferenceQkv4Ideal.sig) → Buf (Elt Ideal) ℓ) (g' : Dev Cert.ReferenceQkv4Ideal.nD → PrngReg), Pre_KernelQkv4Ideal m →
    (∀ c : Dev Cert.KernelQkv4Ideal.nD,
      m' ((c.tc : Thread Cert.ReferenceQkv4Ideal.nD Cert.ReferenceQkv4Ideal.τ).loc Cert.ReferenceQkv4Ideal.main_arg0) = m ((c.tc : Thread Cert.KernelQkv4Ideal.nD Cert.KernelQkv4Ideal.τ).loc Cert.KernelQkv4Ideal.main_arg0)
      ∧ m' ((c.tc : Thread Cert.ReferenceQkv4Ideal.nD Cert.ReferenceQkv4Ideal.τ).loc Cert.ReferenceQkv4Ideal.main_arg1) = m ((c.tc : Thread Cert.KernelQkv4Ideal.nD Cert.KernelQkv4Ideal.τ).loc Cert.KernelQkv4Ideal.main_arg1)) →
    ∃ (v0 : (c : Dev Cert.KernelQkv4Ideal.nD) → Buf (Elt Ideal) ((c.tc : Thread Cert.KernelQkv4Ideal.nD Cert.KernelQkv4Ideal.τ).loc Cert.KernelQkv4Ideal.main_v45_0)) (v1 : (c : Dev Cert.KernelQkv4Ideal.nD) → Buf (Elt Ideal) ((c.tc : Thread Cert.KernelQkv4Ideal.nD Cert.KernelQkv4Ideal.τ).loc Cert.KernelQkv4Ideal.main_v45_1)),
      θ_run (Cert.KernelQkv4Ideal.defs (F := Ideal)) (onTc (τ := Cert.KernelQkv4Ideal.τ) (Cert.KernelQkv4Ideal.main (F := Ideal))) ⟨m, fun _ => 0, g⟩ (fun r => ∀ c : Dev Cert.KernelQkv4Ideal.nD,
          r.2.mem ((c.tc : Thread Cert.KernelQkv4Ideal.nD Cert.KernelQkv4Ideal.τ).loc Cert.KernelQkv4Ideal.main_v45_0) = v0 c
          ∧ r.2.mem ((c.tc : Thread Cert.KernelQkv4Ideal.nD Cert.KernelQkv4Ideal.τ).loc Cert.KernelQkv4Ideal.main_v45_1) = v1 c
          ∧ r.2.mem ((c.tc : Thread Cert.KernelQkv4Ideal.nD Cert.KernelQkv4Ideal.τ).loc Cert.KernelQkv4Ideal.main_arg0) = m ((c.tc : Thread Cert.KernelQkv4Ideal.nD Cert.KernelQkv4Ideal.τ).loc Cert.KernelQkv4Ideal.main_arg0)
          ∧ r.2.mem ((c.tc : Thread Cert.KernelQkv4Ideal.nD Cert.KernelQkv4Ideal.τ).loc Cert.KernelQkv4Ideal.main_arg1) = m ((c.tc : Thread Cert.KernelQkv4Ideal.nD Cert.KernelQkv4Ideal.τ).loc Cert.KernelQkv4Ideal.main_arg1))
      ∧ θ_run (Cert.ReferenceQkv4Ideal.defs (F := Ideal)) (onTc (τ := Cert.ReferenceQkv4Ideal.τ) (Cert.ReferenceQkv4Ideal.main (F := Ideal))) ⟨m', fun _ => 0, g'⟩ (fun r => ∀ c : Dev Cert.ReferenceQkv4Ideal.nD,
          r.2.mem ((c.tc : Thread Cert.ReferenceQkv4Ideal.nD Cert.ReferenceQkv4Ideal.τ).loc Cert.ReferenceQkv4Ideal.main_v91) = v0 c
          ∧ r.2.mem ((c.tc : Thread Cert.ReferenceQkv4Ideal.nD Cert.ReferenceQkv4Ideal.τ).loc Cert.ReferenceQkv4Ideal.main_v92) = v1 c
          ∧ r.2.mem ((c.tc : Thread Cert.ReferenceQkv4Ideal.nD Cert.ReferenceQkv4Ideal.τ).loc Cert.ReferenceQkv4Ideal.main_arg0) = m' ((c.tc : Thread Cert.ReferenceQkv4Ideal.nD Cert.ReferenceQkv4Ideal.τ).loc Cert.ReferenceQkv4Ideal.main_arg0)
          ∧ r.2.mem ((c.tc : Thread Cert.ReferenceQkv4Ideal.nD Cert.ReferenceQkv4Ideal.τ).loc Cert.ReferenceQkv4Ideal.main_arg1) = m' ((c.tc : Thread Cert.ReferenceQkv4Ideal.nD Cert.ReferenceQkv4Ideal.τ).loc Cert.ReferenceQkv4Ideal.main_arg1))

def preserves_KernelQkv16_KernelQkv16Ideal : Prop :=
  True

def algebraic_KernelQkv16Ideal_ReferenceQkv16Ideal [hKernelQkv16Ideal : Cert.KernelQkv16Ideal.Facts] [hReferenceQkv16Ideal : Cert.ReferenceQkv16Ideal.Facts] : Prop :=
  ∀ (m : (ℓ : Loc Cert.KernelQkv16Ideal.nD Cert.KernelQkv16Ideal.τ Cert.KernelQkv16Ideal.sig) → Buf (Elt Ideal) ℓ) (g : Dev Cert.KernelQkv16Ideal.nD → PrngReg)
    (m' : (ℓ : Loc Cert.ReferenceQkv16Ideal.nD Cert.ReferenceQkv16Ideal.τ Cert.ReferenceQkv16Ideal.sig) → Buf (Elt Ideal) ℓ) (g' : Dev Cert.ReferenceQkv16Ideal.nD → PrngReg), Pre_KernelQkv16Ideal m →
    (∀ c : Dev Cert.KernelQkv16Ideal.nD,
      m' ((c.tc : Thread Cert.ReferenceQkv16Ideal.nD Cert.ReferenceQkv16Ideal.τ).loc Cert.ReferenceQkv16Ideal.main_arg0) = m ((c.tc : Thread Cert.KernelQkv16Ideal.nD Cert.KernelQkv16Ideal.τ).loc Cert.KernelQkv16Ideal.main_arg0)
      ∧ m' ((c.tc : Thread Cert.ReferenceQkv16Ideal.nD Cert.ReferenceQkv16Ideal.τ).loc Cert.ReferenceQkv16Ideal.main_arg1) = m ((c.tc : Thread Cert.KernelQkv16Ideal.nD Cert.KernelQkv16Ideal.τ).loc Cert.KernelQkv16Ideal.main_arg1)) →
    ∃ (v0 : (c : Dev Cert.KernelQkv16Ideal.nD) → Buf (Elt Ideal) ((c.tc : Thread Cert.KernelQkv16Ideal.nD Cert.KernelQkv16Ideal.τ).loc Cert.KernelQkv16Ideal.main_v45_0)) (v1 : (c : Dev Cert.KernelQkv16Ideal.nD) → Buf (Elt Ideal) ((c.tc : Thread Cert.KernelQkv16Ideal.nD Cert.KernelQkv16Ideal.τ).loc Cert.KernelQkv16Ideal.main_v45_1)),
      θ_run (Cert.KernelQkv16Ideal.defs (F := Ideal)) (onTc (τ := Cert.KernelQkv16Ideal.τ) (Cert.KernelQkv16Ideal.main (F := Ideal))) ⟨m, fun _ => 0, g⟩ (fun r => ∀ c : Dev Cert.KernelQkv16Ideal.nD,
          r.2.mem ((c.tc : Thread Cert.KernelQkv16Ideal.nD Cert.KernelQkv16Ideal.τ).loc Cert.KernelQkv16Ideal.main_v45_0) = v0 c
          ∧ r.2.mem ((c.tc : Thread Cert.KernelQkv16Ideal.nD Cert.KernelQkv16Ideal.τ).loc Cert.KernelQkv16Ideal.main_v45_1) = v1 c
          ∧ r.2.mem ((c.tc : Thread Cert.KernelQkv16Ideal.nD Cert.KernelQkv16Ideal.τ).loc Cert.KernelQkv16Ideal.main_arg0) = m ((c.tc : Thread Cert.KernelQkv16Ideal.nD Cert.KernelQkv16Ideal.τ).loc Cert.KernelQkv16Ideal.main_arg0)
          ∧ r.2.mem ((c.tc : Thread Cert.KernelQkv16Ideal.nD Cert.KernelQkv16Ideal.τ).loc Cert.KernelQkv16Ideal.main_arg1) = m ((c.tc : Thread Cert.KernelQkv16Ideal.nD Cert.KernelQkv16Ideal.τ).loc Cert.KernelQkv16Ideal.main_arg1))
      ∧ θ_run (Cert.ReferenceQkv16Ideal.defs (F := Ideal)) (onTc (τ := Cert.ReferenceQkv16Ideal.τ) (Cert.ReferenceQkv16Ideal.main (F := Ideal))) ⟨m', fun _ => 0, g'⟩ (fun r => ∀ c : Dev Cert.ReferenceQkv16Ideal.nD,
          r.2.mem ((c.tc : Thread Cert.ReferenceQkv16Ideal.nD Cert.ReferenceQkv16Ideal.τ).loc Cert.ReferenceQkv16Ideal.main_v91) = v0 c
          ∧ r.2.mem ((c.tc : Thread Cert.ReferenceQkv16Ideal.nD Cert.ReferenceQkv16Ideal.τ).loc Cert.ReferenceQkv16Ideal.main_v92) = v1 c
          ∧ r.2.mem ((c.tc : Thread Cert.ReferenceQkv16Ideal.nD Cert.ReferenceQkv16Ideal.τ).loc Cert.ReferenceQkv16Ideal.main_arg0) = m' ((c.tc : Thread Cert.ReferenceQkv16Ideal.nD Cert.ReferenceQkv16Ideal.τ).loc Cert.ReferenceQkv16Ideal.main_arg0)
          ∧ r.2.mem ((c.tc : Thread Cert.ReferenceQkv16Ideal.nD Cert.ReferenceQkv16Ideal.τ).loc Cert.ReferenceQkv16Ideal.main_arg1) = m' ((c.tc : Thread Cert.ReferenceQkv16Ideal.nD Cert.ReferenceQkv16Ideal.τ).loc Cert.ReferenceQkv16Ideal.main_arg1))

def preserves_KernelKvb_KernelKvbIdeal : Prop :=
  True

def algebraic_KernelKvbIdeal_ReferenceKvbIdeal [hKernelKvbIdeal : Cert.KernelKvbIdeal.Facts] [hReferenceKvbIdeal : Cert.ReferenceKvbIdeal.Facts] : Prop :=
  ∀ (m : (ℓ : Loc Cert.KernelKvbIdeal.nD Cert.KernelKvbIdeal.τ Cert.KernelKvbIdeal.sig) → Buf (Elt Ideal) ℓ) (g : Dev Cert.KernelKvbIdeal.nD → PrngReg)
    (m' : (ℓ : Loc Cert.ReferenceKvbIdeal.nD Cert.ReferenceKvbIdeal.τ Cert.ReferenceKvbIdeal.sig) → Buf (Elt Ideal) ℓ) (g' : Dev Cert.ReferenceKvbIdeal.nD → PrngReg), Pre_KernelKvbIdeal m →
    (∀ c : Dev Cert.KernelKvbIdeal.nD,
      m' ((c.tc : Thread Cert.ReferenceKvbIdeal.nD Cert.ReferenceKvbIdeal.τ).loc Cert.ReferenceKvbIdeal.main_arg0) = m ((c.tc : Thread Cert.KernelKvbIdeal.nD Cert.KernelKvbIdeal.τ).loc Cert.KernelKvbIdeal.main_arg0)
      ∧ m' ((c.tc : Thread Cert.ReferenceKvbIdeal.nD Cert.ReferenceKvbIdeal.τ).loc Cert.ReferenceKvbIdeal.main_arg1) = m ((c.tc : Thread Cert.KernelKvbIdeal.nD Cert.KernelKvbIdeal.τ).loc Cert.KernelKvbIdeal.main_arg1)) →
    ∃ (v0 : (c : Dev Cert.KernelKvbIdeal.nD) → Buf (Elt Ideal) ((c.tc : Thread Cert.KernelKvbIdeal.nD Cert.KernelKvbIdeal.τ).loc Cert.KernelKvbIdeal.main_v45)),
      θ_run (Cert.KernelKvbIdeal.defs (F := Ideal)) (onTc (τ := Cert.KernelKvbIdeal.τ) (Cert.KernelKvbIdeal.main (F := Ideal))) ⟨m, fun _ => 0, g⟩ (fun r => ∀ c : Dev Cert.KernelKvbIdeal.nD,
          r.2.mem ((c.tc : Thread Cert.KernelKvbIdeal.nD Cert.KernelKvbIdeal.τ).loc Cert.KernelKvbIdeal.main_v45) = v0 c
          ∧ r.2.mem ((c.tc : Thread Cert.KernelKvbIdeal.nD Cert.KernelKvbIdeal.τ).loc Cert.KernelKvbIdeal.main_arg0) = m ((c.tc : Thread Cert.KernelKvbIdeal.nD Cert.KernelKvbIdeal.τ).loc Cert.KernelKvbIdeal.main_arg0)
          ∧ r.2.mem ((c.tc : Thread Cert.KernelKvbIdeal.nD Cert.KernelKvbIdeal.τ).loc Cert.KernelKvbIdeal.main_arg1) = m ((c.tc : Thread Cert.KernelKvbIdeal.nD Cert.KernelKvbIdeal.τ).loc Cert.KernelKvbIdeal.main_arg1))
      ∧ θ_run (Cert.ReferenceKvbIdeal.defs (F := Ideal)) (onTc (τ := Cert.ReferenceKvbIdeal.τ) (Cert.ReferenceKvbIdeal.main (F := Ideal))) ⟨m', fun _ => 0, g'⟩ (fun r => ∀ c : Dev Cert.ReferenceKvbIdeal.nD,
          r.2.mem ((c.tc : Thread Cert.ReferenceKvbIdeal.nD Cert.ReferenceKvbIdeal.τ).loc Cert.ReferenceKvbIdeal.main_v49) = v0 c
          ∧ r.2.mem ((c.tc : Thread Cert.ReferenceKvbIdeal.nD Cert.ReferenceKvbIdeal.τ).loc Cert.ReferenceKvbIdeal.main_arg0) = m' ((c.tc : Thread Cert.ReferenceKvbIdeal.nD Cert.ReferenceKvbIdeal.τ).loc Cert.ReferenceKvbIdeal.main_arg0)
          ∧ r.2.mem ((c.tc : Thread Cert.ReferenceKvbIdeal.nD Cert.ReferenceKvbIdeal.τ).loc Cert.ReferenceKvbIdeal.main_arg1) = m' ((c.tc : Thread Cert.ReferenceKvbIdeal.nD Cert.ReferenceKvbIdeal.τ).loc Cert.ReferenceKvbIdeal.main_arg1))

def preserves_KernelQb_KernelQbIdeal : Prop :=
  True

def algebraic_KernelQbIdeal_ReferenceQbIdeal [hKernelQbIdeal : Cert.KernelQbIdeal.Facts] [hReferenceQbIdeal : Cert.ReferenceQbIdeal.Facts] : Prop :=
  ∀ (m : (ℓ : Loc Cert.KernelQbIdeal.nD Cert.KernelQbIdeal.τ Cert.KernelQbIdeal.sig) → Buf (Elt Ideal) ℓ) (g : Dev Cert.KernelQbIdeal.nD → PrngReg)
    (m' : (ℓ : Loc Cert.ReferenceQbIdeal.nD Cert.ReferenceQbIdeal.τ Cert.ReferenceQbIdeal.sig) → Buf (Elt Ideal) ℓ) (g' : Dev Cert.ReferenceQbIdeal.nD → PrngReg), Pre_KernelQbIdeal m →
    (∀ c : Dev Cert.KernelQbIdeal.nD,
      m' ((c.tc : Thread Cert.ReferenceQbIdeal.nD Cert.ReferenceQbIdeal.τ).loc Cert.ReferenceQbIdeal.main_arg0) = m ((c.tc : Thread Cert.KernelQbIdeal.nD Cert.KernelQbIdeal.τ).loc Cert.KernelQbIdeal.main_arg0)
      ∧ m' ((c.tc : Thread Cert.ReferenceQbIdeal.nD Cert.ReferenceQbIdeal.τ).loc Cert.ReferenceQbIdeal.main_arg1) = m ((c.tc : Thread Cert.KernelQbIdeal.nD Cert.KernelQbIdeal.τ).loc Cert.KernelQbIdeal.main_arg1)) →
    ∃ (v0 : (c : Dev Cert.KernelQbIdeal.nD) → Buf (Elt Ideal) ((c.tc : Thread Cert.KernelQbIdeal.nD Cert.KernelQbIdeal.τ).loc Cert.KernelQbIdeal.main_v45)),
      θ_run (Cert.KernelQbIdeal.defs (F := Ideal)) (onTc (τ := Cert.KernelQbIdeal.τ) (Cert.KernelQbIdeal.main (F := Ideal))) ⟨m, fun _ => 0, g⟩ (fun r => ∀ c : Dev Cert.KernelQbIdeal.nD,
          r.2.mem ((c.tc : Thread Cert.KernelQbIdeal.nD Cert.KernelQbIdeal.τ).loc Cert.KernelQbIdeal.main_v45) = v0 c
          ∧ r.2.mem ((c.tc : Thread Cert.KernelQbIdeal.nD Cert.KernelQbIdeal.τ).loc Cert.KernelQbIdeal.main_arg0) = m ((c.tc : Thread Cert.KernelQbIdeal.nD Cert.KernelQbIdeal.τ).loc Cert.KernelQbIdeal.main_arg0)
          ∧ r.2.mem ((c.tc : Thread Cert.KernelQbIdeal.nD Cert.KernelQbIdeal.τ).loc Cert.KernelQbIdeal.main_arg1) = m ((c.tc : Thread Cert.KernelQbIdeal.nD Cert.KernelQbIdeal.τ).loc Cert.KernelQbIdeal.main_arg1))
      ∧ θ_run (Cert.ReferenceQbIdeal.defs (F := Ideal)) (onTc (τ := Cert.ReferenceQbIdeal.τ) (Cert.ReferenceQbIdeal.main (F := Ideal))) ⟨m', fun _ => 0, g'⟩ (fun r => ∀ c : Dev Cert.ReferenceQbIdeal.nD,
          r.2.mem ((c.tc : Thread Cert.ReferenceQbIdeal.nD Cert.ReferenceQbIdeal.τ).loc Cert.ReferenceQbIdeal.main_v43) = v0 c
          ∧ r.2.mem ((c.tc : Thread Cert.ReferenceQbIdeal.nD Cert.ReferenceQbIdeal.τ).loc Cert.ReferenceQbIdeal.main_arg0) = m' ((c.tc : Thread Cert.ReferenceQbIdeal.nD Cert.ReferenceQbIdeal.τ).loc Cert.ReferenceQbIdeal.main_arg0)
          ∧ r.2.mem ((c.tc : Thread Cert.ReferenceQbIdeal.nD Cert.ReferenceQbIdeal.τ).loc Cert.ReferenceQbIdeal.main_arg1) = m' ((c.tc : Thread Cert.ReferenceQbIdeal.nD Cert.ReferenceQbIdeal.τ).loc Cert.ReferenceQbIdeal.main_arg1))

def preserves_KernelOa_KernelOaIdeal : Prop :=
  True

def algebraic_KernelOaIdeal_ReferenceOaIdeal [hKernelOaIdeal : Cert.KernelOaIdeal.Facts] [hReferenceOaIdeal : Cert.ReferenceOaIdeal.Facts] : Prop :=
  ∀ (m : (ℓ : Loc Cert.KernelOaIdeal.nD Cert.KernelOaIdeal.τ Cert.KernelOaIdeal.sig) → Buf (Elt Ideal) ℓ) (g : Dev Cert.KernelOaIdeal.nD → PrngReg)
    (m' : (ℓ : Loc Cert.ReferenceOaIdeal.nD Cert.ReferenceOaIdeal.τ Cert.ReferenceOaIdeal.sig) → Buf (Elt Ideal) ℓ) (g' : Dev Cert.ReferenceOaIdeal.nD → PrngReg), Pre_KernelOaIdeal m →
    (∀ c : Dev Cert.KernelOaIdeal.nD,
      m' ((c.tc : Thread Cert.ReferenceOaIdeal.nD Cert.ReferenceOaIdeal.τ).loc Cert.ReferenceOaIdeal.main_arg0) = m ((c.tc : Thread Cert.KernelOaIdeal.nD Cert.KernelOaIdeal.τ).loc Cert.KernelOaIdeal.main_arg0)
      ∧ m' ((c.tc : Thread Cert.ReferenceOaIdeal.nD Cert.ReferenceOaIdeal.τ).loc Cert.ReferenceOaIdeal.main_arg1) = m ((c.tc : Thread Cert.KernelOaIdeal.nD Cert.KernelOaIdeal.τ).loc Cert.KernelOaIdeal.main_arg1)
      ∧ m' ((c.tc : Thread Cert.ReferenceOaIdeal.nD Cert.ReferenceOaIdeal.τ).loc Cert.ReferenceOaIdeal.main_arg2) = m ((c.tc : Thread Cert.KernelOaIdeal.nD Cert.KernelOaIdeal.τ).loc Cert.KernelOaIdeal.main_arg2)) →
    ∃ (v0 : (c : Dev Cert.KernelOaIdeal.nD) → Buf (Elt Ideal) ((c.tc : Thread Cert.KernelOaIdeal.nD Cert.KernelOaIdeal.τ).loc Cert.KernelOaIdeal.main_v0)),
      θ_run (Cert.KernelOaIdeal.defs (F := Ideal)) (onTc (τ := Cert.KernelOaIdeal.τ) (Cert.KernelOaIdeal.main (F := Ideal))) ⟨m, fun _ => 0, g⟩ (fun r => ∀ c : Dev Cert.KernelOaIdeal.nD,
          r.2.mem ((c.tc : Thread Cert.KernelOaIdeal.nD Cert.KernelOaIdeal.τ).loc Cert.KernelOaIdeal.main_v0) = v0 c
          ∧ r.2.mem ((c.tc : Thread Cert.KernelOaIdeal.nD Cert.KernelOaIdeal.τ).loc Cert.KernelOaIdeal.main_arg0) = m ((c.tc : Thread Cert.KernelOaIdeal.nD Cert.KernelOaIdeal.τ).loc Cert.KernelOaIdeal.main_arg0)
          ∧ r.2.mem ((c.tc : Thread Cert.KernelOaIdeal.nD Cert.KernelOaIdeal.τ).loc Cert.KernelOaIdeal.main_arg1) = m ((c.tc : Thread Cert.KernelOaIdeal.nD Cert.KernelOaIdeal.τ).loc Cert.KernelOaIdeal.main_arg1)
          ∧ r.2.mem ((c.tc : Thread Cert.KernelOaIdeal.nD Cert.KernelOaIdeal.τ).loc Cert.KernelOaIdeal.main_arg2) = m ((c.tc : Thread Cert.KernelOaIdeal.nD Cert.KernelOaIdeal.τ).loc Cert.KernelOaIdeal.main_arg2))
      ∧ θ_run (Cert.ReferenceOaIdeal.defs (F := Ideal)) (onTc (τ := Cert.ReferenceOaIdeal.τ) (Cert.ReferenceOaIdeal.main (F := Ideal))) ⟨m', fun _ => 0, g'⟩ (fun r => ∀ c : Dev Cert.ReferenceOaIdeal.nD,
          r.2.mem ((c.tc : Thread Cert.ReferenceOaIdeal.nD Cert.ReferenceOaIdeal.τ).loc Cert.ReferenceOaIdeal.main_v4) = v0 c
          ∧ r.2.mem ((c.tc : Thread Cert.ReferenceOaIdeal.nD Cert.ReferenceOaIdeal.τ).loc Cert.ReferenceOaIdeal.main_arg0) = m' ((c.tc : Thread Cert.ReferenceOaIdeal.nD Cert.ReferenceOaIdeal.τ).loc Cert.ReferenceOaIdeal.main_arg0)
          ∧ r.2.mem ((c.tc : Thread Cert.ReferenceOaIdeal.nD Cert.ReferenceOaIdeal.τ).loc Cert.ReferenceOaIdeal.main_arg1) = m' ((c.tc : Thread Cert.ReferenceOaIdeal.nD Cert.ReferenceOaIdeal.τ).loc Cert.ReferenceOaIdeal.main_arg1)
          ∧ r.2.mem ((c.tc : Thread Cert.ReferenceOaIdeal.nD Cert.ReferenceOaIdeal.τ).loc Cert.ReferenceOaIdeal.main_arg2) = m' ((c.tc : Thread Cert.ReferenceOaIdeal.nD Cert.ReferenceOaIdeal.τ).loc Cert.ReferenceOaIdeal.main_arg2))

def preserves_KernelOb_KernelObIdeal : Prop :=
  True

def algebraic_KernelObIdeal_ReferenceObIdeal [hKernelObIdeal : Cert.KernelObIdeal.Facts] [hReferenceObIdeal : Cert.ReferenceObIdeal.Facts] : Prop :=
  ∀ (m : (ℓ : Loc Cert.KernelObIdeal.nD Cert.KernelObIdeal.τ Cert.KernelObIdeal.sig) → Buf (Elt Ideal) ℓ) (g : Dev Cert.KernelObIdeal.nD → PrngReg)
    (m' : (ℓ : Loc Cert.ReferenceObIdeal.nD Cert.ReferenceObIdeal.τ Cert.ReferenceObIdeal.sig) → Buf (Elt Ideal) ℓ) (g' : Dev Cert.ReferenceObIdeal.nD → PrngReg), Pre_KernelObIdeal m →
    (∀ c : Dev Cert.KernelObIdeal.nD,
      m' ((c.tc : Thread Cert.ReferenceObIdeal.nD Cert.ReferenceObIdeal.τ).loc Cert.ReferenceObIdeal.main_arg0) = m ((c.tc : Thread Cert.KernelObIdeal.nD Cert.KernelObIdeal.τ).loc Cert.KernelObIdeal.main_arg0)
      ∧ m' ((c.tc : Thread Cert.ReferenceObIdeal.nD Cert.ReferenceObIdeal.τ).loc Cert.ReferenceObIdeal.main_arg1) = m ((c.tc : Thread Cert.KernelObIdeal.nD Cert.KernelObIdeal.τ).loc Cert.KernelObIdeal.main_arg1)
      ∧ m' ((c.tc : Thread Cert.ReferenceObIdeal.nD Cert.ReferenceObIdeal.τ).loc Cert.ReferenceObIdeal.main_arg2) = m ((c.tc : Thread Cert.KernelObIdeal.nD Cert.KernelObIdeal.τ).loc Cert.KernelObIdeal.main_arg2)) →
    ∃ (v0 : (c : Dev Cert.KernelObIdeal.nD) → Buf (Elt Ideal) ((c.tc : Thread Cert.KernelObIdeal.nD Cert.KernelObIdeal.τ).loc Cert.KernelObIdeal.main_v0)),
      θ_run (Cert.KernelObIdeal.defs (F := Ideal)) (onTc (τ := Cert.KernelObIdeal.τ) (Cert.KernelObIdeal.main (F := Ideal))) ⟨m, fun _ => 0, g⟩ (fun r => ∀ c : Dev Cert.KernelObIdeal.nD,
          r.2.mem ((c.tc : Thread Cert.KernelObIdeal.nD Cert.KernelObIdeal.τ).loc Cert.KernelObIdeal.main_v0) = v0 c
          ∧ r.2.mem ((c.tc : Thread Cert.KernelObIdeal.nD Cert.KernelObIdeal.τ).loc Cert.KernelObIdeal.main_arg0) = m ((c.tc : Thread Cert.KernelObIdeal.nD Cert.KernelObIdeal.τ).loc Cert.KernelObIdeal.main_arg0)
          ∧ r.2.mem ((c.tc : Thread Cert.KernelObIdeal.nD Cert.KernelObIdeal.τ).loc Cert.KernelObIdeal.main_arg1) = m ((c.tc : Thread Cert.KernelObIdeal.nD Cert.KernelObIdeal.τ).loc Cert.KernelObIdeal.main_arg1)
          ∧ r.2.mem ((c.tc : Thread Cert.KernelObIdeal.nD Cert.KernelObIdeal.τ).loc Cert.KernelObIdeal.main_arg2) = m ((c.tc : Thread Cert.KernelObIdeal.nD Cert.KernelObIdeal.τ).loc Cert.KernelObIdeal.main_arg2))
      ∧ θ_run (Cert.ReferenceObIdeal.defs (F := Ideal)) (onTc (τ := Cert.ReferenceObIdeal.τ) (Cert.ReferenceObIdeal.main (F := Ideal))) ⟨m', fun _ => 0, g'⟩ (fun r => ∀ c : Dev Cert.ReferenceObIdeal.nD,
          r.2.mem ((c.tc : Thread Cert.ReferenceObIdeal.nD Cert.ReferenceObIdeal.τ).loc Cert.ReferenceObIdeal.main_v4) = v0 c
          ∧ r.2.mem ((c.tc : Thread Cert.ReferenceObIdeal.nD Cert.ReferenceObIdeal.τ).loc Cert.ReferenceObIdeal.main_arg0) = m' ((c.tc : Thread Cert.ReferenceObIdeal.nD Cert.ReferenceObIdeal.τ).loc Cert.ReferenceObIdeal.main_arg0)
          ∧ r.2.mem ((c.tc : Thread Cert.ReferenceObIdeal.nD Cert.ReferenceObIdeal.τ).loc Cert.ReferenceObIdeal.main_arg1) = m' ((c.tc : Thread Cert.ReferenceObIdeal.nD Cert.ReferenceObIdeal.τ).loc Cert.ReferenceObIdeal.main_arg1)
          ∧ r.2.mem ((c.tc : Thread Cert.ReferenceObIdeal.nD Cert.ReferenceObIdeal.τ).loc Cert.ReferenceObIdeal.main_arg2) = m' ((c.tc : Thread Cert.ReferenceObIdeal.nD Cert.ReferenceObIdeal.τ).loc Cert.ReferenceObIdeal.main_arg2))

def Claim : Prop :=
  ∃ (hKernelAttn : Cert.KernelAttn.Facts) (hKernelAttnIdeal : Cert.KernelAttnIdeal.Facts) (hReferenceAttnIdeal : Cert.ReferenceAttnIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelQkv : Cert.KernelQkv.Facts) (hKernelQkvIdeal : Cert.KernelQkvIdeal.Facts) (hReferenceQkvIdeal : Cert.ReferenceQkvIdeal.Facts) (hKernelQkv4 : Cert.KernelQkv4.Facts) (hKernelQkv4Ideal : Cert.KernelQkv4Ideal.Facts) (hReferenceQkv4Ideal : Cert.ReferenceQkv4Ideal.Facts) (hKernelQkv16 : Cert.KernelQkv16.Facts) (hKernelQkv16Ideal : Cert.KernelQkv16Ideal.Facts) (hReferenceQkv16Ideal : Cert.ReferenceQkv16Ideal.Facts) (hKernelKvb : Cert.KernelKvb.Facts) (hKernelKvbIdeal : Cert.KernelKvbIdeal.Facts) (hReferenceKvbIdeal : Cert.ReferenceKvbIdeal.Facts) (hKernelQb : Cert.KernelQb.Facts) (hKernelQbIdeal : Cert.KernelQbIdeal.Facts) (hReferenceQbIdeal : Cert.ReferenceQbIdeal.Facts) (hKernelOa : Cert.KernelOa.Facts) (hKernelOaIdeal : Cert.KernelOaIdeal.Facts) (hReferenceOaIdeal : Cert.ReferenceOaIdeal.Facts) (hKernelOb : Cert.KernelOb.Facts) (hKernelObIdeal : Cert.KernelObIdeal.Facts) (hReferenceObIdeal : Cert.ReferenceObIdeal.Facts) (hPre_finite_scores : Cert.Pre_finite_scores.Facts),
    quiescent_KernelAttn (hKernelAttn := hKernelAttn)
    ∧ quiescent_KernelAttnIdeal (hKernelAttnIdeal := hKernelAttnIdeal)
    ∧ quiescent_KernelAttnIdeal_pre_finite_scores (hKernelAttnIdeal := hKernelAttnIdeal) (hPre_finite_scores := hPre_finite_scores)
    ∧ quiescent_ReferenceAttnIdeal (hReferenceAttnIdeal := hReferenceAttnIdeal)
    ∧ quiescent_ReferenceAttnIdeal_pre_finite_scores (hReferenceAttnIdeal := hReferenceAttnIdeal) (hPre_finite_scores := hPre_finite_scores)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelQkv4 (hKernelQkv4 := hKernelQkv4)
    ∧ quiescent_KernelQkv4Ideal (hKernelQkv4Ideal := hKernelQkv4Ideal)
    ∧ quiescent_ReferenceQkv4Ideal (hReferenceQkv4Ideal := hReferenceQkv4Ideal)
    ∧ quiescent_KernelQkv16 (hKernelQkv16 := hKernelQkv16)
    ∧ quiescent_KernelQkv16Ideal (hKernelQkv16Ideal := hKernelQkv16Ideal)
    ∧ quiescent_ReferenceQkv16Ideal (hReferenceQkv16Ideal := hReferenceQkv16Ideal)
    ∧ quiescent_KernelKvb (hKernelKvb := hKernelKvb)
    ∧ quiescent_KernelKvbIdeal (hKernelKvbIdeal := hKernelKvbIdeal)
    ∧ quiescent_ReferenceKvbIdeal (hReferenceKvbIdeal := hReferenceKvbIdeal)
    ∧ quiescent_KernelQb (hKernelQb := hKernelQb)
    ∧ quiescent_KernelQbIdeal (hKernelQbIdeal := hKernelQbIdeal)
    ∧ quiescent_ReferenceQbIdeal (hReferenceQbIdeal := hReferenceQbIdeal)
    ∧ quiescent_KernelOa (hKernelOa := hKernelOa)
    ∧ quiescent_KernelOaIdeal (hKernelOaIdeal := hKernelOaIdeal)
    ∧ quiescent_ReferenceOaIdeal (hReferenceOaIdeal := hReferenceOaIdeal)
    ∧ quiescent_KernelOb (hKernelOb := hKernelOb)
    ∧ quiescent_KernelObIdeal (hKernelObIdeal := hKernelObIdeal)
    ∧ quiescent_ReferenceObIdeal (hReferenceObIdeal := hReferenceObIdeal)
    ∧ preserves_KernelAttn_KernelAttnIdeal
    ∧ algebraic_KernelAttnIdeal_ReferenceAttnIdeal_pre_finite_scores (hKernelAttnIdeal := hKernelAttnIdeal) (hReferenceAttnIdeal := hReferenceAttnIdeal) (hPre_finite_scores := hPre_finite_scores)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelQkv4_KernelQkv4Ideal
    ∧ algebraic_KernelQkv4Ideal_ReferenceQkv4Ideal (hKernelQkv4Ideal := hKernelQkv4Ideal) (hReferenceQkv4Ideal := hReferenceQkv4Ideal)
    ∧ preserves_KernelQkv16_KernelQkv16Ideal
    ∧ algebraic_KernelQkv16Ideal_ReferenceQkv16Ideal (hKernelQkv16Ideal := hKernelQkv16Ideal) (hReferenceQkv16Ideal := hReferenceQkv16Ideal)
    ∧ preserves_KernelKvb_KernelKvbIdeal
    ∧ algebraic_KernelKvbIdeal_ReferenceKvbIdeal (hKernelKvbIdeal := hKernelKvbIdeal) (hReferenceKvbIdeal := hReferenceKvbIdeal)
    ∧ preserves_KernelQb_KernelQbIdeal
    ∧ algebraic_KernelQbIdeal_ReferenceQbIdeal (hKernelQbIdeal := hKernelQbIdeal) (hReferenceQbIdeal := hReferenceQbIdeal)
    ∧ preserves_KernelOa_KernelOaIdeal
    ∧ algebraic_KernelOaIdeal_ReferenceOaIdeal (hKernelOaIdeal := hKernelOaIdeal) (hReferenceOaIdeal := hReferenceOaIdeal)
    ∧ preserves_KernelOb_KernelObIdeal
    ∧ algebraic_KernelObIdeal_ReferenceObIdeal (hKernelObIdeal := hKernelObIdeal) (hReferenceObIdeal := hReferenceObIdeal)
-- ==== Pre_finite_scores.lean ====
abbrev S4x1x2048x6144 : Shape := ⟨4, ![4, 1, 2048, 6144]⟩
abbrev S16x8192x128 : Shape := ⟨3, ![16, 8192, 128]⟩
abbrev S2x8192x128 : Shape := ⟨3, ![2, 8192, 128]⟩
abbrev S32x512x2x16x128 : Shape := ⟨5, ![32, 512, 2, 16, 128]⟩
abbrev S32x4x2x16x128 : Shape := ⟨5, ![32, 4, 2, 16, 128]⟩
abbrev S4x1x2048x4096 : Shape := ⟨4, ![4, 1, 2048, 4096]⟩
abbrev S_ : Shape := ⟨0, ![]⟩

class Facts : Prop where
  slices_S4x1x2048x6144_S4x1x2048x4096_0_0_0_0 : S4x1x2048x6144.Slices ![0, 0, 0, 0] S4x1x2048x4096
  bitsLt_bf16_f32 : FTy.bits .bf16 < FTy.bits .f32
  bcast_S_S4x1x2048x4096 : S_.BroadcastsInDim S4x1x2048x4096 (![] : Fin 0 → Fin S4x1x2048x4096.rank)
  reducesTo_S4x1x2048x4096_S_d0_1_2_3 : S4x1x2048x4096.ReducesTo [0, 1, 2, 3] S_
  h_S_ : 0 < S_.numel

variable [Facts]

def fn {F : FTy → Type} [FloatOps F] (main_arg0 : FVec F S4x1x2048x6144 .bf16) (main_arg1 : FVec F S16x8192x128 .f32) (main_arg2 : FVec F S2x8192x128 .f32) (main_arg3 : FVec F S32x512x2x16x128 .f32) (main_arg4 : FVec F S32x4x2x16x128 .f32) : IVec S_ 1 :=
  let main_v0 : FVec F S4x1x2048x4096 .bf16 := (extractStridedSlice S4x1x2048x4096 ![0, 0, 0, 0] · slices_S4x1x2048x6144_S4x1x2048x4096_0_0_0_0) main_arg0
  let main_v1 : FVec F S4x1x2048x4096 .f32 := (extf .f32 · bitsLt_bf16_f32) main_v0
  let main_v2 : FVec F S4x1x2048x4096 .f32 := Host.absf main_v1
  let main_cst : FVec F S_ .f32 := constant S_ .f32 0x7F800000#32
  let main_v3 : FVec F S4x1x2048x4096 .f32 := broadcastInDim S4x1x2048x4096 ![] bcast_S_S4x1x2048x4096 main_cst
  let main_v4 : IVec S4x1x2048x4096 1 := cmpf .olt main_v2 main_v3
  let main_c : IVec S_ 1 := constantI S_ 1 1#1
  let main_v5 : IVec S_ 1 := (fun x v => Host.reduce IntOp.andi x v reducesTo_S4x1x2048x4096_S_d0_1_2_3 h_S_) main_v4 main_c
  main_v5
-- ==== KernelAttn.lean ====
abbrev S4x1x2048x6144 : Shape := ⟨4, ![4, 1, 2048, 6144]⟩
abbrev S16x8192x128 : Shape := ⟨3, ![16, 8192, 128]⟩
abbrev S2x8192x128 : Shape := ⟨3, ![2, 8192, 128]⟩
abbrev S32x512x2x16x128 : Shape := ⟨5, ![32, 512, 2, 16, 128]⟩
abbrev S32x4x2x16x128 : Shape := ⟨5, ![32, 4, 2, 16, 128]⟩
abbrev S32x128x4x2x16x128 : Shape := ⟨6, ![32, 128, 4, 2, 16, 128]⟩
abbrev S32x1x4x2x16x128 : Shape := ⟨6, ![32, 1, 4, 2, 16, 128]⟩
abbrev S8192x2048 : Shape := ⟨2, ![8192, 2048]⟩
abbrev S1x1x128x2048 : Shape := ⟨4, ![1, 1, 128, 2048]⟩
abbrev S16x128x128 : Shape := ⟨3, ![16, 128, 128]⟩
abbrev S2x128x128 : Shape := ⟨3, ![2, 128, 128]⟩
abbrev S1x64x4x2x16x128 : Shape := ⟨6, ![1, 64, 4, 2, 16, 128]⟩
abbrev S1x1x4x2x16x128 : Shape := ⟨6, ![1, 1, 4, 2, 16, 128]⟩
abbrev S128x2048 : Shape := ⟨2, ![128, 2048]⟩
abbrev S64x4x2x16x128 : Shape := ⟨5, ![64, 4, 2, 16, 128]⟩
abbrev S128x256 : Shape := ⟨2, ![128, 256]⟩
abbrev S1x128x128 : Shape := ⟨3, ![1, 128, 128]⟩
abbrev S128x128 : Shape := ⟨2, ![128, 128]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩
abbrev S1x63x4x2x16x128 : Shape := ⟨6, ![1, 63, 4, 2, 16, 128]⟩
abbrev S63x4x2x16x128 : Shape := ⟨5, ![63, 4, 2, 16, 128]⟩
abbrev S1x4x2x16x128 : Shape := ⟨5, ![1, 4, 2, 16, 128]⟩

abbrev nBuf : Space → Nat
  | .hbm => 9
  | .vmem => 22
  | .smem => 0
  | _ => 0

abbrev bufTy : (tb : Table) → Fin (tcTables nBuf tb) → BufTy
  | .hbm, ⟨0, _⟩ => ⟨S4x1x2048x6144, .bf16⟩
  | .hbm, ⟨1, _⟩ => ⟨S16x8192x128, .f32⟩
  | .hbm, ⟨2, _⟩ => ⟨S2x8192x128, .f32⟩
  | .hbm, ⟨3, _⟩ => ⟨S32x512x2x16x128, .f32⟩
  | .hbm, ⟨4, _⟩ => ⟨S32x4x2x16x128, .f32⟩
  | .hbm, ⟨5, _⟩ => ⟨S32x128x4x2x16x128, .f32⟩
  | .hbm, ⟨6, _⟩ => ⟨S32x1x4x2x16x128, .f32⟩
  | .hbm, ⟨7, _⟩ => ⟨S8192x2048, .bf16⟩
  | .hbm, ⟨8, _⟩ => ⟨S32x128x4x2x16x128, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x128x2048, .bf16⟩
  | .local _ .vmem, ⟨3, _⟩ => ⟨S1x1x128x2048, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x128x2048, .bf16⟩
  | .local _ .vmem, ⟨7, _⟩ => ⟨S1x1x128x2048, .bf16⟩
  | .local _ .vmem, ⟨8, _⟩ => ⟨S1x1x128x2048, .bf16⟩
  | .local _ .vmem, ⟨9, _⟩ => ⟨S1x1x128x2048, .bf16⟩
  | .local _ .vmem, ⟨10, _⟩ => ⟨S16x128x128, .f32⟩
  | .local _ .vmem, ⟨11, _⟩ => ⟨S16x128x128, .f32⟩
  | .local _ .vmem, ⟨12, _⟩ => ⟨S2x128x128, .f32⟩
  | .local _ .vmem, ⟨13, _⟩ => ⟨S2x128x128, .f32⟩
  | .local _ .vmem, ⟨14, _⟩ => ⟨S1x64x4x2x16x128, .f32⟩
  | .local _ .vmem, ⟨15, _⟩ => ⟨S1x64x4x2x16x128, .f32⟩
  | .local _ .vmem, ⟨16, _⟩ => ⟨S1x1x4x2x16x128, .f32⟩
  | .local _ .vmem, ⟨17, _⟩ => ⟨S1x1x4x2x16x128, .f32⟩
  | .local _ .vmem, ⟨18, _⟩ => ⟨S128x2048, .bf16⟩
  | .local _ .vmem, ⟨19, _⟩ => ⟨S128x2048, .bf16⟩
  | .local _ .vmem, ⟨20, _⟩ => ⟨S1x64x4x2x16x128, .f32⟩
  | .local _ .vmem, ⟨21, _⟩ => ⟨S1x64x4x2x16x128, .f32⟩
  | _, _ => ⟨S4x1x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨4, ![4, 1, 16, 1], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg1
  let c0_i32_0 : BitVec 32 := 0#32
  ![arg0.toNat, arg3.toNat, arg2.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi c1_i32 arg1
  let c0_i32 : BitVec 32 := 0#32
  ![arg0.toNat, arg3.toNat, arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let v2 : BitVec 32 := Scalar.addi c1_i32_0 arg1
  let c0_i32_1 : BitVec 32 := 0#32
  ![arg0.toNat, arg3.toNat, v1.toNat, v2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.addi c2_i32 arg1
  let c0_i32 : BitVec 32 := 0#32
  ![arg0.toNat, arg3.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi c2_i32 arg1
  let c0_i32_0 : BitVec 32 := 0#32
  ![arg0.toNat, arg3.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_7 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.muli v3 c1_i32_0
  let v5 : BitVec 32 := Scalar.addi v4 arg3
  let c63_i32 : BitVec 32 := 63#32
  let v6 : BitVec 32 := Scalar.minsi v5 c63_i32
  let c2_i32 : BitVec 32 := 2#32
  let v7 : BitVec 32 := Scalar.divsi v6 c2_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let c1_i32_5 : BitVec 32 := 1#32
  let v22 : BitVec 32 := Scalar.subi v7 c1_i32_5
  let v23 : BitVec 32 := Scalar.select v21 v22 v7
  let c2_i32_6 : BitVec 32 := 2#32
  let c0_i32_7 : BitVec 32 := 0#32
  let v24 : BitVec 1 := Scalar.cmpi .eq c2_i32_6 c0_i32_7
  let c1_i32_8 : BitVec 32 := 1#32
  let v25 : BitVec 32 := Scalar.select v24 c1_i32_8 c2_i32_6
  let v26 : BitVec 32 := Scalar.remsi v6 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c64_i32 : BitVec 32 := 64#32
  let v34 : BitVec 32 := Scalar.muli v33 c64_i32
  let c1_i32_12 : BitVec 32 := 1#32
  let v35 : BitVec 32 := Scalar.addi v34 c1_i32_12
  let c64_i32_13 : BitVec 32 := 64#32
  let v36 : BitVec 32 := Scalar.minsi v35 c64_i32_13
  let c0_i32_14 : BitVec 32 := 0#32
  let c0_i32_15 : BitVec 32 := 0#32
  let c0_i32_16 : BitVec 32 := 0#32
  let c0_i32_17 : BitVec 32 := 0#32
  let c0_i32_18 : BitVec 32 := 0#32
  ![v23.toNat, v36.toNat, c0_i32_14.toNat, c0_i32_15.toNat, c0_i32_16.toNat, c0_i32_17.toNat]

def cc0_transform_8 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.muli v3 c1_i32_0
  let v5 : BitVec 32 := Scalar.addi v4 arg3
  let c63_i32 : BitVec 32 := 63#32
  let v6 : BitVec 32 := Scalar.minsi v5 c63_i32
  let c2_i32 : BitVec 32 := 2#32
  let v7 : BitVec 32 := Scalar.divsi v6 c2_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let c1_i32_5 : BitVec 32 := 1#32
  let v22 : BitVec 32 := Scalar.subi v7 c1_i32_5
  let v23 : BitVec 32 := Scalar.select v21 v22 v7
  let c2_i32_6 : BitVec 32 := 2#32
  let c0_i32_7 : BitVec 32 := 0#32
  let v24 : BitVec 1 := Scalar.cmpi .eq c2_i32_6 c0_i32_7
  let c1_i32_8 : BitVec 32 := 1#32
  let v25 : BitVec 32 := Scalar.select v24 c1_i32_8 c2_i32_6
  let v26 : BitVec 32 := Scalar.remsi v6 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c0_i32_12 : BitVec 32 := 0#32
  let c0_i32_13 : BitVec 32 := 0#32
  let c0_i32_14 : BitVec 32 := 0#32
  let c0_i32_15 : BitVec 32 := 0#32
  let c0_i32_16 : BitVec 32 := 0#32
  let c0_i32_17 : BitVec 32 := 0#32
  ![v23.toNat, c0_i32_12.toNat, c0_i32_13.toNat, c0_i32_14.toNat, c0_i32_15.toNat, c0_i32_16.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_10 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.muli v3 c1_i32_0
  let v5 : BitVec 32 := Scalar.addi v4 arg3
  let c63_i32 : BitVec 32 := 63#32
  let v6 : BitVec 32 := Scalar.minsi v5 c63_i32
  let c2_i32 : BitVec 32 := 2#32
  let v7 : BitVec 32 := Scalar.divsi v6 c2_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let c1_i32_5 : BitVec 32 := 1#32
  let v22 : BitVec 32 := Scalar.subi v7 c1_i32_5
  let v23 : BitVec 32 := Scalar.select v21 v22 v7
  let c2_i32_6 : BitVec 32 := 2#32
  let c0_i32_7 : BitVec 32 := 0#32
  let v24 : BitVec 1 := Scalar.cmpi .eq c2_i32_6 c0_i32_7
  let c1_i32_8 : BitVec 32 := 1#32
  let v25 : BitVec 32 := Scalar.select v24 c1_i32_8 c2_i32_6
  let v26 : BitVec 32 := Scalar.remsi v6 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c0_i32_12 : BitVec 32 := 0#32
  let c0_i32_13 : BitVec 32 := 0#32
  let c0_i32_14 : BitVec 32 := 0#32
  let c0_i32_15 : BitVec 32 := 0#32
  let c0_i32_16 : BitVec 32 := 0#32
  ![v23.toNat, v33.toNat, c0_i32_12.toNat, c0_i32_13.toNat, c0_i32_14.toNat, c0_i32_15.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S1x64x4x2x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]

abbrev stage0_8 : Fin 2 → Memref sig .tc .vmem S1x1x4x2x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]

abbrev stage0_10 : Fin 2 → Memref sig .tc .vmem S1x64x4x2x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true, true]
-- ==== KernelAttnIdeal.lean ====
variable {F : FTy → Type} [FloatOps F] [Named F]
def κ : String → Option EReal := fun
  | "mask" => some ⊥
  | _ => none
-- ==== ReferenceAttnIdeal.lean ====
abbrev S4x1x2048x6144 : Shape := ⟨4, ![4, 1, 2048, 6144]⟩
abbrev S16x8192x128 : Shape := ⟨3, ![16, 8192, 128]⟩
abbrev S2x8192x128 : Shape := ⟨3, ![2, 8192, 128]⟩
abbrev S32x512x2x16x128 : Shape := ⟨5, ![32, 512, 2, 16, 128]⟩
abbrev S32x4x2x16x128 : Shape := ⟨5, ![32, 4, 2, 16, 128]⟩
abbrev S4x2048x3x16x128 : Shape := ⟨5, ![4, 2048, 3, 16, 128]⟩
abbrev S4x2048x1x16x128 : Shape := ⟨5, ![4, 2048, 1, 16, 128]⟩
abbrev S4x2048x16x128 : Shape := ⟨4, ![4, 2048, 16, 128]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S4x2048x16 : Shape := ⟨3, ![4, 2048, 16]⟩
abbrev S16x4x2048x128 : Shape := ⟨4, ![16, 4, 2048, 128]⟩
abbrev S2x8192x8 : Shape := ⟨3, ![2, 8192, 8]⟩
abbrev S8192x2x8 : Shape := ⟨3, ![8192, 2, 8]⟩
abbrev S1x4x2048x16 : Shape := ⟨4, ![1, 4, 2048, 16]⟩
abbrev S2x4x2048x16 : Shape := ⟨4, ![2, 4, 2048, 16]⟩
abbrev S1x4x2048x16x128 : Shape := ⟨5, ![1, 4, 2048, 16, 128]⟩
abbrev S2x4x2048x16x128 : Shape := ⟨5, ![2, 4, 2048, 16, 128]⟩
abbrev S2x4x2048x16x1 : Shape := ⟨5, ![2, 4, 2048, 16, 1]⟩
abbrev S8192x2048 : Shape := ⟨2, ![8192, 2048]⟩
abbrev S32x516x2x16x128 : Shape := ⟨5, ![32, 516, 2, 16, 128]⟩
abbrev S32x128x4x2x16x128 : Shape := ⟨6, ![32, 128, 4, 2, 16, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x1x2048x6144, .bf16⟩
  | .hbm, ⟨1, _⟩ => ⟨S16x8192x128, .f32⟩
  | .hbm, ⟨2, _⟩ => ⟨S2x8192x128, .f32⟩
  | .hbm, ⟨3, _⟩ => ⟨S32x512x2x16x128, .f32⟩
  | .hbm, ⟨4, _⟩ => ⟨S32x4x2x16x128, .f32⟩
  | .hbm, ⟨5, _⟩ => ⟨S4x1x2048x6144, .f32⟩
  | .hbm, ⟨6, _⟩ => ⟨S4x2048x3x16x128, .f32⟩
  | .hbm, ⟨7, _⟩ => ⟨S4x2048x1x16x128, .f32⟩
  | .hbm, ⟨8, _⟩ => ⟨S4x2048x16x128, .f32⟩
  | .hbm, ⟨9, _⟩ => ⟨S4x2048x1x16x128, .f32⟩
  | .hbm, ⟨10, _⟩ => ⟨S4x2048x16x128, .f32⟩
  | .hbm, ⟨11, _⟩ => ⟨S4x2048x1x16x128, .f32⟩
  | .hbm, ⟨12, _⟩ => ⟨S4x2048x16x128, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i32⟩
  | .hbm, ⟨28, _⟩ => ⟨S2048x2048, .i32⟩
  | .hbm, ⟨29, _⟩ => ⟨S2048x2048, .i1⟩
  | .hbm, ⟨30, _⟩ => ⟨S2048x2048, .i1⟩
  | .hbm, ⟨31, _⟩ => ⟨S1x1x2048x2048, .i1⟩
  | .hbm, ⟨32, _⟩ => ⟨S_, .f32⟩
  | .hbm, ⟨33, _⟩ => ⟨S_, .f32⟩
  | .hbm, ⟨34, _⟩ => ⟨S4x16x2048x2048, .i1⟩
  | .hbm, ⟨35, _⟩ => ⟨S4x16x2048x2048, .f32⟩
  | .hbm, ⟨36, _⟩ => ⟨S4x16x2048x2048, .f32⟩
  | .hbm, ⟨37, _⟩ => ⟨S_, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048, .f32⟩
  | .hbm, ⟨46, _⟩ => ⟨S4x16x2048, .f32⟩
  | .hbm, ⟨47, _⟩ => ⟨S4x16x2048x1, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S4x16x128x2048, .f32⟩
  | .hbm, ⟨52, _⟩ => ⟨S4x2048x16x128, .f32⟩
  | .hbm, ⟨53, _⟩ => ⟨S4x2048x16, .f32⟩
  | .hbm, ⟨54, _⟩ => ⟨S16x4x2048x128, .f32⟩
  | .hbm, ⟨55, _⟩ => ⟨S4x2048x16x128, .f32⟩
  | .hbm, ⟨56, _⟩ => ⟨S2x8192x8, .f32⟩
  | .hbm, ⟨57, _⟩ => ⟨S8192x2x8, .f32⟩
  | .hbm, ⟨58, _⟩ => ⟨S4x2048x16, .f32⟩
  | .hbm, ⟨59, _⟩ => ⟨S1x4x2048x16, .f32⟩
  | .hbm, ⟨60, _⟩ => ⟨S1x4x2048x16, .f32⟩
  | .hbm, ⟨61, _⟩ => ⟨S2x4x2048x16, .f32⟩
  | .hbm, ⟨62, _⟩ => ⟨S_, .f32⟩
  | .hbm, ⟨63, _⟩ => ⟨S4x2048x16, .f32⟩
  | .hbm, ⟨64, _⟩ => ⟨S1x4x2048x16, .f32⟩
  | .hbm, ⟨65, _⟩ => ⟨S2x4x2048x16, .f32⟩
  | .hbm, ⟨66, _⟩ => ⟨S2x4x2048x16, .f32⟩
  | .hbm, ⟨67, _⟩ => ⟨S2x4x2048x16, .f32⟩
  | .hbm, ⟨68, _⟩ => ⟨S_, .f32⟩
  | .hbm, ⟨69, _⟩ => ⟨S4x2048x16, .f32⟩
  | .hbm, ⟨70, _⟩ => ⟨S4x2048x16, .f32⟩
  | .hbm, ⟨71, _⟩ => ⟨S4x2048x16, .f32⟩
  | .hbm, ⟨72, _⟩ => ⟨S1x4x2048x16, .f32⟩
  | .hbm, ⟨73, _⟩ => ⟨S2x4x2048x16, .f32⟩
  | .hbm, ⟨74, _⟩ => ⟨S2x4x2048x16, .f32⟩
  | .hbm, ⟨75, _⟩ => ⟨S2x4x2048x16, .f32⟩
  | .hbm, ⟨76, _⟩ => ⟨S1x4x2048x16x128, .f32⟩
  | .hbm, ⟨77, _⟩ => ⟨S1x4x2048x16x128, .f32⟩
  | .hbm, ⟨78, _⟩ => ⟨S2x4x2048x16x128, .f32⟩
  | .hbm, ⟨79, _⟩ => ⟨S2x4x2048x16x1, .f32⟩
  | .hbm, ⟨80, _⟩ => ⟨S2x4x2048x16x128, .f32⟩
  | .hbm, ⟨81, _⟩ => ⟨S2x4x2048x16x128, .f32⟩
  | .hbm, ⟨82, _⟩ => ⟨S_, .f32⟩
  | .hbm, ⟨83, _⟩ => ⟨S4x2048x16x128, .f32⟩
  | .hbm, ⟨84, _⟩ => ⟨S8192x2048, .f32⟩
  | .hbm, ⟨85, _⟩ => ⟨S32x516x2x16x128, .f32⟩
  | .hbm, ⟨86, _⟩ => ⟨S32x512x2x16x128, .f32⟩
  | .hbm, ⟨87, _⟩ => ⟨S8192x2048, .bf16⟩
  | .hbm, ⟨88, _⟩ => ⟨S32x128x4x2x16x128, .f32⟩
  | _, _ => ⟨S4x1x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== KernelDown.lean ====
abbrev S8192x11264 : Shape := ⟨2, ![8192, 11264]⟩
abbrev S1x11264x4096 : Shape := ⟨3, ![1, 11264, 4096]⟩
abbrev S8192x4096 : Shape := ⟨2, ![8192, 4096]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x11264, .bf16⟩
  | .hbm, ⟨1, _⟩ => ⟨S1x11264x4096, .bf16⟩
  | .hbm, ⟨2, _⟩ => ⟨S8192x4096, .f32⟩
  | .hbm, ⟨3, _⟩ => ⟨S8192x4096, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x11264 : Shape := ⟨2, ![8192, 11264]⟩
abbrev S1x11264x4096 : Shape := ⟨3, ![1, 11264, 4096]⟩
abbrev S8192x4096 : Shape := ⟨2, ![8192, 4096]⟩
abbrev S11264x4096 : Shape := ⟨2, ![11264, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S1x11264x4096, .bf16⟩
  | .hbm, ⟨2, _⟩ => ⟨S8192x4096, .f32⟩
  | .hbm, ⟨3, _⟩ => ⟨S8192x11264, .f32⟩
  | .hbm, ⟨4, _⟩ => ⟨S11264x4096, .bf16⟩
  | .hbm, ⟨5, _⟩ => ⟨S11264x4096, .f32⟩
  | .hbm, ⟨6, _⟩ => ⟨S8192x4096, .f32⟩
  | .hbm, ⟨7, _⟩ => ⟨S8192x4096, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUp.lean ====
abbrev S8192x4096 : Shape := ⟨2, ![8192, 4096]⟩
abbrev S1x4096x11264 : Shape := ⟨3, ![1, 4096, 11264]⟩
abbrev S2x3x11264 : Shape := ⟨3, ![2, 3, 11264]⟩
abbrev S2x1x11264 : Shape := ⟨3, ![2, 1, 11264]⟩
abbrev S8192x11264 : Shape := ⟨2, ![8192, 11264]⟩
abbrev S8x8x11264 : Shape := ⟨3, ![8, 8, 11264]⟩
abbrev S1024x4096 : Shape := ⟨2, ![1024, 4096]⟩
abbrev S1x4096x512 : Shape := ⟨3, ![1, 4096, 512]⟩
abbrev S1x3x512 : Shape := ⟨3, ![1, 3, 512]⟩
abbrev S1x1x512 : Shape := ⟨3, ![1, 1, 512]⟩
abbrev S1024x512 : Shape := ⟨2, ![1024, 512]⟩
abbrev S1x8x512 : Shape := ⟨3, ![1, 8, 512]⟩
abbrev S22x8x512 : Shape := ⟨3, ![22, 8, 512]⟩
abbrev S8x512 : Shape := ⟨2, ![8, 512]⟩
abbrev S4096x512 : Shape := ⟨2, ![4096, 512]⟩
abbrev S1x1x128 : Shape := ⟨3, ![1, 1, 128]⟩
abbrev S1x128 : Shape := ⟨2, ![1, 128]⟩
abbrev S1x8x128 : Shape := ⟨3, ![1, 8, 128]⟩
abbrev S8x128 : Shape := ⟨2, ![8, 128]⟩
abbrev S64x128 : Shape := ⟨2, ![64, 128]⟩
abbrev S72x128 : Shape := ⟨2, ![72, 128]⟩

abbrev nBuf : Space → Nat
  | .hbm => 7
  | .vmem => 19
  | .smem => 0
  | _ => 0

abbrev bufTy : (tb : Table) → Fin (tcTables nBuf tb) → BufTy
  | .hbm, ⟨0, _⟩ => ⟨S8192x4096, .bf16⟩
  | .hbm, ⟨1, _⟩ => ⟨S1x4096x11264, .bf16⟩
  | .hbm, ⟨2, _⟩ => ⟨S1x4096x11264, .bf16⟩
  | .hbm, ⟨3, _⟩ => ⟨S2x3x11264, .f32⟩
  | .hbm, ⟨4, _⟩ => ⟨S2x1x11264, .f32⟩
  | .hbm, ⟨5, _⟩ => ⟨S8192x11264, .bf16⟩
  | .hbm, ⟨6, _⟩ => ⟨S8x8x11264, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x3x512, .f32⟩
  | .local _ .vmem, ⟨7, _⟩ => ⟨S1x3x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .bf16⟩
  | .local _ .vmem, ⟨11, _⟩ => ⟨S1024x512, .bf16⟩
  | .local _ .vmem, ⟨12, _⟩ => ⟨S1x8x512, .f32⟩
  | .local _ .vmem, ⟨13, _⟩ => ⟨S1x8x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S22x8x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![177], ![false]⟩

def k0_cond2 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c22_i32 : BitVec 32 := 22#32
  let c0_i32_2 : BitVec 32 := 0#32
  let v8 : BitVec 1 := Scalar.cmpi .sgt c22_i32 c0_i32_2
  let v9 : BitVec 32 := Scalar.extui v8
  let c0_i32_3 : BitVec 32 := 0#32
  let v10 : BitVec 1 := Scalar.cmpi .slt c22_i32 c0_i32_3
  let v11 : BitVec 32 := Scalar.extui v10
  let v12 : BitVec 32 := Scalar.subi v9 v11
  let v13 : BitVec 1 := Scalar.cmpi .ne v7 v12
  let v14 : BitVec 32 := Scalar.remsi v1 c22_i32
  let c0_i32_4 : BitVec 32 := 0#32
  let v15 : BitVec 1 := Scalar.cmpi .ne v14 c0_i32_4
  let v16 : BitVec 1 := Scalar.andi v13 v15
  let v2 : BitVec 32 := Scalar.divsi v1 c22_i32
  let c1_i32_5 : BitVec 32 := 1#32
  let v17 : BitVec 32 := Scalar.subi v2 c1_i32_5
  let v18 : BitVec 32 := Scalar.select v16 v17 v2
  let c2_i32 : BitVec 32 := 2#32
  let c0_i32_14 : BitVec 32 := 0#32
  let v32 : BitVec 1 := Scalar.cmpi .eq c2_i32 c0_i32_14
  let c1_i32_15 : BitVec 32 := 1#32
  let v33 : BitVec 32 := Scalar.select v32 c1_i32_15 c2_i32
  let v34 : BitVec 32 := Scalar.remsi v18 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c0_i32_19 : BitVec 32 := 0#32
  let v42 : BitVec 1 := Scalar.cmpi .eq v41 c0_i32_19
  let v43 : BitVec 32 := Scalar.extui v42
  let c0_i32_20 : BitVec 32 := 0#32
  let v44 : BitVec 1 := Scalar.cmpi .ne v43 c0_i32_20
  v44

def k0_off1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v72 : Index := Scalar.indexCast v28
  let c0 : Index := 0#32
  let c0_37 : Index := 0#32
  ![v72.toNat, 0, 0]
def k0_cond3 (i : grid0.Coords) : BitVec 1 :=
  let arg0 : BitVec 32 := BitVec.ofNat 32 (i 0).val
  let c2_i32_21 : BitVec 32 := 2#32
  let c0_i32_22 : BitVec 32 := 0#32
  let v45 : BitVec 1 := Scalar.cmpi .eq c2_i32_21 c0_i32_22
  let c1_i32_23 : BitVec 32 := 1#32
  let v46 : BitVec 32 := Scalar.select v45 c1_i32_23 c2_i32_21
  let v47 : BitVec 32 := Scalar.remsi arg0 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let c0_i32_27 : BitVec 32 := 0#32
  let v55 : BitVec 1 := Scalar.cmpi .eq v54 c0_i32_27
  let v56 : BitVec 32 := Scalar.extui v55
  let c0_i32_28 : BitVec 32 := 0#32
  let v57 : BitVec 1 := Scalar.cmpi .ne v56 c0_i32_28
  v57

def k0_off2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v92 : Index := Scalar.indexCast v28
  let c0_59 : Index := 0#32
  let c0_60 : Index := 0#32
  ![v92.toNat, 0, 0]
def k0_off3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v464 : Index := Scalar.indexCast v28
  let c0_177 : Index := 0#32
  let c128_178 : Index := 128#32
  ![v464.toNat, 0, 128]
def k0_off4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v836 : Index := Scalar.indexCast v28
  let c0_326 : Index := 0#32
  let c256_327 : Index := 256#32
  ![v836.toNat, 0, 256]
def k0_off5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v1208 : Index := Scalar.indexCast v28
  let c0_475 : Index := 0#32
  let c384_476 : Index := 384#32
  ![v1208.toNat, 0, 384]
def k0_cond4 (i : grid0.Coords) : BitVec 1 :=
  let arg0 : BitVec 32 := BitVec.ofNat 32 (i 0).val
  let c2_i32_29 : BitVec 32 := 2#32
  let c0_i32_30 : BitVec 32 := 0#32
  let v58 : BitVec 1 := Scalar.cmpi .eq c2_i32_29 c0_i32_30
  let c1_i32_31 : BitVec 32 := 1#32
  let v59 : BitVec 32 := Scalar.select v58 c1_i32_31 c2_i32_29
  let v60 : BitVec 32 := Scalar.remsi arg0 v59
  let c0_i32_33 : BitVec 32 := 0#32
  let v62 : BitVec 1 := Scalar.cmpi .slt v60 c0_i32_33
  let c0_i32_34 : BitVec 32 := 0#32
  let v63 : BitVec 1 := Scalar.cmpi .slt v59 c0_i32_34
  let v64 : BitVec 1 := Scalar.xori v62 v63
  let c0_i32_32 : BitVec 32 := 0#32
  let v61 : BitVec 1 := Scalar.cmpi .ne v60 c0_i32_32
  let v65 : BitVec 1 := Scalar.andi v64 v61
  let v66 : BitVec 32 := Scalar.addi v60 v59
  let v67 : BitVec 32 := Scalar.select v65 v66 v60
  let c1_i32_35 : BitVec 32 := 1#32
  let v68 : BitVec 1 := Scalar.cmpi .eq v67 c1_i32_35
  let v69 : BitVec 32 := Scalar.extui v68
  let c0_i32_36 : BitVec 32 := 0#32
  let v70 : BitVec 1 := Scalar.cmpi .ne v69 c0_i32_36
  v70

def k0_off6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v92 : Index := Scalar.indexCast v28
  let c0_59 : Index := 0#32
  let c0_60 : Index := 0#32
  ![v92.toNat, 0, 0]
def k0_off7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v464 : Index := Scalar.indexCast v28
  let c0_177 : Index := 0#32
  let c128_178 : Index := 128#32
  ![v464.toNat, 0, 128]
def k0_off8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v836 : Index := Scalar.indexCast v28
  let c0_326 : Index := 0#32
  let c256_327 : Index := 256#32
  ![v836.toNat, 0, 256]
def k0_off9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let v1208 : Index := Scalar.indexCast v28
  let c0_475 : Index := 0#32
  let c384_476 : Index := 384#32
  ![v1208.toNat, 0, 384]
def cc0_transform_0 (i : grid0.Coords) : Fin 2 → Nat :=
  let arg0 : BitVec 32 := BitVec.ofNat 32 (i 0).val
  let c175_i32 : BitVec 32 := 175#32
  let v0 : BitVec 32 := Scalar.minsi arg0 c175_i32
  let c22_i32 : BitVec 32 := 22#32
  let v1 : BitVec 32 := Scalar.divsi v0 c22_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c22_i32 c0_i32_1
  let v8 : BitVec 32 := Scalar.extui v7
  let c0_i32_2 : BitVec 32 := 0#32
  let v9 : BitVec 1 := Scalar.cmpi .slt c22_i32 c0_i32_2
  let v10 : BitVec 32 := Scalar.extui v9
  let v11 : BitVec 32 := Scalar.subi v8 v10
  let v12 : BitVec 1 := Scalar.cmpi .ne v6 v11
  let v13 : BitVec 32 := Scalar.remsi v0 c22_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let c0_i32_5 : BitVec 32 := 0#32
  let v18 : BitVec 1 := Scalar.cmpi .eq c22_i32_4 c0_i32_5
  let c1_i32_6 : BitVec 32 := 1#32
  let v19 : BitVec 32 := Scalar.select v18 c1_i32_6 c22_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c175_i32 : BitVec 32 := 175#32
  let v0 : BitVec 32 := Scalar.minsi arg0 c175_i32
  let c22_i32 : BitVec 32 := 22#32
  let v1 : BitVec 32 := Scalar.divsi v0 c22_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c22_i32 c0_i32_1
  let v8 : BitVec 32 := Scalar.extui v7
  let c0_i32_2 : BitVec 32 := 0#32
  let v9 : BitVec 1 := Scalar.cmpi .slt c22_i32 c0_i32_2
  let v10 : BitVec 32 := Scalar.extui v9
  let v11 : BitVec 32 := Scalar.subi v8 v10
  let v12 : BitVec 1 := Scalar.cmpi .ne v6 v11
  let v13 : BitVec 32 := Scalar.remsi v0 c22_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let c0_i32_5 : BitVec 32 := 0#32
  let v18 : BitVec 1 := Scalar.cmpi .eq c22_i32_4 c0_i32_5
  let c1_i32_6 : BitVec 32 := 1#32
  let v19 : BitVec 32 := Scalar.select v18 c1_i32_6 c22_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![c0_i32_10.toNat, c0_i32_11.toNat, v27.toNat]

def cc0_transform_2 (i : grid0.Coords) : Fin 3 → Nat :=
  let arg0 : BitVec 32 := BitVec.ofNat 32 (i 0).val
  let c175_i32 : BitVec 32 := 175#32
  let v0 : BitVec 32 := Scalar.minsi arg0 c175_i32
  let c22_i32 : BitVec 32 := 22#32
  let v1 : BitVec 32 := Scalar.divsi v0 c22_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c22_i32 c0_i32_1
  let v8 : BitVec 32 := Scalar.extui v7
  let c0_i32_2 : BitVec 32 := 0#32
  let v9 : BitVec 1 := Scalar.cmpi .slt c22_i32 c0_i32_2
  let v10 : BitVec 32 := Scalar.extui v9
  let v11 : BitVec 32 := Scalar.subi v8 v10
  let v12 : BitVec 1 := Scalar.cmpi .ne v6 v11
  let v13 : BitVec 32 := Scalar.remsi v0 c22_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let c0_i32_5 : BitVec 32 := 0#32
  let v18 : BitVec 1 := Scalar.cmpi .eq c22_i32_4 c0_i32_5
  let c1_i32_6 : BitVec 32 := 1#32
  let v19 : BitVec 32 := Scalar.select v18 c1_i32_6 c22_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![c0_i32_10.toNat, c0_i32_11.toNat, v27.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32 : BitVec 32 := 22#32
  let v2 : BitVec 32 := Scalar.divsi v1 c22_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c22_i32 c0_i32_2
  let v9 : BitVec 32 := Scalar.extui v8
  let c0_i32_3 : BitVec 32 := 0#32
  let v10 : BitVec 1 := Scalar.cmpi .slt c22_i32 c0_i32_3
  let v11 : BitVec 32 := Scalar.extui v10
  let v12 : BitVec 32 := Scalar.subi v9 v11
  let v13 : BitVec 1 := Scalar.cmpi .ne v7 v12
  let v14 : BitVec 32 := Scalar.remsi v1 c22_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let c0_i32_13 : BitVec 32 := 0#32
  let c0_i32_14 : BitVec 32 := 0#32
  ![c1_i32_12.toNat, c0_i32_13.toNat, v28.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32 : BitVec 32 := 22#32
  let v2 : BitVec 32 := Scalar.divsi v1 c22_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c22_i32 c0_i32_2
  let v9 : BitVec 32 := Scalar.extui v8
  let c0_i32_3 : BitVec 32 := 0#32
  let v10 : BitVec 1 := Scalar.cmpi .slt c22_i32 c0_i32_3
  let v11 : BitVec 32 := Scalar.extui v10
  let v12 : BitVec 32 := Scalar.subi v9 v11
  let v13 : BitVec 1 := Scalar.cmpi .ne v7 v12
  let v14 : BitVec 32 := Scalar.remsi v1 c22_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let c0_i32_13 : BitVec 32 := 0#32
  let c0_i32_14 : BitVec 32 := 0#32
  ![c1_i32_12.toNat, c0_i32_13.toNat, v28.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32 : BitVec 32 := 22#32
  let v2 : BitVec 32 := Scalar.divsi v1 c22_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c22_i32 c0_i32_2
  let v9 : BitVec 32 := Scalar.extui v8
  let c0_i32_3 : BitVec 32 := 0#32
  let v10 : BitVec 1 := Scalar.cmpi .slt c22_i32 c0_i32_3
  let v11 : BitVec 32 := Scalar.extui v10
  let v12 : BitVec 32 := Scalar.subi v9 v11
  let v13 : BitVec 1 := Scalar.cmpi .ne v7 v12
  let v14 : BitVec 32 := Scalar.remsi v1 c22_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32 : BitVec 32 := 22#32
  let v2 : BitVec 32 := Scalar.divsi v1 c22_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c22_i32 c0_i32_2
  let v9 : BitVec 32 := Scalar.extui v8
  let c0_i32_3 : BitVec 32 := 0#32
  let v10 : BitVec 1 := Scalar.cmpi .slt c22_i32 c0_i32_3
  let v11 : BitVec 32 := Scalar.extui v10
  let v12 : BitVec 32 := Scalar.subi v9 v11
  let v13 : BitVec 1 := Scalar.cmpi .ne v7 v12
  let v14 : BitVec 32 := Scalar.remsi v1 c22_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c22_i32_6 : BitVec 32 := 22#32
  let c0_i32_7 : BitVec 32 := 0#32
  let v19 : BitVec 1 := Scalar.cmpi .eq c22_i32_6 c0_i32_7
  let c1_i32_8 : BitVec 32 := 1#32
  let v20 : BitVec 32 := Scalar.select v19 c1_i32_8 c22_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c22_i32_14 : BitVec 32 := 22#32
  let v31 : BitVec 32 := Scalar.divsi v30 c22_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c22_i32_14 c0_i32_17
  let v38 : BitVec 32 := Scalar.extui v37
  let c0_i32_18 : BitVec 32 := 0#32
  let v39 : BitVec 1 := Scalar.cmpi .slt c22_i32_14 c0_i32_18
  let v40 : BitVec 32 := Scalar.extui v39
  let v41 : BitVec 32 := Scalar.subi v38 v40
  let v42 : BitVec 1 := Scalar.cmpi .ne v36 v41
  let v43 : BitVec 32 := Scalar.remsi v30 c22_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c22_i32_21 : BitVec 32 := 22#32
  let c0_i32_22 : BitVec 32 := 0#32
  let v48 : BitVec 1 := Scalar.cmpi .eq c22_i32_21 c0_i32_22
  let c1_i32_23 : BitVec 32 := 1#32
  let v49 : BitVec 32 := Scalar.select v48 c1_i32_23 c22_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  ![v18.toNat, c0_i32_27.toNat, v57.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceUpIdeal.lean ====
abbrev S8192x4096 : Shape := ⟨2, ![8192, 4096]⟩
abbrev S1x4096x11264 : Shape := ⟨3, ![1, 4096, 11264]⟩
abbrev S2x3x11264 : Shape := ⟨3, ![2, 3, 11264]⟩
abbrev S2x1x11264 : Shape := ⟨3, ![2, 1, 11264]⟩
abbrev S4096x11264 : Shape := ⟨2, ![4096, 11264]⟩
abbrev S8192x11264 : Shape := ⟨2, ![8192, 11264]⟩
abbrev S4x2048x11264 : Shape := ⟨3, ![4, 2048, 11264]⟩
abbrev S_ : Shape := ⟨0, ![]⟩
abbrev S4x2x11264 : Shape := ⟨3, ![4, 2, 11264]⟩
abbrev S4x2050x11264 : Shape := ⟨3, ![4, 2050, 11264]⟩
abbrev S1x1x11264 : Shape := ⟨3, ![1, 1, 11264]⟩
abbrev S1x11264 : Shape := ⟨2, ![1, 11264]⟩
abbrev S11264 : Shape := ⟨1, ![11264]⟩
abbrev S8x1024x11264 : Shape := ⟨3, ![8, 1024, 11264]⟩
abbrev S8x8x11264 : Shape := ⟨3, ![8, 8, 11264]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11264, .bf16⟩
  | .hbm, ⟨2, _⟩ => ⟨S1x4096x11264, .bf16⟩
  | .hbm, ⟨3, _⟩ => ⟨S2x3x11264, .f32⟩
  | .hbm, ⟨4, _⟩ => ⟨S2x1x11264, .f32⟩
  | .hbm, ⟨5, _⟩ => ⟨S8192x4096, .f32⟩
  | .hbm, ⟨6, _⟩ => ⟨S4096x11264, .bf16⟩
  | .hbm, ⟨7, _⟩ => ⟨S4096x11264, .f32⟩
  | .hbm, ⟨8, _⟩ => ⟨S8192x11264, .f32⟩
  | .hbm, ⟨9, _⟩ => ⟨S4x2048x11264, .f32⟩
  | .hbm, ⟨10, _⟩ => ⟨S4096x11264, .bf16⟩
  | .hbm, ⟨11, _⟩ => ⟨S4096x11264, .f32⟩
  | .hbm, ⟨12, _⟩ => ⟨S8192x11264, .f32⟩
  | .hbm, ⟨13, _⟩ => ⟨S4x2048x11264, .f32⟩
  | .hbm, ⟨14, _⟩ => ⟨S_, .f32⟩
  | .hbm, ⟨15, _⟩ => ⟨S4x2x11264, .f32⟩
  | .hbm, ⟨16, _⟩ => ⟨S4x2050x11264, .f32⟩
  | .hbm, ⟨17, _⟩ => ⟨S1x1x11264, .f32⟩
  | .hbm, ⟨18, _⟩ => ⟨S1x11264, .f32⟩
  | .hbm, ⟨19, _⟩ => ⟨S1x1x11264, .f32⟩
  | .hbm, ⟨20, _⟩ => ⟨S11264, .f32⟩
  | .hbm, ⟨21, _⟩ => ⟨S4x2048x11264, .f32⟩
  | .hbm, ⟨22, _⟩ => ⟨S1x1x11264, .f32⟩
  | .hbm, ⟨23, _⟩ => ⟨S4x2048x11264, .f32⟩
  | .hbm, ⟨24, _⟩ => ⟨S4x2048x11264, .f32⟩
  | .hbm, ⟨25, _⟩ => ⟨S1x1x11264, .f32⟩
  | .hbm, ⟨26, _⟩ => ⟨S4x2048x11264, .f32⟩
  | .hbm, ⟨27, _⟩ => ⟨S4x2048x11264, .f32⟩
  | .hbm, ⟨28, _⟩ => ⟨S1x1x11264, .f32⟩
  | .hbm, ⟨29, _⟩ => ⟨S11264, .f32⟩
  | .hbm, ⟨30, _⟩ => ⟨S4x2048x11264, .f32⟩
  | .hbm, ⟨31, _⟩ => ⟨S1x1x11264, .f32⟩
  | .hbm, ⟨32, _⟩ => ⟨S4x2048x11264, .f32⟩
  | .hbm, ⟨33, _⟩ => ⟨S4x2048x11264, .f32⟩
  | .hbm, ⟨34, _⟩ => ⟨S4x2048x11264, .f32⟩
  | .hbm, ⟨35, _⟩ => ⟨S1x1x11264, .f32⟩
  | .hbm, ⟨36, _⟩ => ⟨S11264, .f32⟩
  | .hbm, ⟨37, _⟩ => ⟨S4x2048x11264, .f32⟩
  | .hbm, ⟨38, _⟩ => ⟨S1x1x11264, .f32⟩
  | .hbm, ⟨39, _⟩ => ⟨S4x2048x11264, .f32⟩
  | .hbm, ⟨40, _⟩ => ⟨S4x2048x11264, .f32⟩
  | .hbm, ⟨41, _⟩ => ⟨S4x2048x11264, .f32⟩
  | .hbm, ⟨42, _⟩ => ⟨S4x2048x11264, .f32⟩
  | .hbm, ⟨43, _⟩ => ⟨S4x2048x11264, .f32⟩
  | .hbm, ⟨44, _⟩ => ⟨S_, .f32⟩
  | .hbm, ⟨45, _⟩ => ⟨S4x2048x11264, .f32⟩
  | .hbm, ⟨46, _⟩ => ⟨S4x2048x11264, .f32⟩
  | .hbm, ⟨47, _⟩ => ⟨S_, .f32⟩
  | .hbm, ⟨48, _⟩ => ⟨S4x2048x11264, .f32⟩
  | .hbm, ⟨49, _⟩ => ⟨S4x2048x11264, .f32⟩
  | .hbm, ⟨50, _⟩ => ⟨S4x2048x11264, .f32⟩
  | .hbm, ⟨51, _⟩ => ⟨S4x2048x11264, .f32⟩
  | .hbm, ⟨52, _⟩ => ⟨S8192x11264, .f32⟩
  | .hbm, ⟨53, _⟩ => ⟨S8192x11264, .bf16⟩
  | .hbm, ⟨54, _⟩ => ⟨S8x1024x11264, .f32⟩
  | .hbm, ⟨55, _⟩ => ⟨S8x8x11264, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelQkv.lean ====
abbrev S8192x4096 : Shape := ⟨2, ![8192, 4096]⟩
abbrev S1x4096x18432 : Shape := ⟨3, ![1, 4096, 18432]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1x2048x1x128 : Shape := ⟨4, ![1, 2048, 1, 128]⟩
abbrev S1x2048x128 : Shape := ⟨3, ![1, 2048, 128]⟩
abbrev S2x2048x128 : Shape := ⟨3, ![2, 2048, 128]⟩
abbrev S8192x6144 : Shape := ⟨2, ![8192, 6144]⟩
abbrev S1024x4096 : Shape := ⟨2, ![1024, 4096]⟩
abbrev S1x4096x512 : Shape := ⟨3, ![1, 4096, 512]⟩
abbrev S1x1024x128 : Shape := ⟨3, ![1, 1024, 128]⟩
abbrev S1024x512 : Shape := ⟨2, ![1024, 512]⟩
abbrev S4096x512 : Shape := ⟨2, ![4096, 512]⟩
abbrev S1024x128 : Shape := ⟨2, ![1024, 128]⟩

abbrev nBuf : Space → Nat
  | .hbm => 58
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .bf16⟩
  | .hbm, ⟨2, _⟩ => ⟨S2048, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S_, .f32⟩
  | .hbm, ⟨23, _⟩ => ⟨S2048x96, .f32⟩
  | .hbm, ⟨24, _⟩ => ⟨S_, .f32⟩
  | .hbm, ⟨25, _⟩ => ⟨S2048x96, .f32⟩
  | .hbm, ⟨26, _⟩ => ⟨S_, .f32⟩
  | .hbm, ⟨27, _⟩ => ⟨S2048x16, .f32⟩
  | .hbm, ⟨28, _⟩ => ⟨S2048x128, .f32⟩
  | .hbm, ⟨29, _⟩ => ⟨S1x2048x1x128, .f32⟩
  | .hbm, ⟨30, _⟩ => ⟨S1x2048x1x128, .f32⟩
  | .hbm, ⟨31, _⟩ => ⟨S2048x128, .f32⟩
  | .hbm, ⟨32, _⟩ => ⟨S2048x16, .f32⟩
  | .hbm, ⟨33, _⟩ => ⟨S2048x128, .f32⟩
  | .hbm, ⟨34, _⟩ => ⟨S1x2048x1x128, .f32⟩
  | .hbm, ⟨35, _⟩ => ⟨S1x2048x1x128, .f32⟩
  | .hbm, ⟨36, _⟩ => ⟨S2048x128, .f32⟩
  | .hbm, ⟨37, _⟩ => ⟨S2048x128, .f32⟩
  | .hbm, ⟨38, _⟩ => ⟨S1x2048x1x128, .f32⟩
  | .hbm, ⟨39, _⟩ => ⟨S1x2048x1x128, .f32⟩
  | .hbm, ⟨40, _⟩ => ⟨S2048x128, .f32⟩
  | .hbm, ⟨41, _⟩ => ⟨S_, .f32⟩
  | .hbm, ⟨42, _⟩ => ⟨S2048x128, .f32⟩
  | .hbm, ⟨43, _⟩ => ⟨S1x2048x128, .f32⟩
  | .hbm, ⟨44, _⟩ => ⟨S1x2048x128, .f32⟩
  | .hbm, ⟨45, _⟩ => ⟨S2x2048x128, .f32⟩
  | .hbm, ⟨46, _⟩ => ⟨S_, .f32⟩
  | .hbm, ⟨47, _⟩ => ⟨S2048x128, .f32⟩
  | .hbm, ⟨48, _⟩ => ⟨S1x2048x128, .f32⟩
  | .hbm, ⟨49, _⟩ => ⟨S1x2048x128, .f32⟩
  | .hbm, ⟨50, _⟩ => ⟨S2x2048x128, .f32⟩
  | .hbm, ⟨51, _⟩ => ⟨S_, .f32⟩
  | .hbm, ⟨52, _⟩ => ⟨S2048x128, .f32⟩
  | .hbm, ⟨53, _⟩ => ⟨S1x2048x128, .f32⟩
  | .hbm, ⟨54, _⟩ => ⟨S1x2048x128, .f32⟩
  | .hbm, ⟨55, _⟩ => ⟨S2x2048x128, .f32⟩
  | .hbm, ⟨56, _⟩ => ⟨S8192x6144, .bf16⟩
  | .hbm, ⟨57, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![97], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v27 c4_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v27 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c12_i32_16 : BitVec 32 := 12#32
  let v45 : BitVec 32 := Scalar.muli v44 c12_i32_16
  let c0_i32_17 : BitVec 32 := 0#32
  let v46 : BitVec 32 := Scalar.addi c0_i32_17 v45
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi v27 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_24 : BitVec 32 := 0#32
  let c0_i32_25 : BitVec 32 := 0#32
  let c0_i32_26 : BitVec 32 := 0#32
  ![c0_i32_24.toNat, c0_i32_25.toNat, v57.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.subi v28 c4_i32
  let c0_i32_12 : BitVec 32 := 0#32
  let v30 : BitVec 32 := Scalar.maxsi v29 c0_i32_12
  let c0_i32_13 : BitVec 32 := 0#32
  ![v18.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceQkvIdeal.lean ====
abbrev S8192x4096 : Shape := ⟨2, ![8192, 4096]⟩
abbrev S1x4096x18432 : Shape := ⟨3, ![1, 4096, 18432]⟩
abbrev S2048 : Shape := ⟨1, ![2048]⟩
abbrev S4096x18432 : Shape := ⟨2, ![4096, 18432]⟩
abbrev S8192x18432 : Shape := ⟨2, ![8192, 18432]⟩
abbrev S4x2048x3x3x16x128 : Shape := ⟨6, ![4, 2048, 3, 3, 16, 128]⟩
abbrev S4x2048x1x1x16x128 : Shape := ⟨6, ![4, 2048, 1, 1, 16, 128]⟩
abbrev S4x2048x16x128 : Shape := ⟨4, ![4, 2048, 16, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x16x16 : Shape := ⟨4, ![4, 2048, 16, 16]⟩
abbrev S4x2048x16x96 : Shape := ⟨4, ![4, 2048, 16, 96]⟩
abbrev S1x2048x1x16 : Shape := ⟨4, ![1, 2048, 1, 16]⟩
abbrev S4x2048x1x16x128 : Shape := ⟨5, ![4, 2048, 1, 16, 128]⟩
abbrev S4x2048x2x16x128 : Shape := ⟨5, ![4, 2048, 2, 16, 128]⟩
abbrev S4x2048x3x16x128 : Shape := ⟨5, ![4, 2048, 3, 16, 128]⟩
abbrev S8192x6144 : Shape := ⟨2, ![8192, 6144]⟩

abbrev nBuf : Space → Nat
  | .hbm => 100
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .bf16⟩
  | .hbm, ⟨2, _⟩ => ⟨S2048, .i32⟩
  | .hbm, ⟨3, _⟩ => ⟨S8192x4096, .f32⟩
  | .hbm, ⟨4, _⟩ => ⟨S4096x18432, .bf16⟩
  | .hbm, ⟨5, _⟩ => ⟨S4096x18432, .f32⟩
  | .hbm, ⟨6, _⟩ => ⟨S8192x18432, .f32⟩
  | .hbm, ⟨7, _⟩ => ⟨S4x2048x3x3x16x128, .f32⟩
  | .hbm, ⟨8, _⟩ => ⟨S4x2048x1x1x16x128, .f32⟩
  | .hbm, ⟨9, _⟩ => ⟨S4x2048x16x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x1x16, .f32⟩
  | .hbm, ⟨29, _⟩ => ⟨S2048x16, .f32⟩
  | .hbm, ⟨30, _⟩ => ⟨S2048x1x16, .f32⟩
  | .hbm, ⟨31, _⟩ => ⟨S4x2048x16x16, .f32⟩
  | .hbm, ⟨32, _⟩ => ⟨S4x2048x16x16, .f32⟩
  | .hbm, ⟨33, _⟩ => ⟨S4x2048x16x96, .f32⟩
  | .hbm, ⟨34, _⟩ => ⟨S1x2048x1x16, .f32⟩
  | .hbm, ⟨35, _⟩ => ⟨S4x2048x16x16, .f32⟩
  | .hbm, ⟨36, _⟩ => ⟨S4x2048x16x16, .f32⟩
  | .hbm, ⟨37, _⟩ => ⟨S1x2048x1x16, .f32⟩
  | .hbm, ⟨38, _⟩ => ⟨S4x2048x16x16, .f32⟩
  | .hbm, ⟨39, _⟩ => ⟨S4x2048x16x16, .f32⟩
  | .hbm, ⟨40, _⟩ => ⟨S4x2048x16x16, .f32⟩
  | .hbm, ⟨41, _⟩ => ⟨S1x2048x1x16, .f32⟩
  | .hbm, ⟨42, _⟩ => ⟨S4x2048x16x16, .f32⟩
  | .hbm, ⟨43, _⟩ => ⟨S4x2048x16x16, .f32⟩
  | .hbm, ⟨44, _⟩ => ⟨S1x2048x1x16, .f32⟩
  | .hbm, ⟨45, _⟩ => ⟨S4x2048x16x16, .f32⟩
  | .hbm, ⟨46, _⟩ => ⟨S4x2048x16x16, .f32⟩
  | .hbm, ⟨47, _⟩ => ⟨S4x2048x16x16, .f32⟩
  | .hbm, ⟨48, _⟩ => ⟨S4x2048x16x128, .f32⟩
  | .hbm, ⟨49, _⟩ => ⟨S4x2048x1x1x16x128, .f32⟩
  | .hbm, ⟨50, _⟩ => ⟨S4x2048x16x128, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S2048, .f32⟩
  | .hbm, ⟨63, _⟩ => ⟨S2048x1, .f32⟩
  | .hbm, ⟨64, _⟩ => ⟨S1x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x1x16, .f32⟩
  | .hbm, ⟨70, _⟩ => ⟨S2048x16, .f32⟩
  | .hbm, ⟨71, _⟩ => ⟨S2048x1x16, .f32⟩
  | .hbm, ⟨72, _⟩ => ⟨S4x2048x16x16, .f32⟩
  | .hbm, ⟨73, _⟩ => ⟨S4x2048x16x16, .f32⟩
  | .hbm, ⟨74, _⟩ => ⟨S4x2048x16x96, .f32⟩
  | .hbm, ⟨75, _⟩ => ⟨S1x2048x1x16, .f32⟩
  | .hbm, ⟨76, _⟩ => ⟨S4x2048x16x16, .f32⟩
  | .hbm, ⟨77, _⟩ => ⟨S4x2048x16x16, .f32⟩
  | .hbm, ⟨78, _⟩ => ⟨S1x2048x1x16, .f32⟩
  | .hbm, ⟨79, _⟩ => ⟨S4x2048x16x16, .f32⟩
  | .hbm, ⟨80, _⟩ => ⟨S4x2048x16x16, .f32⟩
  | .hbm, ⟨81, _⟩ => ⟨S4x2048x16x16, .f32⟩
  | .hbm, ⟨82, _⟩ => ⟨S1x2048x1x16, .f32⟩
  | .hbm, ⟨83, _⟩ => ⟨S4x2048x16x16, .f32⟩
  | .hbm, ⟨84, _⟩ => ⟨S4x2048x16x16, .f32⟩
  | .hbm, ⟨85, _⟩ => ⟨S1x2048x1x16, .f32⟩
  | .hbm, ⟨86, _⟩ => ⟨S4x2048x16x16, .f32⟩
  | .hbm, ⟨87, _⟩ => ⟨S4x2048x16x16, .f32⟩
  | .hbm, ⟨88, _⟩ => ⟨S4x2048x16x16, .f32⟩
  | .hbm, ⟨89, _⟩ => ⟨S4x2048x16x128, .f32⟩
  | .hbm, ⟨90, _⟩ => ⟨S4x2048x1x1x16x128, .f32⟩
  | .hbm, ⟨91, _⟩ => ⟨S4x2048x16x128, .f32⟩
  | .hbm, ⟨92, _⟩ => ⟨S4x2048x1x16x128, .f32⟩
  | .hbm, ⟨93, _⟩ => ⟨S4x2048x1x16x128, .f32⟩
  | .hbm, ⟨94, _⟩ => ⟨S4x2048x2x16x128, .f32⟩
  | .hbm, ⟨95, _⟩ => ⟨S4x2048x1x16x128, .f32⟩
  | .hbm, ⟨96, _⟩ => ⟨S4x2048x3x16x128, .f32⟩
  | .hbm, ⟨97, _⟩ => ⟨S8192x6144, .f32⟩
  | .hbm, ⟨98, _⟩ => ⟨S8192x6144, .bf16⟩
  | .hbm, ⟨99, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩

abbrev nD : Nat := 1
abbrev τ : Topo := Topo.v7x

variable {F : FTy → Type} [FloatOps F]
-- ==== KernelQkv4.lean ====
abbrev S8192x4096 : Shape := ⟨2, ![8192, 4096]⟩
abbrev S1x4096x18432 : Shape := ⟨3, ![1, 4096, 18432]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1x2048x1x128 : Shape := ⟨4, ![1, 2048, 1, 128]⟩
abbrev S1x2048x128 : Shape := ⟨3, ![1, 2048, 128]⟩
abbrev S2x2048x128 : Shape := ⟨3, ![2, 2048, 128]⟩
abbrev S4x4x512x6144 : Shape := ⟨4, ![4, 4, 512, 6144]⟩
abbrev S1024x4096 : Shape := ⟨2, ![1024, 4096]⟩
abbrev S1x4096x512 : Shape := ⟨3, ![1, 4096, 512]⟩
abbrev S1x1024x128 : Shape := ⟨3, ![1, 1024, 128]⟩
abbrev S1x4x256x512 : Shape := ⟨4, ![1, 4, 256, 512]⟩
abbrev S1024x512 : Shape := ⟨2, ![1024, 512]⟩
abbrev S1024x128 : Shape := ⟨2, ![1024, 128]⟩
abbrev S4096x512 : Shape := ⟨2, ![4096, 512]⟩
abbrev S256x128 : Shape := ⟨2, ![256, 128]⟩
abbrev S1x1x256x128 : Shape := ⟨4, ![1, 1, 256, 128]⟩

abbrev nBuf : Space → Nat
  | .hbm => 58
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .bf16⟩
  | .hbm, ⟨2, _⟩ => ⟨S2048, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S_, .f32⟩
  | .hbm, ⟨23, _⟩ => ⟨S2048x96, .f32⟩
  | .hbm, ⟨24, _⟩ => ⟨S_, .f32⟩
  | .hbm, ⟨25, _⟩ => ⟨S2048x96, .f32⟩
  | .hbm, ⟨26, _⟩ => ⟨S_, .f32⟩
  | .hbm, ⟨27, _⟩ => ⟨S2048x16, .f32⟩
  | .hbm, ⟨28, _⟩ => ⟨S2048x128, .f32⟩
  | .hbm, ⟨29, _⟩ => ⟨S1x2048x1x128, .f32⟩
  | .hbm, ⟨30, _⟩ => ⟨S1x2048x1x128, .f32⟩
  | .hbm, ⟨31, _⟩ => ⟨S2048x128, .f32⟩
  | .hbm, ⟨32, _⟩ => ⟨S2048x16, .f32⟩
  | .hbm, ⟨33, _⟩ => ⟨S2048x128, .f32⟩
  | .hbm, ⟨34, _⟩ => ⟨S1x2048x1x128, .f32⟩
  | .hbm, ⟨35, _⟩ => ⟨S1x2048x1x128, .f32⟩
  | .hbm, ⟨36, _⟩ => ⟨S2048x128, .f32⟩
  | .hbm, ⟨37, _⟩ => ⟨S2048x128, .f32⟩
  | .hbm, ⟨38, _⟩ => ⟨S1x2048x1x128, .f32⟩
  | .hbm, ⟨39, _⟩ => ⟨S1x2048x1x128, .f32⟩
  | .hbm, ⟨40, _⟩ => ⟨S2048x128, .f32⟩
  | .hbm, ⟨41, _⟩ => ⟨S_, .f32⟩
  | .hbm, ⟨42, _⟩ => ⟨S2048x128, .f32⟩
  | .hbm, ⟨43, _⟩ => ⟨S1x2048x128, .f32⟩
  | .hbm, ⟨44, _⟩ => ⟨S1x2048x128, .f32⟩
  | .hbm, ⟨45, _⟩ => ⟨S2x2048x128, .f32⟩
  | .hbm, ⟨46, _⟩ => ⟨S_, .f32⟩
  | .hbm, ⟨47, _⟩ => ⟨S2048x128, .f32⟩
  | .hbm, ⟨48, _⟩ => ⟨S1x2048x128, .f32⟩
  | .hbm, ⟨49, _⟩ => ⟨S1x2048x128, .f32⟩
  | .hbm, ⟨50, _⟩ => ⟨S2x2048x128, .f32⟩
  | .hbm, ⟨51, _⟩ => ⟨S_, .f32⟩
  | .hbm, ⟨52, _⟩ => ⟨S2048x128, .f32⟩
  | .hbm, ⟨53, _⟩ => ⟨S1x2048x128, .f32⟩
  | .hbm, ⟨54, _⟩ => ⟨S1x2048x128, .f32⟩
  | .hbm, ⟨55, _⟩ => ⟨S2x2048x128, .f32⟩
  | .hbm, ⟨56, _⟩ => ⟨S4x4x512x6144, .bf16⟩
  | .hbm, ⟨57, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x4x256x512, .bf16⟩
  | .local _ .vmem, ⟨11, _⟩ => ⟨S1x4x256x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![97], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v27 c4_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v27 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c12_i32_16 : BitVec 32 := 12#32
  let v45 : BitVec 32 := Scalar.muli v44 c12_i32_16
  let c4_i32_17 : BitVec 32 := 4#32
  let v46 : BitVec 32 := Scalar.addi c4_i32_17 v45
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi v27 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_24 : BitVec 32 := 0#32
  let c0_i32_25 : BitVec 32 := 0#32
  let c0_i32_26 : BitVec 32 := 0#32
  ![c0_i32_24.toNat, c0_i32_25.toNat, v57.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.divsi v18 c2_i32
  let c0_i32_12 : BitVec 32 := 0#32
  let v30 : BitVec 1 := Scalar.cmpi .sgt v18 c0_i32_12
  let v31 : BitVec 32 := Scalar.extui v30
  let c0_i32_13 : BitVec 32 := 0#32
  let v32 : BitVec 1 := Scalar.cmpi .slt v18 c0_i32_13
  let v33 : BitVec 32 := Scalar.extui v32
  let v34 : BitVec 32 := Scalar.subi v31 v33
  let c0_i32_14 : BitVec 32 := 0#32
  let v35 : BitVec 1 := Scalar.cmpi .sgt c2_i32 c0_i32_14
  let v36 : BitVec 32 := Scalar.extui v35
  let c0_i32_15 : BitVec 32 := 0#32
  let v37 : BitVec 1 := Scalar.cmpi .slt c2_i32 c0_i32_15
  let v38 : BitVec 32 := Scalar.extui v37
  let v39 : BitVec 32 := Scalar.subi v36 v38
  let v40 : BitVec 1 := Scalar.cmpi .ne v34 v39
  let v41 : BitVec 32 := Scalar.remsi v18 c2_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c2_i32_18 : BitVec 32 := 2#32
  let c0_i32_19 : BitVec 32 := 0#32
  let v46 : BitVec 1 := Scalar.cmpi .eq c2_i32_18 c0_i32_19
  let c1_i32_20 : BitVec 32 := 1#32
  let v47 : BitVec 32 := Scalar.select v46 c1_i32_20 c2_i32_18
  let v48 : BitVec 32 := Scalar.remsi v18 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v45.toNat, c0_i32_24.toNat, v55.toNat, v28.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.subi v28 c4_i32
  let c0_i32_12 : BitVec 32 := 0#32
  let v30 : BitVec 32 := Scalar.maxsi v29 c0_i32_12
  let c0_i32_13 : BitVec 32 := 0#32
  ![v18.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceQkv4Ideal.lean ====
abbrev S8192x4096 : Shape := ⟨2, ![8192, 4096]⟩
abbrev S1x4096x18432 : Shape := ⟨3, ![1, 4096, 18432]⟩
abbrev S2048 : Shape := ⟨1, ![2048]⟩
abbrev S4096x18432 : Shape := ⟨2, ![4096, 18432]⟩
abbrev S8192x18432 : Shape := ⟨2, ![8192, 18432]⟩
abbrev S4x2048x3x3x16x128 : Shape := ⟨6, ![4, 2048, 3, 3, 16, 128]⟩
abbrev S4x2048x1x1x16x128 : Shape := ⟨6, ![4, 2048, 1, 1, 16, 128]⟩
abbrev S4x2048x16x128 : Shape := ⟨4, ![4, 2048, 16, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x16x16 : Shape := ⟨4, ![4, 2048, 16, 16]⟩
abbrev S4x2048x16x96 : Shape := ⟨4, ![4, 2048, 16, 96]⟩
abbrev S1x2048x1x16 : Shape := ⟨4, ![1, 2048, 1, 16]⟩
abbrev S4x2048x1x16x128 : Shape := ⟨5, ![4, 2048, 1, 16, 128]⟩
abbrev S4x2048x2x16x128 : Shape := ⟨5, ![4, 2048, 2, 16, 128]⟩
abbrev S4x2048x3x16x128 : Shape := ⟨5, ![4, 2048, 3, 16, 128]⟩
abbrev S4x512x4x6144 : Shape := ⟨4, ![4, 512, 4, 6144]⟩
abbrev S4x4x512x6144 : Shape := ⟨4, ![4, 4, 512, 6144]⟩

abbrev nBuf : Space → Nat
  | .hbm => 101
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .bf16⟩
  | .hbm, ⟨2, _⟩ => ⟨S2048, .i32⟩
  | .hbm, ⟨3, _⟩ => ⟨S8192x4096, .f32⟩
  | .hbm, ⟨4, _⟩ => ⟨S4096x18432, .bf16⟩
  | .hbm, ⟨5, _⟩ => ⟨S4096x18432, .f32⟩
  | .hbm, ⟨6, _⟩ => ⟨S8192x18432, .f32⟩
  | .hbm, ⟨7, _⟩ => ⟨S4x2048x3x3x16x128, .f32⟩
  | .hbm, ⟨8, _⟩ => ⟨S4x2048x1x1x16x128, .f32⟩
  | .hbm, ⟨9, _⟩ => ⟨S4x2048x16x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x1x16, .f32⟩
  | .hbm, ⟨29, _⟩ => ⟨S2048x16, .f32⟩
  | .hbm, ⟨30, _⟩ => ⟨S2048x1x16, .f32⟩
  | .hbm, ⟨31, _⟩ => ⟨S4x2048x16x16, .f32⟩
  | .hbm, ⟨32, _⟩ => ⟨S4x2048x16x16, .f32⟩
  | .hbm, ⟨33, _⟩ => ⟨S4x2048x16x96, .f32⟩
  | .hbm, ⟨34, _⟩ => ⟨S1x2048x1x16, .f32⟩
  | .hbm, ⟨35, _⟩ => ⟨S4x2048x16x16, .f32⟩
  | .hbm, ⟨36, _⟩ => ⟨S4x2048x16x16, .f32⟩
  | .hbm, ⟨37, _⟩ => ⟨S1x2048x1x16, .f32⟩
  | .hbm, ⟨38, _⟩ => ⟨S4x2048x16x16, .f32⟩
  | .hbm, ⟨39, _⟩ => ⟨S4x2048x16x16, .f32⟩
  | .hbm, ⟨40, _⟩ => ⟨S4x2048x16x16, .f32⟩
  | .hbm, ⟨41, _⟩ => ⟨S1x2048x1x16, .f32⟩
  | .hbm, ⟨42, _⟩ => ⟨S4x2048x16x16, .f32⟩
  | .hbm, ⟨43, _⟩ => ⟨S4x2048x16x16, .f32⟩
  | .hbm, ⟨44, _⟩ => ⟨S1x2048x1x16, .f32⟩
  | .hbm, ⟨45, _⟩ => ⟨S4x2048x16x16, .f32⟩
  | .hbm, ⟨46, _⟩ => ⟨S4x2048x16x16, .f32⟩
  | .hbm, ⟨47, _⟩ => ⟨S4x2048x16x16, .f32⟩
  | .hbm, ⟨48, _⟩ => ⟨S4x2048x16x128, .f32⟩
  | .hbm, ⟨49, _⟩ => ⟨S4x2048x1x1x16x128, .f32⟩
  | .hbm, ⟨50, _⟩ => ⟨S4x2048x16x128, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S2048, .f32⟩
  | .hbm, ⟨63, _⟩ => ⟨S2048x1, .f32⟩
  | .hbm, ⟨64, _⟩ => ⟨S1x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x1x16, .f32⟩
  | .hbm, ⟨70, _⟩ => ⟨S2048x16, .f32⟩
  | .hbm, ⟨71, _⟩ => ⟨S2048x1x16, .f32⟩
  | .hbm, ⟨72, _⟩ => ⟨S4x2048x16x16, .f32⟩
  | .hbm, ⟨73, _⟩ => ⟨S4x2048x16x16, .f32⟩
  | .hbm, ⟨74, _⟩ => ⟨S4x2048x16x96, .f32⟩
  | .hbm, ⟨75, _⟩ => ⟨S1x2048x1x16, .f32⟩
  | .hbm, ⟨76, _⟩ => ⟨S4x2048x16x16, .f32⟩
  | .hbm, ⟨77, _⟩ => ⟨S4x2048x16x16, .f32⟩
  | .hbm, ⟨78, _⟩ => ⟨S1x2048x1x16, .f32⟩
  | .hbm, ⟨79, _⟩ => ⟨S4x2048x16x16, .f32⟩
  | .hbm, ⟨80, _⟩ => ⟨S4x2048x16x16, .f32⟩
  | .hbm, ⟨81, _⟩ => ⟨S4x2048x16x16, .f32⟩
  | .hbm, ⟨82, _⟩ => ⟨S1x2048x1x16, .f32⟩
  | .hbm, ⟨83, _⟩ => ⟨S4x2048x16x16, .f32⟩
  | .hbm, ⟨84, _⟩ => ⟨S4x2048x16x16, .f32⟩
  | .hbm, ⟨85, _⟩ => ⟨S1x2048x1x16, .f32⟩
  | .hbm, ⟨86, _⟩ => ⟨S4x2048x16x16, .f32⟩
  | .hbm, ⟨87, _⟩ => ⟨S4x2048x16x16, .f32⟩
  | .hbm, ⟨88, _⟩ => ⟨S4x2048x16x16, .f32⟩
  | .hbm, ⟨89, _⟩ => ⟨S4x2048x16x128, .f32⟩
  | .hbm, ⟨90, _⟩ => ⟨S4x2048x1x1x16x128, .f32⟩
  | .hbm, ⟨91, _⟩ => ⟨S4x2048x16x128, .f32⟩
  | .hbm, ⟨92, _⟩ => ⟨S4x2048x1x16x128, .f32⟩
  | .hbm, ⟨93, _⟩ => ⟨S4x2048x1x16x128, .f32⟩
  | .hbm, ⟨94, _⟩ => ⟨S4x2048x2x16x128, .f32⟩
  | .hbm, ⟨95, _⟩ => ⟨S4x2048x1x16x128, .f32⟩
  | .hbm, ⟨96, _⟩ => ⟨S4x2048x3x16x128, .f32⟩
  | .hbm, ⟨97, _⟩ => ⟨S4x512x4x6144, .f32⟩
  | .hbm, ⟨98, _⟩ => ⟨S4x4x512x6144, .f32⟩
  | .hbm, ⟨99, _⟩ => ⟨S4x4x512x6144, .bf16⟩
  | .hbm, ⟨100, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩

abbrev nD : Nat := 1
abbrev τ : Topo := Topo.v7x

variable {F : FTy → Type} [FloatOps F]
-- ==== KernelQkv16.lean ====
abbrev S8192x4096 : Shape := ⟨2, ![8192, 4096]⟩
abbrev S1x4096x18432 : Shape := ⟨3, ![1, 4096, 18432]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1x2048x1x128 : Shape := ⟨4, ![1, 2048, 1, 128]⟩
abbrev S1x2048x128 : Shape := ⟨3, ![1, 2048, 128]⟩
abbrev S2x2048x128 : Shape := ⟨3, ![2, 2048, 128]⟩
abbrev S4x16x128x6144 : Shape := ⟨4, ![4, 16, 128, 6144]⟩
abbrev S1024x4096 : Shape := ⟨2, ![1024, 4096]⟩
abbrev S1x4096x512 : Shape := ⟨3, ![1, 4096, 512]⟩
abbrev S1x1024x128 : Shape := ⟨3, ![1, 1024, 128]⟩
abbrev S1x16x64x512 : Shape := ⟨4, ![1, 16, 64, 512]⟩
abbrev S1024x512 : Shape := ⟨2, ![1024, 512]⟩
abbrev S1024x128 : Shape := ⟨2, ![1024, 128]⟩
abbrev S4096x512 : Shape := ⟨2, ![4096, 512]⟩
abbrev S64x128 : Shape := ⟨2, ![64, 128]⟩
abbrev S1x1x64x128 : Shape := ⟨4, ![1, 1, 64, 128]⟩

abbrev nBuf : Space → Nat
  | .hbm => 58
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .bf16⟩
  | .hbm, ⟨2, _⟩ => ⟨S2048, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S_, .f32⟩
  | .hbm, ⟨23, _⟩ => ⟨S2048x96, .f32⟩
  | .hbm, ⟨24, _⟩ => ⟨S_, .f32⟩
  | .hbm, ⟨25, _⟩ => ⟨S2048x96, .f32⟩
  | .hbm, ⟨26, _⟩ => ⟨S_, .f32⟩
  | .hbm, ⟨27, _⟩ => ⟨S2048x16, .f32⟩
  | .hbm, ⟨28, _⟩ => ⟨S2048x128, .f32⟩
  | .hbm, ⟨29, _⟩ => ⟨S1x2048x1x128, .f32⟩
  | .hbm, ⟨30, _⟩ => ⟨S1x2048x1x128, .f32⟩
  | .hbm, ⟨31, _⟩ => ⟨S2048x128, .f32⟩
  | .hbm, ⟨32, _⟩ => ⟨S2048x16, .f32⟩
  | .hbm, ⟨33, _⟩ => ⟨S2048x128, .f32⟩
  | .hbm, ⟨34, _⟩ => ⟨S1x2048x1x128, .f32⟩
  | .hbm, ⟨35, _⟩ => ⟨S1x2048x1x128, .f32⟩
  | .hbm, ⟨36, _⟩ => ⟨S2048x128, .f32⟩
  | .hbm, ⟨37, _⟩ => ⟨S2048x128, .f32⟩
  | .hbm, ⟨38, _⟩ => ⟨S1x2048x1x128, .f32⟩
  | .hbm, ⟨39, _⟩ => ⟨S1x2048x1x128, .f32⟩
  | .hbm, ⟨40, _⟩ => ⟨S2048x128, .f32⟩
  | .hbm, ⟨41, _⟩ => ⟨S_, .f32⟩
  | .hbm, ⟨42, _⟩ => ⟨S2048x128, .f32⟩
  | .hbm, ⟨43, _⟩ => ⟨S1x2048x128, .f32⟩
  | .hbm, ⟨44, _⟩ => ⟨S1x2048x128, .f32⟩
  | .hbm, ⟨45, _⟩ => ⟨S2x2048x128, .f32⟩
  | .hbm, ⟨46, _⟩ => ⟨S_, .f32⟩
  | .hbm, ⟨47, _⟩ => ⟨S2048x128, .f32⟩
  | .hbm, ⟨48, _⟩ => ⟨S1x2048x128, .f32⟩
  | .hbm, ⟨49, _⟩ => ⟨S1x2048x128, .f32⟩
  | .hbm, ⟨50, _⟩ => ⟨S2x2048x128, .f32⟩
  | .hbm, ⟨51, _⟩ => ⟨S_, .f32⟩
  | .hbm, ⟨52, _⟩ => ⟨S2048x128, .f32⟩
  | .hbm, ⟨53, _⟩ => ⟨S1x2048x128, .f32⟩
  | .hbm, ⟨54, _⟩ => ⟨S1x2048x128, .f32⟩
  | .hbm, ⟨55, _⟩ => ⟨S2x2048x128, .f32⟩
  | .hbm, ⟨56, _⟩ => ⟨S4x16x128x6144, .bf16⟩
  | .hbm, ⟨57, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x16x64x512, .bf16⟩
  | .local _ .vmem, ⟨11, _⟩ => ⟨S1x16x64x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![97], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v27 c4_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v27 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c12_i32_16 : BitVec 32 := 12#32
  let v45 : BitVec 32 := Scalar.muli v44 c12_i32_16
  let c8_i32 : BitVec 32 := 8#32
  let v46 : BitVec 32 := Scalar.addi c8_i32 v45
  let c4_i32_17 : BitVec 32 := 4#32
  let c0_i32_18 : BitVec 32 := 0#32
  let v47 : BitVec 1 := Scalar.cmpi .eq c4_i32_17 c0_i32_18
  let c1_i32_19 : BitVec 32 := 1#32
  let v48 : BitVec 32 := Scalar.select v47 c1_i32_19 c4_i32_17
  let v49 : BitVec 32 := Scalar.remsi v27 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_23 : BitVec 32 := 0#32
  let c0_i32_24 : BitVec 32 := 0#32
  let c0_i32_25 : BitVec 32 := 0#32
  ![c0_i32_23.toNat, c0_i32_24.toNat, v57.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 1 := Scalar.cmpi .slt v28 c8_i32
  let c0_i32_12 : BitVec 32 := 0#32
  let c1_i32_13 : BitVec 32 := 1#32
  let v30 : BitVec 32 := Scalar.select v29 c0_i32_12 c1_i32_13
  let c2_i32 : BitVec 32 := 2#32
  let c0_i32_14 : BitVec 32 := 0#32
  let v31 : BitVec 1 := Scalar.cmpi .eq c2_i32 c0_i32_14
  let c1_i32_15 : BitVec 32 := 1#32
  let v32 : BitVec 32 := Scalar.select v31 c1_i32_15 c2_i32
  let v33 : BitVec 32 := Scalar.remsi v18 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c0_i32_19 : BitVec 32 := 0#32
  let c0_i32_20 : BitVec 32 := 0#32
  ![v30.toNat, v40.toNat, c0_i32_19.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.divsi v18 c2_i32
  let c0_i32_12 : BitVec 32 := 0#32
  let v30 : BitVec 1 := Scalar.cmpi .sgt v18 c0_i32_12
  let v31 : BitVec 32 := Scalar.extui v30
  let c0_i32_13 : BitVec 32 := 0#32
  let v32 : BitVec 1 := Scalar.cmpi .slt v18 c0_i32_13
  let v33 : BitVec 32 := Scalar.extui v32
  let v34 : BitVec 32 := Scalar.subi v31 v33
  let c0_i32_14 : BitVec 32 := 0#32
  let v35 : BitVec 1 := Scalar.cmpi .sgt c2_i32 c0_i32_14
  let v36 : BitVec 32 := Scalar.extui v35
  let c0_i32_15 : BitVec 32 := 0#32
  let v37 : BitVec 1 := Scalar.cmpi .slt c2_i32 c0_i32_15
  let v38 : BitVec 32 := Scalar.extui v37
  let v39 : BitVec 32 := Scalar.subi v36 v38
  let v40 : BitVec 1 := Scalar.cmpi .ne v34 v39
  let v41 : BitVec 32 := Scalar.remsi v18 c2_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c2_i32_18 : BitVec 32 := 2#32
  let c0_i32_19 : BitVec 32 := 0#32
  let v46 : BitVec 1 := Scalar.cmpi .eq c2_i32_18 c0_i32_19
  let c1_i32_20 : BitVec 32 := 1#32
  let v47 : BitVec 32 := Scalar.select v46 c1_i32_20 c2_i32_18
  let v48 : BitVec 32 := Scalar.remsi v18 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v45.toNat, c0_i32_24.toNat, v55.toNat, v28.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.subi v28 c4_i32
  let c0_i32_12 : BitVec 32 := 0#32
  let v30 : BitVec 32 := Scalar.maxsi v29 c0_i32_12
  let c0_i32_13 : BitVec 32 := 0#32
  ![v18.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceQkv16Ideal.lean ====
abbrev S8192x4096 : Shape := ⟨2, ![8192, 4096]⟩
abbrev S1x4096x18432 : Shape := ⟨3, ![1, 4096, 18432]⟩
abbrev S2048 : Shape := ⟨1, ![2048]⟩
abbrev S4096x18432 : Shape := ⟨2, ![4096, 18432]⟩
abbrev S8192x18432 : Shape := ⟨2, ![8192, 18432]⟩
abbrev S4x2048x3x3x16x128 : Shape := ⟨6, ![4, 2048, 3, 3, 16, 128]⟩
abbrev S4x2048x1x1x16x128 : Shape := ⟨6, ![4, 2048, 1, 1, 16, 128]⟩
abbrev S4x2048x16x128 : Shape := ⟨4, ![4, 2048, 16, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x16x16 : Shape := ⟨4, ![4, 2048, 16, 16]⟩
abbrev S4x2048x16x96 : Shape := ⟨4, ![4, 2048, 16, 96]⟩
abbrev S1x2048x1x16 : Shape := ⟨4, ![1, 2048, 1, 16]⟩
abbrev S4x2048x1x16x128 : Shape := ⟨5, ![4, 2048, 1, 16, 128]⟩
abbrev S4x2048x2x16x128 : Shape := ⟨5, ![4, 2048, 2, 16, 128]⟩
abbrev S4x2048x3x16x128 : Shape := ⟨5, ![4, 2048, 3, 16, 128]⟩
abbrev S4x128x16x6144 : Shape := ⟨4, ![4, 128, 16, 6144]⟩
abbrev S4x16x128x6144 : Shape := ⟨4, ![4, 16, 128, 6144]⟩

abbrev nBuf : Space → Nat
  | .hbm => 101
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x18432, .bf16⟩
  | .hbm, ⟨2, _⟩ => ⟨S2048, .i32⟩
  | .hbm, ⟨3, _⟩ => ⟨S8192x4096, .f32⟩
  | .hbm, ⟨4, _⟩ => ⟨S4096x18432, .bf16⟩
  | .hbm, ⟨5, _⟩ => ⟨S4096x18432, .f32⟩
  | .hbm, ⟨6, _⟩ => ⟨S8192x18432, .f32⟩
  | .hbm, ⟨7, _⟩ => ⟨S4x2048x3x3x16x128, .f32⟩
  | .hbm, ⟨8, _⟩ => ⟨S4x2048x1x1x16x128, .f32⟩
  | .hbm, ⟨9, _⟩ => ⟨S4x2048x16x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x1x16, .f32⟩
  | .hbm, ⟨29, _⟩ => ⟨S2048x16, .f32⟩
  | .hbm, ⟨30, _⟩ => ⟨S2048x1x16, .f32⟩
  | .hbm, ⟨31, _⟩ => ⟨S4x2048x16x16, .f32⟩
  | .hbm, ⟨32, _⟩ => ⟨S4x2048x16x16, .f32⟩
  | .hbm, ⟨33, _⟩ => ⟨S4x2048x16x96, .f32⟩
  | .hbm, ⟨34, _⟩ => ⟨S1x2048x1x16, .f32⟩
  | .hbm, ⟨35, _⟩ => ⟨S4x2048x16x16, .f32⟩
  | .hbm, ⟨36, _⟩ => ⟨S4x2048x16x16, .f32⟩
  | .hbm, ⟨37, _⟩ => ⟨S1x2048x1x16, .f32⟩
  | .hbm, ⟨38, _⟩ => ⟨S4x2048x16x16, .f32⟩
  | .hbm, ⟨39, _⟩ => ⟨S4x2048x16x16, .f32⟩
  | .hbm, ⟨40, _⟩ => ⟨S4x2048x16x16, .f32⟩
  | .hbm, ⟨41, _⟩ => ⟨S1x2048x1x16, .f32⟩
  | .hbm, ⟨42, _⟩ => ⟨S4x2048x16x16, .f32⟩
  | .hbm, ⟨43, _⟩ => ⟨S4x2048x16x16, .f32⟩
  | .hbm, ⟨44, _⟩ => ⟨S1x2048x1x16, .f32⟩
  | .hbm, ⟨45, _⟩ => ⟨S4x2048x16x16, .f32⟩
  | .hbm, ⟨46, _⟩ => ⟨S4x2048x16x16, .f32⟩
  | .hbm, ⟨47, _⟩ => ⟨S4x2048x16x16, .f32⟩
  | .hbm, ⟨48, _⟩ => ⟨S4x2048x16x128, .f32⟩
  | .hbm, ⟨49, _⟩ => ⟨S4x2048x1x1x16x128, .f32⟩
  | .hbm, ⟨50, _⟩ => ⟨S4x2048x16x128, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S2048, .f32⟩
  | .hbm, ⟨63, _⟩ => ⟨S2048x1, .f32⟩
  | .hbm, ⟨64, _⟩ => ⟨S1x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x1x16, .f32⟩
  | .hbm, ⟨70, _⟩ => ⟨S2048x16, .f32⟩
  | .hbm, ⟨71, _⟩ => ⟨S2048x1x16, .f32⟩
  | .hbm, ⟨72, _⟩ => ⟨S4x2048x16x16, .f32⟩
  | .hbm, ⟨73, _⟩ => ⟨S4x2048x16x16, .f32⟩
  | .hbm, ⟨74, _⟩ => ⟨S4x2048x16x96, .f32⟩
  | .hbm, ⟨75, _⟩ => ⟨S1x2048x1x16, .f32⟩
  | .hbm, ⟨76, _⟩ => ⟨S4x2048x16x16, .f32⟩
  | .hbm, ⟨77, _⟩ => ⟨S4x2048x16x16, .f32⟩
  | .hbm, ⟨78, _⟩ => ⟨S1x2048x1x16, .f32⟩
  | .hbm, ⟨79, _⟩ => ⟨S4x2048x16x16, .f32⟩
  | .hbm, ⟨80, _⟩ => ⟨S4x2048x16x16, .f32⟩
  | .hbm, ⟨81, _⟩ => ⟨S4x2048x16x16, .f32⟩
  | .hbm, ⟨82, _⟩ => ⟨S1x2048x1x16, .f32⟩
  | .hbm, ⟨83, _⟩ => ⟨S4x2048x16x16, .f32⟩
  | .hbm, ⟨84, _⟩ => ⟨S4x2048x16x16, .f32⟩
  | .hbm, ⟨85, _⟩ => ⟨S1x2048x1x16, .f32⟩
  | .hbm, ⟨86, _⟩ => ⟨S4x2048x16x16, .f32⟩
  | .hbm, ⟨87, _⟩ => ⟨S4x2048x16x16, .f32⟩
  | .hbm, ⟨88, _⟩ => ⟨S4x2048x16x16, .f32⟩
  | .hbm, ⟨89, _⟩ => ⟨S4x2048x16x128, .f32⟩
  | .hbm, ⟨90, _⟩ => ⟨S4x2048x1x1x16x128, .f32⟩
  | .hbm, ⟨91, _⟩ => ⟨S4x2048x16x128, .f32⟩
  | .hbm, ⟨92, _⟩ => ⟨S4x2048x1x16x128, .f32⟩
  | .hbm, ⟨93, _⟩ => ⟨S4x2048x1x16x128, .f32⟩
  | .hbm, ⟨94, _⟩ => ⟨S4x2048x2x16x128, .f32⟩
  | .hbm, ⟨95, _⟩ => ⟨S4x2048x1x16x128, .f32⟩
  | .hbm, ⟨96, _⟩ => ⟨S4x2048x3x16x128, .f32⟩
  | .hbm, ⟨97, _⟩ => ⟨S4x128x16x6144, .f32⟩
  | .hbm, ⟨98, _⟩ => ⟨S4x16x128x6144, .f32⟩
  | .hbm, ⟨99, _⟩ => ⟨S4x16x128x6144, .bf16⟩
  | .hbm, ⟨100, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩

abbrev nD : Nat := 1
abbrev τ : Topo := Topo.v7x

variable {F : FTy → Type} [FloatOps F]
-- ==== KernelKvb.lean ====
abbrev S8192x4096 : Shape := ⟨2, ![8192, 4096]⟩
abbrev S1x4096x1024 : Shape := ⟨3, ![1, 4096, 1024]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x128 : Shape := ⟨3, ![1, 2048, 128]⟩
abbrev S2x2048x128 : Shape := ⟨3, ![2, 2048, 128]⟩
abbrev S8192x1024 : Shape := ⟨2, ![8192, 1024]⟩
abbrev S1024x4096 : Shape := ⟨2, ![1024, 4096]⟩
abbrev S1x4096x512 : Shape := ⟨3, ![1, 4096, 512]⟩
abbrev S1x1024x128 : Shape := ⟨3, ![1, 1024, 128]⟩
abbrev S1024x512 : Shape := ⟨2, ![1024, 512]⟩
abbrev S4096x512 : Shape := ⟨2, ![4096, 512]⟩
abbrev S1024x128 : Shape := ⟨2, ![1024, 128]⟩

abbrev nBuf : Space → Nat
  | .hbm => 57
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S2048, .i32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S2048, .f32⟩
  | .hbm, ⟨15, _⟩ => ⟨S2048x1, .f32⟩
  | .hbm, ⟨16, _⟩ => ⟨S1x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x48, .f32⟩
  | .hbm, ⟨24, _⟩ => ⟨S_, .f32⟩
  | .hbm, ⟨25, _⟩ => ⟨S2048x48, .f32⟩
  | .hbm, ⟨26, _⟩ => ⟨S_, .f32⟩
  | .hbm, ⟨27, _⟩ => ⟨S2048x8, .f32⟩
  | .hbm, ⟨28, _⟩ => ⟨S2048x64, .f32⟩
  | .hbm, ⟨29, _⟩ => ⟨S1x2048x1x64, .f32⟩
  | .hbm, ⟨30, _⟩ => ⟨S1x2048x2x64, .f32⟩
  | .hbm, ⟨31, _⟩ => ⟨S2048x128, .f32⟩
  | .hbm, ⟨32, _⟩ => ⟨S2048x8, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S2048x64, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S_, .f32⟩
  | .hbm, ⟨42, _⟩ => ⟨S2048x128, .f32⟩
  | .hbm, ⟨43, _⟩ => ⟨S1x2048x128, .f32⟩
  | .hbm, ⟨44, _⟩ => ⟨S1x2048x128, .f32⟩
  | .hbm, ⟨45, _⟩ => ⟨S2x2048x128, .f32⟩
  | .hbm, ⟨46, _⟩ => ⟨S_, .f32⟩
  | .hbm, ⟨47, _⟩ => ⟨S2048x128, .f32⟩
  | .hbm, ⟨48, _⟩ => ⟨S1x2048x128, .f32⟩
  | .hbm, ⟨49, _⟩ => ⟨S1x2048x128, .f32⟩
  | .hbm, ⟨50, _⟩ => ⟨S2x2048x128, .f32⟩
  | .hbm, ⟨51, _⟩ => ⟨S_, .f32⟩
  | .hbm, ⟨52, _⟩ => ⟨S2048x128, .f32⟩
  | .hbm, ⟨53, _⟩ => ⟨S1x2048x128, .f32⟩
  | .hbm, ⟨54, _⟩ => ⟨S1x2048x128, .f32⟩
  | .hbm, ⟨55, _⟩ => ⟨S2x2048x128, .f32⟩
  | .hbm, ⟨56, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.divsi v27 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c0_i32_13 : BitVec 32 := 0#32
  let v34 : BitVec 1 := Scalar.cmpi .sgt c1_i32_10 c0_i32_13
  let v35 : BitVec 32 := Scalar.extui v34
  let c0_i32_14 : BitVec 32 := 0#32
  let v36 : BitVec 1 := Scalar.cmpi .slt c1_i32_10 c0_i32_14
  let v37 : BitVec 32 := Scalar.extui v36
  let v38 : BitVec 32 := Scalar.subi v35 v37
  let v39 : BitVec 1 := Scalar.cmpi .ne v33 v38
  let v40 : BitVec 32 := Scalar.remsi v27 c1_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let c1_i32_17 : BitVec 32 := 1#32
  let v45 : BitVec 32 := Scalar.muli v44 c1_i32_17
  let c0_i32_18 : BitVec 32 := 0#32
  let v46 : BitVec 32 := Scalar.addi c0_i32_18 v45
  let c1_i32_19 : BitVec 32 := 1#32
  let c0_i32_20 : BitVec 32 := 0#32
  let v47 : BitVec 1 := Scalar.cmpi .eq c1_i32_19 c0_i32_20
  let c1_i32_21 : BitVec 32 := 1#32
  let v48 : BitVec 32 := Scalar.select v47 c1_i32_21 c1_i32_19
  let v49 : BitVec 32 := Scalar.remsi v27 v48
  let c0_i32_22 : BitVec 32 := 0#32
  let v50 : BitVec 1 := Scalar.cmpi .ne v49 c0_i32_22
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_25 : BitVec 32 := 0#32
  let c0_i32_26 : BitVec 32 := 0#32
  let c0_i32_27 : BitVec 32 := 0#32
  ![c0_i32_25.toNat, c0_i32_26.toNat, v57.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 1 := Scalar.cmpi .slt v28 c1_i32_12
  let c0_i32_13 : BitVec 32 := 0#32
  let c1_i32_14 : BitVec 32 := 1#32
  let v30 : BitVec 32 := Scalar.select v29 c0_i32_13 c1_i32_14
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v18 v32
  let c0_i32_18 : BitVec 32 := 0#32
  let v34 : BitVec 1 := Scalar.cmpi .ne v33 c0_i32_18
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let v38 : BitVec 1 := Scalar.andi v37 v34
  let v39 : BitVec 32 := Scalar.addi v33 v32
  let v40 : BitVec 32 := Scalar.select v38 v39 v33
  let c0_i32_21 : BitVec 32 := 0#32
  let c0_i32_22 : BitVec 32 := 0#32
  ![v30.toNat, v40.toNat, c0_i32_21.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 1 := Scalar.cmpi .slt v28 c1_i32_12
  let c0_i32_13 : BitVec 32 := 0#32
  let c1_i32_14 : BitVec 32 := 1#32
  let v30 : BitVec 32 := Scalar.select v29 c0_i32_13 c1_i32_14
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v18 v32
  let c0_i32_18 : BitVec 32 := 0#32
  let v34 : BitVec 1 := Scalar.cmpi .ne v33 c0_i32_18
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let v38 : BitVec 1 := Scalar.andi v37 v34
  let v39 : BitVec 32 := Scalar.addi v33 v32
  let v40 : BitVec 32 := Scalar.select v38 v39 v33
  let c0_i32_21 : BitVec 32 := 0#32
  let c0_i32_22 : BitVec 32 := 0#32
  ![v30.toNat, v40.toNat, c0_i32_21.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 1 := Scalar.cmpi .slt v28 c1_i32_12
  let c0_i32_13 : BitVec 32 := 0#32
  let c1_i32_14 : BitVec 32 := 1#32
  let v30 : BitVec 32 := Scalar.select v29 c0_i32_13 c1_i32_14
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v18 v32
  let c0_i32_18 : BitVec 32 := 0#32
  let v34 : BitVec 1 := Scalar.cmpi .ne v33 c0_i32_18
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let v38 : BitVec 1 := Scalar.andi v37 v34
  let v39 : BitVec 32 := Scalar.addi v33 v32
  let v40 : BitVec 32 := Scalar.select v38 v39 v33
  let c0_i32_21 : BitVec 32 := 0#32
  let c0_i32_22 : BitVec 32 := 0#32
  ![v30.toNat, v40.toNat, c0_i32_21.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.subi v28 c0_i32_12
  let c0_i32_13 : BitVec 32 := 0#32
  let v30 : BitVec 32 := Scalar.maxsi v29 c0_i32_13
  let c0_i32_14 : BitVec 32 := 0#32
  ![v18.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceKvbIdeal.lean ====
abbrev S8192x4096 : Shape := ⟨2, ![8192, 4096]⟩
abbrev S1x4096x1024 : Shape := ⟨3, ![1, 4096, 1024]⟩
abbrev S2048 : Shape := ⟨1, ![2048]⟩
abbrev S4096x1024 : Shape := ⟨2, ![4096, 1024]⟩
abbrev S8192x1024 : Shape := ⟨2, ![8192, 1024]⟩
abbrev S4x2048x2x8x64 : Shape := ⟨5, ![4, 2048, 2, 8, 64]⟩
abbrev S4x2048x1x8x64 : Shape := ⟨5, ![4, 2048, 1, 8, 64]⟩
abbrev S4x2048x8x64 : Shape := ⟨4, ![4, 2048, 8, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S4x2048x8x8 : Shape := ⟨4, ![4, 2048, 8, 8]⟩
abbrev S4x2048x8x48 : Shape := ⟨4, ![4, 2048, 8, 48]⟩
abbrev S1x2048x1x8 : Shape := ⟨4, ![1, 2048, 1, 8]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S2048, .i32⟩
  | .hbm, ⟨3, _⟩ => ⟨S8192x4096, .f32⟩
  | .hbm, ⟨4, _⟩ => ⟨S4096x1024, .bf16⟩
  | .hbm, ⟨5, _⟩ => ⟨S4096x1024, .f32⟩
  | .hbm, ⟨6, _⟩ => ⟨S8192x1024, .f32⟩
  | .hbm, ⟨7, _⟩ => ⟨S4x2048x2x8x64, .f32⟩
  | .hbm, ⟨8, _⟩ => ⟨S4x2048x1x8x64, .f32⟩
  | .hbm, ⟨9, _⟩ => ⟨S4x2048x8x64, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2048, .f32⟩
  | .hbm, ⟨22, _⟩ => ⟨S2048x1, .f32⟩
  | .hbm, ⟨23, _⟩ => ⟨S1x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x1x8, .f32⟩
  | .hbm, ⟨29, _⟩ => ⟨S2048x8, .f32⟩
  | .hbm, ⟨30, _⟩ => ⟨S2048x1x8, .f32⟩
  | .hbm, ⟨31, _⟩ => ⟨S4x2048x8x8, .f32⟩
  | .hbm, ⟨32, _⟩ => ⟨S4x2048x8x8, .f32⟩
  | .hbm, ⟨33, _⟩ => ⟨S4x2048x8x48, .f32⟩
  | .hbm, ⟨34, _⟩ => ⟨S1x2048x1x8, .f32⟩
  | .hbm, ⟨35, _⟩ => ⟨S4x2048x8x8, .f32⟩
  | .hbm, ⟨36, _⟩ => ⟨S4x2048x8x8, .f32⟩
  | .hbm, ⟨37, _⟩ => ⟨S1x2048x1x8, .f32⟩
  | .hbm, ⟨38, _⟩ => ⟨S4x2048x8x8, .f32⟩
  | .hbm, ⟨39, _⟩ => ⟨S4x2048x8x8, .f32⟩
  | .hbm, ⟨40, _⟩ => ⟨S4x2048x8x8, .f32⟩
  | .hbm, ⟨41, _⟩ => ⟨S1x2048x1x8, .f32⟩
  | .hbm, ⟨42, _⟩ => ⟨S4x2048x8x8, .f32⟩
  | .hbm, ⟨43, _⟩ => ⟨S4x2048x8x8, .f32⟩
  | .hbm, ⟨44, _⟩ => ⟨S1x2048x1x8, .f32⟩
  | .hbm, ⟨45, _⟩ => ⟨S4x2048x8x8, .f32⟩
  | .hbm, ⟨46, _⟩ => ⟨S4x2048x8x8, .f32⟩
  | .hbm, ⟨47, _⟩ => ⟨S4x2048x8x8, .f32⟩
  | .hbm, ⟨48, _⟩ => ⟨S4x2048x8x64, .f32⟩
  | .hbm, ⟨49, _⟩ => ⟨S4x2048x1x8x64, .f32⟩
  | .hbm, ⟨50, _⟩ => ⟨S4x2048x8x64, .f32⟩
  | .hbm, ⟨51, _⟩ => ⟨S4x2048x1x8x64, .f32⟩
  | .hbm, ⟨52, _⟩ => ⟨S4x2048x1x8x64, .f32⟩
  | .hbm, ⟨53, _⟩ => ⟨S4x2048x2x8x64, .f32⟩
  | .hbm, ⟨54, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩

abbrev nD : Nat := 1
abbrev τ : Topo := Topo.v7x

variable {F : FTy → Type} [FloatOps F]
-- ==== KernelQb.lean ====
abbrev S8192x4096 : Shape := ⟨2, ![8192, 4096]⟩
abbrev S1x4096x4096 : Shape := ⟨3, ![1, 4096, 4096]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x128 : Shape := ⟨3, ![1, 2048, 128]⟩
abbrev S2x2048x128 : Shape := ⟨3, ![2, 2048, 128]⟩
abbrev S1024x4096 : Shape := ⟨2, ![1024, 4096]⟩
abbrev S1x4096x512 : Shape := ⟨3, ![1, 4096, 512]⟩
abbrev S1x1024x128 : Shape := ⟨3, ![1, 1024, 128]⟩
abbrev S1024x512 : Shape := ⟨2, ![1024, 512]⟩
abbrev S4096x512 : Shape := ⟨2, ![4096, 512]⟩
abbrev S1024x128 : Shape := ⟨2, ![1024, 128]⟩

abbrev nBuf : Space → Nat
  | .hbm => 57
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .bf16⟩
  | .hbm, ⟨2, _⟩ => ⟨S2048, .i32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S2048, .f32⟩
  | .hbm, ⟨15, _⟩ => ⟨S2048x1, .f32⟩
  | .hbm, ⟨16, _⟩ => ⟨S1x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x48, .f32⟩
  | .hbm, ⟨24, _⟩ => ⟨S_, .f32⟩
  | .hbm, ⟨25, _⟩ => ⟨S2048x48, .f32⟩
  | .hbm, ⟨26, _⟩ => ⟨S_, .f32⟩
  | .hbm, ⟨27, _⟩ => ⟨S2048x8, .f32⟩
  | .hbm, ⟨28, _⟩ => ⟨S2048x64, .f32⟩
  | .hbm, ⟨29, _⟩ => ⟨S1x2048x1x64, .f32⟩
  | .hbm, ⟨30, _⟩ => ⟨S1x2048x2x64, .f32⟩
  | .hbm, ⟨31, _⟩ => ⟨S2048x128, .f32⟩
  | .hbm, ⟨32, _⟩ => ⟨S2048x8, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S2048x64, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S_, .f32⟩
  | .hbm, ⟨42, _⟩ => ⟨S2048x128, .f32⟩
  | .hbm, ⟨43, _⟩ => ⟨S1x2048x128, .f32⟩
  | .hbm, ⟨44, _⟩ => ⟨S1x2048x128, .f32⟩
  | .hbm, ⟨45, _⟩ => ⟨S2x2048x128, .f32⟩
  | .hbm, ⟨46, _⟩ => ⟨S_, .f32⟩
  | .hbm, ⟨47, _⟩ => ⟨S2048x128, .f32⟩
  | .hbm, ⟨48, _⟩ => ⟨S1x2048x128, .f32⟩
  | .hbm, ⟨49, _⟩ => ⟨S1x2048x128, .f32⟩
  | .hbm, ⟨50, _⟩ => ⟨S2x2048x128, .f32⟩
  | .hbm, ⟨51, _⟩ => ⟨S_, .f32⟩
  | .hbm, ⟨52, _⟩ => ⟨S2048x128, .f32⟩
  | .hbm, ⟨53, _⟩ => ⟨S1x2048x128, .f32⟩
  | .hbm, ⟨54, _⟩ => ⟨S1x2048x128, .f32⟩
  | .hbm, ⟨55, _⟩ => ⟨S2x2048x128, .f32⟩
  | .hbm, ⟨56, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c8_i32_10 : BitVec 32 := 8#32
  let v28 : BitVec 32 := Scalar.divsi v27 c8_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c0_i32_13 : BitVec 32 := 0#32
  let v34 : BitVec 1 := Scalar.cmpi .sgt c8_i32_10 c0_i32_13
  let v35 : BitVec 32 := Scalar.extui v34
  let c0_i32_14 : BitVec 32 := 0#32
  let v36 : BitVec 1 := Scalar.cmpi .slt c8_i32_10 c0_i32_14
  let v37 : BitVec 32 := Scalar.extui v36
  let v38 : BitVec 32 := Scalar.subi v35 v37
  let v39 : BitVec 1 := Scalar.cmpi .ne v33 v38
  let v40 : BitVec 32 := Scalar.remsi v27 c8_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.muli v44 c0_i32_17
  let c0_i32_18 : BitVec 32 := 0#32
  let v46 : BitVec 32 := Scalar.addi c0_i32_18 v45
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v27 v48
  let c0_i32_22 : BitVec 32 := 0#32
  let v50 : BitVec 1 := Scalar.cmpi .ne v49 c0_i32_22
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_25 : BitVec 32 := 0#32
  let c0_i32_26 : BitVec 32 := 0#32
  let c0_i32_27 : BitVec 32 := 0#32
  ![c0_i32_25.toNat, c0_i32_26.toNat, v57.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt v28 c8_i32_12
  let c0_i32_13 : BitVec 32 := 0#32
  let c1_i32_14 : BitVec 32 := 1#32
  let v30 : BitVec 32 := Scalar.select v29 c0_i32_13 c1_i32_14
  let c2_i32 : BitVec 32 := 2#32
  let c0_i32_15 : BitVec 32 := 0#32
  let v31 : BitVec 1 := Scalar.cmpi .eq c2_i32 c0_i32_15
  let c1_i32_16 : BitVec 32 := 1#32
  let v32 : BitVec 32 := Scalar.select v31 c1_i32_16 c2_i32
  let v33 : BitVec 32 := Scalar.remsi v18 v32
  let c0_i32_17 : BitVec 32 := 0#32
  let v34 : BitVec 1 := Scalar.cmpi .ne v33 c0_i32_17
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let v38 : BitVec 1 := Scalar.andi v37 v34
  let v39 : BitVec 32 := Scalar.addi v33 v32
  let v40 : BitVec 32 := Scalar.select v38 v39 v33
  let c0_i32_20 : BitVec 32 := 0#32
  let c0_i32_21 : BitVec 32 := 0#32
  ![v30.toNat, v40.toNat, c0_i32_20.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt v28 c8_i32_12
  let c0_i32_13 : BitVec 32 := 0#32
  let c1_i32_14 : BitVec 32 := 1#32
  let v30 : BitVec 32 := Scalar.select v29 c0_i32_13 c1_i32_14
  let c2_i32 : BitVec 32 := 2#32
  let c0_i32_15 : BitVec 32 := 0#32
  let v31 : BitVec 1 := Scalar.cmpi .eq c2_i32 c0_i32_15
  let c1_i32_16 : BitVec 32 := 1#32
  let v32 : BitVec 32 := Scalar.select v31 c1_i32_16 c2_i32
  let v33 : BitVec 32 := Scalar.remsi v18 v32
  let c0_i32_17 : BitVec 32 := 0#32
  let v34 : BitVec 1 := Scalar.cmpi .ne v33 c0_i32_17
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let v38 : BitVec 1 := Scalar.andi v37 v34
  let v39 : BitVec 32 := Scalar.addi v33 v32
  let v40 : BitVec 32 := Scalar.select v38 v39 v33
  let c0_i32_20 : BitVec 32 := 0#32
  let c0_i32_21 : BitVec 32 := 0#32
  ![v30.toNat, v40.toNat, c0_i32_20.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt v28 c8_i32_12
  let c0_i32_13 : BitVec 32 := 0#32
  let c1_i32_14 : BitVec 32 := 1#32
  let v30 : BitVec 32 := Scalar.select v29 c0_i32_13 c1_i32_14
  let c2_i32 : BitVec 32 := 2#32
  let c0_i32_15 : BitVec 32 := 0#32
  let v31 : BitVec 1 := Scalar.cmpi .eq c2_i32 c0_i32_15
  let c1_i32_16 : BitVec 32 := 1#32
  let v32 : BitVec 32 := Scalar.select v31 c1_i32_16 c2_i32
  let v33 : BitVec 32 := Scalar.remsi v18 v32
  let c0_i32_17 : BitVec 32 := 0#32
  let v34 : BitVec 1 := Scalar.cmpi .ne v33 c0_i32_17
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let v38 : BitVec 1 := Scalar.andi v37 v34
  let v39 : BitVec 32 := Scalar.addi v33 v32
  let v40 : BitVec 32 := Scalar.select v38 v39 v33
  let c0_i32_20 : BitVec 32 := 0#32
  let c0_i32_21 : BitVec 32 := 0#32
  ![v30.toNat, v40.toNat, c0_i32_20.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceQbIdeal.lean ====
abbrev S8192x4096 : Shape := ⟨2, ![8192, 4096]⟩
abbrev S1x4096x4096 : Shape := ⟨3, ![1, 4096, 4096]⟩
abbrev S2048 : Shape := ⟨1, ![2048]⟩
abbrev S4096x4096 : Shape := ⟨2, ![4096, 4096]⟩
abbrev S4x2048x64x64 : Shape := ⟨4, ![4, 2048, 64, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S4x2048x64x8 : Shape := ⟨4, ![4, 2048, 64, 8]⟩
abbrev S4x2048x64x48 : Shape := ⟨4, ![4, 2048, 64, 48]⟩
abbrev S1x2048x1x8 : Shape := ⟨4, ![1, 2048, 1, 8]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .bf16⟩
  | .hbm, ⟨2, _⟩ => ⟨S2048, .i32⟩
  | .hbm, ⟨3, _⟩ => ⟨S8192x4096, .f32⟩
  | .hbm, ⟨4, _⟩ => ⟨S4096x4096, .bf16⟩
  | .hbm, ⟨5, _⟩ => ⟨S4096x4096, .f32⟩
  | .hbm, ⟨6, _⟩ => ⟨S8192x4096, .f32⟩
  | .hbm, ⟨7, _⟩ => ⟨S4x2048x64x64, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x1x8, .f32⟩
  | .hbm, ⟨27, _⟩ => ⟨S2048x8, .f32⟩
  | .hbm, ⟨28, _⟩ => ⟨S2048x1x8, .f32⟩
  | .hbm, ⟨29, _⟩ => ⟨S4x2048x64x8, .f32⟩
  | .hbm, ⟨30, _⟩ => ⟨S4x2048x64x8, .f32⟩
  | .hbm, ⟨31, _⟩ => ⟨S4x2048x64x48, .f32⟩
  | .hbm, ⟨32, _⟩ => ⟨S1x2048x1x8, .f32⟩
  | .hbm, ⟨33, _⟩ => ⟨S4x2048x64x8, .f32⟩
  | .hbm, ⟨34, _⟩ => ⟨S4x2048x64x8, .f32⟩
  | .hbm, ⟨35, _⟩ => ⟨S1x2048x1x8, .f32⟩
  | .hbm, ⟨36, _⟩ => ⟨S4x2048x64x8, .f32⟩
  | .hbm, ⟨37, _⟩ => ⟨S4x2048x64x8, .f32⟩
  | .hbm, ⟨38, _⟩ => ⟨S4x2048x64x8, .f32⟩
  | .hbm, ⟨39, _⟩ => ⟨S1x2048x1x8, .f32⟩
  | .hbm, ⟨40, _⟩ => ⟨S4x2048x64x8, .f32⟩
  | .hbm, ⟨41, _⟩ => ⟨S4x2048x64x8, .f32⟩
  | .hbm, ⟨42, _⟩ => ⟨S1x2048x1x8, .f32⟩
  | .hbm, ⟨43, _⟩ => ⟨S4x2048x64x8, .f32⟩
  | .hbm, ⟨44, _⟩ => ⟨S4x2048x64x8, .f32⟩
  | .hbm, ⟨45, _⟩ => ⟨S4x2048x64x8, .f32⟩
  | .hbm, ⟨46, _⟩ => ⟨S4x2048x64x64, .f32⟩
  | .hbm, ⟨47, _⟩ => ⟨S8192x4096, .f32⟩
  | .hbm, ⟨48, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== KernelOa.lean ====
abbrev S8192x2048 : Shape := ⟨2, ![8192, 2048]⟩
abbrev S1x2048x4096 : Shape := ⟨3, ![1, 2048, 4096]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x4096, .bf16⟩
  | .hbm, ⟨2, _⟩ => ⟨S8192x4096, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOaIdeal.lean ====
abbrev S8192x2048 : Shape := ⟨2, ![8192, 2048]⟩
abbrev S1x2048x4096 : Shape := ⟨3, ![1, 2048, 4096]⟩
abbrev S8192x4096 : Shape := ⟨2, ![8192, 4096]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x4096, .bf16⟩
  | .hbm, ⟨2, _⟩ => ⟨S8192x4096, .f32⟩
  | .hbm, ⟨3, _⟩ => ⟨S8192x2048, .f32⟩
  | .hbm, ⟨4, _⟩ => ⟨S2048x4096, .bf16⟩
  | .hbm, ⟨5, _⟩ => ⟨S2048x4096, .f32⟩
  | .hbm, ⟨6, _⟩ => ⟨S8192x4096, .f32⟩
  | .hbm, ⟨7, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOb.lean ====
abbrev S8192x4096 : Shape := ⟨2, ![8192, 4096]⟩
abbrev S1x4096x4096 : Shape := ⟨3, ![1, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceObIdeal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .bf16⟩
  | .hbm, ⟨2, _⟩ => ⟨S8192x4096, .f32⟩
  | .hbm, ⟨3, _⟩ => ⟨S8192x4096, .f32⟩
  | .hbm, ⟨4, _⟩ => ⟨S4096x4096, .bf16⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.DownBlock.lean ====
/-
  The down projection's kernel, one block at a time: which rows and columns of the arguments a grid point reads, and
  what its body adds to the running block.
-/
module

public import proofs.«01_k».proof.Defs
public import proofs.«01_k».proof.Proof.Gen.KernelDownIdeal.Value
public import Idealize.ShloMosaic.Lib.Pointwise

@[expose] public section

noncomputable section

namespace Cert.DownBlock

open Cert.KernelDownIdeal Cert.KernelDownIdeal.Gen Idealize.ShloMosaic Idealize.ShloMosaic.TcCoe Idealize.SL.Sem
open scoped BigOperators

variable (m : (ℓ : Loc nD τ sig) → Buf (Elt Ideal) ℓ)

/-- Which block of each argument grid point `t` reads (16 points per row block, 4 per column block). -/
theorem index_facts : ∀ t : Fin cfg0.N,
    win0_0.index t (0 : Fin 2) = t.val / 16 ∧ win0_0.index t (1 : Fin 2) = t.val % 4
    ∧ win0_1.index t (0 : Fin 3) = 0 ∧ win0_1.index t (1 : Fin 3) = t.val % 4 ∧ win0_1.index t (2 : Fin 3) = t.val / 4 % 4
    ∧ win0_2.index t (0 : Fin 2) = t.val / 16 ∧ win0_2.index t (1 : Fin 2) = t.val / 4 % 4 :=
  (by decide +kernel : ∀ t : Fin grid0.N, _)

/-- The activations' block at point `t`, read off the whole array. -/
theorem act_apply (c : Dev nD) (t : Fin cfg0.N) (r : Fin 1024) (k : Fin 2816) (R : Fin 8192) (K : Fin 11264)
    (hR : R.val = t.val / 16 * 1024 + r.val) (hK : K.val = t.val % 4 * 2816 + k.val) :
    iblk m c 0 t (ix2 r k) = m ((c : Thread nD τ).loc main_arg0) (ix2 R K) := by
  obtain ⟨e0, e1, -⟩ := index_facts t
  show m ((c : Thread nD τ).loc main_arg0) (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 2816 + 1 * k.val = K.val; rw [e1]; omega

/-- The weights' block at point `t`, read off the whole array. -/
theorem weight_apply (c : Dev nD) (t : Fin cfg0.N) (k : Fin 2816) (n : Fin 1024) (K : Fin 11264) (N : Fin 4096)
    (hK : K.val = t.val % 4 * 2816 + k.val) (hN : N.val = t.val / 4 % 4 * 1024 + n.val) :
    iblk m c 1 t (ix3 0 k n) = m ((c : Thread nD τ).loc main_arg1) (ix3 0 K N) := by
  obtain ⟨-, -, e0, e1, e2, -⟩ := index_facts t
  show m ((c : Thread nD τ).loc main_arg1) (((cfg0.win 1).blk t).view.emb (ix3 0 k n)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 2816 + 1 * k.val = K.val; rw [e1]; omega
  | ⟨2, _⟩ => show win0_1.index t (2 : Fin 3) * 1024 + 1 * n.val = N.val; rw [e2]; omega

/-- The residual's block at point `t`, read off the whole array. -/
theorem res_apply (c : Dev nD) (t : Fin cfg0.N) (r n : Fin 1024) (R : Fin 8192) (N : Fin 4096)
    (hR : R.val = t.val / 16 * 1024 + r.val) (hN : N.val = t.val / 4 % 4 * 1024 + n.val) :
    iblk m c 2 t (ix2 r n) = m ((c : Thread nD τ).loc main_arg2) (ix2 R N) := by
  obtain ⟨-, -, -, -, -, e0, e1⟩ := index_facts t
  show m ((c : Thread nD τ).loc main_arg2) (((cfg0.win 2).blk t).view.emb (ix2 r n)) = _
  refine congrArg _ (funext fun a => Fin.ext ?_)
  match a with
  | ⟨0, _⟩ => show win0_2.index t (0 : Fin 2) * 1024 + 1 * r.val = R.val; rw [e0]; omega
  | ⟨1, _⟩ => show win0_2.index t (1 : Fin 2) * 1024 + 1 * n.val = N.val; rw [e1]; omega

/-- What the body leaves: the running block plus the product of the point's blocks. -/
theorem pay_apply (acc : Vec Ideal S1024x1024 .f32) (x : Vec Ideal S1024x2816 .bf16) (w : Vec Ideal S1x2816x1024 .bf16)
    (r n : Fin 1024) :
    k0_pay1 acc x w (ix2 r n) = acc (ix2 r n) + ∑ k : Fin 2816, x (ix2 r k) * w (ix3 0 k n) := by
  pointwise [k0_pay1]

end Cert.DownBlock

end
-- ==== Proof.DownSum.lean ====
/-
  The down projection as a whole: the kernel's four partial products, added one after another to the residual, are the
  reference's one product over all 11264 hidden columns plus the residual.
-/
module

public import proofs.«01_k».proof.Proof.DownBlock
public import proofs.«01_k».proof.Proof.Gen.ReferenceDownIdeal.Run
public import Idealize.ShloMosaic.Lib.Claim
public import Idealize.ShloMosaic.Lib.Quiescent

@[expose] public section

noncomputable section

namespace Cert.DownSum

open Cert.KernelDownIdeal Cert.KernelDownIdeal.Gen Idealize.ShloMosaic Idealize.ShloMosaic.TcCoe Idealize.SL.Sem
open scoped BigOperators

variable (m : (ℓ : Loc nD τ sig) → Buf (Elt Ideal) ℓ)

/-- A sum over `A * B` positions, taken block by block. -/
theorem sum_blocks {R : Type*} [AddCommMonoid R] (A B N : ℕ) (h : A * B = N) (f : Fin N → R) (g : ℕ → Fin B → R)
    (hg : ∀ (a : ℕ) (b : Fin B) (n : Fin N), a < A → n.val = a * B + b.val → g a b = f n) :
    ∑ a ∈ Finset.range A, ∑ b : Fin B, g a b = ∑ n : Fin N, f n := by
  subst h
  rw [← Equiv.sum_comp finProdFinEquiv f, Fintype.sum_prod_type, ← Fin.sum_univ_eq_sum_range (fun a => ∑ b : Fin B, g a b) A]
  refine Finset.sum_congr rfl fun a _ => Finset.sum_congr rfl fun b _ => hg _ _ _ a.isLt ?_
  show b.val + B * a.val = a.val * B + b.val
  rw [Nat.mul_comm, Nat.add_comm]

/-- Device `c`'s activations, -/
abbrev act (c : Dev nD) : FVec Ideal S8192x11264 .bf16 := m ((c : Thread nD τ).loc main_arg0)
/-- its weights, -/
abbrev weight (c : Dev nD) : FVec Ideal S1x11264x4096 .bf16 := m ((c : Thread nD τ).loc main_arg1)
/-- and its residual. -/
abbrev res (c : Dev nD) : FVec Ideal S8192x4096 .f32 := m ((c : Thread nD τ).loc main_arg2)

/-- The block of the activations that point `t` reads, -/
abbrev actBlk (c : Dev nD) (t : Fin cfg0.N) : FVec Ideal S1024x2816 .bf16 := iblk m c 0 t
/-- and the block of the weights. -/
abbrev weightBlk (c : Dev nD) (t : Fin cfg0.N) : FVec Ideal S1x2816x1024 .bf16 := iblk m c 1 t

/-- The product of the blocks read at point `n`, at a place of the output block (zero off the grid). -/
def part (c : Dev nD) (n : ℕ) (i : S1024x1024.Idx) : EReal :=
  if h : n < cfg0.N then
    ∑ k : Fin 2816, actBlk m c ⟨n, h⟩ (ix2 (i 0) k) * weightBlk m c ⟨n, h⟩ (ix3 0 k (i 1))
  else 0

/-- What the kernel's result array holds: the residual plus the product over all hidden columns. -/
theorem kernel_value (c : Dev nD) (R : Fin 8192) (N : Fin 4096) :
    Value.G3 m c (ix2 R N) = res m c (ix2 R N)
      + ∑ k : Fin 11264, act m c (ix2 R k) * weight m c (ix3 0 k N) := by
  have hN : cfg0.N = 128 := N_0
  have hR := R.isLt
  have hC := N.isLt
  have hb : Value.run3Of (ix2 R N) = 4 * (R.val / 1024) + N.val / 1024 := by
    show 4 * (R.val / 1024 - 0) + 1 * (N.val / 1024 - 0) = _; omega
  generalize hq : Value.run3Of (ix2 R N) = q at hb
  have hl : Value.loc3Of (ix2 R N) = ix2 (⟨R.val % 1024, by omega⟩ : Fin 1024) (⟨N.val % 1024, by omega⟩ : Fin 1024) := by
    funext a; apply Fin.ext
    match a with
    | ⟨0, _⟩ => rfl
    | ⟨1, _⟩ => rfl
  unfold Value.G3
  rw [hq, hl, dif_pos (by omega)]
  rw [Pipeline.accAt_add_apply (Value.reset3 m c) (Value.step3 m c) (iblk m c 2 ⟨4 * q, by omega⟩) (part m c) (4 * q) 3
    (fun h i => by
      idx_vars i
      show k0_pay1 _ _ _ _ = _
      rw [DownBlock.pay_apply]
      unfold part
      rw [dif_pos h]; rfl)
    (fun n h acc i _ _ => by
      idx_vars i
      show k0_pay1 _ _ _ _ = _
      rw [DownBlock.pay_apply]
      unfold part
      rw [dif_pos h]; rfl) 3 le_rfl]
  rw [DownBlock.res_apply m c ⟨4 * q, by omega⟩ _ _ R N (by show R.val = 4 * q / 16 * 1024 + R.val % 1024; omega)
    (by show N.val = 4 * q / 4 % 4 * 1024 + N.val % 1024; omega)]
  refine congrArg _ ?_
  rw [← sum_blocks 4 2816 11264 rfl _ (fun s k => act m c (ix2 R (Fin.ofNat 11264 (s * 2816 + k.val)))
    * weight m c (ix3 0 (Fin.ofNat 11264 (s * 2816 + k.val)) N))]
  · refine Finset.sum_congr rfl fun s hs => ?_
    have hs' : s < 4 := Finset.mem_range.1 hs
    unfold part
    rw [dif_pos (by omega)]
    refine Finset.sum_congr rfl fun k _ => ?_
    have hk := k.isLt
    have hv : (Fin.ofNat 11264 (s * 2816 + k.val)).val = s * 2816 + k.val := Nat.mod_eq_of_lt (by omega)
    exact congrArg₂ (· * ·)
      (DownBlock.act_apply m c ⟨4 * q + s, by omega⟩ ⟨R.val % 1024, by omega⟩ k R (Fin.ofNat 11264 (s * 2816 + k.val))
        (by show R.val = (4 * q + s) / 16 * 1024 + R.val % 1024; omega)
        (by rw [hv]; show s * 2816 + k.val = (4 * q + s) % 4 * 2816 + k.val; omega))
      (DownBlock.weight_apply m c ⟨4 * q + s, by omega⟩ k ⟨N.val % 1024, by omega⟩ (Fin.ofNat 11264 (s * 2816 + k.val)) N
        (by rw [hv]; show s * 2816 + k.val = (4 * q + s) % 4 * 2816 + k.val; omega)
        (by show N.val = (4 * q + s) / 4 % 4 * 1024 + N.val % 1024; omega))
  · intro a b n ha hn
    have : Fin.ofNat 11264 (a * 2816 + b.val) = n := Fin.ext (by rw [← hn]; exact Nat.mod_eq_of_lt n.isLt)
    rw [this]

/-- What the reference computes at an index. -/
theorem reference_value (x : FVec Ideal S8192x11264 .bf16) (w : FVec Ideal S1x11264x4096 .bf16) (r : FVec Ideal S8192x4096 .f32)
    (R : Fin 8192) (N : Fin 4096) :
    addf r (Host.dotGeneral Cert.ReferenceDownIdeal.dot_S8192x11264_S11264x4096_S8192x4096_1_0_0_1_n_n none
      (extf .f32 x Cert.ReferenceDownIdeal.Gen.facts.bitsLt_bf16_f32)
      (extf .f32 (shapeCast Cert.ReferenceDownIdeal.S11264x4096 w Cert.ReferenceDownIdeal.Gen.facts.shapeCasts_S1x11264x4096_S11264x4096)
        Cert.ReferenceDownIdeal.Gen.facts.bitsLt_bf16_f32)) (ix2 R N)
      = r (ix2 R N) + ∑ k : Fin 11264, x (ix2 R k) * w (ix3 0 k N) := by
  pointwise

/-- The reference runs, leaves its arguments alone, and has no semaphore to leave raised. -/
theorem frame_reference : Cert.quiescent_ReferenceDownIdeal := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run (F := Ideal) m ρ)

/-- The kernel and the reference end with equal results. -/
theorem algebraic : Cert.algebraic_KernelDownIdeal_ReferenceDownIdeal := by
  pair_intro
  · run_from Value.run _ _
  · run_from Cert.ReferenceDownIdeal.Value.run _ _
    funext j
    obtain ⟨R, N, rfl⟩ : ∃ (R : Fin 8192) (N : Fin 4096), j = ix2 R N := ⟨j 0, j 1, eq_ix2 j⟩
    exact (reference_value _ _ _ R N).trans (kernel_value m c R N).symm

end Cert.DownSum

end
-- ==== Proof.AttnMath.lean ====
/-
  Softmax over a set of keys, on the extended reals: the running form (subtract the row's maximum, divide at the end) and
  the form that subtracts the log of the sum, both written as one sum over the keys that count.
-/
module

public import Idealize.ShloMosaic.Lib.Pointwise
public import Idealize.ShloMosaic.PureOps.Ideal

@[expose] public section

noncomputable section

namespace Cert.AttnMath

open Idealize.ShloMosaic
open scoped BigOperators

variable {ι : Type*} [Fintype ι] (P : ι → Prop) [DecidablePred P] (x : ι → ℝ) (V : ι → EReal)

/-- A key's score: minus infinity where it does not count. -/
def score (j : ι) : EReal := if P j then (x j : EReal) else ⊥

/-- The softmax denominator over the keys that count. -/
def denom : ℝ := ∑ j, if P j then Real.exp (x j) else 0

/-- The softmax average of the values over the keys that count. -/
def average : EReal := ∑ j, if P j then ((Real.exp (x j) / denom P x : ℝ) : EReal) * V j else 0

/-- The maximum of the scores. -/
def top : EReal := Finset.univ.fold max ⊥ (score P x)

variable {P}

theorem denom_pos (h : ∃ j, P j) : 0 < denom P x := by
  obtain ⟨j, hj⟩ := h
  refine Finset.sum_pos' (fun i _ => ?_) ⟨j, Finset.mem_univ _, ?_⟩
  · split_ifs
    · exact (Real.exp_pos _).le
    · exact le_rfl
  · rw [if_pos hj]; exact Real.exp_pos _

/-- With one key that counts, the maximum is a real number. -/
theorem top_real (h : ∃ j, P j) : ∃ μ : ℝ, top P x = (μ : EReal) := by
  obtain ⟨j, hj⟩ := h
  have h1 : top P x ≠ ⊤ := by
    refine ne_of_lt ?_
    unfold top
    rw [Finset.fold_max_lt]
    refine ⟨bot_lt_top, fun i _ => ?_⟩
    unfold score
    split_ifs
    · exact EReal.coe_lt_top _
    · exact bot_lt_top
  have h2 : top P x ≠ ⊥ := by
    refine ne_of_gt (lt_of_lt_of_le (EReal.bot_lt_coe (x j)) ?_)
    unfold top
    rw [Finset.le_fold_max]
    refine Or.inr ⟨j, Finset.mem_univ _, ?_⟩
    unfold score
    rw [if_pos hj]
  exact ⟨(top P x).toReal, (EReal.coe_toReal h1 h2).symm⟩

/-- The exponential of a score less a real number. -/
theorem exp_score_sub (μ : ℝ) (j : ι) :
    Ideal.exp (score P x j - (μ : EReal)) = ((if P j then Real.exp (x j) * Real.exp (-μ) else 0 : ℝ) : EReal) := by
  unfold score
  split_ifs
  · rw [← EReal.coe_sub, Ideal.exp_coe, sub_eq_add_neg, Real.exp_add]
  · rw [EReal.bot_sub, Ideal.exp_bot, EReal.coe_zero]

/-- A finite sum of real numbers, on the extended reals. -/
theorem coe_sum {κ : Type*} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row's sum of exponentials. -/
theorem sum_exp (μ : ℝ) :
    ∑ j, Ideal.exp (score P x j - (μ : EReal)) = ((denom P x * Real.exp (-μ) : ℝ) : EReal) := by
  rw [Finset.sum_congr rfl fun j _ => exp_score_sub x μ j, ← coe_sum]
  unfold denom
  rw [Finset.sum_mul]
  refine congrArg _ (Finset.sum_congr rfl fun j _ => ?_)
  split_ifs <;> simp

/-- A positive real factor may be taken into a sum. -/
theorem sum_mul_real {κ : Type*} (s : Finset κ) (f : κ → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The running form's log of the sum: the maximum plus the log of the row's sum. -/
theorem running_log (h : ∃ j, P j) :
    top P x + Ideal.log (∑ j, Ideal.exp (score P x j - top P x)) = ((Real.log (denom P x) : ℝ) : EReal) := by
  obtain ⟨μ, hμ⟩ := top_real x h
  have hp := denom_pos x h
  have hq : 0 < denom P x * Real.exp (-μ) := mul_pos hp (Real.exp_pos _)
  rw [hμ, sum_exp, Ideal.log_coe, if_neg (not_le.2 hq), ← EReal.coe_add, Real.log_mul hp.ne' (Real.exp_pos _).ne',
    Real.log_exp]
  congr 1; ring

/-- The running form's output: the weighted sum of the values, divided by the row's sum. -/
theorem running_average (h : ∃ j, P j) :
    Ideal.div (∑ j, Ideal.exp (score P x j - top P x) * V j) (∑ j, Ideal.exp (score P x j - top P x))
      = average P x V := by
  obtain ⟨μ, hμ⟩ := top_real x h
  have hp := denom_pos x h
  have hq : 0 < denom P x * Real.exp (-μ) := mul_pos hp (Real.exp_pos _)
  rw [hμ, sum_exp]
  unfold Ideal.div average
  rw [if_neg (by exact_mod_cast hq.ne'), ← EReal.coe_inv, sum_mul_real _ _ _ (inv_nonneg.2 hq.le)]
  refine Finset.sum_congr rfl fun j _ => ?_
  rw [exp_score_sub, mul_right_comm, ← EReal.coe_mul]
  split_ifs
  · congr 2
    rw [mul_inv, div_eq_mul_inv]
    have := (Real.exp_pos (-μ)).ne'
    field_simp
  · rw [zero_mul, EReal.coe_zero, zero_mul]

/-- The other form's output: each exponential taken relative to the log of the sum. -/
theorem direct_average (h : ∃ j, P j) :
    ∑ j, Ideal.exp (score P x j - ((Real.log (denom P x) : ℝ) : EReal)) * V j = average P x V := by
  have hp := denom_pos x h
  unfold average
  refine Finset.sum_congr rfl fun j _ => ?_
  rw [exp_score_sub]
  split_ifs
  · congr 2
    rw [Real.exp_neg, Real.exp_log hp, div_eq_mul_inv]
  · rw [EReal.coe_zero, zero_mul]

/-- Two lots of the same terms, with one index for each. -/
theorem sum_same {R ι κ : Type*} [Fintype ι] [Fintype κ] [AddCommMonoid R] (P : ι → Prop) [DecidablePred P]
    (Q : κ → Prop) [DecidablePred Q] (e : ∀ j, P j → κ) (e' : ∀ k, Q k → ι) (he : ∀ j h, Q (e j h)) (he' : ∀ k h, P (e' k h))
    (hl : ∀ j h, e' (e j h) (he j h) = j) (hr : ∀ k h, e (e' k h) (he' k h) = k)
    (f : ι → R) (g : κ → R) (hfg : ∀ j h, f j = g (e j h)) :
    (∑ j, if P j then f j else 0) = ∑ k, if Q k then g k else 0 := by
  rw [← Finset.sum_filter, ← Finset.sum_filter]
  refine Finset.sum_bij' (fun j hj => e j (Finset.mem_filter.1 hj).2) (fun k hk => e' k (Finset.mem_filter.1 hk).2)
    (fun j hj => Finset.mem_filter.2 ⟨Finset.mem_univ _, he _ _⟩) (fun k hk => Finset.mem_filter.2 ⟨Finset.mem_univ _, he' _ _⟩)
    (fun j hj => hl _ _) (fun k hk => hr _ _) (fun j hj => hfg _ _)

/-- One token's weight of the earlier group's output and of this group's, and their mixture. -/
def mix (l0 o0 l1 o1 : EReal) : EReal :=
  Ideal.exp (l0 - (max l0 l1 + Ideal.log (Ideal.exp (l0 - max l0 l1) + Ideal.exp (l1 - max l0 l1)))) * o0
    + Ideal.exp (l1 - (max l0 l1 + Ideal.log (Ideal.exp (l0 - max l0 l1) + Ideal.exp (l1 - max l0 l1)))) * o1

end Cert.AttnMath

end
-- ==== Proof.AttnSpec.lean ====
/-
  What the attention computes, as plain functions of the projection `x b n c` (sequence, position, column): head `h` has
  its queries in columns `128 h …`, its keys in `2048 + 128 h …` and its values in `4096 + 128 h …`; query `n` sees the
  keys at distances 0 to 128 before it.
-/
module

public import proofs.«01_k».proof.Proof.AttnMath
public import Idealize.ShloMosaic.Lib.Affine
public import Idealize.ShloMosaic.Lib.WordArith

@[expose] public section

noncomputable section

namespace Cert.AttnSpec

open Idealize.ShloMosaic
open scoped BigOperators

/-- The scale's pattern, read as a number. -/
abbrev scale : EReal := Ideal.ofBits FTy.f32 0x3DB504F3#32

theorem negInf : Ideal.ofBits FTy.f32 0xFF800000#32 = ⊥ := by simp [Ideal.ofBits, Ideal.ieee]

theorem scale_real : ∃ r : ℝ, scale = (r : EReal) := by
  refine ⟨scale.toReal, (EReal.coe_toReal ?_ ?_).symm⟩ <;> unfold scale <;> simp [Ideal.ofBits, Ideal.ieee, -EReal.coe_mul]

/-- Query `n` sees key `k`. -/
def sees (n k : Fin 2048) : Prop := k.val ≤ n.val ∧ n.val ≤ k.val + 128

instance (n : Fin 2048) : DecidablePred (sees n) := fun k => inferInstanceAs (Decidable (_ ∧ _))

/-- The same, for row `r` of block `bn` and column `j` of the block's two hundred and fifty-six keys. -/
def seesAt (bn : Fin 16) (r : Fin 128) (j : Fin 256) : Prop :=
  (r.val ≤ j.val ∧ j.val ≤ r.val + 128) ∧ (0 < bn.val ∨ 128 ≤ j.val)

instance (bn : Fin 16) (r : Fin 128) : DecidablePred (seesAt bn r) := fun j => inferInstanceAs (Decidable (_ ∧ _))

/-- The position of row `r` of block `bn`, -/
def row (bn : Fin 16) (r : Fin 128) : Fin 2048 := ⟨bn.val * 128 + r.val, by omega⟩
/-- and of the block's key column `j` (the block before it comes first). -/
def key (bn : Fin 16) (j : Fin 256) : Fin 2048 := ⟨bn.val * 128 + j.val - 128, by omega⟩

/-- A head's column `d`, in the part of the columns that starts at `o`. -/
def col (o : ℕ) (ho : o ≤ 4096) (h : Fin 16) (d : Fin 128) : Fin 6144 := ⟨o + h.val * 128 + d.val, by omega⟩

variable (x : Fin 4 → Fin 2048 → Fin 6144 → EReal)

/-- The scaled product of a query and a key. -/
def raw (b : Fin 4) (h : Fin 16) (n k : Fin 2048) : EReal :=
  (∑ d : Fin 128, x b n (col 0 (by omega) h d) * x b k (col 2048 (by omega) h d)) * scale

/-- It as a real number. -/
def real (b : Fin 4) (h : Fin 16) (n k : Fin 2048) : ℝ := (raw x b h n k).toReal

/-- The log of the sum of exponentials over the keys a query sees. -/
def lse (b : Fin 4) (h : Fin 16) (n : Fin 2048) : EReal :=
  ((Real.log (AttnMath.denom (sees n) (real x b h n)) : ℝ) : EReal)

/-- The softmax average of the values over them. -/
def avg (b : Fin 4) (h : Fin 16) (n : Fin 2048) (d : Fin 128) : EReal :=
  AttnMath.average (sees n) (real x b h n) (fun k => x b k (col 4096 (by omega) h d))

/-- Queries and keys are real numbers. -/
def Finite : Prop := ∀ b n c, c.val < 4096 → ∃ r : ℝ, x b n c = (r : EReal)

variable {x}

theorem raw_real (hx : Finite x) (b : Fin 4) (h : Fin 16) (n k : Fin 2048) : raw x b h n k = (real x b h n k : EReal) := by
  have hq : ∀ d : Fin 128, ∃ r : ℝ, x b n (col 0 (by omega) h d) * x b k (col 2048 (by omega) h d) = (r : EReal) := fun d => by
    obtain ⟨p, hp⟩ := hx b n (col 0 (by omega) h d) (by show 0 + h.val * 128 + d.val < 4096; omega)
    obtain ⟨q, hq⟩ := hx b k (col 2048 (by omega) h d) (by show 2048 + h.val * 128 + d.val < 4096; omega)
    exact ⟨p * q, by rw [hp, hq, EReal.coe_mul]⟩
  choose f hf using hq
  obtain ⟨s, hs⟩ := scale_real
  have : raw x b h n k = (((∑ d, f d) * s : ℝ) : EReal) := by
    unfold raw
    rw [Finset.sum_congr rfl fun d _ => hf d, ← AttnMath.coe_sum, hs, EReal.coe_mul]
  unfold real
  rw [this, EReal.toReal_coe]

theorem sees_self (n : Fin 2048) : ∃ k, sees n k := ⟨n, le_rfl, by omega⟩

theorem seesAt_self (bn : Fin 16) (r : Fin 128) : ∃ j, seesAt bn r j :=
  ⟨⟨r.val + 128, by omega⟩, ⟨by show r.val ≤ r.val + 128; omega, le_rfl⟩, Or.inr (by show 128 ≤ r.val + 128; omega)⟩

theorem sees_key {bn : Fin 16} {r : Fin 128} {j : Fin 256} (h : seesAt bn r j) : sees (row bn r) (key bn j) := by
  obtain ⟨⟨h1, h2⟩, h3⟩ := h
  constructor
  · show bn.val * 128 + j.val - 128 ≤ bn.val * 128 + r.val; omega
  · show bn.val * 128 + r.val ≤ bn.val * 128 + j.val - 128 + 128; omega

/-- The keys a row sees, counted by the block's columns or by position. -/
theorem sum_keys {R : Type*} [AddCommMonoid R] (bn : Fin 16) (r : Fin 128) (f : Fin 256 → R) (g : Fin 2048 → R)
    (hfg : ∀ j, seesAt bn r j → f j = g (key bn j)) :
    (∑ j, if seesAt bn r j then f j else 0) = ∑ k, if sees (row bn r) k then g k else 0 := by
  refine AttnMath.sum_same (seesAt bn r) (sees (row bn r)) (fun j _ => key bn j)
    (fun k hk => ⟨k.val + 128 - bn.val * 128, by obtain ⟨h1, h2⟩ := hk; change k.val ≤ bn.val * 128 + r.val at h1; omega⟩)
    (fun j h => sees_key h) (fun k hk => ?_) (fun j hj => ?_) (fun k hk => ?_) f g hfg
  · obtain ⟨h1, h2⟩ := hk
    change k.val ≤ bn.val * 128 + r.val at h1
    change bn.val * 128 + r.val ≤ k.val + 128 at h2
    refine ⟨⟨?_, ?_⟩, ?_⟩
    · show r.val ≤ k.val + 128 - bn.val * 128; omega
    · show k.val + 128 - bn.val * 128 ≤ r.val + 128; omega
    · show 0 < bn.val ∨ 128 ≤ k.val + 128 - bn.val * 128; omega
  · obtain ⟨⟨h1, h2⟩, h3⟩ := hj
    apply Fin.ext
    show bn.val * 128 + j.val - 128 + 128 - bn.val * 128 = j.val
    omega
  · obtain ⟨h1, h2⟩ := hk
    change bn.val * 128 + r.val ≤ k.val + 128 at h2
    apply Fin.ext
    show bn.val * 128 + (k.val + 128 - bn.val * 128) - 128 = k.val
    omega

/-- The denominator by the block's columns. -/
theorem denom_block (b : Fin 4) (h : Fin 16) (bn : Fin 16) (r : Fin 128) :
    AttnMath.denom (seesAt bn r) (fun j => real x b h (row bn r) (key bn j)) = AttnMath.denom (sees (row bn r)) (real x b h (row bn r)) :=
  sum_keys bn r _ (fun k => Real.exp (real x b h (row bn r) k)) fun _ _ => rfl

/-- The average by the block's columns. -/
theorem average_block (b : Fin 4) (h : Fin 16) (bn : Fin 16) (r : Fin 128) (d : Fin 128) (v : Fin 256 → EReal)
    (hv : ∀ j, seesAt bn r j → v j = x b (key bn j) (col 4096 (by omega) h d)) :
    AttnMath.average (seesAt bn r) (fun j => real x b h (row bn r) (key bn j)) v = avg x b h (row bn r) d := by
  unfold AttnMath.average avg AttnMath.average
  rw [denom_block]
  exact sum_keys bn r _ (fun k => ((Real.exp (real x b h (row bn r) k) / AttnMath.denom (sees (row bn r)) (real x b h (row bn r)) : ℝ) : EReal)
    * x b k (col 4096 (by omega) h d)) fun j hj => by rw [hv j hj]

/-- The reference's mask, on words. -/
theorem mask_words (n k : Fin 2048) :
    IntOp.andi (IntOp.cmpi CmpIPredicate.sge (IntOp.subi (BitVec.ofNat 32 n.val) (BitVec.ofNat 32 k.val)) 0#32)
      (IntOp.cmpi CmpIPredicate.sle (IntOp.subi (BitVec.ofNat 32 n.val) (BitVec.ofNat 32 k.val)) 128#32) = 1#1 ↔ sees n k := by
  have hn := WordArith.toInt_ofNat_small n.val (by omega)
  have hk := WordArith.toInt_ofNat_small k.val (by omega)
  have h0 : (0#32 : BitVec 32).toInt = 0 := by decide
  have h128 : (128#32 : BitVec 32).toInt = 128 := by decide
  have hs : (IntOp.subi (BitVec.ofNat 32 n.val) (BitVec.ofNat 32 k.val)).toInt = (n.val : Int) - k.val := by
    show (BitVec.ofNat 32 n.val - BitVec.ofNat 32 k.val).toInt = _
    rw [WordArith.toInt_sub_of_bounds _ _ (by omega) (by omega), hn, hk]
  rw [IntOp.andi_eq_one, IntOp.cmpi_sge, IntOp.cmpi_sle, hs, h0, h128]
  unfold sees
  omega

/-- The kernel's mask, on words. -/
theorem mask_words_block (bn : Fin 16) (r : Fin 128) (j : Fin 256) :
    IntOp.andi
      (IntOp.andi
        (IntOp.cmpi CmpIPredicate.sge (IntOp.subi (IntOp.addi (BitVec.ofNat 32 r.val) 128#32) (BitVec.ofNat 32 j.val)) 0#32)
        (IntOp.cmpi CmpIPredicate.sle (IntOp.subi (IntOp.addi (BitVec.ofNat 32 r.val) 128#32) (BitVec.ofNat 32 j.val)) 128#32))
      (IntOp.ori (Scalar.cmpi CmpIPredicate.sgt (BitVec.ofNat 32 bn.val) 0#32)
        (IntOp.cmpi CmpIPredicate.sge (BitVec.ofNat 32 j.val) 128#32)) = 1#1 ↔ seesAt bn r j := by
  have hb := WordArith.toInt_ofNat_small bn.val (by omega)
  have hr := WordArith.toInt_ofNat_small r.val (by omega)
  have hj := WordArith.toInt_ofNat_small j.val (by omega)
  have h0 : (0#32 : BitVec 32).toInt = 0 := by decide
  have h128 : (128#32 : BitVec 32).toInt = 128 := by decide
  have ha : (IntOp.addi (BitVec.ofNat 32 r.val) 128#32).toInt = (r.val : Int) + 128 := by
    show (BitVec.ofNat 32 r.val + 128#32).toInt = _
    rw [WordArith.toInt_add_of_bounds _ _ (by omega) (by omega), hr, h128]
  have hs : (IntOp.subi (IntOp.addi (BitVec.ofNat 32 r.val) 128#32) (BitVec.ofNat 32 j.val)).toInt = (r.val : Int) + 128 - j.val := by
    show (IntOp.addi (BitVec.ofNat 32 r.val) 128#32 - BitVec.ofNat 32 j.val).toInt = _
    rw [WordArith.toInt_sub_of_bounds _ _ (by omega) (by omega), ha, hj]
  show IntOp.andi _ (IntOp.ori (IntOp.cmpi CmpIPredicate.sgt (BitVec.ofNat 32 bn.val) 0#32) _) = 1#1 ↔ _
  rw [IntOp.andi_eq_one, IntOp.andi_eq_one, IntOp.ori_eq_one, IntOp.cmpi_sge, IntOp.cmpi_sle, IntOp.cmpi_sgt, IntOp.cmpi_sge, hs, hb, hj,
    h0, h128]
  unfold seesAt
  omega

end Cert.AttnSpec

end
-- ==== Proof.AttnHead.lean ====
/-
  One head of one block of the attention kernel: what its arithmetic makes of the blocks it reads.
-/
module

public import proofs.«01_k».proof.Defs
public import proofs.«01_k».proof.Proof.Gen.KernelAttnIdeal.Value
public import proofs.«01_k».proof.Proof.AttnSpec
public import Idealize.ShloMosaic.Lib.Pointwise

@[expose] public section

set_option maxRecDepth 16384

noncomputable section

namespace Cert.AttnHead

open Cert.KernelAttnIdeal Cert.KernelAttnIdeal.Gen Idealize.ShloMosaic Idealize.ShloMosaic.TcCoe Idealize.SL.Sem
open scoped BigOperators

theorem maskValue : Named.named (F := Ideal) Cert.KernelAttnIdeal.κ "mask" (φ := .f32) 0xF149F2CA#32 = (⊥ : EReal) :=
  IdealRules.named_const.ideal_named_scalar _ _ _ _ rfl

/-- The mask of a grid point, on words. -/
theorem mask_apply (i : grid0.Coords) (bn : Fin 16) (hi : (i 2).val = bn.val) (r : Fin 128) (j : Fin 256) :
    k0_pay4 i (ix2 r j) = 1#1 ↔ AttnSpec.seesAt bn r j := by
  rw [← AttnSpec.mask_words_block bn r j, ← hi]
  refine Eq.to_iff (congrArg (· = 1#1) ?_)
  pointwise [k0_pay4]

/-- What the blocks of one head hold: rows of the projection. -/
structure Reads (x : Fin 4 → Fin 2048 → Fin 6144 → EReal) (b : Fin 4) (h bn : Fin 16) (q kp kc vp vc : Vec Ideal S1x1x128x128 .bf16) :
    Prop where
  query : ∀ r d : Fin 128, q (ix4 0 0 r d) = x b (AttnSpec.row bn r) (AttnSpec.col 0 (by omega) h d)
  keyPrev : ∀ r d : Fin 128, 0 < bn.val →
    kp (ix4 0 0 r d) = x b (⟨(bn.val - 1) * 128 + r.val, by omega⟩ : Fin 2048) (AttnSpec.col 2048 (by omega) h d)
  keyCur : ∀ r d : Fin 128, kc (ix4 0 0 r d) = x b (AttnSpec.row bn r) (AttnSpec.col 2048 (by omega) h d)
  valuePrev : ∀ r d : Fin 128, 0 < bn.val →
    vp (ix4 0 0 r d) = x b (⟨(bn.val - 1) * 128 + r.val, by omega⟩ : Fin 2048) (AttnSpec.col 4096 (by omega) h d)
  valueCur : ∀ r d : Fin 128, vc (ix4 0 0 r d) = x b (AttnSpec.row bn r) (AttnSpec.col 4096 (by omega) h d)

/-- The two key blocks, one after the other. -/
def pair (p c : Vec Ideal S1x1x128x128 .bf16) (d : Fin 128) (j : Fin 256) : EReal :=
  if hj : j.val < 128 then p (ix4 0 0 (⟨j.val, hj⟩ : Fin 128) d) else c (ix4 0 0 (⟨j.val - 128, by omega⟩ : Fin 128) d)

theorem pair_apply (x : Fin 4 → Fin 2048 → Fin 6144 → EReal) (b : Fin 4) (h bn : Fin 16) (o : ℕ) (ho : o ≤ 4096)
    (p c : Vec Ideal S1x1x128x128 .bf16)
    (hp : ∀ r d : Fin 128, 0 < bn.val → p (ix4 0 0 r d) = x b (⟨(bn.val - 1) * 128 + r.val, by omega⟩ : Fin 2048) (AttnSpec.col o ho h d))
    (hc : ∀ r d : Fin 128, c (ix4 0 0 r d) = x b (AttnSpec.row bn r) (AttnSpec.col o ho h d))
    (r : Fin 128) (d : Fin 128) (j : Fin 256) (hj : AttnSpec.seesAt bn r j) :
    pair p c d j = x b (AttnSpec.key bn j) (AttnSpec.col o ho h d) := by
  unfold pair
  obtain ⟨-, h3⟩ := hj
  split_ifs with hlt
  · rw [hp _ _ (by omega)]
    refine congrArg (fun z => x b z (AttnSpec.col o ho h d)) (Fin.ext ?_)
    show (bn.val - 1) * 128 + j.val = bn.val * 128 + j.val - 128
    omega
  · rw [hc]
    refine congrArg (fun z => x b z (AttnSpec.col o ho h d)) (Fin.ext ?_)
    show bn.val * 128 + (j.val - 128) = bn.val * 128 + j.val - 128
    omega

theorem score_words (mask : IVec S128x256 1) (q kp kc : Vec Ideal S1x1x128x128 .bf16) (r : Fin 128) (j : Fin 256) :
    k0_pay8 mask (k0_pay7 q) kp kc (ix2 r j) = Scalar.select (mask (ix2 r j))
      ((∑ d : Fin 128, q (ix4 0 0 r d) * pair kp kc d j) * AttnSpec.scale)
      (Named.named (F := Ideal) Cert.KernelAttnIdeal.κ "mask" (φ := .f32) 0xF149F2CA#32) := by
  pointwise [k0_pay8, k0_pay7]
  rfl

variable {x : Fin 4 → Fin 2048 → Fin 6144 → EReal} {b : Fin 4} {h bn : Fin 16} {q kp kc vp vc : Vec Ideal S1x1x128x128 .bf16}

/-- A score of the block: the scaled product of the row's query and the column's key, minus infinity where not seen. -/
theorem score_apply (hx : AttnSpec.Finite x) (R : Reads x b h bn q kp kc vp vc) (i : grid0.Coords) (hi : (i 2).val = bn.val)
    (r : Fin 128) (j : Fin 256) :
    k0_pay8 (k0_pay4 i) (k0_pay7 q) kp kc (ix2 r j)
      = AttnMath.score (AttnSpec.seesAt bn r) (fun j => AttnSpec.real x b h (AttnSpec.row bn r) (AttnSpec.key bn j)) j := by
  rw [score_words, maskValue, Scalar.select]
  unfold AttnMath.score
  by_cases hj : AttnSpec.seesAt bn r j
  · rw [if_pos hj]
    refine (if_pos ((mask_apply i bn hi r j).2 hj)).trans ?_
    rw [← AttnSpec.raw_real hx]
    unfold AttnSpec.raw
    refine congrArg (· * AttnSpec.scale) (Finset.sum_congr rfl fun d _ => ?_)
    exact congrArg₂ (· * ·) (R.query r d) (pair_apply x b h bn 2048 (by omega) kp kc R.keyPrev R.keyCur r d j hj)
  · rw [if_neg hj]
    exact if_neg fun hh => hj ((mask_apply i bn hi r j).1 hh)

theorem top_steps (mask : IVec S128x256 1) (q : FVec Ideal S128x128 .bf16) (kp kc : Vec Ideal S1x1x128x128 .bf16) (r : Fin 128) :
    k0_pay9 mask q kp kc (ix2 r 0)
      = Finset.univ.fold max (Ideal.ofBits FTy.f32 0xFF800000#32) fun j => k0_pay8 mask q kp kc (ix2 r j) := by
  pointwise [k0_pay9]

/-- The row's maximum. -/
theorem top_apply (hx : AttnSpec.Finite x) (R : Reads x b h bn q kp kc vp vc) (i : grid0.Coords) (hi : (i 2).val = bn.val)
    (r : Fin 128) :
    k0_pay9 (k0_pay4 i) (k0_pay7 q) kp kc (ix2 r 0)
      = AttnMath.top (AttnSpec.seesAt bn r) (fun j => AttnSpec.real x b h (AttnSpec.row bn r) (AttnSpec.key bn j)) := by
  rw [top_steps, AttnSpec.negInf]
  unfold AttnMath.top
  exact congrArg (fun f => Finset.univ.fold max ⊥ f) (funext fun j => score_apply hx R i hi r j)

theorem lse_steps (mask : IVec S128x256 1) (q : FVec Ideal S128x128 .bf16) (kp kc : Vec Ideal S1x1x128x128 .bf16) (r : Fin 128) :
    k0_pay13 mask q kp kc (ix2 r 0) = k0_pay9 mask q kp kc (ix2 r 0)
      + Ideal.log (∑ j, Ideal.exp (k0_pay8 mask q kp kc (ix2 r j) - k0_pay9 mask q kp kc (ix2 r 0))) := by
  pointwise [k0_pay13, k0_pay11, k0_pay10]

/-- The row's log of the sum. -/
theorem lse_apply (hx : AttnSpec.Finite x) (R : Reads x b h bn q kp kc vp vc) (i : grid0.Coords) (hi : (i 2).val = bn.val)
    (r : Fin 128) :
    k0_pay13 (k0_pay4 i) (k0_pay7 q) kp kc (ix2 r 0) = AttnSpec.lse x b h (AttnSpec.row bn r) := by
  rw [lse_steps, top_apply hx R i hi, Finset.sum_congr rfl fun j _ => by rw [score_apply hx R i hi r j],
    AttnMath.running_log _ (AttnSpec.seesAt_self bn r), AttnSpec.denom_block]
  rfl

theorem out_steps (mask : IVec S128x256 1) (q : FVec Ideal S128x128 .bf16) (kp kc vp vc : Vec Ideal S1x1x128x128 .bf16) (r d : Fin 128) :
    k0_pay12 mask q kp kc vp vc (ix2 r d) = Ideal.div
      (∑ j, Ideal.exp (k0_pay8 mask q kp kc (ix2 r j) - k0_pay9 mask q kp kc (ix2 r 0)) * pair vp vc d j)
      (∑ j, Ideal.exp (k0_pay8 mask q kp kc (ix2 r j) - k0_pay9 mask q kp kc (ix2 r 0))) := by
  have hs : (∑ j : Fin 256, Ideal.exp (k0_pay8 mask q kp kc (ix2 r j) - k0_pay9 mask q kp kc (ix2 r 0)) * pair vp vc d j)
      = (∑ j : Fin 128, Ideal.exp (k0_pay8 mask q kp kc (ix2 r (⟨j.val, by omega⟩ : Fin 256)) - k0_pay9 mask q kp kc (ix2 r 0)) * vp (ix4 0 0 j d))
        + ∑ j : Fin 128, Ideal.exp (k0_pay8 mask q kp kc (ix2 r (⟨128 + j.val, by omega⟩ : Fin 256)) - k0_pay9 mask q kp kc (ix2 r 0))
            * vc (ix4 0 0 j d) := by
    refine (Fin.sum_univ_add (a := 128) (b := 128) (fun j : Fin 256 => Ideal.exp (k0_pay8 mask q kp kc (ix2 r j) - k0_pay9 mask q kp kc (ix2 r 0)) * pair vp vc d j)).trans ?_
    refine congrArg₂ (· + ·) (Finset.sum_congr rfl fun j _ => congrArg₂ (· * ·) rfl ?_)
      (Finset.sum_congr rfl fun j _ => congrArg₂ (· * ·) rfl ?_)
    · exact dif_pos (show j.val < 128 from j.isLt)
    · refine (dif_neg (show ¬ 128 + j.val < 128 by omega)).trans ?_
      refine congrArg (fun z => vc (ix4 0 0 z d)) (Fin.ext ?_)
      show 128 + j.val - 128 = j.val
      omega
  rw [hs]
  pointwise [k0_pay12, k0_pay11, k0_pay10]

/-- The row's softmax average. -/
theorem out_apply (hx : AttnSpec.Finite x) (R : Reads x b h bn q kp kc vp vc) (i : grid0.Coords) (hi : (i 2).val = bn.val)
    (r d : Fin 128) :
    k0_pay12 (k0_pay4 i) (k0_pay7 q) kp kc vp vc (ix2 r d) = AttnSpec.avg x b h (AttnSpec.row bn r) d := by
  rw [out_steps, top_apply hx R i hi]
  simp only [score_apply hx R i hi r]
  rw [AttnMath.running_average _ _ (AttnSpec.seesAt_self bn r)]
  exact AttnSpec.average_block b h bn r d _ fun j hj => pair_apply x b h bn 4096 (by omega) vp vc R.valuePrev R.valueCur r d j hj

/-- The mixture with the earlier groups, as the kernel writes it. -/
def merge (o : FVec Ideal S128x128 .f32) (l : FVec Ideal S128x1 .f32) (l0 : FVec Ideal S128x1 .f32) (o0 : Vec Ideal S1x128x128 .f32) :
    FVec Ideal S128x128 .bf16 :=
  k0_pay17 o l (addf (maximumf l0 l) (log (addf (exp (subf l0 (maximumf l0 l))) (exp (subf l (maximumf l0 l))))))
    (exp (subf l0 (addf (maximumf l0 l) (log (addf (exp (subf l0 (maximumf l0 l))) (exp (subf l (maximumf l0 l)))))))) o0

theorem merge_apply (o : FVec Ideal S128x128 .f32) (l : FVec Ideal S128x1 .f32) (l0 : FVec Ideal S128x1 .f32)
    (o0 : Vec Ideal S1x128x128 .f32) (r d : Fin 128) :
    merge o l l0 o0 (ix2 r d) = AttnMath.mix (l0 (ix2 r 0)) (o0 (ix3 0 r d)) (l (ix2 r 0)) (o (ix2 r d)) := by
  unfold AttnMath.mix
  pointwise [merge, k0_pay17]

/-- One head of one block, its log of earlier groups in column `c` of a plane. -/
def head (i : grid0.Coords) (c : ℕ) (hs : S128x128.Slices ![0, c] S128x1) (q kp kc vp vc : Vec Ideal S1x1x128x128 .bf16)
    (l0 : Vec Ideal S1x128x128 .f32) (o0 : Vec Ideal S1x128x128 .f32) : FVec Ideal S128x128 .bf16 :=
  merge (k0_pay12 (k0_pay4 i) (k0_pay7 q) kp kc vp vc) (k0_pay13 (k0_pay4 i) (k0_pay7 q) kp kc)
    (extractStridedSlice S128x1 ![0, c] (k0_pay5 l0) hs) o0

theorem plane_apply (l0 : Vec Ideal S1x128x128 .f32) (c : Fin 8) (hs : S128x128.Slices ![0, c.val] S128x1) (r : Fin 128) :
    extractStridedSlice S128x1 ![0, c.val] (k0_pay5 l0) hs (ix2 r 0) = l0 (ix3 0 r (⟨c.val, by omega⟩ : Fin 128)) := by
  pointwise [k0_pay5]

/-- What a head computes. -/
theorem head_apply (hx : AttnSpec.Finite x) (R : Reads x b h bn q kp kc vp vc) (i : grid0.Coords) (hi : (i 2).val = bn.val)
    (c : Fin 8) (hs : S128x128.Slices ![0, c.val] S128x1) (l0 : Vec Ideal S1x128x128 .f32) (o0 : Vec Ideal S1x128x128 .f32) (r d : Fin 128) :
    head i c.val hs q kp kc vp vc l0 o0 (ix2 r d)
      = AttnMath.mix (l0 (ix3 0 r (⟨c.val, by omega⟩ : Fin 128))) (o0 (ix3 0 r d)) (AttnSpec.lse x b h (AttnSpec.row bn r))
          (AttnSpec.avg x b h (AttnSpec.row bn r) d) := by
  unfold head
  rw [merge_apply, plane_apply, lse_apply hx R i hi, out_apply hx R i hi]

end Cert.AttnHead

end
-- ==== Proof.AttnBlock.lean ====
/-
  The attention kernel's grid: which part of each argument a grid point reads. Point `t` is row block `t % 16` of sample `t / 16`.
-/
module

public import proofs.«01_k».proof.Defs
public import proofs.«01_k».proof.Proof.Gen.KernelAttnIdeal.Value
public import proofs.«01_k».proof.Proof.AttnHead
public import Idealize.ShloMosaic.Lib.Pointwise
public import Idealize.ShloMosaic.Lib.Pipeline.ValueKit

@[expose] public section

set_option maxRecDepth 16384

noncomputable section

namespace Cert.AttnBlock

open Cert.KernelAttnIdeal Cert.KernelAttnIdeal.Gen Idealize.ShloMosaic Idealize.ShloMosaic.TcCoe Idealize.SL.Sem

variable (m : (ℓ : Loc nD τ sig) → Buf (Elt Ideal) ℓ)

/-- Where a point's query, key and value blocks lie: column block 0 holds queries, 1 keys, 2 values; the previous row
    block is clamped at the first. -/
theorem qkv_facts : ∀ t : Fin cfg0.N,
    (win0_0.index t (0 : Fin 4) = t.val / 16 ∧ win0_0.index t (1 : Fin 4) = 0 ∧ win0_0.index t (2 : Fin 4) = t.val % 16 ∧ win0_0.index t (3 : Fin 4) = 0)
    ∧ (win0_1.index t (0 : Fin 4) = t.val / 16 ∧ win0_1.index t (1 : Fin 4) = 0 ∧ win0_1.index t (2 : Fin 4) = t.val % 16 ∧ win0_1.index t (3 : Fin 4) = 1)
    ∧ (win0_2.index t (0 : Fin 4) = t.val / 16 ∧ win0_2.index t (1 : Fin 4) = 0 ∧ win0_2.index t (2 : Fin 4) = t.val % 16 - 1 ∧ win0_2.index t (3 : Fin 4) = 1)
    ∧ (win0_3.index t (0 : Fin 4) = t.val / 16 ∧ win0_3.index t (1 : Fin 4) = 0 ∧ win0_3.index t (2 : Fin 4) = t.val % 16 ∧ win0_3.index t (3 : Fin 4) = 2)
    ∧ (win0_4.index t (0 : Fin 4) = t.val / 16 ∧ win0_4.index t (1 : Fin 4) = 0 ∧ win0_4.index t (2 : Fin 4) = t.val % 16 - 1 ∧ win0_4.index t (3 : Fin 4) = 2) :=
  (by decide +kernel : ∀ t : Fin grid0.N, _)

/-- Where a point's rows of the earlier groups' state lie, and its rows of the result. -/
theorem state_facts : ∀ t : Fin cfg0.N,
    (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0)
    ∧ (win0_9.index t (0 : Fin 2) = t.val ∧ win0_9.index t (1 : Fin 2) = 0)
    ∧ ((grid0.coords t) 2).val = t.val % 16 :=
  (by decide +kernel : ∀ t : Fin grid0.N, _)

/-- Where a point's rows of the cache lie: half a sample's rows, one row on (the last half starts on its own first row). -/
theorem cache_facts : ∀ t : Fin cfg0.N,
    (cc0_transform_7 (grid0.coords t) (0 : Fin 6) = t.val / 2 ∧ cc0_transform_7 (grid0.coords t) (1 : Fin 6) = (if t.val % 2 = 1 then 64 else 1)
      ∧ cc0_transform_7 (grid0.coords t) (2 : Fin 6) = 0 ∧ cc0_transform_7 (grid0.coords t) (3 : Fin 6) = 0
      ∧ cc0_transform_7 (grid0.coords t) (4 : Fin 6) = 0 ∧ cc0_transform_7 (grid0.coords t) (5 : Fin 6) = 0)
    ∧ (win0_8.index t (0 : Fin 6) = t.val / 2 ∧ win0_8.index t (1 : Fin 6) = 0
      ∧ win0_8.index t (2 : Fin 6) = 0 ∧ win0_8.index t (3 : Fin 6) = 0 ∧ win0_8.index t (4 : Fin 6) = 0 ∧ win0_8.index t (5 : Fin 6) = 0)
    ∧ (win0_10.index t (0 : Fin 6) = t.val / 2 ∧ win0_10.index t (1 : Fin 6) = t.val % 2
      ∧ win0_10.index t (2 : Fin 6) = 0 ∧ win0_10.index t (3 : Fin 6) = 0 ∧ win0_10.index t (4 : Fin 6) = 0 ∧ win0_10.index t (5 : Fin 6) = 0) :=
  (by decide +kernel : ∀ t : Fin grid0.N, _)

/-- A query, read off the projection. -/
theorem query_apply (c : Dev nD) (t : Fin cfg0.N) (r : Fin 128) (k : Fin 2048) (b : Fin 4) (R : Fin 2048) (K : Fin 6144)
    (hb : b.val = t.val / 16) (hR : R.val = t.val % 16 * 128 + r.val) (hK : K.val = k.val) :
    iblk m c 0 t (ix4 0 0 r k) = m ((c : Thread nD τ).loc main_arg0) (ix4 b 0 R K) := by
  obtain ⟨⟨e0, e1, e2, e3⟩, -⟩ := qkv_facts t
  show m ((c : Thread nD τ).loc main_arg0) (((cfg0.win 0).blk t).view.emb (ix4 0 0 r k)) = _
  refine congrArg _ (funext fun a => Fin.ext ?_)
  match a with
  | ⟨0, _⟩ => show win0_0.index t (0 : Fin 4) * 1 + 1 * 0 = b.val; rw [e0]; omega
  | ⟨1, _⟩ => show win0_0.index t (1 : Fin 4) * 1 + 1 * 0 = 0; rw [e1]
  | ⟨2, _⟩ => show win0_0.index t (2 : Fin 4) * 128 + 1 * r.val = R.val; rw [e2]; omega
  | ⟨3, _⟩ => show win0_0.index t (3 : Fin 4) * 2048 + 1 * k.val = K.val; rw [e3]; omega

/-- A key of the point's own rows. -/
theorem keyCur_apply (c : Dev nD) (t : Fin cfg0.N) (r : Fin 128) (k : Fin 2048) (b : Fin 4) (R : Fin 2048) (K : Fin 6144)
    (hb : b.val = t.val / 16) (hR : R.val = t.val % 16 * 128 + r.val) (hK : K.val = 2048 + k.val) :
    iblk m c 1 t (ix4 0 0 r k) = m ((c : Thread nD τ).loc main_arg0) (ix4 b 0 R K) := by
  obtain ⟨-, ⟨e0, e1, e2, e3⟩, -⟩ := qkv_facts t
  show m ((c : Thread nD τ).loc main_arg0) (((cfg0.win 1).blk t).view.emb (ix4 0 0 r k)) = _
  refine congrArg _ (funext fun a => Fin.ext ?_)
  match a with
  | ⟨0, _⟩ => show win0_1.index t (0 : Fin 4) * 1 + 1 * 0 = b.val; rw [e0]; omega
  | ⟨1, _⟩ => show win0_1.index t (1 : Fin 4) * 1 + 1 * 0 = 0; rw [e1]
  | ⟨2, _⟩ => show win0_1.index t (2 : Fin 4) * 128 + 1 * r.val = R.val; rw [e2]; omega
  | ⟨3, _⟩ => show win0_1.index t (3 : Fin 4) * 2048 + 1 * k.val = K.val; rw [e3]; omega

/-- A key of the rows before. -/
theorem keyPrev_apply (c : Dev nD) (t : Fin cfg0.N) (r : Fin 128) (k : Fin 2048) (b : Fin 4) (R : Fin 2048) (K : Fin 6144)
    (hb : b.val = t.val / 16) (hR : R.val = (t.val % 16 - 1) * 128 + r.val) (hK : K.val = 2048 + k.val) :
    iblk m c 2 t (ix4 0 0 r k) = m ((c : Thread nD τ).loc main_arg0) (ix4 b 0 R K) := by
  obtain ⟨-, -, ⟨e0, e1, e2, e3⟩, -⟩ := qkv_facts t
  show m ((c : Thread nD τ).loc main_arg0) (((cfg0.win 2).blk t).view.emb (ix4 0 0 r k)) = _
  refine congrArg _ (funext fun a => Fin.ext ?_)
  match a with
  | ⟨0, _⟩ => show win0_2.index t (0 : Fin 4) * 1 + 1 * 0 = b.val; rw [e0]; omega
  | ⟨1, _⟩ => show win0_2.index t (1 : Fin 4) * 1 + 1 * 0 = 0; rw [e1]
  | ⟨2, _⟩ => show win0_2.index t (2 : Fin 4) * 128 + 1 * r.val = R.val; rw [e2]; omega
  | ⟨3, _⟩ => show win0_2.index t (3 : Fin 4) * 2048 + 1 * k.val = K.val; rw [e3]; omega

/-- A value of the point's own rows. -/
theorem valueCur_apply (c : Dev nD) (t : Fin cfg0.N) (r : Fin 128) (k : Fin 2048) (b : Fin 4) (R : Fin 2048) (K : Fin 6144)
    (hb : b.val = t.val / 16) (hR : R.val = t.val % 16 * 128 + r.val) (hK : K.val = 4096 + k.val) :
    iblk m c 3 t (ix4 0 0 r k) = m ((c : Thread nD τ).loc main_arg0) (ix4 b 0 R K) := by
  obtain ⟨-, -, -, ⟨e0, e1, e2, e3⟩, -⟩ := qkv_facts t
  show m ((c : Thread nD τ).loc main_arg0) (((cfg0.win 3).blk t).view.emb (ix4 0 0 r k)) = _
  refine congrArg _ (funext fun a => Fin.ext ?_)
  match a with
  | ⟨0, _⟩ => show win0_3.index t (0 : Fin 4) * 1 + 1 * 0 = b.val; rw [e0]; omega
  | ⟨1, _⟩ => show win0_3.index t (1 : Fin 4) * 1 + 1 * 0 = 0; rw [e1]
  | ⟨2, _⟩ => show win0_3.index t (2 : Fin 4) * 128 + 1 * r.val = R.val; rw [e2]; omega
  | ⟨3, _⟩ => show win0_3.index t (3 : Fin 4) * 2048 + 1 * k.val = K.val; rw [e3]; omega

/-- A value of the rows before. -/
theorem valuePrev_apply (c : Dev nD) (t : Fin cfg0.N) (r : Fin 128) (k : Fin 2048) (b : Fin 4) (R : Fin 2048) (K : Fin 6144)
    (hb : b.val = t.val / 16) (hR : R.val = (t.val % 16 - 1) * 128 + r.val) (hK : K.val = 4096 + k.val) :
    iblk m c 4 t (ix4 0 0 r k) = m ((c : Thread nD τ).loc main_arg0) (ix4 b 0 R K) := by
  obtain ⟨-, -, -, -, ⟨e0, e1, e2, e3⟩⟩ := qkv_facts t
  show m ((c : Thread nD τ).loc main_arg0) (((cfg0.win 4).blk t).view.emb (ix4 0 0 r k)) = _
  refine congrArg _ (funext fun a => Fin.ext ?_)
  match a with
  | ⟨0, _⟩ => show win0_4.index t (0 : Fin 4) * 1 + 1 * 0 = b.val; rw [e0]; omega
  | ⟨1, _⟩ => show win0_4.index t (1 : Fin 4) * 1 + 1 * 0 = 0; rw [e1]
  | ⟨2, _⟩ => show win0_4.index t (2 : Fin 4) * 128 + 1 * r.val = R.val; rw [e2]; omega
  | ⟨3, _⟩ => show win0_4.index t (3 : Fin 4) * 2048 + 1 * k.val = K.val; rw [e3]; omega

/-- The earlier groups' average. -/
theorem before_apply (c : Dev nD) (t : Fin cfg0.N) (h : Fin 16) (r d : Fin 128) (R : Fin 8192) (hR : R.val = t.val * 128 + r.val) :
    iblk m c 5 t (ix3 h r d) = m ((c : Thread nD τ).loc main_arg1) (ix3 h R d) := by
  obtain ⟨⟨e0, e1, e2⟩, -⟩ := state_facts t
  show m ((c : Thread nD τ).loc main_arg1) (((cfg0.win 5).blk t).view.emb (ix3 h r d)) = _
  refine congrArg _ (funext fun a => Fin.ext ?_)
  match a with
  | ⟨0, _⟩ => show win0_5.index t (0 : Fin 3) * 16 + 1 * h.val = h.val; rw [e0]; omega
  | ⟨1, _⟩ => show win0_5.index t (1 : Fin 3) * 128 + 1 * r.val = R.val; rw [e1]; omega
  | ⟨2, _⟩ => show win0_5.index t (2 : Fin 3) * 128 + 1 * d.val = d.val; rw [e2]; omega

/-- The earlier groups' log of the sum. -/
theorem log_apply (c : Dev nD) (t : Fin cfg0.N) (p : Fin 2) (r l : Fin 128) (R : Fin 8192) (hR : R.val = t.val * 128 + r.val) :
    iblk m c 6 t (ix3 p r l) = m ((c : Thread nD τ).loc main_arg2) (ix3 p R l) := by
  obtain ⟨-, ⟨e0, e1, e2⟩, -⟩ := state_facts t
  show m ((c : Thread nD τ).loc main_arg2) (((cfg0.win 6).blk t).view.emb (ix3 p r l)) = _
  refine congrArg _ (funext fun a => Fin.ext ?_)
  match a with
  | ⟨0, _⟩ => show win0_6.index t (0 : Fin 3) * 2 + 1 * p.val = p.val; rw [e0]; omega
  | ⟨1, _⟩ => show win0_6.index t (1 : Fin 3) * 128 + 1 * r.val = R.val; rw [e1]; omega
  | ⟨2, _⟩ => show win0_6.index t (2 : Fin 3) * 128 + 1 * l.val = l.val; rw [e2]; omega

/-- The projection as a function of sample, row and column. -/
abbrev proj (c : Dev nD) : Fin 4 → Fin 2048 → Fin 6144 → EReal :=
  fun b n k => (m ((c : Thread nD τ).loc main_arg0) : FVec Ideal S4x1x2048x6144 .bf16) (ix4 b 0 n k)

/-- A head's blocks hold its rows of the projection. -/
theorem reads (c : Dev nD) (t : Fin cfg0.N) (b : Fin 4) (h bn : Fin 16) (hb : b.val = t.val / 16) (hbn : bn.val = t.val % 16)
    (q kp kc vp vc : Vec Ideal S1x1x128x128 .bf16) (k : Fin 128 → Fin 2048) (hk : ∀ d, (k d).val = h.val * 128 + d.val)
    (hq : ∀ r d : Fin 128, q (ix4 0 0 r d) = iblk m c 0 t (ix4 0 0 r (k d)))
    (hkc : ∀ r d : Fin 128, kc (ix4 0 0 r d) = iblk m c 1 t (ix4 0 0 r (k d)))
    (hkp : ∀ r d : Fin 128, kp (ix4 0 0 r d) = iblk m c 2 t (ix4 0 0 r (k d)))
    (hvc : ∀ r d : Fin 128, vc (ix4 0 0 r d) = iblk m c 3 t (ix4 0 0 r (k d)))
    (hvp : ∀ r d : Fin 128, vp (ix4 0 0 r d) = iblk m c 4 t (ix4 0 0 r (k d))) :
    AttnHead.Reads (proj m c) b h bn q kp kc vp vc where
  query r d := (hq r d).trans (query_apply m c t r (k d) b _ _ hb (by show bn.val * 128 + r.val = _; rw [hbn]) (by show 0 + h.val * 128 + d.val = _; rw [hk]; omega))
  keyCur r d := (hkc r d).trans (keyCur_apply m c t r (k d) b _ _ hb (by show bn.val * 128 + r.val = _; rw [hbn]) (by show 2048 + h.val * 128 + d.val = _; rw [hk]; omega))
  keyPrev r d _ := (hkp r d).trans (keyPrev_apply m c t r (k d) b _ _ hb (by show (bn.val - 1) * 128 + r.val = _; rw [hbn]) (by show 2048 + h.val * 128 + d.val = _; rw [hk]; omega))
  valueCur r d := (hvc r d).trans (valueCur_apply m c t r (k d) b _ _ hb (by show bn.val * 128 + r.val = _; rw [hbn]) (by show 4096 + h.val * 128 + d.val = _; rw [hk]; omega))
  valuePrev r d _ := (hvp r d).trans (valuePrev_apply m c t r (k d) b _ _ hb (by show (bn.val - 1) * 128 + r.val = _; rw [hbn]) (by show 4096 + h.val * 128 + d.val = _; rw [hk]; omega))

end Cert.AttnBlock

end
-- ==== Proof.AttnArray.lean ====
/-
  The attention kernel's first result: the merged output of every row and head, as the pipeline leaves it.
-/
module

public import proofs.«01_k».proof.Defs
public import proofs.«01_k».proof.Proof.Gen.KernelAttnIdeal.Value
public import proofs.«01_k».proof.Proof.AttnBlock
public import Idealize.ShloMosaic.Lib.Pointwise
public import Idealize.ShloMosaic.Lib.Pipeline.ValueKit

@[expose] public section

set_option maxRecDepth 16384

noncomputable section

namespace Cert.AttnArray

open Cert.KernelAttnIdeal Cert.KernelAttnIdeal.Gen Idealize.ShloMosaic Idealize.ShloMosaic.TcCoe Idealize.SL.Sem

variable (m : (ℓ : Loc nD τ sig) → Buf (Elt Ideal) ℓ)

/-- The earlier groups' averages and logs of sums. -/
abbrev avgs (c : Dev nD) : FVec Ideal S16x8192x128 .f32 := m ((c : Thread nD τ).loc main_arg1)
abbrev logs (c : Dev nD) : FVec Ideal S2x8192x128 .f32 := m ((c : Thread nD τ).loc main_arg2)

/-- The merged attention of row `n` of sample `b`, head `h`, lane `d`; `R` is the row among all samples'. -/
def entry (c : Dev nD) (b : Fin 4) (n : Fin 2048) (R : Fin 8192) (h : Fin 16) (d : Fin 128) : EReal :=
  AttnMath.mix (logs m c (ix3 (⟨h.val / 8, by omega⟩ : Fin 2) R (⟨h.val % 8, by omega⟩ : Fin 128)))
    (avgs m c (ix3 h R d)) (AttnSpec.lse (AttnBlock.proj m c) b h n) (AttnSpec.avg (AttnBlock.proj m c) b h n d)

theorem entry_congr (c : Dev nD) {b b' : Fin 4} {n n' : Fin 2048} {R R' : Fin 8192} {h h' : Fin 16} {d d' : Fin 128}
    (eb : b.val = b'.val) (en : n.val = n'.val) (eR : R.val = R'.val) (eh : h.val = h'.val) (ed : d.val = d'.val) :
    entry m c b n R h d = entry m c b' n' R' h' d' := by
  obtain rfl := Fin.ext eb; obtain rfl := Fin.ext en; obtain rfl := Fin.ext eR; obtain rfl := Fin.ext eh; obtain rfl := Fin.ext ed; rfl

/-- The whole result. -/
def merged (c : Dev nD) : FVec Ideal S8192x2048 .bf16 := fun y =>
  entry m c ⟨(y 0).val / 2048, Nat.div_lt_of_lt_mul (y 0).isLt⟩ ⟨(y 0).val % 2048, Nat.mod_lt _ (by decide)⟩ ⟨(y 0).val, (y 0).isLt⟩
    ⟨(y 1).val / 128, Nat.div_lt_of_lt_mul (y 1).isLt⟩ ⟨(y 1).val % 128, Nat.mod_lt _ (by decide)⟩

/-- One head's tile of the block of a grid point. -/
theorem tile (c : Dev nD) (hx : AttnSpec.Finite (AttnBlock.proj m c)) (t : Fin cfg0.N) (h : Fin 16) (p : Fin 2) (l : Fin 8)
    (hh : h.val = p.val * 8 + l.val) (o : ℕ) (ho : o = h.val * 128)
    (hn pn ln : ℕ) (ehn : hn = h.val) (epn : pn = p.val) (eln : ln = l.val) (hs : S128x128.Slices ![0, ln] S128x1)
    (inb : ∀ a, (![0, 0, 0, o] : Fin 4 → ℕ) a + (![1, 1, 128, 128] : Fin 4 → ℕ) a ≤ S1x1x128x2048.size a)
    (inbO : ∀ a, (![hn, 0, 0] : Fin 3 → ℕ) a + (![1, 128, 128] : Fin 3 → ℕ) a ≤ S16x128x128.size a)
    (inbL : ∀ a, (![pn, 0, 0] : Fin 3 → ℕ) a + (![1, 128, 128] : Fin 3 → ℕ) a ≤ S2x128x128.size a)
    (x : S128x128.Idx) (Y : S8192x2048.Idx) (h0 : (Y 0).val = t.val * 128 + (x 0).val) (h1 : (Y 1).val = o + (x 1).val) :
    AttnHead.head (grid0.coords t) ln hs
      (View.ld (iblk m c 0 t) (Rect.unit ![0, 0, 0, o] ![1, 1, 128, 128] inb))
      (View.ld (iblk m c 2 t) (Rect.unit ![0, 0, 0, o] ![1, 1, 128, 128] inb))
      (View.ld (iblk m c 1 t) (Rect.unit ![0, 0, 0, o] ![1, 1, 128, 128] inb))
      (View.ld (iblk m c 4 t) (Rect.unit ![0, 0, 0, o] ![1, 1, 128, 128] inb))
      (View.ld (iblk m c 3 t) (Rect.unit ![0, 0, 0, o] ![1, 1, 128, 128] inb))
      (View.ld (iblk m c 6 t) (Rect.unit ![pn, 0, 0] ![1, 128, 128] inbL))
      (View.ld (iblk m c 5 t) (Rect.unit ![hn, 0, 0] ![1, 128, 128] inbO)) x = merged m c Y := by
  subst ehn epn eln
  have ht : t.val < 64 := lt_of_lt_of_le t.isLt (le_of_eq (by decide))
  have hl := l.isLt
  have hp := p.isLt
  have hhl := h.isLt
  have hb : t.val / 16 < 4 := by omega
  have hx0 : (x 0).val < 128 := (x 0).isLt
  have hx1 : (x 1).val < 128 := (x 1).isLt
  obtain ⟨r, d, rfl⟩ : ∃ r d : Fin 128, x = ix2 r d := ⟨x 0, x 1, eq_ix2 _⟩
  change (Y 0).val = t.val * 128 + r.val at h0
  change (Y 1).val = o + d.val at h1
  have hk : ∀ (w : Vec Ideal S1x1x128x2048 .bf16) (r d : Fin 128),
      View.ld w (Rect.unit ![0, 0, 0, o] ![1, 1, 128, 128] inb) (ix4 0 0 r d)
        = w (ix4 0 0 r (⟨h.val * 128 + d.val, by omega⟩ : Fin 2048)) := fun w r d => by
    refine View.ld_unit_apply_of _ _ _ _ _ _ fun a => ?_
    match a with
    | ⟨0, _⟩ => rfl
    | ⟨1, _⟩ => rfl
    | ⟨2, _⟩ => show r.val = 0 + r.val; omega
    | ⟨3, _⟩ => show h.val * 128 + d.val = o + d.val; omega
  have R := AttnBlock.reads m c t ⟨t.val / 16, hb⟩ h ⟨t.val % 16, by omega⟩ rfl rfl _ _ _ _ _
    (fun d => (⟨h.val * 128 + d.val, by omega⟩ : Fin 2048)) (fun _ => rfl) (hk _) (hk _) (hk _) (hk _) (hk _)
  refine (AttnHead.head_apply hx R (grid0.coords t) (AttnBlock.state_facts t).2.2.2 l hs _ _ r d).trans ?_
  have eO : View.ld (iblk m c 5 t) (Rect.unit ![h.val, 0, 0] ![1, 128, 128] inbO) (ix3 0 r d)
      = iblk m c 5 t (ix3 h r d) := by
    refine View.ld_unit_apply_of _ _ _ _ _ _ fun a => ?_
    match a with
    | ⟨0, _⟩ => rfl
    | ⟨1, _⟩ => show r.val = 0 + r.val; omega
    | ⟨2, _⟩ => show d.val = 0 + d.val; omega
  have eL : View.ld (iblk m c 6 t) (Rect.unit ![p.val, 0, 0] ![1, 128, 128] inbL) (ix3 0 r (⟨l.val, by omega⟩ : Fin 128))
      = iblk m c 6 t (ix3 p r (⟨l.val, by omega⟩ : Fin 128)) := by
    refine View.ld_unit_apply_of _ _ _ _ _ _ fun a => ?_
    match a with
    | ⟨0, _⟩ => rfl
    | ⟨1, _⟩ => show r.val = 0 + r.val; omega
    | ⟨2, _⟩ => show l.val = 0 + l.val; omega
  rw [eO, eL, AttnBlock.before_apply m c t h r d ⟨t.val * 128 + r.val, by omega⟩ rfl,
    AttnBlock.log_apply m c t p r _ ⟨t.val * 128 + r.val, by omega⟩ rfl]
  refine Eq.trans ?_ (entry_congr m c (b := ⟨t.val / 16, hb⟩) (n := AttnSpec.row ⟨t.val % 16, by omega⟩ r)
    (R := ⟨t.val * 128 + r.val, by omega⟩) (h := h) (d := d) ?_ ?_ ?_ ?_ ?_)
  · unfold entry
    have ep : p = (⟨h.val / 8, by omega⟩ : Fin 2) := Fin.ext (by show p.val = h.val / 8; omega)
    have el : (⟨l.val, by omega⟩ : Fin 128) = (⟨h.val % 8, by omega⟩ : Fin 128) := Fin.ext (by show l.val = h.val % 8; omega)
    rw [← ep, ← el]
  · show t.val / 16 = (Y 0).val / 2048; omega
  · show t.val % 16 * 128 + r.val = (Y 0).val % 2048; omega
  · show t.val * 128 + r.val = (Y 0).val; omega
  · show h.val = (Y 1).val / 128; omega
  · show d.val = (Y 1).val % 128; omega

set_option maxHeartbeats 4000000 in
/-- The block an even grid point leaves. -/
theorem block_even (c : Dev nD) (hx : AttnSpec.Finite (AttnBlock.proj m c)) (t : Fin cfg0.N) (hc : ¬t.val % 2 = 1) (y : S128x2048.Idx)
    (Y : S8192x2048.Idx) (h0 : (Y 0).val = t.val * 128 + (y 0).val) (h1 : (Y 1).val = (y 1).val) :
    (outsAt0 m c t.val t.isLt).1 y = merged m c Y := by
  rw [outsAt0_A m c t hc]
  frame_out
  canon_tiles x hy
  case piece0 =>
    have e := tile m c hx t 15 1 7 rfl 1920 rfl 15 1 7 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece1 =>
    have e := tile m c hx t 14 1 6 rfl 1792 rfl 14 1 6 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece2 =>
    have e := tile m c hx t 13 1 5 rfl 1664 rfl 13 1 5 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece3 =>
    have e := tile m c hx t 12 1 4 rfl 1536 rfl 12 1 4 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece4 =>
    have e := tile m c hx t 11 1 3 rfl 1408 rfl 11 1 3 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece5 =>
    have e := tile m c hx t 10 1 2 rfl 1280 rfl 10 1 2 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece6 =>
    have e := tile m c hx t 9 1 1 rfl 1152 rfl 9 1 1 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece7 =>
    have e := tile m c hx t 8 1 0 rfl 1024 rfl 8 1 0 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece8 =>
    have e := tile m c hx t 7 0 7 rfl 896 rfl 7 0 7 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece9 =>
    have e := tile m c hx t 6 0 6 rfl 768 rfl 6 0 6 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece10 =>
    have e := tile m c hx t 5 0 5 rfl 640 rfl 5 0 5 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece11 =>
    have e := tile m c hx t 4 0 4 rfl 512 rfl 4 0 4 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece12 =>
    have e := tile m c hx t 3 0 3 rfl 384 rfl 3 0 3 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece13 =>
    have e := tile m c hx t 2 0 2 rfl 256 rfl 2 0 2 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece14 =>
    have e := tile m c hx t 1 0 1 rfl 128 rfl 1 0 1 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece15 =>
    have e := tile m c hx t 0 0 0 rfl 0 rfl 0 0 0 rfl rfl rfl (by decide) (by decide) (by decide) (by decide) x Y
      (by rw [h0, hy0]) (by rw [h1, hy1]; exact (Nat.zero_add _).symm)
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e

set_option maxHeartbeats 4000000 in
/-- The block an odd grid point leaves. -/
theorem block_odd (c : Dev nD) (hx : AttnSpec.Finite (AttnBlock.proj m c)) (t : Fin cfg0.N) (hc : t.val % 2 = 1) (y : S128x2048.Idx)
    (Y : S8192x2048.Idx) (h0 : (Y 0).val = t.val * 128 + (y 0).val) (h1 : (Y 1).val = (y 1).val) :
    (outsAt0 m c t.val t.isLt).1 y = merged m c Y := by
  rw [outsAt0_B m c t hc]
  frame_out
  canon_tiles x hy
  case piece0 =>
    have e := tile m c hx t 15 1 7 rfl 1920 rfl 15 1 7 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece1 =>
    have e := tile m c hx t 14 1 6 rfl 1792 rfl 14 1 6 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece2 =>
    have e := tile m c hx t 13 1 5 rfl 1664 rfl 13 1 5 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece3 =>
    have e := tile m c hx t 12 1 4 rfl 1536 rfl 12 1 4 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece4 =>
    have e := tile m c hx t 11 1 3 rfl 1408 rfl 11 1 3 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece5 =>
    have e := tile m c hx t 10 1 2 rfl 1280 rfl 10 1 2 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece6 =>
    have e := tile m c hx t 9 1 1 rfl 1152 rfl 9 1 1 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece7 =>
    have e := tile m c hx t 8 1 0 rfl 1024 rfl 8 1 0 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece8 =>
    have e := tile m c hx t 7 0 7 rfl 896 rfl 7 0 7 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece9 =>
    have e := tile m c hx t 6 0 6 rfl 768 rfl 6 0 6 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece10 =>
    have e := tile m c hx t 5 0 5 rfl 640 rfl 5 0 5 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece11 =>
    have e := tile m c hx t 4 0 4 rfl 512 rfl 4 0 4 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece12 =>
    have e := tile m c hx t 3 0 3 rfl 384 rfl 3 0 3 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece13 =>
    have e := tile m c hx t 2 0 2 rfl 256 rfl 2 0 2 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece14 =>
    have e := tile m c hx t 1 0 1 rfl 128 rfl 1 0 1 rfl rfl rfl (by decide) (by decide) (by decide) (by decide) x Y
      (by rw [h0, hy0]) (by rw [h1, hy1])
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e
  case piece15 =>
    have e := tile m c hx t 0 0 0 rfl 0 rfl 0 0 0 rfl rfl rfl (by decide) (by decide) (by decide) (by decide) x Y
      (by rw [h0, hy0]) (by rw [h1, hy1]; exact (Nat.zero_add _).symm)
    dsimp only [AttnHead.head, AttnHead.merge, k0_pay4, k0_pay5, k0_pay7, k0_pay8, k0_pay9, k0_pay10, k0_pay11,
      k0_pay12, k0_pay13, k0_pay17] at e
    repeat erw [Memref.IsWhole.read_unread]
    open_payloads
    exact e

/-- The block a grid point leaves. -/
theorem block (c : Dev nD) (hx : AttnSpec.Finite (AttnBlock.proj m c)) (t : Fin cfg0.N) (y : S128x2048.Idx)
    (Y : S8192x2048.Idx) (h0 : (Y 0).val = t.val * 128 + (y 0).val) (h1 : (Y 1).val = (y 1).val) :
    (outsAt0 m c t.val t.isLt).1 y = merged m c Y := by
  by_cases hc : t.val % 2 = 1
  · exact block_odd m c hx t hc y Y h0 h1
  · exact block_even m c hx t hc y Y h0 h1

/-- The result the run leaves. -/
theorem value (c : Dev nD) (hx : AttnSpec.Finite (AttnBlock.proj m c)) : (dats m 0 c).arrAt 9 cfg0.N = merged m c := by
  refine (dats m 0 c).arrAt_eq_of_covers 9 _ (by decide +kernel) fun t hf y => ?_
  blk_simp
  rw [after0_9]
  obtain ⟨-, -, ⟨e0, e1⟩, -⟩ := AttnBlock.state_facts t
  refine block m c hx t y _ ?_ ?_
  · show win0_9.index t (0 : Fin 2) * 128 + 1 * (y 0).val = t.val * 128 + (y 0).val; rw [e0]; omega
  · show win0_9.index t (1 : Fin 2) * 2048 + 1 * (y 1).val = (y 1).val; rw [e1]; omega

end Cert.AttnArray

end
-- ==== Proof.AttnCache.lean ====
/-
  The attention kernel's second result: the cache of the next group moved on by one step.
-/
module

public import proofs.«01_k».proof.Defs
public import proofs.«01_k».proof.Proof.Gen.KernelAttnIdeal.Value
public import proofs.«01_k».proof.Proof.AttnBlock
public import Idealize.ShloMosaic.Lib.Pointwise
public import Idealize.ShloMosaic.Lib.Claim
public import Idealize.ShloMosaic.Lib.Pipeline.ValueKit

@[expose] public section

set_option maxRecDepth 16384

noncomputable section

namespace Cert.AttnCache

open Cert.KernelAttnIdeal Cert.KernelAttnIdeal.Gen Idealize.ShloMosaic Idealize.ShloMosaic.TcCoe Idealize.SL.Sem

variable (m : (ℓ : Loc nD τ sig) → Buf (Elt Ideal) ℓ)

/-- The cache and the new rows. -/
abbrev cache (c : Dev nD) : FVec Ideal S32x512x2x16x128 .f32 := m ((c : Thread nD τ).loc main_arg3)
abbrev fresh (c : Dev nD) : FVec Ideal S32x4x2x16x128 .f32 := m ((c : Thread nD τ).loc main_arg4)

/-- The cache in rows of four. -/
theorem cache_view (c : Dev nD) (s : Fin 32) (i : Fin 128) (j : Fin 4) (e : Fin 2) (h : Fin 16) (d : Fin 128) :
    (V m c main_v0 : Vec Ideal S32x128x4x2x16x128 .f32) (ix6 s i j e h d)
      = cache m c (ix5 s (⟨i.val * 4 + j.val, by omega⟩ : Fin 512) e h d) := by
  entry_read
  pointwise

/-- The new rows as one row of four. -/
theorem fresh_view (c : Dev nD) (s : Fin 32) (j : Fin 4) (e : Fin 2) (h : Fin 16) (d : Fin 128) :
    (V m c main_v1 : Vec Ideal S32x1x4x2x16x128 .f32) (ix6 s 0 j e h d) = fresh m c (ix5 s j e h d) := by
  entry_read
  pointwise

/-- A point's half of the cache, read off the whole. -/
theorem cache_apply (c : Dev nD) (t : Fin cfg0.N) (p : Fin 64) (j : Fin 4) (e : Fin 2) (h : Fin 16) (d : Fin 128) (s : Fin 32) (K : Fin 512)
    (hs : s.val = t.val / 2) (hK : K.val = ((if t.val % 2 = 1 then 64 else 1) + p.val) * 4 + j.val) :
    iblk m c 7 t (ix6 0 p j e h d) = cache m c (ix5 s K e h d) := by
  obtain ⟨⟨e0, e1, e2, e3, e4, e5⟩, -⟩ := AttnBlock.cache_facts t
  have hi : (if t.val % 2 = 1 then 64 else 1) + p.val < 128 := by split_ifs <;> omega
  have hv := cache_view m c s ⟨(if t.val % 2 = 1 then 64 else 1) + p.val, hi⟩ j e h d
  rw [show (⟨((if t.val % 2 = 1 then 64 else 1) + p.val) * 4 + j.val, by omega⟩ : Fin 512) = K from Fin.ext hK.symm] at hv
  rw [← hv]
  show (V m c main_v0 : Vec Ideal S32x128x4x2x16x128 .f32) (((cfg0.win 7).blk t).view.emb (ix6 0 p j e h d)) = _
  refine congrArg _ (funext fun a => Fin.ext ?_)
  match a with
  | ⟨0, _⟩ => show cc0_transform_7 (grid0.coords t) (0 : Fin 6) + 1 * 0 = s.val; rw [e0]; omega
  | ⟨1, _⟩ => show cc0_transform_7 (grid0.coords t) (1 : Fin 6) + 1 * p.val = (if t.val % 2 = 1 then 64 else 1) + p.val; rw [e1]; omega
  | ⟨2, _⟩ => show cc0_transform_7 (grid0.coords t) (2 : Fin 6) + 1 * j.val = j.val; rw [e2]; omega
  | ⟨3, _⟩ => show cc0_transform_7 (grid0.coords t) (3 : Fin 6) + 1 * e.val = e.val; rw [e3]; omega
  | ⟨4, _⟩ => show cc0_transform_7 (grid0.coords t) (4 : Fin 6) + 1 * h.val = h.val; rw [e4]; omega
  | ⟨5, _⟩ => show cc0_transform_7 (grid0.coords t) (5 : Fin 6) + 1 * d.val = d.val; rw [e5]; omega

/-- A point's new rows, read off the whole. -/
theorem fresh_apply (c : Dev nD) (t : Fin cfg0.N) (j : Fin 4) (e : Fin 2) (h : Fin 16) (d : Fin 128) (s : Fin 32)
    (hs : s.val = t.val / 2) : iblk m c 8 t (ix6 0 0 j e h d) = fresh m c (ix5 s j e h d) := by
  obtain ⟨-, ⟨e0, e1, e2, e3, e4, e5⟩, -⟩ := AttnBlock.cache_facts t
  rw [← fresh_view m c s j e h d]
  show (V m c main_v1 : Vec Ideal S32x1x4x2x16x128 .f32) (((cfg0.win 8).blk t).view.emb (ix6 0 0 j e h d)) = _
  refine congrArg _ (funext fun a => Fin.ext ?_)
  match a with
  | ⟨0, _⟩ => show win0_8.index t (0 : Fin 6) * 1 + 1 * 0 = s.val; rw [e0]; omega
  | ⟨1, _⟩ => show win0_8.index t (1 : Fin 6) * 1 + 1 * 0 = 0; rw [e1]
  | ⟨2, _⟩ => show win0_8.index t (2 : Fin 6) * 4 + 1 * j.val = j.val; rw [e2]; omega
  | ⟨3, _⟩ => show win0_8.index t (3 : Fin 6) * 2 + 1 * e.val = e.val; rw [e3]; omega
  | ⟨4, _⟩ => show win0_8.index t (4 : Fin 6) * 16 + 1 * h.val = h.val; rw [e4]; omega
  | ⟨5, _⟩ => show win0_8.index t (5 : Fin 6) * 128 + 1 * d.val = d.val; rw [e5]; omega

/-- An entry of the moved cache: the old rows from the fifth on, then the new ones. -/
def entry (c : Dev nD) (s : Fin 32) (i : Fin 128) (j : Fin 4) (e : Fin 2) (h : Fin 16) (d : Fin 128) : EReal :=
  if hi : i.val < 127 then cache m c (ix5 s (⟨i.val * 4 + 4 + j.val, by omega⟩ : Fin 512) e h d) else fresh m c (ix5 s j e h d)

/-- The whole moved cache. -/
def moved (c : Dev nD) : FVec Ideal S32x128x4x2x16x128 .f32 := fun y => entry m c (y 0) (y 1) (y 2) (y 3) (y 4) (y 5)

/-- A stored group of rows is the loaded one. -/
theorem row_apply (w : Vec Ideal S1x63x4x2x16x128 .f32) (p : Fin 63) (j : Fin 4) (e : Fin 2) (h : Fin 16) (d : Fin 128) :
    k0_pay1 w (ix6 0 p j e h d) = w (ix6 0 p j e h d) := by
  pointwise [k0_pay1]

/-- The stored last row is the loaded new one. -/
theorem last_apply (w : Vec Ideal S1x1x4x2x16x128 .f32) (j : Fin 4) (e : Fin 2) (h : Fin 16) (d : Fin 128) :
    k0_pay2 w (ix6 0 0 j e h d) = w (ix6 0 0 j e h d) := by
  pointwise [k0_pay2]

/-- The block a grid point leaves, at coordinates. -/
theorem block (c : Dev nD) (t : Fin cfg0.N) (p : Fin 64) (j : Fin 4) (e : Fin 2) (h : Fin 16) (d : Fin 128) (s : Fin 32) (i : Fin 128)
    (hs : s.val = t.val / 2) (hi : i.val = t.val % 2 * 64 + p.val) :
    (outsAt0 m c t.val t.isLt).2 (ix6 0 p j e h d) = entry m c s i j e h d := by
  have hp := p.isLt
  unfold entry
  by_cases hc : t.val % 2 = 1
  · rw [outsAt0_B m c t hc]
    frame_out
    by_cases hlast : p.val < 63
    · rw [dif_pos (by omega), View.canon_cons_of_not_mem _ _ (Rect.not_mem_set_of_axis _ _ (1 : Fin 6) 63 1 rfl rfl rfl (by
        show p.val < 63 ∨ 63 + 1 ≤ p.val; omega))]
      refine Eq.trans ?_ (cache_apply m c t ⟨1 + p.val, by omega⟩ j e h d s _ hs (by
        rw [if_pos hc]; show i.val * 4 + 4 + j.val = (64 + (1 + p.val)) * 4 + j.val; omega))
      have ey : (ix6 0 p j e h d : S1x64x4x2x16x128.Idx)
          = (Rect.unit (s := S1x64x4x2x16x128) ![0, 0, 0, 0, 0, 0] ![1, 63, 4, 2, 16, 128] (by decide)).emb (ix6 0 (⟨p.val, hlast⟩ : Fin 63) j e h d) := by
        refine funext fun a => Fin.ext ?_
        match a with
        | ⟨0, _⟩ => rfl
        | ⟨1, _⟩ => show p.val = 0 + 1 * p.val; omega
        | ⟨2, _⟩ => show j.val = 0 + 1 * j.val; omega
        | ⟨3, _⟩ => show e.val = 0 + 1 * e.val; omega
        | ⟨4, _⟩ => show h.val = 0 + 1 * h.val; omega
        | ⟨5, _⟩ => show d.val = 0 + 1 * d.val; omega
      rw [ey]
      refine (View.canon_cons_emb _ _ _ _).trans ?_
      rw [row_apply]
      refine View.ld_unit_apply_of _ _ _ _ _ _ fun a => ?_
      match a with
      | ⟨0, _⟩ => rfl
      | ⟨1, _⟩ => rfl
      | ⟨2, _⟩ => show j.val = 0 + j.val; omega
      | ⟨3, _⟩ => show e.val = 0 + e.val; omega
      | ⟨4, _⟩ => show h.val = 0 + h.val; omega
      | ⟨5, _⟩ => show d.val = 0 + d.val; omega
    · rw [dif_neg (by omega)]
      have ey : (ix6 0 p j e h d : S1x64x4x2x16x128.Idx)
          = (Rect.unit (s := S1x64x4x2x16x128) ![0, 63, 0, 0, 0, 0] ![1, 1, 4, 2, 16, 128] (by decide)).emb (ix6 0 0 j e h d) := by
        refine funext fun a => Fin.ext ?_
        match a with
        | ⟨0, _⟩ => rfl
        | ⟨1, _⟩ => show p.val = 63 + 1 * 0; omega
        | ⟨2, _⟩ => show j.val = 0 + 1 * j.val; omega
        | ⟨3, _⟩ => show e.val = 0 + 1 * e.val; omega
        | ⟨4, _⟩ => show h.val = 0 + 1 * h.val; omega
        | ⟨5, _⟩ => show d.val = 0 + 1 * d.val; omega
      rw [ey]
      refine (View.canon_cons_emb _ _ _ _).trans ?_
      rw [last_apply]
      exact fresh_apply m c t j e h d s hs
  · rw [outsAt0_A m c t hc]
    frame_out
    rw [dif_pos (by omega)]
    refine Eq.trans ?_ (cache_apply m c t p j e h d s _ hs (by rw [if_neg hc]; show i.val * 4 + 4 + j.val = _; omega))
    pointwise

/-- The result the run leaves. -/
theorem value (c : Dev nD) : (dats m 0 c).arrAt 10 cfg0.N = moved m c := by
  refine (dats m 0 c).arrAt_eq_of_covers 10 _ (by decide +kernel) fun t hf y => ?_
  blk_simp
  rw [after0_10]
  obtain ⟨-, -, e0, e1, e2, e3, e4, e5⟩ := AttnBlock.cache_facts t
  obtain ⟨z, p, j, e, h, d, rfl⟩ : ∃ (z : Fin 1) (p : Fin 64) (j : Fin 4) (e : Fin 2) (h : Fin 16) (d : Fin 128), y = ix6 z p j e h d :=
    ⟨y 0, y 1, y 2, y 3, y 4, y 5, eq_ix6 _⟩
  obtain rfl : z = 0 := Subsingleton.elim _ _
  have ht : t.val < 64 := lt_of_lt_of_le t.isLt (le_of_eq (by decide))
  refine (block m c t p j e h d ⟨t.val / 2, by omega⟩ ⟨t.val % 2 * 64 + p.val, by omega⟩ rfl rfl).trans ?_
  unfold moved
  have f0 : (⟨t.val / 2, by omega⟩ : Fin 32) = (win0_10.blk t).view.emb (ix6 0 p j e h d) 0 :=
    Fin.ext (by show t.val / 2 = win0_10.index t (0 : Fin 6) * 1 + 1 * 0; rw [e0]; omega)
  have f1 : (⟨t.val % 2 * 64 + p.val, by omega⟩ : Fin 128) = (win0_10.blk t).view.emb (ix6 0 p j e h d) 1 :=
    Fin.ext (by show t.val % 2 * 64 + p.val = win0_10.index t (1 : Fin 6) * 64 + 1 * p.val; rw [e1]; omega)
  have f2 : j = (win0_10.blk t).view.emb (ix6 0 p j e h d) 2 :=
    Fin.ext (by show j.val = win0_10.index t (2 : Fin 6) * 4 + 1 * j.val; rw [e2]; omega)
  have f3 : e = (win0_10.blk t).view.emb (ix6 0 p j e h d) 3 :=
    Fin.ext (by show e.val = win0_10.index t (3 : Fin 6) * 2 + 1 * e.val; rw [e3]; omega)
  have f4 : h = (win0_10.blk t).view.emb (ix6 0 p j e h d) 4 :=
    Fin.ext (by show h.val = win0_10.index t (4 : Fin 6) * 16 + 1 * h.val; rw [e4]; omega)
  have f5 : d = (win0_10.blk t).view.emb (ix6 0 p j e h d) 5 :=
    Fin.ext (by show d.val = win0_10.index t (5 : Fin 6) * 128 + 1 * d.val; rw [e5]; omega)
  refine Eq.trans ?_ (congrArg (fun z => entry m c z _ _ _ _ _) f0)
  refine Eq.trans ?_ (congrArg (fun z => entry m c _ z _ _ _ _) f1)
  refine Eq.trans ?_ (congrArg (fun z => entry m c _ _ z _ _ _) f2)
  refine Eq.trans ?_ (congrArg (fun z => entry m c _ _ _ z _ _) f3)
  refine Eq.trans ?_ (congrArg (fun z => entry m c _ _ _ _ z _) f4)
  exact congrArg (fun z => entry m c _ _ _ _ _ z) f5

end Cert.AttnCache

end
-- ==== Proof.AttnReference.lean ====
/-
  The reference's attention, step by step: its scores, each row's log of the sum, its outputs, and the mixture with the
  earlier groups, each read at an index.
-/
module

public import proofs.«01_k».proof.Defs
public import proofs.«01_k».proof.Proof.Gen.ReferenceAttnIdeal.Run
public import proofs.«01_k».proof.Proof.AttnSpec
public import Idealize.ShloMosaic.Lib.Pointwise

@[expose] public section

set_option maxRecDepth 16384

noncomputable section

namespace Cert.AttnReference

open Cert.ReferenceAttnIdeal Cert.ReferenceAttnIdeal.Gen Idealize.ShloMosaic Idealize.ShloMosaic.TcCoe Idealize.SL.Sem
open scoped BigOperators

/-- The projection, its columns split into queries, keys and values by head. -/
def split (x : FVec Ideal S4x1x2048x6144 .bf16) : FVec Ideal S4x2048x3x16x128 .f32 :=
  shapeCast _ (extf .f32 x bitsLt_bf16_f32) shapeCasts_S4x1x2048x6144_S4x2048x3x16x128
/-- The queries, -/
def queries (x : FVec Ideal S4x1x2048x6144 .bf16) : FVec Ideal S4x2048x16x128 .f32 :=
  shapeCast _ (extractStridedSlice S4x2048x1x16x128 ![0, 0, 0, 0, 0] (split x) slices_S4x2048x3x16x128_S4x2048x1x16x128_0_0_0_0_0)
    shapeCasts_S4x2048x1x16x128_S4x2048x16x128
/-- the keys -/
def keys (x : FVec Ideal S4x1x2048x6144 .bf16) : FVec Ideal S4x2048x16x128 .f32 :=
  shapeCast _ (extractStridedSlice S4x2048x1x16x128 ![0, 0, 1, 0, 0] (split x) slices_S4x2048x3x16x128_S4x2048x1x16x128_0_0_1_0_0)
    shapeCasts_S4x2048x1x16x128_S4x2048x16x128
/-- and the values. -/
def values (x : FVec Ideal S4x1x2048x6144 .bf16) : FVec Ideal S4x2048x16x128 .f32 :=
  shapeCast _ (extractStridedSlice S4x2048x1x16x128 ![0, 0, 2, 0, 0] (split x) slices_S4x2048x3x16x128_S4x2048x1x16x128_0_0_2_0_0)
    shapeCasts_S4x2048x1x16x128_S4x2048x16x128

/-- How far key `k` lies before query `n`. -/
def dist : IVec S2048x2048 32 :=
  subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))
/-- Which keys a query sees. -/
def mask : IVec S2048x2048 1 :=
  andi (cmpi .sge dist (broadcastInDim S2048x2048 ![] bcast_S_S2048x2048 (constantI S_ 32 0#32)))
    (cmpi .sle dist (broadcastInDim S2048x2048 ![] bcast_S_S2048x2048 (constantI S_ 32 128#32)))
/-- The scores. -/
def scores (x : FVec Ideal S4x1x2048x6144 .bf16) : FVec Ideal S4x16x2048x2048 .f32 :=
  select (broadcastInDim S4x16x2048x2048 ![0, 1, 2, 3] bcast_S1x1x2048x2048_S4x16x2048x2048_0_1_2_3
      (broadcastInDim S1x1x2048x2048 ![2, 3] bcast_S2048x2048_S1x1x2048x2048_2_3 mask))
    (mulf (Host.dotGeneral dot_S4x2048x16x128_S4x2048x16x128_S4x16x2048x2048_3_3_1_1_02_02 none (queries x) (keys x))
      (broadcastInDim S4x16x2048x2048 ![] bcast_S_S4x16x2048x2048 (constant S_ .f32 0x3DB504F3#32)))
    (broadcastInDim S4x16x2048x2048 ![] bcast_S_S4x16x2048x2048 (id (constant S_ .f32 0xFF800000#32)))
/-- Each row's maximum. -/
def top (s : FVec Ideal S4x16x2048x2048 .f32) : FVec Ideal S4x16x2048 .f32 :=
  Host.reduce FloatOps.maximumf s (constant S_ .f32 0xFF800000#32) reducesTo_S4x16x2048x2048_S4x16x2048_d3 h_S_
/-- A number per row, on every key of the row. -/
def spread (v : FVec Ideal S4x16x2048 .f32) : FVec Ideal S4x16x2048x2048 .f32 :=
  broadcastInDim S4x16x2048x2048 ![0, 1, 2, 3] bcast_S4x16x2048x1_S4x16x2048x2048_0_1_2_3
    (broadcastInDim S4x16x2048x1 ![0, 1, 2] bcast_S4x16x2048_S4x16x2048x1_0_1_2 v)
/-- Each row's sum. -/
def rowSum (e : FVec Ideal S4x16x2048x2048 .f32) : FVec Ideal S4x16x2048 .f32 :=
  Host.reduceAdd e (constant S_ .f32 0x00000000#32) reducesTo_S4x16x2048x2048_S4x16x2048_d3 h_S_
/-- Each row's log of the sum of exponentials. -/
def lse (s : FVec Ideal S4x16x2048x2048 .f32) : FVec Ideal S4x16x2048 .f32 :=
  addf (top s) (Host.log (rowSum (Host.exp (subf s (spread (top s))))))
/-- The attention's outputs. -/
def out (v : FVec Ideal S4x2048x16x128 .f32) (s : FVec Ideal S4x16x2048x2048 .f32) : FVec Ideal S4x2048x16x128 .f32 :=
  transpose S4x2048x16x128 [0, 3, 1, 2]
    (Host.dotGeneral dot_S4x2048x16x128_S4x16x2048x2048_S4x16x128x2048_1_3_3_2_02_01 none v (Host.exp (subf s (spread (lse s)))))
    transposes_S4x16x128x2048_S4x2048x16x128_0_3_1_2
/-- The earlier groups' logs, and this group's, one above the other. -/
def logs (l : FVec Ideal S2x8192x128 .f32) (s : FVec Ideal S4x16x2048x2048 .f32) : FVec Ideal S2x4x2048x16 .f32 :=
  concatenate S2x4x2048x16 0 [⟨S1x4x2048x16, broadcastInDim S1x4x2048x16 ![1, 2, 3] bcast_S4x2048x16_S1x4x2048x16_1_2_3
        (shapeCast S4x2048x16 (transpose S8192x2x8 [1, 0, 2] (extractStridedSlice S2x8192x8 ![0, 0, 0] l slices_S2x8192x128_S2x8192x8_0_0_0)
          transposes_S2x8192x8_S8192x2x8_1_0_2) shapeCasts_S8192x2x8_S4x2048x16)⟩,
      ⟨S1x4x2048x16, broadcastInDim S1x4x2048x16 ![1, 2, 3] bcast_S4x2048x16_S1x4x2048x16_1_2_3
        (transpose S4x2048x16 [0, 2, 1] (lse s) transposes_S4x16x2048_S4x2048x16_0_2_1)⟩]
    concatenates_S1x4x2048x16_S1x4x2048x16_S2x4x2048x16_d0
/-- The earlier groups' outputs, and this group's. -/
def outs (o : FVec Ideal S16x8192x128 .f32) (p : FVec Ideal S4x2048x16x128 .f32) : FVec Ideal S2x4x2048x16x128 .f32 :=
  concatenate S2x4x2048x16x128 0 [⟨S1x4x2048x16x128, broadcastInDim S1x4x2048x16x128 ![1, 2, 3, 4] bcast_S4x2048x16x128_S1x4x2048x16x128_1_2_3_4
        (transpose S4x2048x16x128 [1, 2, 0, 3] (shapeCast _ o shapeCasts_S16x8192x128_S16x4x2048x128) transposes_S16x4x2048x128_S4x2048x16x128_1_2_0_3)⟩,
      ⟨S1x4x2048x16x128, broadcastInDim S1x4x2048x16x128 ![1, 2, 3, 4] bcast_S4x2048x16x128_S1x4x2048x16x128_1_2_3_4 p⟩]
    concatenates_S1x4x2048x16x128_S1x4x2048x16x128_S2x4x2048x16x128_d0
/-- The larger of the two logs, -/
def topLog (l : FVec Ideal S2x4x2048x16 .f32) : FVec Ideal S4x2048x16 .f32 :=
  Host.reduce FloatOps.maximumf l (constant S_ .f32 0xFF800000#32) reducesTo_S2x4x2048x16_S4x2048x16_d0 h_S_
/-- a number per token and head, on both, -/
def both (v : FVec Ideal S4x2048x16 .f32) : FVec Ideal S2x4x2048x16 .f32 :=
  broadcastInDim S2x4x2048x16 ![0, 1, 2, 3] bcast_S1x4x2048x16_S2x4x2048x16_0_1_2_3
    (broadcastInDim S1x4x2048x16 ![1, 2, 3] bcast_S4x2048x16_S1x4x2048x16_1_2_3 v)
/-- the log of their sum, -/
def sumLog (l : FVec Ideal S2x4x2048x16 .f32) : FVec Ideal S4x2048x16 .f32 :=
  addf (topLog l) (Host.log (Host.reduceAdd (Host.exp (subf l (both (topLog l)))) (constant S_ .f32 0x00000000#32)
    reducesTo_S2x4x2048x16_S4x2048x16_d0 h_S_))
/-- and the mixture of the outputs. -/
def merged (l : FVec Ideal S2x4x2048x16 .f32) (o : FVec Ideal S2x4x2048x16x128 .f32) : FVec Ideal S8192x2048 .bf16 :=
  truncf .bf16 (shapeCast S8192x2048 (Host.reduceAdd (mulf
      (broadcastInDim S2x4x2048x16x128 ![0, 1, 2, 3, 4] bcast_S2x4x2048x16x1_S2x4x2048x16x128_0_1_2_3_4
        (broadcastInDim S2x4x2048x16x1 ![0, 1, 2, 3] bcast_S2x4x2048x16_S2x4x2048x16x1_0_1_2_3 (Host.exp (subf l (both (sumLog l)))))) o)
    (constant S_ .f32 0x00000000#32) reducesTo_S2x4x2048x16x128_S4x2048x16x128_d0 h_S_) shapeCasts_S4x2048x16x128_S8192x2048) bitsLt_bf16_f32

/-- The reference's result is these steps, one after another. -/
theorem result_eq (m : (ℓ : Loc nD τ sig) → Buf (Elt Ideal) ℓ) (c : Dev nD) :
    Value.res_main_v70 m c = merged (logs (m ((c.tc : Thread nD τ).loc main_arg2)) (scores (m ((c.tc : Thread nD τ).loc main_arg0))))
      (outs (m ((c.tc : Thread nD τ).loc main_arg1)) (out (values (m ((c.tc : Thread nD τ).loc main_arg0)))
        (scores (m ((c.tc : Thread nD τ).loc main_arg0))))) := by
  rfl

/-- The projection as a plain function. -/
abbrev plain (x : FVec Ideal S4x1x2048x6144 .bf16) : Fin 4 → Fin 2048 → Fin 6144 → EReal := fun b n c => x (ix4 b 0 n c)

theorem scores_words (x : FVec Ideal S4x1x2048x6144 .bf16) (b : Fin 4) (h : Fin 16) (n k : Fin 2048) :
    scores x (ix4 b h n k) = Scalar.select
      (IntOp.andi (IntOp.cmpi CmpIPredicate.sge (IntOp.subi (BitVec.ofNat 32 n.val) (BitVec.ofNat 32 k.val)) 0#32)
        (IntOp.cmpi CmpIPredicate.sle (IntOp.subi (BitVec.ofNat 32 n.val) (BitVec.ofNat 32 k.val)) 128#32))
      (AttnSpec.raw (plain x) b h n k) (Ideal.ofBits FTy.f32 0xFF800000#32) := by
  have hr : AttnSpec.raw (plain x) b h n k = (∑ d : Fin 128, x (ix4 b 0 n ⟨h.val * 128 + d.val, by omega⟩)
      * x (ix4 b 0 k ⟨2048 + h.val * 128 + d.val, by omega⟩)) * Ideal.ofBits FTy.f32 0x3DB504F3#32 := by
    unfold AttnSpec.raw
    refine congrArg (· * AttnSpec.scale) (Finset.sum_congr rfl fun d _ => ?_)
    refine congrArg₂ (· * ·) (congrArg x ?_) rfl
    refine congrArg (ix4 b 0 n) (Fin.ext ?_)
    show 0 + h.val * 128 + d.val = h.val * 128 + d.val
    omega
  rw [hr]
  pointwise [scores, mask, dist, queries, keys, split]
  rfl

/-- A score, minus infinity at the keys the query does not see. -/
theorem scores_apply (x : FVec Ideal S4x1x2048x6144 .bf16) (hx : AttnSpec.Finite (plain x)) (b : Fin 4) (h : Fin 16) (n k : Fin 2048) :
    scores x (ix4 b h n k) = AttnMath.score (AttnSpec.sees n) (AttnSpec.real (plain x) b h n) k := by
  rw [scores_words, Scalar.select, AttnSpec.negInf, AttnSpec.raw_real hx]
  unfold AttnMath.score
  exact if_congr (AttnSpec.mask_words n k) rfl rfl

theorem values_apply (x : FVec Ideal S4x1x2048x6144 .bf16) (b : Fin 4) (h : Fin 16) (n : Fin 2048) (d : Fin 128) :
    values x (ix4 b n h d) = plain x b n (AttnSpec.col 4096 (by omega) h d) := by
  pointwise [values, split]
  rfl

theorem top_apply (s : FVec Ideal S4x16x2048x2048 .f32) (b : Fin 4) (h : Fin 16) (n : Fin 2048) :
    top s (ix3 b h n) = Finset.univ.fold max (Ideal.ofBits FTy.f32 0xFF800000#32) fun k => s (ix4 b h n k) := by
  pointwise [top]

theorem spread_apply (v : FVec Ideal S4x16x2048 .f32) (b : Fin 4) (h : Fin 16) (n k : Fin 2048) :
    spread v (ix4 b h n k) = v (ix3 b h n) := by
  pointwise [spread]

theorem rowSum_apply (e : FVec Ideal S4x16x2048x2048 .f32) (b : Fin 4) (h : Fin 16) (n : Fin 2048) :
    rowSum e (ix3 b h n) = ∑ k, e (ix4 b h n k) := by
  pointwise [rowSum]

theorem add_log_apply (t u : FVec Ideal S4x16x2048 .f32) (b : Fin 4) (h : Fin 16) (n : Fin 2048) :
    addf t (Host.log u) (ix3 b h n) = t (ix3 b h n) + Ideal.log (u (ix3 b h n)) := by
  pointwise

theorem exp_sub_apply (s : FVec Ideal S4x16x2048x2048 .f32) (t : FVec Ideal S4x16x2048 .f32) (b : Fin 4) (h : Fin 16) (n k : Fin 2048) :
    Host.exp (subf s (spread t)) (ix4 b h n k) = Ideal.exp (s (ix4 b h n k) - t (ix3 b h n)) := by
  pointwise [spread]

theorem lse_steps (s : FVec Ideal S4x16x2048x2048 .f32) (b : Fin 4) (h : Fin 16) (n : Fin 2048) :
    lse s (ix3 b h n) = top s (ix3 b h n) + Ideal.log (∑ k, Ideal.exp (s (ix4 b h n k) - top s (ix3 b h n))) := by
  unfold lse
  rw [add_log_apply, rowSum_apply, Finset.sum_congr rfl fun k _ => exp_sub_apply s (top s) b h n k]

/-- A row's log of the sum. -/
theorem lse_apply (x : FVec Ideal S4x1x2048x6144 .bf16) (hx : AttnSpec.Finite (plain x)) (b : Fin 4) (h : Fin 16) (n : Fin 2048) :
    lse (scores x) (ix3 b h n) = AttnSpec.lse (plain x) b h n := by
  have ht : top (scores x) (ix3 b h n) = AttnMath.top (AttnSpec.sees n) (AttnSpec.real (plain x) b h n) := by
    rw [top_apply, AttnSpec.negInf]
    unfold AttnMath.top
    exact congrArg (fun f => Finset.univ.fold max ⊥ f) (funext fun k => scores_apply x hx b h n k)
  rw [lse_steps, ht]
  refine Eq.trans ?_ (AttnMath.running_log (AttnSpec.real (plain x) b h n) (AttnSpec.sees_self n))
  refine congrArg (fun z => AttnMath.top (AttnSpec.sees n) (AttnSpec.real (plain x) b h n) + Ideal.log z) ?_
  exact Finset.sum_congr rfl fun k _ => congrArg (fun z => Ideal.exp (z - _)) (scores_apply x hx b h n k)

theorem out_steps (v : FVec Ideal S4x2048x16x128 .f32) (s : FVec Ideal S4x16x2048x2048 .f32) (b : Fin 4) (h : Fin 16) (n : Fin 2048)
    (d : Fin 128) :
    out v s (ix4 b n h d) = ∑ k, v (ix4 b k h d) * Ideal.exp (s (ix4 b h n k) - lse s (ix3 b h n)) := by
  pointwise [out, spread]

/-- The attention's output. -/
theorem out_apply (x : FVec Ideal S4x1x2048x6144 .bf16) (hx : AttnSpec.Finite (plain x)) (b : Fin 4) (h : Fin 16) (n : Fin 2048)
    (d : Fin 128) :
    out (values x) (scores x) (ix4 b n h d) = AttnSpec.avg (plain x) b h n d := by
  rw [out_steps, lse_apply x hx]
  refine Eq.trans ?_ (AttnMath.direct_average (AttnSpec.real (plain x) b h n) _ (AttnSpec.sees_self n))
  refine Finset.sum_congr rfl fun k _ => ?_
  refine (mul_comm _ _).trans (congrArg₂ (· * ·) ?_ (values_apply x b h k d))
  exact congrArg (fun z => Ideal.exp (z - _)) (scores_apply x hx b h n k)

theorem logs_apply (l : FVec Ideal S2x8192x128 .f32) (s : FVec Ideal S4x16x2048x2048 .f32) (g : Fin 2) (b : Fin 4) (h : Fin 16)
    (n : Fin 2048) :
    logs l s (ix4 g b n h) = if g.val < 1 then
        l (ix3 (⟨h.val / 8, by omega⟩ : Fin 2) (⟨b.val * 2048 + n.val, by omega⟩ : Fin 8192) (⟨h.val % 8, by omega⟩ : Fin 128))
      else lse s (ix3 b h n) := by
  pointwise [logs]
  rfl

theorem outs_apply (o : FVec Ideal S16x8192x128 .f32) (p : FVec Ideal S4x2048x16x128 .f32) (g : Fin 2) (b : Fin 4) (h : Fin 16)
    (n : Fin 2048) (d : Fin 128) :
    outs o p (ix5 g b n h d) = if g.val < 1 then o (ix3 h (⟨b.val * 2048 + n.val, by omega⟩ : Fin 8192) d) else p (ix4 b n h d) := by
  pointwise [outs]
  rfl

theorem fold_two (a c : EReal) (f : Fin 2 → EReal) (h0 : f 0 = a) (h1 : f 1 = c) :
    Finset.univ.fold max (⊥ : EReal) f = max a c := by
  rw [show (Finset.univ : Finset (Fin 2)) = {0, 1} from rfl, Finset.fold_insert (by decide), Finset.fold_singleton, h0, h1,
    max_eq_left (bot_le : (⊥ : EReal) ≤ c)]

theorem merged_steps (l : FVec Ideal S2x4x2048x16 .f32) (o : FVec Ideal S2x4x2048x16x128 .f32) (b : Fin 4) (n : Fin 2048) (h : Fin 16)
    (d : Fin 128) (R : Fin 8192) (C : Fin 2048) (hR : R.val = b.val * 2048 + n.val) (hC : C.val = h.val * 128 + d.val) :
    merged l o (ix2 R C) = ∑ g : Fin 2, Ideal.exp (l (ix4 g b n h) - sumLog l (ix3 b n h)) * o (ix5 g b n h d) := by
  pointwise [merged, both]
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  have e3 : (⟨C.val / 128, by omega⟩ : Fin 16) = h := Fin.ext (by show C.val / 128 = h.val; omega)
  have e4 : (⟨C.val % 128, by omega⟩ : Fin 128) = d := Fin.ext (by show C.val % 128 = d.val; omega)
  simp only [e1, e2, e3, e4]

theorem sumLog_steps (l : FVec Ideal S2x4x2048x16 .f32) (b : Fin 4) (n : Fin 2048) (h : Fin 16) :
    sumLog l (ix3 b n h) = Finset.univ.fold max (Ideal.ofBits FTy.f32 0xFF800000#32) (fun g => l (ix4 g b n h))
      + Ideal.log (∑ g : Fin 2, Ideal.exp (l (ix4 g b n h)
          - Finset.univ.fold max (Ideal.ofBits FTy.f32 0xFF800000#32) (fun g => l (ix4 g b n h)))) := by
  pointwise [sumLog, both, topLog]

/-- The mixture, from the two logs and the two outputs. -/
theorem merged_apply (l : FVec Ideal S2x4x2048x16 .f32) (o : FVec Ideal S2x4x2048x16x128 .f32) (b : Fin 4) (n : Fin 2048) (h : Fin 16)
    (d : Fin 128) (R : Fin 8192) (C : Fin 2048) (hR : R.val = b.val * 2048 + n.val) (hC : C.val = h.val * 128 + d.val)
    (l0 o0 l1 o1 : EReal) (hl0 : l (ix4 0 b n h) = l0) (hl1 : l (ix4 1 b n h) = l1) (ho0 : o (ix5 0 b n h d) = o0)
    (ho1 : o (ix5 1 b n h d) = o1) :
    merged l o (ix2 R C) = AttnMath.mix l0 o0 l1 o1 := by
  rw [merged_steps l o b n h d R C hR hC, sumLog_steps, AttnSpec.negInf, fold_two l0 l1 _ hl0 hl1, Fin.sum_univ_two, Fin.sum_univ_two, hl0,
    hl1, ho0, ho1]
  rfl

/-- The reference's result at position `n` of sequence `b`, column `d` of head `h`. -/
theorem result_apply (x : FVec Ideal S4x1x2048x6144 .bf16) (o : FVec Ideal S16x8192x128 .f32) (l : FVec Ideal S2x8192x128 .f32)
    (hx : AttnSpec.Finite (plain x)) (b : Fin 4) (n : Fin 2048) (h : Fin 16)
    (d : Fin 128) (R : Fin 8192) (C : Fin 2048) (hR : R.val = b.val * 2048 + n.val) (hC : C.val = h.val * 128 + d.val) :
    merged (logs l (scores x)) (outs o (out (values x) (scores x))) (ix2 R C)
      = AttnMath.mix (l (ix3 (⟨h.val / 8, by omega⟩ : Fin 2) R (⟨h.val % 8, by omega⟩ : Fin 128))) (o (ix3 h R d))
          (AttnSpec.lse (plain x) b h n) (AttnSpec.avg (plain x) b h n d) := by
  have e : (⟨b.val * 2048 + n.val, by omega⟩ : Fin 8192) = R := Fin.ext hR.symm
  refine merged_apply _ _ b n h d R C hR hC _ _ _ _ ?_ ?_ ?_ ?_
  · rw [logs_apply, e]; rfl
  · rw [logs_apply]; exact lse_apply x hx b h n
  · rw [outs_apply, e]; rfl
  · rw [outs_apply]; exact out_apply x hx b h n d

/-- The shifted cache: the old rows from the fifth on, then the new ones. -/
theorem shift_apply (a : FVec Ideal S32x512x2x16x128 .f32) (w : FVec Ideal S32x4x2x16x128 .f32) (s : Fin 32) (i : Fin 128) (j : Fin 4)
    (e : Fin 2) (h : Fin 16) (d : Fin 128) :
    shapeCast S32x128x4x2x16x128 (extractStridedSlice S32x512x2x16x128 ![0, 4, 0, 0, 0] (concatenate S32x516x2x16x128 1
        [⟨S32x512x2x16x128, a⟩, ⟨S32x4x2x16x128, w⟩] concatenates_S32x512x2x16x128_S32x4x2x16x128_S32x516x2x16x128_d1)
        slices_S32x516x2x16x128_S32x512x2x16x128_0_4_0_0_0) shapeCasts_S32x512x2x16x128_S32x128x4x2x16x128 (ix6 s i j e h d)
      = if hi : i.val < 127 then a (ix5 s (⟨i.val * 4 + 4 + j.val, by omega⟩ : Fin 512) e h d) else w (ix5 s j e h d) := by
  pointwise
  by_cases hi : i.val < 127
  · rw [dif_pos hi, dif_pos (by omega)]
    refine congrArg (fun z => a (ix5 s z e h d)) (Fin.ext ?_)
    show 4 + (i.val * 4 + j.val) = i.val * 4 + 4 + j.val
    omega
  · rw [dif_neg hi, dif_neg (by omega)]
    refine congrArg (fun z => w (ix5 s z e h d)) (Fin.ext ?_)
    show 4 + (i.val * 4 + j.val) - 512 = j.val
    omega

end Cert.AttnReference

end
-- ==== Proof.AttnSum.lean ====
/-
  The attention: the kernel and the reference end with equal results.
-/
module

public import proofs.«01_k».proof.Defs
public import proofs.«01_k».proof.Proof.Gen.KernelAttnIdeal.Value
public import proofs.«01_k».proof.Proof.Gen.ReferenceAttnIdeal.Run
public import proofs.«01_k».proof.Proof.Gen.Pre_finite_scores
public import proofs.«01_k».proof.Proof.AttnArray
public import proofs.«01_k».proof.Proof.AttnCache
public import proofs.«01_k».proof.Proof.AttnReference
public import Idealize.ShloMosaic.Lib.Claim
public import Idealize.ShloMosaic.Lib.ReduceAll
public import Idealize.ShloMosaic.Lib.Pointwise

@[expose] public section

set_option maxRecDepth 16384

noncomputable section

namespace Cert.AttnSum

open Idealize.ShloMosaic Idealize.ShloMosaic.TcCoe Idealize.SL.Sem

/-- The reference runs, leaves its arguments alone, and has no semaphore to leave raised. -/
theorem frame_reference : Cert.quiescent_ReferenceAttnIdeal := fun m ρ _ =>
  (θ_run Cert.ReferenceAttnIdeal.defs _ _).mono (fun r h => ⟨fun c => (h c).2.2,
      Idealize.ShloMosaic.sem_eq_zero_of_no_sems (by decide) r.2⟩)
    (Cert.ReferenceAttnIdeal.Value.run (F := Ideal) m ρ)

theorem frame_reference_pre : Cert.quiescent_ReferenceAttnIdeal_pre_finite_scores := fun m ρ _ =>
  (θ_run Cert.ReferenceAttnIdeal.defs _ _).mono (fun r h => ⟨fun c => (h c).2.2,
      Idealize.ShloMosaic.sem_eq_zero_of_no_sems (by decide) r.2⟩)
    (Cert.ReferenceAttnIdeal.Value.run (F := Ideal) m ρ)

/-- A number whose absolute value is below infinity is real. -/
theorem real_of_abs_lt (v : EReal) (h : Ideal.cmp CmpFPredicate.olt (max v (-v)) (Ideal.ofBits FTy.f32 0x7F800000#32) = 1#1) :
    ∃ r : ℝ, v = r := by
  have hi : Ideal.ofBits FTy.f32 0x7F800000#32 = ⊤ := by
    simp [Ideal.ofBits, Ideal.ieee]
  rw [hi] at h
  have hlt : max v (-v) < ⊤ := by
    by_contra hn
    simp [Ideal.cmp, hn] at h
  induction v using EReal.rec with
  | bot => simp at hlt
  | top => simp at hlt
  | coe r => exact ⟨r, rfl⟩

/-- The precondition at the arguments: queries and keys are real numbers. -/
theorem finite (x : FVec Ideal Cert.Pre_finite_scores.S4x1x2048x6144 .bf16) (a1 a2 a3 a4)
    (h : Cert.Pre_finite_scores.fn (F := Ideal) x a1 a2 a3 a4 = fun _ => 1#1) :
    AttnSpec.Finite fun b n c => x (ix4 b 0 n c) := by
  intro b n c hc
  have h' := congrFun h (fun a => a.elim0)
  dsimp only [Cert.Pre_finite_scores.fn] at h'
  have e := Host.reduce_andi_all _ _ _ _ _ h' (ix4 b 0 n (⟨c.val, hc⟩ : Fin 4096))
  refine real_of_abs_lt _ (Eq.trans ?_ e)
  symm
  pointwise
  rfl

/-- The two results, in the kernel's terms. -/
theorem merged_eq (m : (ℓ : Loc Cert.KernelAttnIdeal.nD Cert.KernelAttnIdeal.τ Cert.KernelAttnIdeal.sig) → Buf (Elt Ideal) ℓ)
    (m' : (ℓ : Loc Cert.ReferenceAttnIdeal.nD Cert.ReferenceAttnIdeal.τ Cert.ReferenceAttnIdeal.sig) → Buf (Elt Ideal) ℓ)
    (c : Dev Cert.KernelAttnIdeal.nD) (hx : AttnSpec.Finite (AttnBlock.proj m c))
    (e0 : m' ((c.tc : Thread Cert.ReferenceAttnIdeal.nD Cert.ReferenceAttnIdeal.τ).loc Cert.ReferenceAttnIdeal.main_arg0)
      = m ((c.tc : Thread Cert.KernelAttnIdeal.nD Cert.KernelAttnIdeal.τ).loc Cert.KernelAttnIdeal.main_arg0))
    (e1 : m' ((c.tc : Thread Cert.ReferenceAttnIdeal.nD Cert.ReferenceAttnIdeal.τ).loc Cert.ReferenceAttnIdeal.main_arg1)
      = m ((c.tc : Thread Cert.KernelAttnIdeal.nD Cert.KernelAttnIdeal.τ).loc Cert.KernelAttnIdeal.main_arg1))
    (e2 : m' ((c.tc : Thread Cert.ReferenceAttnIdeal.nD Cert.ReferenceAttnIdeal.τ).loc Cert.ReferenceAttnIdeal.main_arg2)
      = m ((c.tc : Thread Cert.KernelAttnIdeal.nD Cert.KernelAttnIdeal.τ).loc Cert.KernelAttnIdeal.main_arg2)) :
    Cert.ReferenceAttnIdeal.Value.res_main_v70 m' c = AttnArray.merged m c := by
  rw [AttnReference.result_eq, e0, e1, e2]
  funext y
  obtain ⟨R, C, rfl⟩ : ∃ (R : Fin 8192) (C : Fin 2048), y = ix2 R C := ⟨y 0, y 1, eq_ix2 y⟩
  exact AttnReference.result_apply _ _ _ hx ⟨R.val / 2048, by omega⟩ ⟨R.val % 2048, by omega⟩ ⟨C.val / 128, by omega⟩
    ⟨C.val % 128, by omega⟩ R C (by show R.val = R.val / 2048 * 2048 + R.val % 2048; omega)
    (by show C.val = C.val / 128 * 128 + C.val % 128; omega)

/-- The kernel and the reference end with equal results. -/
theorem algebraic : Cert.algebraic_KernelAttnIdeal_ReferenceAttnIdeal_pre_finite_scores := by
  pair_intro
  · run_from Cert.KernelAttnIdeal.Value.run_blocks _ _
  · run_from Cert.ReferenceAttnIdeal.Value.run _ _
    · have hx : AttnSpec.Finite (AttnBlock.proj m c) := finite _ _ _ _ _ (hpre c)
      rw [AttnArray.value m c hx]
      exact merged_eq m m' c hx (hagree c).1 (hagree c).2.1 (hagree c).2.2.1
    · rw [AttnCache.value m c, (hagree c).2.2.2.1, (hagree c).2.2.2.2]
      funext y
      obtain ⟨s, i, j, e, h, d, rfl⟩ : ∃ (s : Fin 32) (i : Fin 128) (j : Fin 4) (e : Fin 2) (h : Fin 16) (d : Fin 128), y = ix6 s i j e h d :=
        ⟨y 0, y 1, y 2, y 3, y 4, y 5, eq_ix6 y⟩
      exact AttnReference.shift_apply _ _ s i j e h d

end Cert.AttnSum

end
-- ==== Proof.UpBitsRun.lean ====
/- The gated half of the convolutional feed-forward: the kernel's body run in each of its cases, its buffers handed
   back, nothing said of what they hold. -/
module

public import proofs.«01_k».proof.Proof.UpBitsFacts

@[expose] public section

set_option maxRecDepth 16384

noncomputable section

namespace Cert.KernelUp.Up

open Cert.KernelUp Cert.KernelUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
/-- The first point: the second pair of buffers and the carried rows cleared, the first pair written. -/
theorem run_first (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : cond1 (grid0.coords t)) (h2 : k0_cond2 (grid0.coords t) = 1#1) (h3 : k0_cond3 (grid0.coords t) = 1#1) (h4 : ¬ k0_cond4 (grid0.coords t) = 1#1)
    (x1 : Vec F S1024x4096 .bf16) (x2 x3 : Vec F S1x4096x512 .bf16) (x4 : Vec F S1x3x512 .f32) (x5 : Vec F S1x1x512 .f32)
    (E : Set ℕ) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn_up_prompt (grid0.coords t) arg1 harg1 arg2 harg2 arg3 harg3 arg4 harg4 arg5 harg5 arg6 harg6 arg7 harg7 arg8 harg8 arg9 harg9 arg10 harg10 arg11 harg11 arg12 harg12) K := by
  simp only [cc0_ffn_up_prompt_eq_skeleton]; unfold cc0_ffn_up_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 4000000 in
/-- An even point that begins a sequence. -/
theorem run_even_reset (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : k0_cond2 (grid0.coords t) = 1#1) (h3 : k0_cond3 (grid0.coords t) = 1#1) (h4 : ¬ k0_cond4 (grid0.coords t) = 1#1)
    (x1 : Vec F S1024x4096 .bf16) (x2 x3 : Vec F S1x4096x512 .bf16) (x4 : Vec F S1x3x512 .f32) (x5 : Vec F S1x1x512 .f32)
    (E : Set ℕ) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn_up_prompt (grid0.coords t) arg1 harg1 arg2 harg2 arg3 harg3 arg4 harg4 arg5 harg5 arg6 harg6 arg7 harg7 arg8 harg8 arg9 harg9 arg10 harg10 arg11 harg11 arg12 harg12) K := by
  simp only [cc0_ffn_up_prompt_eq_skeleton]; unfold cc0_ffn_up_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 4000000 in
/-- An even point inside a sequence. -/
theorem run_even_keep (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : ¬ k0_cond2 (grid0.coords t) = 1#1) (h3 : k0_cond3 (grid0.coords t) = 1#1) (h4 : ¬ k0_cond4 (grid0.coords t) = 1#1)
    (x1 : Vec F S1024x4096 .bf16) (x2 x3 : Vec F S1x4096x512 .bf16) (x4 : Vec F S1x3x512 .f32) (x5 : Vec F S1x1x512 .f32)
    (E : Set ℕ) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn_up_prompt (grid0.coords t) arg1 harg1 arg2 harg2 arg3 harg3 arg4 harg4 arg5 harg5 arg6 harg6 arg7 harg7 arg8 harg8 arg9 harg9 arg10 harg10 arg11 harg11 arg12 harg12) K := by
  simp only [cc0_ffn_up_prompt_eq_skeleton]; unfold cc0_ffn_up_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 4000000 in
/-- An odd point that begins a sequence. -/
theorem run_odd_reset (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : k0_cond2 (grid0.coords t) = 1#1) (h3 : ¬ k0_cond3 (grid0.coords t) = 1#1) (h4 : k0_cond4 (grid0.coords t) = 1#1)
    (x1 : Vec F S1024x4096 .bf16) (x2 x3 : Vec F S1x4096x512 .bf16) (x4 : Vec F S1x3x512 .f32) (x5 : Vec F S1x1x512 .f32)
    (E : Set ℕ) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn_up_prompt (grid0.coords t) arg1 harg1 arg2 harg2 arg3 harg3 arg4 harg4 arg5 harg5 arg6 harg6 arg7 harg7 arg8 harg8 arg9 harg9 arg10 harg10 arg11 harg11 arg12 harg12) K := by
  simp only [cc0_ffn_up_prompt_eq_skeleton]; unfold cc0_ffn_up_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 4000000 in
/-- An odd point inside a sequence. -/
theorem run_odd_keep (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : ¬ k0_cond2 (grid0.coords t) = 1#1) (h3 : ¬ k0_cond3 (grid0.coords t) = 1#1) (h4 : k0_cond4 (grid0.coords t) = 1#1)
    (x1 : Vec F S1024x4096 .bf16) (x2 x3 : Vec F S1x4096x512 .bf16) (x4 : Vec F S1x3x512 .f32) (x5 : Vec F S1x1x512 .f32)
    (E : Set ℕ) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn_up_prompt (grid0.coords t) arg1 harg1 arg2 harg2 arg3 harg3 arg4 harg4 arg5 harg5 arg6 harg6 arg7 harg7 arg8 harg8 arg9 harg9 arg10 harg10 arg11 harg11 arg12 harg12) K := by
  simp only [cc0_ffn_up_prompt_eq_skeleton]; unfold cc0_ffn_up_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.KernelUp.Up

end
-- ==== Proof.UpBitsFrame.lean ====
/- The gated half of the convolutional feed-forward: the kernel runs to its end from any memory, its arguments kept and
   its counters back at zero. -/
module

public import proofs.«01_k».proof.Proof.UpBitsRun
public import Idealize.ShloMosaic.Lib.Claim

@[expose] public section

set_option maxRecDepth 16384

noncomputable section

namespace Cert.KernelUp.Up

open Cert.KernelUp Cert.KernelUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's buffer at a point, and the five scratch buffers. -/

abbrev ms0 (t : Fin cfg0.N) : Memref sig .tc .vmem S1024x4096 .bf16 := win0_0.stage (cfg0.slots t 0)
abbrev ms1 (t : Fin cfg0.N) : Memref sig .tc .vmem S1x4096x512 .bf16 := win0_1.stage (cfg0.slots t 1)
abbrev ms2 (t : Fin cfg0.N) : Memref sig .tc .vmem S1x4096x512 .bf16 := win0_2.stage (cfg0.slots t 2)
abbrev ms3 (t : Fin cfg0.N) : Memref sig .tc .vmem S1x3x512 .f32 := win0_3.stage (cfg0.slots t 3)
abbrev ms4 (t : Fin cfg0.N) : Memref sig .tc .vmem S1x1x512 .f32 := win0_4.stage (cfg0.slots t 4)
abbrev ms5 (t : Fin cfg0.N) : Memref sig .tc .vmem S1024x512 .bf16 := win0_5.stage (cfg0.slots t 5)
abbrev ms6 (t : Fin cfg0.N) : Memref sig .tc .vmem S1x8x512 .f32 := win0_6.stage (cfg0.slots t 6)
abbrev sc0 : Memref sig .tc .vmem S1024x512 .f32 := Memref.whole cc0_scratch0
abbrev sc1 : Memref sig .tc .vmem S1024x512 .f32 := Memref.whole cc0_scratch1
abbrev sc2 : Memref sig .tc .vmem S1024x512 .f32 := Memref.whole cc0_scratch2
abbrev sc3 : Memref sig .tc .vmem S1024x512 .f32 := Memref.whole cc0_scratch3
abbrev sc4 : Memref sig .tc .vmem S22x8x512 .f32 := Memref.whole cc0_scratch4

/-- The invariant: the scratch buffers at some contents, and the generator's register. -/
theorem phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- Nothing is said here of the two results. -/
def forgets : Fin 7 → Bool := fun w => w.val == 5 || w.val == 6

/-- The run's data: the arguments' blocks stay, the results are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare d)
    ∗ (∃ d, owns (c : Thread nD τ) (ms6 t) fullShare d))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms5 t) fullShare d)
    ∗ (∃ d, owns (c : Thread nD τ) (ms6 t) fullShare d))

set_option maxHeartbeats 2400000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, phi_eq]
  rw [show (dats m 0 c).leavesExact 0 t = owns (c : Thread nD τ) (ms0 t) fullShare ((dats m 0 c).after 0 t) from rfl,
    after_0]
  rw [show (dats m 0 c).leavesExact 1 t = owns (c : Thread nD τ) (ms1 t) fullShare ((dats m 0 c).after 1 t) from rfl,
    after_1]
  rw [show (dats m 0 c).leavesExact 2 t = owns (c : Thread nD τ) (ms2 t) fullShare ((dats m 0 c).after 2 t) from rfl,
    after_2]
  rw [show (dats m 0 c).leavesExact 3 t = owns (c : Thread nD τ) (ms3 t) fullShare ((dats m 0 c).after 3 t) from rfl,
    after_3]
  rw [show (dats m 0 c).leavesExact 4 t = owns (c : Thread nD τ) (ms4 t) fullShare ((dats m 0 c).after 4 t) from rfl,
    after_4]
  by_cases h1 : cond1 (grid0.coords t)
  · have e0 := (cond1_iff t).mp h1
    have h2 : k0_cond2 (grid0.coords t) = 1#1 := (cond2_iff t).mpr (by omega)
    have h3 : k0_cond3 (grid0.coords t) = 1#1 := (cond3_iff t).mpr (by omega)
    have h4 : ¬ k0_cond4 (grid0.coords t) = 1#1 := fun h => by have := (cond4_iff t).mp h; omega
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c t _ _ _ _ _ _ _ _ _ _ _ _ _ _ _ _ _ _ _ _ _ _ _ _ h1 h2 h3 h4 (iblk m c 0 t) (iblk m c 1 t) (iblk m c 2 t) (iblk m c 3 t) (iblk m c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases h2 : k0_cond2 (grid0.coords t) = 1#1
  · by_cases h3 : k0_cond3 (grid0.coords t) = 1#1
    · have h4 : ¬ k0_cond4 (grid0.coords t) = 1#1 := fun h => by have := (cond4_iff t).mp h; have := (cond3_iff t).mp h3; omega
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply (run_even_reset c t _ _ _ _ _ _ _ _ _ _ _ _ _ _ _ _ _ _ _ _ _ _ _ _ h1 h2 h3 h4 (iblk m c 0 t) (iblk m c 1 t) (iblk m c 2 t) (iblk m c 3 t) (iblk m c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h4 : k0_cond4 (grid0.coords t) = 1#1 := (cond4_iff t).mpr (Nat.mod_two_ne_zero.mp fun h => h3 ((cond3_iff t).mpr h))
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply (run_odd_reset c t _ _ _ _ _ _ _ _ _ _ _ _ _ _ _ _ _ _ _ _ _ _ _ _ h1 h2 h3 h4 (iblk m c 0 t) (iblk m c 1 t) (iblk m c 2 t) (iblk m c 3 t) (iblk m c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h3 : k0_cond3 (grid0.coords t) = 1#1
    · have h4 : ¬ k0_cond4 (grid0.coords t) = 1#1 := fun h => by have := (cond4_iff t).mp h; have := (cond3_iff t).mp h3; omega
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply (run_even_keep c t _ _ _ _ _ _ _ _ _ _ _ _ _ _ _ _ _ _ _ _ _ _ _ _ h1 h2 h3 h4 (iblk m c 0 t) (iblk m c 1 t) (iblk m c 2 t) (iblk m c 3 t) (iblk m c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h4 : k0_cond4 (grid0.coords t) = 1#1 := (cond4_iff t).mpr (Nat.mod_two_ne_zero.mp fun h => h3 ((cond3_iff t).mpr h))
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply (run_odd_keep c t _ _ _ _ _ _ _ _ _ _ _ _ _ _ _ _ _ _ _ _ _ _ _ _ h1 h2 h3 h4 (iblk m c 0 t) (iblk m c 1 t) (iblk m c 2 t) (iblk m c 3 t) (iblk m c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs to its end, its five arguments unchanged and every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq m c 0).trans (V_main_arg0 m c)), (Pipeline.RDat.FramePost.arr_in h.1 c 1 rfl).trans ((A_eq m c 1).trans (V_main_arg1 m c)), (Pipeline.RDat.FramePost.arr_in h.1 c 2 rfl).trans ((A_eq m c 2).trans (V_main_arg2 m c)), (Pipeline.RDat.FramePost.arr_in h.1 c 3 rfl).trans ((A_eq m c 3).trans (V_main_arg3 m c)), (Pipeline.RDat.FramePost.arr_in h.1 c 4 rfl).trans ((A_eq m c 4).trans (V_main_arg4 m c))⟩, h.2⟩) (run_quiescent m ρ)

end Cert.KernelUp.Up

end
-- ==== Proof.UpFacts.lean ====
/- The kernel of the gated half of the convolutional feed-forward: which point is in which case, and which row of
   the carried rows a point reads and writes. -/
module

public import proofs.«01_k».proof.Proof.Gen.KernelUpIdeal.Launch
public import proofs.«01_k».proof.Proof.Gen.KernelUpIdeal.Skeleton
public import proofs.«01_k».proof.Proof.Gen.KernelUpIdeal.Points
public import proofs.«01_k».proof.Proof.Gen.KernelUpIdeal.Frame
public import Idealize.ShloMosaic.Lib.Pipeline.FrameBody
public import Idealize.ShloMosaic.Lib.Ring
public import Idealize.ShloMosaic.Lib.Tactic

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic

/-- The column tile that point `t` finishes. -/
abbrev col (t : Fin grid0.N) : ℕ := (t.val - 1) % 22

theorem off1 : ∀ t : Fin grid0.N, k0_off1 (grid0.coords t) = ![col t, 0, 0] := by decide +kernel
theorem off2 : ∀ t : Fin grid0.N, k0_off2 (grid0.coords t) = ![col t, 0, 0] := by decide +kernel
theorem off3 : ∀ t : Fin grid0.N, k0_off3 (grid0.coords t) = ![col t, 0, 128] := by decide +kernel
theorem off4 : ∀ t : Fin grid0.N, k0_off4 (grid0.coords t) = ![col t, 0, 256] := by decide +kernel
theorem off5 : ∀ t : Fin grid0.N, k0_off5 (grid0.coords t) = ![col t, 0, 384] := by decide +kernel
theorem off6 : ∀ t : Fin grid0.N, k0_off6 (grid0.coords t) = ![col t, 0, 0] := by decide +kernel
theorem off7 : ∀ t : Fin grid0.N, k0_off7 (grid0.coords t) = ![col t, 0, 128] := by decide +kernel
theorem off8 : ∀ t : Fin grid0.N, k0_off8 (grid0.coords t) = ![col t, 0, 256] := by decide +kernel
theorem off9 : ∀ t : Fin grid0.N, k0_off9 (grid0.coords t) = ![col t, 0, 384] := by decide +kernel

instance (t : Fin grid0.N) : ClosedOff (k0_off1 (grid0.coords t)) := ⟨![col t, 0, 0], off1 t⟩
instance (t : Fin grid0.N) : ClosedOff (k0_off2 (grid0.coords t)) := ⟨![col t, 0, 0], off2 t⟩
instance (t : Fin grid0.N) : ClosedOff (k0_off3 (grid0.coords t)) := ⟨![col t, 0, 128], off3 t⟩
instance (t : Fin grid0.N) : ClosedOff (k0_off4 (grid0.coords t)) := ⟨![col t, 0, 256], off4 t⟩
instance (t : Fin grid0.N) : ClosedOff (k0_off5 (grid0.coords t)) := ⟨![col t, 0, 384], off5 t⟩
instance (t : Fin grid0.N) : ClosedOff (k0_off6 (grid0.coords t)) := ⟨![col t, 0, 0], off6 t⟩
instance (t : Fin grid0.N) : ClosedOff (k0_off7 (grid0.coords t)) := ⟨![col t, 0, 128], off7 t⟩
instance (t : Fin grid0.N) : ClosedOff (k0_off8 (grid0.coords t)) := ⟨![col t, 0, 256], off8 t⟩
instance (t : Fin grid0.N) : ClosedOff (k0_off9 (grid0.coords t)) := ⟨![col t, 0, 384], off9 t⟩

/-- The first point clears the second pair of buffers. -/
abbrev cond1 (i : grid0.Coords) : Prop :=
  (Scalar.cmpi .ne (Scalar.extui (Scalar.cmpi .eq (BitVec.ofNat 32 (i 0).val) 0#32)) 0#32) = 1#1
theorem cond1_iff : ∀ t : Fin grid0.N, cond1 (grid0.coords t) ↔ t.val = 0 := by decide +kernel

/-- The carried rows are cleared where a sequence begins; even points write the first pair of buffers, odd ones the
    second. -/
theorem cond2_iff : ∀ t : Fin grid0.N, k0_cond2 (grid0.coords t) = 1#1 ↔ (t.val - 1) / 22 % 2 = 0 := by decide +kernel
theorem cond3_iff : ∀ t : Fin grid0.N, k0_cond3 (grid0.coords t) = 1#1 ↔ t.val % 2 = 0 := by decide +kernel
theorem cond4_iff : ∀ t : Fin grid0.N, k0_cond4 (grid0.coords t) = 1#1 ↔ t.val % 2 = 1 := by decide +kernel

end Cert.KernelUpIdeal.Up

end
-- ==== Proof.UpEven.lean ====
/- The kernel's even points: the tile's products go into one pair of buffers while the tile in the other pair is finished. -/
module

public import proofs.«01_k».proof.Proof.UpFacts

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
/-- What the branch leaves: the carried rows, the two results, the two product buffers, as the list of its stores. -/
noncomputable def even (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec F S1024x4096 .bf16) (x2 x3 : Vec F S1x4096x512 .bf16) (x4 : Vec F S1x3x512 .f32) (x5 : Vec F S1x1x512 .f32)
    (g u : Vec F S1024x512 .f32) (k : Vec F S22x8x512 .f32) :
    { L : List (View.Piece (Elt F) S22x8x512 .f32) × List (View.Piece (Elt F) S1024x512 .bf16) × List (View.Piece (Elt F) S1x8x512 .f32) × List (View.Piece (Elt F) S1024x512 .f32) × List (View.Piece (Elt F) S1024x512 .f32) //
      ∀ (E : Set ℕ) (K : PUnit → sProp (MT nD τ sig Unit (Elt F) ℕ (UR sig nD τ) ℕ)),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare g ∗ owns (c : Thread nD τ) arg11 fullShare u ∗ owns (c : Thread nD τ) arg12 fullShare k ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare g ∗ owns (c : Thread nD τ) arg11 fullShare u ∗ (arg12.view.loc (c : Thread nD τ) ↦[arg12.view.set]{fullShare} arg12.view.writes (Elt F) (harg12.unread k) L.1) ∗ (∃ f, arg6.view.loc (c : Thread nD τ) ↦[arg6.view.set]{fullShare} arg6.view.writes (Elt F) f L.2.1) ∗ (∃ f, arg7.view.loc (c : Thread nD τ) ↦[arg7.view.set]{fullShare} arg7.view.writes (Elt F) f L.2.2.1) ∗ (∃ f, arg8.view.loc (c : Thread nD τ) ↦[arg8.view.set]{fullShare} arg8.view.writes (Elt F) f L.2.2.2.1) ∗ (∃ f, arg9.view.loc (c : Thread nD τ) ↦[arg9.view.set]{fullShare} arg9.view.writes (Elt F) f L.2.2.2.2)) -∗ K ⟨⟩))
          ⊢ wp frame (wpE (defs₀ (F := F)) Variants.none c none) E
            (do
              let v1571 : FVec F S1x8x128 .f32 ← k0_part37 (grid0.coords t) arg1 harg1 arg2 harg2 arg3 harg3 arg4 harg4 arg5 harg5 arg6 harg6 arg7 harg7 arg8 harg8 arg9 harg9 arg10 harg10 arg11 harg11 arg12 harg12 v28 h
              Prog.lift (.store arg7 (Rect.unit (s := S1x8x512) ![0, 0, 384] S1x8x128.size inb_S1x8x512_S1x8x128_0_0_384) v1571 Finset.univ (View.stores_vmem_bits_univ h_S1x8x128 rfl) (.inl rfl))
              pure ⟨⟩) K } := by
  refine ⟨⟨?_, ?_, ?_, ?_, ?_⟩, fun E K => ?run⟩
  case run =>
    simp only [k0_part37_eq_skeleton]; unfold k0_part37_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f10, %hf10, H10⟩, ⟨%f11, %hf11, H11⟩, ⟨%f12, %hf12, H12⟩, ⟨%d6, %f6, %hf6, H6⟩, ⟨%d7, %f7, %hf7, H7⟩, ⟨%d8, %f8, %hf8, H8⟩, ⟨%d9, %f9, %hf9, H9⟩, Hk⟩
    obtain rfl := harg1.eq_unread hf1; obtain rfl := harg2.eq_unread hf2; obtain rfl := harg3.eq_unread hf3; obtain rfl := harg4.eq_unread hf4; obtain rfl := harg5.eq_unread hf5; obtain rfl := harg10.eq_unread hf10; obtain rfl := harg11.eq_unread hf11; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H10]
    · iexists _; isplitr; · ipureintro; exact harg10.read_unread _
      iexact H10
    isplitl [H11]
    · iexists _; isplitr; · ipureintro; exact harg11.read_unread _
      iexact H11
    isplitl [H12]; · iexact H12
    isplitl [H6]; · iexists _; iexact H6
    isplitl [H7]; · iexists _; iexact H7
    isplitl [H8]; · iexists _; iexact H8
    iexists _; iexact H9

end Cert.KernelUpIdeal.Up

end
-- ==== Proof.UpTile.lean ====
/- The gated half of the convolutional feed-forward: one tile's values. A chunk of 64 rows and 128 columns is the three-tap
   convolution of its gate rows, passed through silu and multiplied by the up projection; the rows before the chunk are the
   tile's own, or, in the first chunk, the eight rows carried from the tile before. -/
module

public import proofs.«01_k».proof.Proof.UpFacts
public import Idealize.ShloMosaic.Lib.Pointwise
public import Idealize.ShloMosaic.Lib.Pipeline.ValueKit
public import Idealize.ShloMosaic.Lib.WritesUnit

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic

/-- One entry of the activation, from the three taps, the bias, the three gate rows and the up projection. -/
def fin (w0 w1 w2 b e0 e1 e2 u : EReal) : EReal :=
  (b + w0 * e0 + w1 * e1 + w2 * e2) * Ideal.logistic (b + w0 * e0 + w1 * e1 + w2 * e2) * u

/-- A chunk as the kernel computes it, from its taps, the gate rows with the eight before them, and the up rows. -/
def chunk (w0 w1 w2 b : FVec Ideal S1x128 .f32) (e : FVec Ideal S72x128 .f32) (u : FVec Ideal S64x128 .f32) :
    FVec Ideal S64x128 .bf16 :=
  let c := addf (addf (addf (broadcastTo S64x128 b broadcasts_S1x128_S64x128)
      (mulf (broadcastTo S64x128 w0 broadcasts_S1x128_S64x128)
        (extractStridedSlice S64x128 ![8, 0] (dynamicRotate 0 2#32 none e rotates_S72x128_d0) slices_S72x128_o8_0_S64x128)))
      (mulf (broadcastTo S64x128 w1 broadcasts_S1x128_S64x128)
        (extractStridedSlice S64x128 ![8, 0] (dynamicRotate 0 1#32 none e rotates_S72x128_d0) slices_S72x128_o8_0_S64x128)))
      (mulf (broadcastTo S64x128 w2 broadcasts_S1x128_S64x128)
        (extractStridedSlice S64x128 ![8, 0] e slices_S72x128_o8_0_S64x128))
  truncf .bf16 (mulf (mulf c (logistic c)) u) bitsLt_bf16_f32

theorem chunk_apply (w0 w1 w2 b : FVec Ideal S1x128 .f32) (e : FVec Ideal S72x128 .f32) (u : FVec Ideal S64x128 .f32)
    (r : Fin 64) (l : Fin 128) :
    chunk w0 w1 w2 b e u (ix2 r l) = fin (w0 (ix2 0 l)) (w1 (ix2 0 l)) (w2 (ix2 0 l)) (b (ix2 0 l))
      (e (ix2 ⟨r.val + 6, by omega⟩ l)) (e (ix2 ⟨r.val + 7, by omega⟩ l)) (e (ix2 ⟨r.val + 8, by omega⟩ l)) (u (ix2 r l)) := by
  have h2 : (8 + r.val + 72 - 2) % 72 = r.val + 6 := by omega
  have h1 : (8 + r.val + 72 - 1) % 72 = r.val + 7 := by omega
  have h0 : 8 + r.val = r.val + 8 := by omega
  pointwise [chunk, fin]
  simp only [h1, h2]
  simp only [h0]

/-- The gate rows of a tile with the eight carried rows before them: row `i` counts from the first carried row. -/
def row (k : Vec Ideal S22x8x512 .f32) (q : Fin 22) (g : Vec Ideal S1024x512 .f32) (i : ℕ) (l : Fin 512) : EReal :=
  if h : i < 8 then k (ix3 q ⟨i, h⟩ l) else g (ix2 ⟨(i - 8) % 1024, Nat.mod_lt _ (by decide)⟩ l)

/-- The activation of a tile, from its taps, bias, gate and up rows, and the carried rows. -/
def tile (x4 : Vec Ideal S1x3x512 .f32) (x5 : Vec Ideal S1x1x512 .f32) (g u : Vec Ideal S1024x512 .f32)
    (k : Vec Ideal S22x8x512 .f32) (q : Fin 22) (y : S1024x512.Idx) : EReal :=
  fin (x4 (ix3 0 0 (y 1))) (x4 (ix3 0 1 (y 1))) (x4 (ix3 0 2 (y 1))) (x5 (ix3 0 0 (y 1)))
    (row k q g ((y 0).val + 6) (y 1)) (row k q g ((y 0).val + 7) (y 1)) (row k q g ((y 0).val + 8) (y 1)) (u y)

/-- The column tile a point finishes, as an index of the carried rows. -/
def colF (t : Fin grid0.N) : Fin 22 := ⟨col t, Nat.mod_lt _ (by decide)⟩

/-- The tail block: the last eight gate rows. -/
def tail (g : Vec Ideal S1024x512 .f32) (y : S1x8x512.Idx) : EReal :=
  g (ix2 ⟨1016 + (y 1).val, by have : (y 1).val < 8 := (y 1).isLt; omega⟩ (y 2))

/-- The carried rows after a tile: its last eight gate rows in its column's place. -/
def carry (q : Fin 22) (g : Vec Ideal S1024x512 .f32) (k : Vec Ideal S22x8x512 .f32) (y : S22x8x512.Idx) : EReal :=
  if (y 0).val = q.val then g (ix2 ⟨1016 + (y 1).val, by have : (y 1).val < 8 := (y 1).isLt; omega⟩ (y 2)) else k y

/-- A tile's product with one weight block. -/
abbrev gate (x : Vec Ideal S1024x4096 .bf16) (w : Vec Ideal S1x4096x512 .bf16) : Vec Ideal S1024x512 .f32 := k0_pay2 x w

section Reads

variable {s : Shape} {e : EltTy}

/-- A load through a rectangle of a buffer holding `x`, at an index. -/
theorem ld_at (a : Memref sig .tc .vmem s e) (ha : a.IsWhole) (x : Vec Ideal s e) (off size : Fin s.rank → ℕ) (inb)
    (j : (Rect.unit off size inb).shape.Idx) (i : s.Idx) (hi : ∀ b, (i b : ℕ) = off b + j b) :
    View.readAt (Elt Ideal) a.view (Rect.unit off size inb).toLoadRect (ha.unread x) j = x i := by
  rw [View.readAt_eq_ld, ha.read_unread]
  exact View.ld_unit_apply_of _ _ _ _ _ _ hi

end Reads

/-- The taps of a chunk, read out of their block. -/
theorem tap_at (a : Memref sig .tc .vmem S1x3x512 .f32) (ha : a.IsWhole) (x : Vec Ideal S1x3x512 .f32) (j : ℕ) (hj : j < 3) (o : ℕ)
    (inb) (l : Fin 128) (n : Fin 512) (hn : n.val = o + l.val) :
    shapeCast S1x128 (View.readAt (Elt Ideal) a.view (Rect.unit (s := S1x3x512) ![0, j, o] S1x1x128.size inb).toLoadRect (ha.unread x) : Vec Ideal S1x1x128 .f32)
      shapeCasts_S1x1x128_S1x128 (ix2 0 l) = x (ix3 0 ⟨j, hj⟩ n) := by
  pointwise
  refine ld_at a ha x _ _ inb _ _ fun b => ?_
  match b with
  | ⟨0, _⟩ => rfl
  | ⟨1, _⟩ => rfl
  | ⟨2, _⟩ => exact hn

/-- The bias of a chunk, read out of its block. -/
theorem bias_at (a : Memref sig .tc .vmem S1x1x512 .f32) (ha : a.IsWhole) (x : Vec Ideal S1x1x512 .f32) (o : ℕ)
    (inb) (l : Fin 128) (n : Fin 512) (hn : n.val = o + l.val) :
    shapeCast S1x128 (View.readAt (Elt Ideal) a.view (Rect.unit (s := S1x1x512) ![0, 0, o] S1x1x128.size inb).toLoadRect (ha.unread x) : Vec Ideal S1x1x128 .f32)
      shapeCasts_S1x1x128_S1x128 (ix2 0 l) = x (ix3 0 0 n) := by
  pointwise
  refine ld_at a ha x _ _ inb _ _ fun b => ?_
  match b with
  | ⟨0, _⟩ => rfl
  | ⟨1, _⟩ => rfl
  | ⟨2, _⟩ => exact hn

/-- The carried rows put before a chunk, at an index. -/
theorem cat_apply (p : Vec Ideal S1x8x128 .f32) (e : Vec Ideal S64x128 .f32) (i : Fin 72) (n : Fin 128) :
    concatenate S72x128 0 [⟨S8x128, shapeCast S8x128 p shapeCasts_S1x8x128_S8x128⟩, ⟨S64x128, e⟩]
        concatenates_S8x128_S64x128_S72x128_d0 (ix2 i n)
      = if h : i.val < 8 then p (ix3 0 ⟨i.val, h⟩ n) else e (ix2 ⟨i.val - 8, by omega⟩ n) := by
  pointwise

/-- Eight rows stored as a block of eight rows, at an index. -/
theorem up_apply (v : Vec Ideal S8x128 .f32) (r : Fin 8) (n : Fin 128) :
    shapeCast S1x8x128 v shapeCasts_S8x128_S1x8x128 (ix3 0 r n) = v (ix2 r n) := by
  pointwise

section Chunks

variable (a4 : Memref sig .tc .vmem S1x3x512 .f32) (h4 : a4.IsWhole) (a5 : Memref sig .tc .vmem S1x1x512 .f32) (h5 : a5.IsWhole)
  (ag : Memref sig .tc .vmem S1024x512 .f32) (hg : ag.IsWhole) (au : Memref sig .tc .vmem S1024x512 .f32) (hu : au.IsWhole)
  (a12 : Memref sig .tc .vmem S22x8x512 .f32) (h12 : a12.IsWhole)
  (x4 : Vec Ideal S1x3x512 .f32) (x5 : Vec Ideal S1x1x512 .f32) (g u : Vec Ideal S1024x512 .f32) (k : Vec Ideal S22x8x512 .f32)

/-- A chunk after the first: the rows before it are the tile's own. -/
theorem mid (q : Fin 22) (o o' l : ℕ) (i0 i1 i2 ib ig iu) (ho : o = o' + 8) (y : S1024x512.Idx) (x : S64x128.Idx)
    (hy0 : (y 0).val = o + (x 0).val) (hy1 : (y 1).val = l + (x 1).val) :
    chunk
      (shapeCast S1x128 (View.readAt (Elt Ideal) a4.view (Rect.unit (s := S1x3x512) ![0, 0, l] S1x1x128.size i0).toLoadRect (h4.unread x4) : Vec Ideal S1x1x128 .f32) shapeCasts_S1x1x128_S1x128)
      (shapeCast S1x128 (View.readAt (Elt Ideal) a4.view (Rect.unit (s := S1x3x512) ![0, 1, l] S1x1x128.size i1).toLoadRect (h4.unread x4) : Vec Ideal S1x1x128 .f32) shapeCasts_S1x1x128_S1x128)
      (shapeCast S1x128 (View.readAt (Elt Ideal) a4.view (Rect.unit (s := S1x3x512) ![0, 2, l] S1x1x128.size i2).toLoadRect (h4.unread x4) : Vec Ideal S1x1x128 .f32) shapeCasts_S1x1x128_S1x128)
      (shapeCast S1x128 (View.readAt (Elt Ideal) a5.view (Rect.unit (s := S1x1x512) ![0, 0, l] S1x1x128.size ib).toLoadRect (h5.unread x5) : Vec Ideal S1x1x128 .f32) shapeCasts_S1x1x128_S1x128)
      (View.readAt (Elt Ideal) ag.view (Rect.unit (s := S1024x512) ![o', l] S72x128.size ig).toLoadRect (hg.unread g) : Vec Ideal S72x128 .f32)
      (View.readAt (Elt Ideal) au.view (Rect.unit (s := S1024x512) ![o, l] S64x128.size iu).toLoadRect (hu.unread u) : Vec Ideal S64x128 .f32) x
    = tile x4 x5 g u k q y := by
  obtain ⟨r, n, rfl⟩ : ∃ (r : Fin 64) (n : Fin 128), x = ix2 r n := ⟨x 0, x 1, eq_ix2 x⟩
  obtain ⟨Y, N, rfl⟩ : ∃ (Y : Fin 1024) (N : Fin 512), y = ix2 Y N := ⟨y 0, y 1, eq_ix2 y⟩
  replace hy0 : Y.val = o + r.val := hy0
  replace hy1 : N.val = l + n.val := hy1
  have hr := r.isLt
  have hY := Y.isLt
  have key : ∀ (d : ℕ) (hd : d ≤ 2), (View.readAt (Elt Ideal) ag.view (Rect.unit (s := S1024x512) ![o', l] S72x128.size ig).toLoadRect (hg.unread g) : Vec Ideal S72x128 .f32)
      (ix2 ⟨r.val + (6 + d), by omega⟩ n) = row k q g (Y.val + (6 + d)) N := fun d hd => by
    unfold row
    rw [dif_neg (by omega)]
    refine ld_at ag hg g _ _ ig _ _ fun b => ?_
    match b with
    | ⟨0, _⟩ => show (Y.val + (6 + d) - 8) % 1024 = o' + (r.val + (6 + d)); omega
    | ⟨1, _⟩ => exact hy1
  rw [chunk_apply, tap_at a4 h4 x4 0 (by decide) l i0 n N hy1, tap_at a4 h4 x4 1 (by decide) l i1 n N hy1, tap_at a4 h4 x4 2 (by decide) l i2 n N hy1,
    bias_at a5 h5 x5 l ib n N hy1, key 0 (by omega), key 1 (by omega), key 2 (by omega),
    ld_at au hu u _ _ iu (ix2 r n) (ix2 Y N) (fun b => match b with | ⟨0, _⟩ => hy0 | ⟨1, _⟩ => hy1)]
  rfl

/-- The first chunk: the rows before it are the carried ones. -/
theorem first (q : Fin 22) (l : ℕ) (i0 i1 i2 ib ig iu) (off : Fin 3 → ℕ) (ik) (hoff : off = ![q.val, 0, l])
    (y : S1024x512.Idx) (x : S64x128.Idx)
    (hy0 : (y 0).val = (x 0).val) (hy1 : (y 1).val = l + (x 1).val) :
    chunk
      (shapeCast S1x128 (View.readAt (Elt Ideal) a4.view (Rect.unit (s := S1x3x512) ![0, 0, l] S1x1x128.size i0).toLoadRect (h4.unread x4) : Vec Ideal S1x1x128 .f32) shapeCasts_S1x1x128_S1x128)
      (shapeCast S1x128 (View.readAt (Elt Ideal) a4.view (Rect.unit (s := S1x3x512) ![0, 1, l] S1x1x128.size i1).toLoadRect (h4.unread x4) : Vec Ideal S1x1x128 .f32) shapeCasts_S1x1x128_S1x128)
      (shapeCast S1x128 (View.readAt (Elt Ideal) a4.view (Rect.unit (s := S1x3x512) ![0, 2, l] S1x1x128.size i2).toLoadRect (h4.unread x4) : Vec Ideal S1x1x128 .f32) shapeCasts_S1x1x128_S1x128)
      (shapeCast S1x128 (View.readAt (Elt Ideal) a5.view (Rect.unit (s := S1x1x512) ![0, 0, l] S1x1x128.size ib).toLoadRect (h5.unread x5) : Vec Ideal S1x1x128 .f32) shapeCasts_S1x1x128_S1x128)
      (concatenate S72x128 0
        [⟨S8x128, shapeCast S8x128 (View.readAt (Elt Ideal) a12.view (Rect.unit (s := S22x8x512) off S1x8x128.size ik).toLoadRect (h12.unread k) : Vec Ideal S1x8x128 .f32) shapeCasts_S1x8x128_S8x128⟩,
         ⟨S64x128, (View.readAt (Elt Ideal) ag.view (Rect.unit (s := S1024x512) ![0, l] S64x128.size ig).toLoadRect (hg.unread g) : Vec Ideal S64x128 .f32)⟩]
        concatenates_S8x128_S64x128_S72x128_d0)
      (View.readAt (Elt Ideal) au.view (Rect.unit (s := S1024x512) ![0, l] S64x128.size iu).toLoadRect (hu.unread u) : Vec Ideal S64x128 .f32) x
    = tile x4 x5 g u k q y := by
  subst hoff
  obtain ⟨r, n, rfl⟩ : ∃ (r : Fin 64) (n : Fin 128), x = ix2 r n := ⟨x 0, x 1, eq_ix2 x⟩
  obtain ⟨Y, N, rfl⟩ : ∃ (Y : Fin 1024) (N : Fin 512), y = ix2 Y N := ⟨y 0, y 1, eq_ix2 y⟩
  replace hy0 : Y.val = r.val := hy0
  replace hy1 : N.val = l + n.val := hy1
  have hr := r.isLt
  have hY := Y.isLt
  have key : ∀ (d : ℕ) (hd : d ≤ 2), (concatenate S72x128 0
        [⟨S8x128, shapeCast S8x128 (View.readAt (Elt Ideal) a12.view (Rect.unit (s := S22x8x512) ![q.val, 0, l] S1x8x128.size ik).toLoadRect (h12.unread k) : Vec Ideal S1x8x128 .f32) shapeCasts_S1x8x128_S8x128⟩,
         ⟨S64x128, (View.readAt (Elt Ideal) ag.view (Rect.unit (s := S1024x512) ![0, l] S64x128.size ig).toLoadRect (hg.unread g) : Vec Ideal S64x128 .f32)⟩]
        concatenates_S8x128_S64x128_S72x128_d0)
      (ix2 ⟨r.val + (6 + d), by omega⟩ n) = row k q g (Y.val + (6 + d)) N := fun d hd => by
    unfold row
    rw [cat_apply]
    dsimp only
    by_cases h : r.val + (6 + d) < 8
    · rw [dif_pos h, dif_pos (by omega : Y.val + (6 + d) < 8)]
      refine ld_at a12 h12 k _ _ ik _ _ fun b => ?_
      match b with
      | ⟨0, _⟩ => rfl
      | ⟨1, _⟩ => show Y.val + (6 + d) = 0 + (r.val + (6 + d)); omega
      | ⟨2, _⟩ => exact hy1
    · rw [dif_neg h, dif_neg (by omega : ¬ Y.val + (6 + d) < 8)]
      refine ld_at ag hg g _ _ ig _ _ fun b => ?_
      match b with
      | ⟨0, _⟩ => show (Y.val + (6 + d) - 8) % 1024 = 0 + (r.val + (6 + d) - 8); omega
      | ⟨1, _⟩ => exact hy1
  rw [chunk_apply, tap_at a4 h4 x4 0 (by decide) l i0 n N hy1, tap_at a4 h4 x4 1 (by decide) l i1 n N hy1, tap_at a4 h4 x4 2 (by decide) l i2 n N hy1,
    bias_at a5 h5 x5 l ib n N hy1, key 0 (by omega), key 1 (by omega), key 2 (by omega),
    ld_at au hu u _ _ iu (ix2 r n) (ix2 Y N) (fun b => match b with | ⟨0, _⟩ => by show Y.val = 0 + r.val; omega | ⟨1, _⟩ => hy1)]
  rfl

/-- The last eight gate rows, as the kernel stores them. -/
theorem last (l : ℕ) (ig) (r : Fin 8) (n : Fin 128) (N : Fin 512) (hN : N.val = l + n.val) :
    shapeCast S1x8x128 (View.readAt (Elt Ideal) ag.view (Rect.unit (s := S1024x512) ![1016, l] S8x128.size ig).toLoadRect (hg.unread g) : Vec Ideal S8x128 .f32)
      shapeCasts_S8x128_S1x8x128 (ix3 0 r n) = g (ix2 ⟨1016 + r.val, by omega⟩ N) := by
  rw [up_apply]
  refine ld_at ag hg g _ _ ig _ _ fun b => ?_
  match b with
  | ⟨0, _⟩ => rfl
  | ⟨1, _⟩ => exact hN

/-- One lane tile of the tail block. -/
theorem last_at (l : ℕ) (ig) (y : S1x8x512.Idx) (x : S1x8x128.Idx) (hy1 : (y 1).val = (x 1).val)
    (hy2 : (y 2).val = l + (x 2).val) :
    shapeCast S1x8x128 (View.readAt (Elt Ideal) ag.view (Rect.unit (s := S1024x512) ![1016, l] S8x128.size ig).toLoadRect (hg.unread g) : Vec Ideal S8x128 .f32)
      shapeCasts_S8x128_S1x8x128 x = tail g y := by
  obtain ⟨z, r, n, rfl⟩ : ∃ (z : Fin 1) (r : Fin 8) (n : Fin 128), x = ix3 z r n := ⟨x 0, x 1, x 2, eq_ix3 x⟩
  obtain rfl : z = 0 := Subsingleton.elim _ _
  rw [last ag hg g l ig r n (y 2) hy2]
  unfold tail
  exact congrArg g (congrArg (ix2 · (y 2)) (Fin.ext (by show 1016 + r.val = 1016 + (y 1).val; rw [hy1]; rfl)))

/-- The carried rows read back after the four lane tiles were stored. -/
theorem carry_at (q : Fin 22) (b0 b1 b2 b3 : Fin 3 → ℕ) (e0 : b0 = ![q.val, 0, 0]) (e1 : b1 = ![q.val, 0, 128])
    (e2 : b2 = ![q.val, 0, 256]) (e3 : b3 = ![q.val, 0, 384]) (c0 c1 c2 c3 i0 i1 i2 i3) :
    a12.view.read (Elt Ideal) (a12.view.writes (Elt Ideal) (h12.unread k)
      [⟨Rect.unit (s := S22x8x512) b3 ![1, 8, 128] c3, shapeCast S1x8x128 (View.readAt (Elt Ideal) ag.view (Rect.unit (s := S1024x512) ![1016, 384] ![8, 128] i3).toLoadRect (hg.unread g) : Vec Ideal S8x128 .f32) shapeCasts_S8x128_S1x8x128⟩,
       ⟨Rect.unit (s := S22x8x512) b2 ![1, 8, 128] c2, shapeCast S1x8x128 (View.readAt (Elt Ideal) ag.view (Rect.unit (s := S1024x512) ![1016, 256] ![8, 128] i2).toLoadRect (hg.unread g) : Vec Ideal S8x128 .f32) shapeCasts_S8x128_S1x8x128⟩,
       ⟨Rect.unit (s := S22x8x512) b1 ![1, 8, 128] c1, shapeCast S1x8x128 (View.readAt (Elt Ideal) ag.view (Rect.unit (s := S1024x512) ![1016, 128] ![8, 128] i1).toLoadRect (hg.unread g) : Vec Ideal S8x128 .f32) shapeCasts_S8x128_S1x8x128⟩,
       ⟨Rect.unit (s := S22x8x512) b0 ![1, 8, 128] c0, shapeCast S1x8x128 (View.readAt (Elt Ideal) ag.view (Rect.unit (s := S1024x512) ![1016, 0] ![8, 128] i0).toLoadRect (hg.unread g) : Vec Ideal S8x128 .f32) shapeCasts_S8x128_S1x8x128⟩]) = carry q g k := by
  funext y
  have hy2 : (y 2).val < 512 := (y 2).isLt
  have hy1 : (y 1).val < 8 := (y 1).isLt
  by_cases hq : (y 0).val = q.val
  · have hit : ∀ (b : Fin 3 → ℕ) (l : ℕ) (e : b = ![q.val, 0, l]) (c i) (L) (h0 : l ≤ (y 2).val) (h1 : (y 2).val < l + 128),
        a12.view.read (Elt Ideal) (a12.view.writes (Elt Ideal) (h12.unread k)
          (⟨Rect.unit (s := S22x8x512) b ![1, 8, 128] c, shapeCast S1x8x128 (View.readAt (Elt Ideal) ag.view (Rect.unit (s := S1024x512) ![1016, l] ![8, 128] i).toLoadRect (hg.unread g) : Vec Ideal S8x128 .f32) shapeCasts_S8x128_S1x8x128⟩ :: L)) y
        = carry q g k y := fun b l e c i L h0 h1 => by
      unfold carry
      rw [if_pos hq]
      refine (View.read_writes_cons_unit_of_mem a12.view _ _ _ _ y (ix3 0 (y 1) ⟨(y 2).val - l, by omega⟩) e fun a => ?_).trans
        (last ag hg g l i (y 1) ⟨(y 2).val - l, by omega⟩ (y 2) (by show (y 2).val = l + ((y 2).val - l); omega))
      match a with
      | ⟨0, _⟩ => exact hq
      | ⟨1, _⟩ => exact (Nat.zero_add _).symm
      | ⟨2, _⟩ => show (y 2).val = l + ((y 2).val - l); omega
    by_cases h3 : 384 ≤ (y 2).val
    · exact hit b3 384 e3 c3 i3 _ h3 (by omega)
    refine (View.read_writes_cons_unit_of_not_mem a12.view _ _ _ _ y e3 2 (.inl (by show (y 2).val < 384; omega))).trans ?_
    by_cases h2 : 256 ≤ (y 2).val
    · exact hit b2 256 e2 c2 i2 _ h2 (by omega)
    refine (View.read_writes_cons_unit_of_not_mem a12.view _ _ _ _ y e2 2 (.inl (by show (y 2).val < 256; omega))).trans ?_
    by_cases h1 : 128 ≤ (y 2).val
    · exact hit b1 128 e1 c1 i1 _ h1 (by omega)
    refine (View.read_writes_cons_unit_of_not_mem a12.view _ _ _ _ y e1 2 (.inl (by show (y 2).val < 128; omega))).trans ?_
    exact hit b0 0 e0 c0 i0 _ (by omega) (by omega)
  · have hne : (y 0).val < q.val ∨ q.val + 1 ≤ (y 0).val := by omega
    refine (View.read_writes_cons_unit_of_not_mem a12.view _ _ _ _ y e3 0 (by exact hne)).trans ?_
    refine (View.read_writes_cons_unit_of_not_mem a12.view _ _ _ _ y e2 0 (by exact hne)).trans ?_
    refine (View.read_writes_cons_unit_of_not_mem a12.view _ _ _ _ y e1 0 (by exact hne)).trans ?_
    refine (View.read_writes_cons_unit_of_not_mem a12.view _ _ _ _ y e0 0 (by exact hne)).trans ?_
    unfold carry
    rw [if_neg hq, View.writes_nil, h12.read_unread]

end Chunks

/-- A product buffer, stored whole. -/
theorem whole_at (a1 : Memref sig .tc .vmem S1024x4096 .bf16) (h1 : a1.IsWhole) (a2 : Memref sig .tc .vmem S1x4096x512 .bf16)
    (h2 : a2.IsWhole) (x : Vec Ideal S1024x4096 .bf16) (w : Vec Ideal S1x4096x512 .bf16) (i1 i2 i3) :
    View.canon [(⟨Rect.unit (s := S1024x512) ![0, 0] ![1024, 512] i3,
      k0_pay2 (View.readAt (Elt Ideal) a1.view (Rect.unit (s := S1024x4096) ![0, 0] ![1024, 4096] i1).toLoadRect (h1.unread x))
        (View.readAt (Elt Ideal) a2.view (Rect.unit (s := S1x4096x512) ![0, 0, 0] ![1, 4096, 512] i2).toLoadRect (h2.unread w))⟩
        : View.Piece (Elt Ideal) S1024x512 .f32)] = gate x w := by
  have e1 : (View.readAt (Elt Ideal) a1.view (Rect.unit (s := S1024x4096) ![0, 0] ![1024, 4096] i1).toLoadRect (h1.unread x) : Vec Ideal S1024x4096 .bf16) = x :=
    funext fun j => ld_at a1 h1 x _ _ i1 j j fun b => match b with | ⟨0, _⟩ => (Nat.zero_add _).symm | ⟨1, _⟩ => (Nat.zero_add _).symm
  have e2 : (View.readAt (Elt Ideal) a2.view (Rect.unit (s := S1x4096x512) ![0, 0, 0] ![1, 4096, 512] i2).toLoadRect (h2.unread w) : Vec Ideal S1x4096x512 .bf16) = w :=
    funext fun j => ld_at a2 h2 w _ _ i2 j j fun b => match b with | ⟨0, _⟩ => (Nat.zero_add _).symm | ⟨1, _⟩ => (Nat.zero_add _).symm | ⟨2, _⟩ => (Nat.zero_add _).symm
  funext y
  rw [e1, e2]
  unfold gate
  generalize (k0_pay2 x w : Vec Ideal S1024x512 .f32) = v
  have hc : y = (Rect.unit (s := S1024x512) ![0, 0] ![1024, 512] i3).emb y := funext fun b => Fin.ext (match b with
    | ⟨0, _⟩ => by show (y 0).val = 0 + 1 * (y 0).val; omega
    | ⟨1, _⟩ => by show (y 1).val = 0 + 1 * (y 1).val; omega)
  exact (congrArg _ hc).trans (View.canon_cons_emb _ _ _ _)

end Cert.KernelUpIdeal.Up

end
-- ==== Proof.UpEvenVal.lean ====
/- What the even points leave in their buffers, entry by entry. -/
module

public import proofs.«01_k».proof.Proof.UpEven
public import proofs.«01_k».proof.Proof.UpTile
public import Idealize.ShloMosaic.Lib.WritesUnit

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic

set_option maxHeartbeats 8000000 in
/-- The activation block: the tile held in the other pair of buffers, finished. -/
theorem even_act (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1024x512.Idx) :
    View.canon (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.1 y = tile x4 x5 g u k (colF t) y := by
  dsimp only [even]
  canon_tiles x hy
  all_goals open_payloads
  all_goals first
    | (have hz : (y 0).val = (x 0).val := hy0
       exact first arg4 harg4 arg5 harg5 arg10 harg10 arg11 harg11 arg12 harg12 x4 x5 g u k (colF t) _ _ _ _ _ _ _ _ _ (by first | exact off2 t | exact off3 t | exact off4 t | exact off5 t) y x hz (by omega))
    | exact mid arg4 harg4 arg5 harg5 arg10 harg10 arg11 harg11 x4 x5 g u k (colF t) _ _ _ _ _ _ _ _ _ (by rfl) y x hy0 (by omega)

set_option maxHeartbeats 4000000 in
/-- The tail block: the last eight gate rows of that tile. -/
theorem even_tail (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1x8x512.Idx) :
    View.canon (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.1 y = tail g y := by
  dsimp only [even]
  canon_tiles x hy
  all_goals exact last_at arg10 harg10 g _ _ y x hy1 (by omega)

/-- The product buffers, whole. -/
theorem even_cur0 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) :
    View.canon (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.2.1 = gate x1 x2 := by
  dsimp only [even]
  exact whole_at arg1 harg1 arg2 harg2 x1 x2 _ _ _
theorem even_cur1 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) :
    View.canon (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.2.2 = gate x1 x3 := by
  dsimp only [even]
  exact whole_at arg1 harg1 arg3 harg3 x1 x3 _ _ _

theorem even_cover6 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1024x512.Idx) : ∃ p ∈ (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.1, y ∈ p.1.set := by
  dsimp only [even]
  exact View.cover_of_tiled_head _ _ _ (by rfl) y
theorem even_cover7 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1x8x512.Idx) : ∃ p ∈ (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.1, y ∈ p.1.set := by
  dsimp only [even]
  exact View.cover_of_tiled_head _ _ _ (by rfl) y
theorem even_cover8 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1024x512.Idx) : ∃ p ∈ (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.2.1, y ∈ p.1.set := by
  dsimp only [even]
  exact View.cover_of_tiled_head _ _ _ (by rfl) y
theorem even_cover9 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1024x512.Idx) : ∃ p ∈ (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.2.2, y ∈ p.1.set := by
  dsimp only [even]
  exact View.cover_of_tiled_head _ _ _ (by rfl) y

set_option maxHeartbeats 4000000 in
/-- The carried rows: the finished tile's last eight gate rows in its column's place, the others kept. -/
theorem even_carry (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) :
    arg12.view.read (Elt Ideal) (arg12.view.writes (Elt Ideal) (harg12.unread k) (even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.1) = carry (colF t) g k := by
  dsimp only [even]
  exact carry_at arg10 harg10 arg12 harg12 g k (colF t) _ _ _ _ (off2 t) (off3 t) (off4 t) (off5 t) _ _ _ _ _ _ _ _

end Cert.KernelUpIdeal.Up

end
-- ==== Proof.UpOdd.lean ====
/- The kernel's odd points: the tile's products go into one pair of buffers while the tile in the other pair is finished. -/
module

public import proofs.«01_k».proof.Proof.UpEven

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
/-- What the branch leaves: the carried rows, the two results, the two product buffers, as the list of its stores. -/
noncomputable def odd (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec F S1024x4096 .bf16) (x2 x3 : Vec F S1x4096x512 .bf16) (x4 : Vec F S1x3x512 .f32) (x5 : Vec F S1x1x512 .f32)
    (g u : Vec F S1024x512 .f32) (k : Vec F S22x8x512 .f32) :
    { L : List (View.Piece (Elt F) S22x8x512 .f32) × List (View.Piece (Elt F) S1024x512 .bf16) × List (View.Piece (Elt F) S1x8x512 .f32) × List (View.Piece (Elt F) S1024x512 .f32) × List (View.Piece (Elt F) S1024x512 .f32) //
      ∀ (E : Set ℕ) (K : PUnit → sProp (MT nD τ sig Unit (Elt F) ℕ (UR sig nD τ) ℕ)),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare g ∗ owns (c : Thread nD τ) arg9 fullShare u ∗ owns (c : Thread nD τ) arg12 fullShare k ∗ (∃ d, owns (c : Thread nD τ) arg6 fullShare d) ∗ (∃ d, owns (c : Thread nD τ) arg7 fullShare d) ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare g ∗ owns (c : Thread nD τ) arg9 fullShare u ∗ (arg12.view.loc (c : Thread nD τ) ↦[arg12.view.set]{fullShare} arg12.view.writes (Elt F) (harg12.unread k) L.1) ∗ (∃ f, arg6.view.loc (c : Thread nD τ) ↦[arg6.view.set]{fullShare} arg6.view.writes (Elt F) f L.2.1) ∗ (∃ f, arg7.view.loc (c : Thread nD τ) ↦[arg7.view.set]{fullShare} arg7.view.writes (Elt F) f L.2.2.1) ∗ (∃ f, arg10.view.loc (c : Thread nD τ) ↦[arg10.view.set]{fullShare} arg10.view.writes (Elt F) f L.2.2.2.1) ∗ (∃ f, arg11.view.loc (c : Thread nD τ) ↦[arg11.view.set]{fullShare} arg11.view.writes (Elt F) f L.2.2.2.2)) -∗ K ⟨⟩))
          ⊢ wp frame (wpE (defs₀ (F := F)) Variants.none c none) E
            (do
              let v1571 : FVec F S1x8x128 .f32 ← k0_part74 (grid0.coords t) arg1 harg1 arg2 harg2 arg3 harg3 arg4 harg4 arg5 harg5 arg6 harg6 arg7 harg7 arg8 harg8 arg9 harg9 arg10 harg10 arg11 harg11 arg12 harg12 v28 h
              Prog.lift (.store arg7 (Rect.unit (s := S1x8x512) ![0, 0, 384] S1x8x128.size inb_S1x8x512_S1x8x128_0_0_384) v1571 Finset.univ (View.stores_vmem_bits_univ h_S1x8x128 rfl) (.inl rfl))
              pure ⟨⟩) K } := by
  refine ⟨⟨?_, ?_, ?_, ?_, ?_⟩, fun E K => ?run⟩
  case run =>
    simp only [k0_part74_eq_skeleton]; unfold k0_part74_skel
    simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f12, %hf12, H12⟩, ⟨%d6, %f6, %hf6, H6⟩, ⟨%d7, %f7, %hf7, H7⟩, ⟨%d10, %f10, %hf10, H10⟩, ⟨%d11, %f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg12.eq_unread hf12
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H8]
    · iexists _; isplitr; · ipureintro; exact harg8.read_unread _
      iexact H8
    isplitl [H9]
    · iexists _; isplitr; · ipureintro; exact harg9.read_unread _
      iexact H9
    isplitl [H12]; · iexact H12
    isplitl [H6]; · iexists _; iexact H6
    isplitl [H7]; · iexists _; iexact H7
    isplitl [H10]; · iexists _; iexact H10
    iexists _; iexact H11

end Cert.KernelUpIdeal.Up

end
-- ==== Proof.UpOddVal.lean ====
/- What the odd points leave in their buffers, entry by entry. -/
module

public import proofs.«01_k».proof.Proof.UpOdd
public import proofs.«01_k».proof.Proof.UpTile
public import Idealize.ShloMosaic.Lib.WritesUnit

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic

set_option maxHeartbeats 8000000 in
/-- The activation block: the tile held in the other pair of buffers, finished. -/
theorem odd_act (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1024x512.Idx) :
    View.canon (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.1 y = tile x4 x5 g u k (colF t) y := by
  dsimp only [odd]
  canon_tiles x hy
  all_goals open_payloads
  all_goals first
    | (have hz : (y 0).val = (x 0).val := hy0
       exact first arg4 harg4 arg5 harg5 arg8 harg8 arg9 harg9 arg12 harg12 x4 x5 g u k (colF t) _ _ _ _ _ _ _ _ _ (by first | exact off6 t | exact off7 t | exact off8 t | exact off9 t) y x hz (by omega))
    | exact mid arg4 harg4 arg5 harg5 arg8 harg8 arg9 harg9 x4 x5 g u k (colF t) _ _ _ _ _ _ _ _ _ (by rfl) y x hy0 (by omega)

set_option maxHeartbeats 4000000 in
/-- The tail block: the last eight gate rows of that tile. -/
theorem odd_tail (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1x8x512.Idx) :
    View.canon (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.1 y = tail g y := by
  dsimp only [odd]
  canon_tiles x hy
  all_goals exact last_at arg8 harg8 g _ _ y x hy1 (by omega)

/-- The product buffers, whole. -/
theorem odd_cur0 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) :
    View.canon (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.2.1 = gate x1 x2 := by
  dsimp only [odd]
  exact whole_at arg1 harg1 arg2 harg2 x1 x2 _ _ _
theorem odd_cur1 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) :
    View.canon (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.2.2 = gate x1 x3 := by
  dsimp only [odd]
  exact whole_at arg1 harg1 arg3 harg3 x1 x3 _ _ _

theorem odd_cover6 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1024x512.Idx) : ∃ p ∈ (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.1, y ∈ p.1.set := by
  dsimp only [odd]
  exact View.cover_of_tiled_head _ _ _ (by rfl) y
theorem odd_cover7 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1x8x512.Idx) : ∃ p ∈ (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.1, y ∈ p.1.set := by
  dsimp only [odd]
  exact View.cover_of_tiled_head _ _ _ (by rfl) y
theorem odd_cover8 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1024x512.Idx) : ∃ p ∈ (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.2.1, y ∈ p.1.set := by
  dsimp only [odd]
  exact View.cover_of_tiled_head _ _ _ (by rfl) y
theorem odd_cover9 (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (y : S1024x512.Idx) : ∃ p ∈ (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.2.2.2.2, y ∈ p.1.set := by
  dsimp only [odd]
  exact View.cover_of_tiled_head _ _ _ (by rfl) y

set_option maxHeartbeats 4000000 in
/-- The carried rows: the finished tile's last eight gate rows in its column's place, the others kept. -/
theorem odd_carry (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) :
    arg12.view.read (Elt Ideal) (arg12.view.writes (Elt Ideal) (harg12.unread k) (odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).1.1) = carry (colF t) g k := by
  dsimp only [odd]
  exact carry_at arg8 harg8 arg12 harg12 g k (colF t) _ _ _ _ (off6 t) (off7 t) (off8 t) (off9 t) _ _ _ _ _ _ _ _

end Cert.KernelUpIdeal.Up

end
-- ==== Proof.UpBody.lean ====
/- The kernel's body at any point: what clears the buffers where a sequence begins, and the two branches that follow. -/
module

public import proofs.«01_k».proof.Proof.UpEvenVal
public import proofs.«01_k».proof.Proof.UpOddVal

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The carried rows with one column's rows cleared. -/
def clear (q : Fin 22) (k : Vec Ideal S22x8x512 .f32) (y : S22x8x512.Idx) : EReal := if (y 0).val = q.val then 0 else k y

theorem pay1_at (z : Fin 1) (r : Fin 8) (n : Fin 512) : (k0_pay1 (F := Ideal)) (ix3 z r n) = 0 := by
  obtain rfl : z = 0 := Subsingleton.elim _ _
  pointwise [k0_pay1]
theorem pay230_at (r : Fin 1024) (n : Fin 512) : (k0_pay230 (F := Ideal)) (ix2 r n) = 0 := by pointwise [k0_pay230]
theorem pay231_at (r : Fin 1024) (n : Fin 512) : (k0_pay231 (F := Ideal)) (ix2 r n) = 0 := by pointwise [k0_pay231]

/-- The store that clears a column's carried rows. -/
theorem clear_at (a12 : Memref sig .tc .vmem S22x8x512 .f32) (h12 : a12.IsWhole) (k : Vec Ideal S22x8x512 .f32) (q : Fin 22)
    (b : Fin 3 → ℕ) (e : b = ![q.val, 0, 0]) (i) :
    a12.view.read (Elt Ideal) (a12.view.writes (Elt Ideal) (h12.unread k)
      [⟨Rect.unit (s := S22x8x512) b ![1, 8, 512] i, (k0_pay1 (F := Ideal) : Vec Ideal S1x8x512 .f32)⟩]) = clear q k := by
  funext y
  unfold clear
  by_cases hq : (y 0).val = q.val
  · rw [if_pos hq]
    refine (View.read_writes_cons_unit_of_mem a12.view _ _ _ _ y (ix3 0 (y 1) (y 2)) e fun a => ?_).trans (pay1_at _ _ _)
    match a with
    | ⟨0, _⟩ => exact hq
    | ⟨1, _⟩ => exact (Nat.zero_add _).symm
    | ⟨2, _⟩ => exact (Nat.zero_add _).symm
  · have hne : (y 0).val < q.val ∨ q.val + 1 ≤ (y 0).val := by omega
    refine (View.read_writes_cons_unit_of_not_mem a12.view _ _ _ _ y e 0 (by exact hne)).trans ?_
    rw [if_neg hq, View.writes_nil, h12.read_unread]

/-- The store that clears a whole product buffer. -/
theorem wipe_at (a : Memref sig .tc .vmem S1024x512 .f32) (f) (v : Vec Ideal S1024x512 .f32) (hv : ∀ r n, v (ix2 r n) = 0) (i) :
    a.view.read (Elt Ideal) (a.view.writes (Elt Ideal) f
      [⟨Rect.unit (s := S1024x512) ![0, 0] ![1024, 512] i, v⟩]) = fun _ => 0 := by
  funext y
  refine (View.read_writes_cons_unit_of_mem a.view _ _ _ _ y (ix2 (y 0) (y 1)) rfl fun b => ?_).trans (hv _ _)
  match b with
  | ⟨0, _⟩ => exact (Nat.zero_add _).symm
  | ⟨1, _⟩ => exact (Nat.zero_add _).symm

/-- The two branches, of which a point takes one. -/
noncomputable def rest (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) : Prog (TpuEff nD τ sig (Elt Ideal) Λ₀ .tc) PUnit := do
  if k0_h3 : k0_cond3 (grid0.coords t) = 1#1 then do
    let v1571 : FVec Ideal S1x8x128 .f32 ← k0_part37 (grid0.coords t) arg1 harg1 arg2 harg2 arg3 harg3 arg4 harg4 arg5 harg5 arg6 harg6 arg7 harg7 arg8 harg8 arg9 harg9 arg10 harg10 arg11 harg11 arg12 harg12 v28 k0_h3
    Prog.lift (.store arg7 (Rect.unit (s := S1x8x512) ![0, 0, 384] S1x8x128.size inb_S1x8x512_S1x8x128_0_0_384) v1571 Finset.univ (View.stores_vmem_bits_univ h_S1x8x128 rfl) (.inl rfl))
    pure ⟨⟩
  else do
    pure ⟨⟩
  if k0_h4 : k0_cond4 (grid0.coords t) = 1#1 then do
    let v1571 : FVec Ideal S1x8x128 .f32 ← k0_part74 (grid0.coords t) arg1 harg1 arg2 harg2 arg3 harg3 arg4 harg4 arg5 harg5 arg6 harg6 arg7 harg7 arg8 harg8 arg9 harg9 arg10 harg10 arg11 harg11 arg12 harg12 v28 k0_h4
    Prog.lift (.store arg7 (Rect.unit (s := S1x8x512) ![0, 0, 384] S1x8x128.size inb_S1x8x512_S1x8x128_0_0_384) v1571 Finset.univ (View.stores_vmem_bits_univ h_S1x8x128 rfl) (.inl rfl))
    pure ⟨⟩
  else do
    pure ⟨⟩
  pure ⟨⟩

/-- What comes before them, whatever follows. -/
noncomputable def start (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (P : BitVec 32 → Prog (TpuEff nD τ sig (Elt Ideal) Λ₀ .tc) PUnit) :
    Prog (TpuEff nD τ sig (Elt Ideal) Λ₀ .tc) PUnit := do
  let ⟨_, v28, _, _, _, _⟩ : Σ' (arg0 : BitVec 32) (v28 : BitVec 32) (v33 : BitVec 32) (v34 : BitVec 32) (v35 : BitVec 1), BitVec 32 ← k0_part75 (grid0.coords t) arg1 harg1 arg2 harg2 arg3 harg3 arg4 harg4 arg5 harg5 arg6 harg6 arg7 harg7 arg8 harg8 arg9 harg9 arg10 harg10 arg11 harg11 arg12 harg12
  if k0_h2 : k0_cond2 (grid0.coords t) = 1#1 then do
    let v73 : Vec Ideal S1x8x512 .f32 ← Prog.lift (.load arg12 (Rect.unit (s := S22x8x512) (k0_off1 (grid0.coords t)) S1x8x512.size (k0_off1_inb (grid0.coords t) k0_h2)).toLoadRect (View.loadsAt_vmem h_S1x8x512))
    Prog.lift (.store arg12 (Rect.unit (s := S22x8x512) (k0_off1 (grid0.coords t)) S1x8x512.size (k0_off1_inb (grid0.coords t) k0_h2)) (k0_pay1 (F := Ideal)) Finset.univ (View.stores_vmem_bits_univ h_S1x8x512 rfl) (.inl rfl))
    pure ⟨⟩
  else do
    pure ⟨⟩
  P v28

theorem body_eq (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) :
    cc0_ffn_up_prompt (F := Ideal) (grid0.coords t) arg1 harg1 arg2 harg2 arg3 harg3 arg4 harg4 arg5 harg5 arg6 harg6 arg7 harg7 arg8 harg8 arg9 harg9 arg10 harg10 arg11 harg11 arg12 harg12 = start t arg1 harg1 arg2 harg2 arg3 harg3 arg4 harg4 arg5 harg5 arg6 harg6 arg7 harg7 arg8 harg8 arg9 harg9 arg10 harg10 arg11 harg11 arg12 harg12 (rest t arg1 harg1 arg2 harg2 arg3 harg3 arg4 harg4 arg5 harg5 arg6 harg6 arg7 harg7 arg8 harg8 arg9 harg9 arg10 harg10 arg11 harg11 arg12 harg12) := by
  rw [cc0_ffn_up_prompt_eq_skeleton]; rfl

set_option maxHeartbeats 1000000 in
/-- The first point: the second pair of buffers is cleared, and its column's carried rows. -/
theorem start_first (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : cond1 (grid0.coords t)) (h2 : k0_cond2 (grid0.coords t) = 1#1) (k : Vec Ideal S22x8x512 .f32) (P : BitVec 32 → Prog (TpuEff nD τ sig (Elt Ideal) Λ₀ .tc) PUnit)
    (R : sProp 𝕄) (E : Set ℕ) (K : PUnit → sProp 𝕄)
    (hP : ∀ v, iprop(owns (c : Thread nD τ) arg10 fullShare (fun _ => 0) ∗ owns (c : Thread nD τ) arg11 fullShare (fun _ => 0) ∗ owns (c : Thread nD τ) arg12 fullShare (clear (colF t) k) ∗ R) ⊢ wp frame (wpE (defs₀ (F := Ideal)) Variants.none c none) E (P v) K) :
    iprop((∃ d, owns (c : Thread nD τ) arg10 fullShare d) ∗ (∃ d, owns (c : Thread nD τ) arg11 fullShare d) ∗ owns (c : Thread nD τ) arg12 fullShare k ∗ R) ⊢ wp frame (wpE (defs₀ (F := Ideal)) Variants.none c none) E (start t arg1 harg1 arg2 harg2 arg3 harg3 arg4 harg4 arg5 harg5 arg6 harg6 arg7 harg7 arg8 harg8 arg9 harg9 arg10 harg10 arg11 harg11 arg12 harg12 P) K := by
  unfold start
  simp only [k0_part75_eq_skeleton]
  unfold owns
  iintro ⟨⟨%d10, %f10, -, H10⟩, ⟨%d11, %f11, -, H11⟩, ⟨%f12, %hf12, H12⟩, HR⟩
  obtain rfl := harg12.eq_unread hf12
  sl_exec (disch := first | sl_exact h1 | sl_exact h2)
  iapply (hP _)
  unfold owns
  isplitl [H10]
  · iexists _; isplitr; swap; · iexact H10
    ipureintro; exact wipe_at arg10 _ _ pay230_at _
  isplitl [H11]
  · iexists _; isplitr; swap; · iexact H11
    ipureintro; exact wipe_at arg11 _ _ pay231_at _
  isplitl [H12]
  · iexists _; isplitr; swap; · iexact H12
    ipureintro; exact clear_at arg12 harg12 k (colF t) _ (off1 t) _
  iexact HR

set_option maxHeartbeats 1000000 in
/-- A point that begins a sequence: its column's carried rows are cleared. -/
theorem start_reset (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : k0_cond2 (grid0.coords t) = 1#1) (k : Vec Ideal S22x8x512 .f32) (P : BitVec 32 → Prog (TpuEff nD τ sig (Elt Ideal) Λ₀ .tc) PUnit)
    (R : sProp 𝕄) (E : Set ℕ) (K : PUnit → sProp 𝕄)
    (hP : ∀ v, iprop(owns (c : Thread nD τ) arg12 fullShare (clear (colF t) k) ∗ R) ⊢ wp frame (wpE (defs₀ (F := Ideal)) Variants.none c none) E (P v) K) :
    iprop(owns (c : Thread nD τ) arg12 fullShare k ∗ R) ⊢ wp frame (wpE (defs₀ (F := Ideal)) Variants.none c none) E (start t arg1 harg1 arg2 harg2 arg3 harg3 arg4 harg4 arg5 harg5 arg6 harg6 arg7 harg7 arg8 harg8 arg9 harg9 arg10 harg10 arg11 harg11 arg12 harg12 P) K := by
  unfold start
  simp only [k0_part75_eq_skeleton]
  unfold owns
  iintro ⟨⟨%f12, %hf12, H12⟩, HR⟩
  obtain rfl := harg12.eq_unread hf12
  sl_exec (disch := first | sl_exact h1 | sl_exact h2)
  iapply (hP _)
  unfold owns
  isplitl [H12]
  · iexists _; isplitr; swap; · iexact H12
    ipureintro; exact clear_at arg12 harg12 k (colF t) _ (off1 t) _
  iexact HR

set_option maxHeartbeats 1000000 in
/-- A point inside a sequence: nothing is cleared. -/
theorem start_keep (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : ¬ k0_cond2 (grid0.coords t) = 1#1) (k : Vec Ideal S22x8x512 .f32) (P : BitVec 32 → Prog (TpuEff nD τ sig (Elt Ideal) Λ₀ .tc) PUnit)
    (R : sProp 𝕄) (E : Set ℕ) (K : PUnit → sProp 𝕄)
    (hP : ∀ v, iprop(owns (c : Thread nD τ) arg12 fullShare k ∗ R) ⊢ wp frame (wpE (defs₀ (F := Ideal)) Variants.none c none) E (P v) K) :
    iprop(owns (c : Thread nD τ) arg12 fullShare k ∗ R) ⊢ wp frame (wpE (defs₀ (F := Ideal)) Variants.none c none) E (start t arg1 harg1 arg2 harg2 arg3 harg3 arg4 harg4 arg5 harg5 arg6 harg6 arg7 harg7 arg8 harg8 arg9 harg9 arg10 harg10 arg11 harg11 arg12 harg12 P) K := by
  unfold start
  simp only [k0_part75_eq_skeleton]
  unfold owns
  iintro ⟨⟨%f12, %hf12, H12⟩, HR⟩
  obtain rfl := harg12.eq_unread hf12
  sl_exec (disch := first | sl_exact h1 | sl_exact h2)
  iapply (hP _)
  unfold owns
  isplitl [H12]
  · iexists _; isplitr; swap; · iexact H12
    ipureintro; exact harg12.read_unread _
  iexact HR

set_option maxHeartbeats 1000000 in
/-- The even branch, by what its buffers hold. -/
theorem rest_even (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond3 (grid0.coords t) = 1#1) (hn : ¬ k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare g ∗ owns (c : Thread nD τ) arg11 fullShare u ∗ owns (c : Thread nD τ) arg12 fullShare k ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare g ∗ owns (c : Thread nD τ) arg11 fullShare u ∗ owns (c : Thread nD τ) arg12 fullShare (carry (colF t) g k) ∗ owns (c : Thread nD τ) arg6 fullShare (tile x4 x5 g u k (colF t)) ∗ owns (c : Thread nD τ) arg7 fullShare (tail g) ∗ owns (c : Thread nD τ) arg8 fullShare (gate x1 x2) ∗ owns (c : Thread nD τ) arg9 fullShare (gate x1 x3)) -∗ K ⟨⟩))
      ⊢ wp frame (wpE (defs₀ (F := Ideal)) Variants.none c none) E (rest t arg1 harg1 arg2 harg2 arg3 harg3 arg4 harg4 arg5 harg5 arg6 harg6 arg7 harg7 arg8 harg8 arg9 harg9 arg10 harg10 arg11 harg11 arg12 harg12 v28) K := by
  unfold rest
  simp only [dif_pos h, dif_neg hn]
  iintro ⟨H1, H2, H3, H4, H5, H10, H11, H12, H6, H7, H8, H9, Hk⟩
  iapply ((even (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).2 E K)
  isplitl [H1]; · iexact H1
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H6]; · iexact H6
  isplitl [H7]; · iexact H7
  isplitl [H8]; · iexact H8
  isplitl [H9]; · iexact H9
  iintro ⟨H1, H2, H3, H4, H5, H10, H11, H12, ⟨%f6, H6⟩, ⟨%f7, H7⟩, ⟨%f8, H8⟩, ⟨%f9, H9⟩⟩
  iapply Hk
  unfold owns
  isplitl [H1]; · iexact H1
  isplitl [H2]; · iexact H2
  isplitl [H3]; · iexact H3
  isplitl [H4]; · iexact H4
  isplitl [H5]; · iexact H5
  isplitl [H10]; · iexact H10
  isplitl [H11]; · iexact H11
  isplitl [H12]
  · iexists _; isplitr; swap; · iexact H12
    ipureintro; exact even_carry c t arg1 harg1 arg2 harg2 arg3 harg3 arg4 harg4 arg5 harg5 arg6 harg6 arg7 harg7 arg8 harg8 arg9 harg9 arg10 harg10 arg11 harg11 arg12 harg12 v28 h x1 x2 x3 x4 x5 g u k
  isplitl [H6]
  · iexists _; isplitr; swap; · iexact H6
    ipureintro; exact (View.read_writes_eq_canon arg6.view _ _ (even_cover6 c t arg1 harg1 arg2 harg2 arg3 harg3 arg4 harg4 arg5 harg5 arg6 harg6 arg7 harg7 arg8 harg8 arg9 harg9 arg10 harg10 arg11 harg11 arg12 harg12 v28 h x1 x2 x3 x4 x5 g u k)).trans (funext (even_act c t arg1 harg1 arg2 harg2 arg3 harg3 arg4 harg4 arg5 harg5 arg6 harg6 arg7 harg7 arg8 harg8 arg9 harg9 arg10 harg10 arg11 harg11 arg12 harg12 v28 h x1 x2 x3 x4 x5 g u k))
  isplitl [H7]
  · iexists _; isplitr; swap; · iexact H7
    ipureintro; exact (View.read_writes_eq_canon arg7.view _ _ (even_cover7 c t arg1 harg1 arg2 harg2 arg3 harg3 arg4 harg4 arg5 harg5 arg6 harg6 arg7 harg7 arg8 harg8 arg9 harg9 arg10 harg10 arg11 harg11 arg12 harg12 v28 h x1 x2 x3 x4 x5 g u k)).trans (funext (even_tail c t arg1 harg1 arg2 harg2 arg3 harg3 arg4 harg4 arg5 harg5 arg6 harg6 arg7 harg7 arg8 harg8 arg9 harg9 arg10 harg10 arg11 harg11 arg12 harg12 v28 h x1 x2 x3 x4 x5 g u k))
  isplitl [H8]
  · iexists _; isplitr; swap; · iexact H8
    ipureintro; exact (View.read_writes_eq_canon arg8.view _ _ (even_cover8 c t arg1 harg1 arg2 harg2 arg3 harg3 arg4 harg4 arg5 harg5 arg6 harg6 arg7 harg7 arg8 harg8 arg9 harg9 arg10 harg10 arg11 harg11 arg12 harg12 v28 h x1 x2 x3 x4 x5 g u k)).trans (even_cur0 c t arg1 harg1 arg2 harg2 arg3 harg3 arg4 harg4 arg5 harg5 arg6 harg6 arg7 harg7 arg8 harg8 arg9 harg9 arg10 harg10 arg11 harg11 arg12 harg12 v28 h x1 x2 x3 x4 x5 g u k)
  iexists _; isplitr; swap; · iexact H9
  ipureintro; exact (View.read_writes_eq_canon arg9.view _ _ (even_cover9 c t arg1 harg1 arg2 harg2 arg3 harg3 arg4 harg4 arg5 harg5 arg6 harg6 arg7 harg7 arg8 harg8 arg9 harg9 arg10 harg10 arg11 harg11 arg12 harg12 v28 h x1 x2 x3 x4 x5 g u k)).trans (even_cur1 c t arg1 harg1 arg2 harg2 arg3 harg3 arg4 harg4 arg5 harg5 arg6 harg6 arg7 harg7 arg8 harg8 arg9 harg9 arg10 harg10 arg11 harg11 arg12 harg12 v28 h x1 x2 x3 x4 x5 g u k)

set_option maxHeartbeats 1000000 in
/-- The odd branch, by what its buffers hold. -/
theorem rest_odd (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (v28 : BitVec 32) (h : k0_cond4 (grid0.coords t) = 1#1) (hn : ¬ k0_cond3 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare g ∗ owns (c : Thread nD τ) arg9 fullShare u ∗ owns (c : Thread nD τ) arg12 fullShare k ∗ (∃ d, owns (c : Thread nD τ) arg6 fullShare d) ∗ (∃ d, owns (c : Thread nD τ) arg7 fullShare d) ∗ (∃ d, owns (c : Thread nD τ) arg10 fullShare d) ∗ (∃ d, owns (c : Thread nD τ) arg11 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare g ∗ owns (c : Thread nD τ) arg9 fullShare u ∗ owns (c : Thread nD τ) arg12 fullShare (carry (colF t) g k) ∗ owns (c : Thread nD τ) arg6 fullShare (tile x4 x5 g u k (colF t)) ∗ owns (c : Thread nD τ) arg7 fullShare (tail g) ∗ owns (c : Thread nD τ) arg10 fullShare (gate x1 x2) ∗ owns (c : Thread nD τ) arg11 fullShare (gate x1 x3)) -∗ K ⟨⟩))
      ⊢ wp frame (wpE (defs₀ (F := Ideal)) Variants.none c none) E (rest t arg1 harg1 arg2 harg2 arg3 harg3 arg4 harg4 arg5 harg5 arg6 harg6 arg7 harg7 arg8 harg8 arg9 harg9 arg10 harg10 arg11 harg11 arg12 harg12 v28) K := by
  unfold rest
  simp only [dif_pos h, dif_neg hn]
  iintro ⟨H1, H2, H3, H4, H5, H8, H9, H12, H6, H7, H10, H11, Hk⟩
  iapply ((odd (F := Ideal) c t arg1 harg1 arg2 harg2 arg3 harg3 arg4 harg4 arg5 harg5 arg6 harg6 arg7 harg7 arg8 harg8 arg9 harg9 arg10 harg10 arg11 harg11 arg12 harg12 v28 h x1 x2 x3 x4 x5 g u k).2 E K)
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H12]; · iexact H12
  isplitl [H6]; · iexact H6
  isplitl [H7]; · iexact H7
  isplitl [H10]; · iexact H10
  isplitl [H11]; · iexact H11
  iintro ⟨H1, H2, H3, H4, H5, H8, H9, H12, ⟨%f6, H6⟩, ⟨%f7, H7⟩, ⟨%f10, H10⟩, ⟨%f11, H11⟩⟩
  iapply Hk
  unfold owns
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H12]
  · iexists _; isplitr; swap; · iexact H12
    ipureintro; exact odd_carry c t arg1 harg1 arg2 harg2 arg3 harg3 arg4 harg4 arg5 harg5 arg6 harg6 arg7 harg7 arg8 harg8 arg9 harg9 arg10 harg10 arg11 harg11 arg12 harg12 v28 h x1 x2 x3 x4 x5 g u k
  isplitl [H6]
  · iexists _; isplitr; swap; · iexact H6
    ipureintro; exact (View.read_writes_eq_canon arg6.view _ _ (odd_cover6 c t arg1 harg1 arg2 harg2 arg3 harg3 arg4 harg4 arg5 harg5 arg6 harg6 arg7 harg7 arg8 harg8 arg9 harg9 arg10 harg10 arg11 harg11 arg12 harg12 v28 h x1 x2 x3 x4 x5 g u k)).trans (funext (odd_act c t arg1 harg1 arg2 harg2 arg3 harg3 arg4 harg4 arg5 harg5 arg6 harg6 arg7 harg7 arg8 harg8 arg9 harg9 arg10 harg10 arg11 harg11 arg12 harg12 v28 h x1 x2 x3 x4 x5 g u k))
  isplitl [H7]
  · iexists _; isplitr; swap; · iexact H7
    ipureintro; exact (View.read_writes_eq_canon arg7.view _ _ (odd_cover7 c t arg1 harg1 arg2 harg2 arg3 harg3 arg4 harg4 arg5 harg5 arg6 harg6 arg7 harg7 arg8 harg8 arg9 harg9 arg10 harg10 arg11 harg11 arg12 harg12 v28 h x1 x2 x3 x4 x5 g u k)).trans (funext (odd_tail c t arg1 harg1 arg2 harg2 arg3 harg3 arg4 harg4 arg5 harg5 arg6 harg6 arg7 harg7 arg8 harg8 arg9 harg9 arg10 harg10 arg11 harg11 arg12 harg12 v28 h x1 x2 x3 x4 x5 g u k))
  isplitl [H10]
  · iexists _; isplitr; swap; · iexact H10
    ipureintro; exact (View.read_writes_eq_canon arg10.view _ _ (odd_cover8 c t arg1 harg1 arg2 harg2 arg3 harg3 arg4 harg4 arg5 harg5 arg6 harg6 arg7 harg7 arg8 harg8 arg9 harg9 arg10 harg10 arg11 harg11 arg12 harg12 v28 h x1 x2 x3 x4 x5 g u k)).trans (odd_cur0 c t arg1 harg1 arg2 harg2 arg3 harg3 arg4 harg4 arg5 harg5 arg6 harg6 arg7 harg7 arg8 harg8 arg9 harg9 arg10 harg10 arg11 harg11 arg12 harg12 v28 h x1 x2 x3 x4 x5 g u k)
  iexists _; isplitr; swap; · iexact H11
  ipureintro; exact (View.read_writes_eq_canon arg11.view _ _ (odd_cover9 c t arg1 harg1 arg2 harg2 arg3 harg3 arg4 harg4 arg5 harg5 arg6 harg6 arg7 harg7 arg8 harg8 arg9 harg9 arg10 harg10 arg11 harg11 arg12 harg12 v28 h x1 x2 x3 x4 x5 g u k)).trans (odd_cur1 c t arg1 harg1 arg2 harg2 arg3 harg3 arg4 harg4 arg5 harg5 arg6 harg6 arg7 harg7 arg8 harg8 arg9 harg9 arg10 harg10 arg11 harg11 arg12 harg12 v28 h x1 x2 x3 x4 x5 g u k)

end Cert.KernelUpIdeal.Up

end
-- ==== Proof.UpRun.lean ====
/- The kernel's body at any point, by what its buffers hold before and after. -/
module

public import proofs.«01_k».proof.Proof.UpBody

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 1000000 in
/-- The first point. -/
theorem run_first (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : cond1 (grid0.coords t)) (h2 : k0_cond2 (grid0.coords t) = 1#1) (h3 : k0_cond3 (grid0.coords t) = 1#1) (h4 : ¬ k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (k : Vec Ideal S22x8x512 .f32) (E : Set ℕ) (K : PUnit → sProp 𝕄) :
    iprop((∃ d, owns (c : Thread nD τ) arg10 fullShare d) ∗ (∃ d, owns (c : Thread nD τ) arg11 fullShare d) ∗ owns (c : Thread nD τ) arg12 fullShare k ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare (fun _ => 0) ∗ owns (c : Thread nD τ) arg11 fullShare (fun _ => 0) ∗ owns (c : Thread nD τ) arg12 fullShare (carry (colF t) (fun _ => 0) (clear (colF t) k)) ∗ owns (c : Thread nD τ) arg6 fullShare (tile x4 x5 (fun _ => 0) (fun _ => 0) (clear (colF t) k) (colF t)) ∗ owns (c : Thread nD τ) arg7 fullShare (tail (fun _ => 0)) ∗ owns (c : Thread nD τ) arg8 fullShare (gate x1 x2) ∗ owns (c : Thread nD τ) arg9 fullShare (gate x1 x3)) -∗ K ⟨⟩))
      ⊢ wp frame (wpE (defs₀ (F := Ideal)) Variants.none c none) E (cc0_ffn_up_prompt (F := Ideal) (grid0.coords t) arg1 harg1 arg2 harg2 arg3 harg3 arg4 harg4 arg5 harg5 arg6 harg6 arg7 harg7 arg8 harg8 arg9 harg9 arg10 harg10 arg11 harg11 arg12 harg12) K := by
  rw [body_eq]
  refine start_first c t arg1 harg1 arg2 harg2 arg3 harg3 arg4 harg4 arg5 harg5 arg6 harg6 arg7 harg7 arg8 harg8 arg9 harg9 arg10 harg10 arg11 harg11 arg12 harg12 h1 h2 k (rest t arg1 harg1 arg2 harg2 arg3 harg3 arg4 harg4 arg5 harg5 arg6 harg6 arg7 harg7 arg8 harg8 arg9 harg9 arg10 harg10 arg11 harg11 arg12 harg12) _ E K fun v => ?_
  iintro ⟨H10, H11, H12, H1, H2, H3, H4, H5, H6, H7, H8, H9, Hk⟩
  iapply (rest_even c t arg1 harg1 arg2 harg2 arg3 harg3 arg4 harg4 arg5 harg5 arg6 harg6 arg7 harg7 arg8 harg8 arg9 harg9 arg10 harg10 arg11 harg11 arg12 harg12 v h3 h4 x1 x2 x3 x4 x5 (fun _ => 0) (fun _ => 0) (clear (colF t) k) E K)
  isplitl [H1]; · iexact H1
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H6]; · iexact H6
  isplitl [H7]; · iexact H7
  isplitl [H8]; · iexact H8
  isplitl [H9]; · iexact H9
  iexact Hk

set_option maxHeartbeats 1000000 in
/-- An even point that begins a sequence. -/
theorem run_even_reset (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : k0_cond2 (grid0.coords t) = 1#1) (h3 : k0_cond3 (grid0.coords t) = 1#1) (h4 : ¬ k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (E : Set ℕ) (K : PUnit → sProp 𝕄) :
    iprop(owns (c : Thread nD τ) arg12 fullShare k ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare g ∗ owns (c : Thread nD τ) arg11 fullShare u ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare g ∗ owns (c : Thread nD τ) arg11 fullShare u ∗ owns (c : Thread nD τ) arg12 fullShare (carry (colF t) g (clear (colF t) k)) ∗ owns (c : Thread nD τ) arg6 fullShare (tile x4 x5 g u (clear (colF t) k) (colF t)) ∗ owns (c : Thread nD τ) arg7 fullShare (tail g) ∗ owns (c : Thread nD τ) arg8 fullShare (gate x1 x2) ∗ owns (c : Thread nD τ) arg9 fullShare (gate x1 x3)) -∗ K ⟨⟩))
      ⊢ wp frame (wpE (defs₀ (F := Ideal)) Variants.none c none) E (cc0_ffn_up_prompt (F := Ideal) (grid0.coords t) arg1 harg1 arg2 harg2 arg3 harg3 arg4 harg4 arg5 harg5 arg6 harg6 arg7 harg7 arg8 harg8 arg9 harg9 arg10 harg10 arg11 harg11 arg12 harg12) K := by
  rw [body_eq]
  refine start_reset c t arg1 harg1 arg2 harg2 arg3 harg3 arg4 harg4 arg5 harg5 arg6 harg6 arg7 harg7 arg8 harg8 arg9 harg9 arg10 harg10 arg11 harg11 arg12 harg12 h1 h2 k (rest t arg1 harg1 arg2 harg2 arg3 harg3 arg4 harg4 arg5 harg5 arg6 harg6 arg7 harg7 arg8 harg8 arg9 harg9 arg10 harg10 arg11 harg11 arg12 harg12) _ E K fun v => ?_
  iintro ⟨H12, H1, H2, H3, H4, H5, H10, H11, H6, H7, H8, H9, Hk⟩
  iapply (rest_even c t arg1 harg1 arg2 harg2 arg3 harg3 arg4 harg4 arg5 harg5 arg6 harg6 arg7 harg7 arg8 harg8 arg9 harg9 arg10 harg10 arg11 harg11 arg12 harg12 v h3 h4 x1 x2 x3 x4 x5 g u (clear (colF t) k) E K)
  isplitl [H1]; · iexact H1
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H6]; · iexact H6
  isplitl [H7]; · iexact H7
  isplitl [H8]; · iexact H8
  isplitl [H9]; · iexact H9
  iexact Hk

set_option maxHeartbeats 1000000 in
/-- An even point inside a sequence. -/
theorem run_even_keep (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : ¬ k0_cond2 (grid0.coords t) = 1#1) (h3 : k0_cond3 (grid0.coords t) = 1#1) (h4 : ¬ k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (E : Set ℕ) (K : PUnit → sProp 𝕄) :
    iprop(owns (c : Thread nD τ) arg12 fullShare k ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare g ∗ owns (c : Thread nD τ) arg11 fullShare u ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare g ∗ owns (c : Thread nD τ) arg11 fullShare u ∗ owns (c : Thread nD τ) arg12 fullShare (carry (colF t) g k) ∗ owns (c : Thread nD τ) arg6 fullShare (tile x4 x5 g u k (colF t)) ∗ owns (c : Thread nD τ) arg7 fullShare (tail g) ∗ owns (c : Thread nD τ) arg8 fullShare (gate x1 x2) ∗ owns (c : Thread nD τ) arg9 fullShare (gate x1 x3)) -∗ K ⟨⟩))
      ⊢ wp frame (wpE (defs₀ (F := Ideal)) Variants.none c none) E (cc0_ffn_up_prompt (F := Ideal) (grid0.coords t) arg1 harg1 arg2 harg2 arg3 harg3 arg4 harg4 arg5 harg5 arg6 harg6 arg7 harg7 arg8 harg8 arg9 harg9 arg10 harg10 arg11 harg11 arg12 harg12) K := by
  rw [body_eq]
  refine start_keep c t arg1 harg1 arg2 harg2 arg3 harg3 arg4 harg4 arg5 harg5 arg6 harg6 arg7 harg7 arg8 harg8 arg9 harg9 arg10 harg10 arg11 harg11 arg12 harg12 h1 h2 k (rest t arg1 harg1 arg2 harg2 arg3 harg3 arg4 harg4 arg5 harg5 arg6 harg6 arg7 harg7 arg8 harg8 arg9 harg9 arg10 harg10 arg11 harg11 arg12 harg12) _ E K fun v => ?_
  iintro ⟨H12, H1, H2, H3, H4, H5, H10, H11, H6, H7, H8, H9, Hk⟩
  iapply (rest_even c t arg1 harg1 arg2 harg2 arg3 harg3 arg4 harg4 arg5 harg5 arg6 harg6 arg7 harg7 arg8 harg8 arg9 harg9 arg10 harg10 arg11 harg11 arg12 harg12 v h3 h4 x1 x2 x3 x4 x5 g u k E K)
  isplitl [H1]; · iexact H1
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H6]; · iexact H6
  isplitl [H7]; · iexact H7
  isplitl [H8]; · iexact H8
  isplitl [H9]; · iexact H9
  iexact Hk

set_option maxHeartbeats 1000000 in
/-- An odd point that begins a sequence. -/
theorem run_odd_reset (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : k0_cond2 (grid0.coords t) = 1#1) (h3 : ¬ k0_cond3 (grid0.coords t) = 1#1) (h4 : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (E : Set ℕ) (K : PUnit → sProp 𝕄) :
    iprop(owns (c : Thread nD τ) arg12 fullShare k ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare g ∗ owns (c : Thread nD τ) arg9 fullShare u ∗ (∃ d, owns (c : Thread nD τ) arg6 fullShare d) ∗ (∃ d, owns (c : Thread nD τ) arg7 fullShare d) ∗ (∃ d, owns (c : Thread nD τ) arg10 fullShare d) ∗ (∃ d, owns (c : Thread nD τ) arg11 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare g ∗ owns (c : Thread nD τ) arg9 fullShare u ∗ owns (c : Thread nD τ) arg12 fullShare (carry (colF t) g (clear (colF t) k)) ∗ owns (c : Thread nD τ) arg6 fullShare (tile x4 x5 g u (clear (colF t) k) (colF t)) ∗ owns (c : Thread nD τ) arg7 fullShare (tail g) ∗ owns (c : Thread nD τ) arg10 fullShare (gate x1 x2) ∗ owns (c : Thread nD τ) arg11 fullShare (gate x1 x3)) -∗ K ⟨⟩))
      ⊢ wp frame (wpE (defs₀ (F := Ideal)) Variants.none c none) E (cc0_ffn_up_prompt (F := Ideal) (grid0.coords t) arg1 harg1 arg2 harg2 arg3 harg3 arg4 harg4 arg5 harg5 arg6 harg6 arg7 harg7 arg8 harg8 arg9 harg9 arg10 harg10 arg11 harg11 arg12 harg12) K := by
  rw [body_eq]
  refine start_reset c t arg1 harg1 arg2 harg2 arg3 harg3 arg4 harg4 arg5 harg5 arg6 harg6 arg7 harg7 arg8 harg8 arg9 harg9 arg10 harg10 arg11 harg11 arg12 harg12 h1 h2 k (rest t arg1 harg1 arg2 harg2 arg3 harg3 arg4 harg4 arg5 harg5 arg6 harg6 arg7 harg7 arg8 harg8 arg9 harg9 arg10 harg10 arg11 harg11 arg12 harg12) _ E K fun v => ?_
  iintro ⟨H12, H1, H2, H3, H4, H5, H8, H9, H6, H7, H10, H11, Hk⟩
  iapply (rest_odd c t arg1 harg1 arg2 harg2 arg3 harg3 arg4 harg4 arg5 harg5 arg6 harg6 arg7 harg7 arg8 harg8 arg9 harg9 arg10 harg10 arg11 harg11 arg12 harg12 v h4 h3 x1 x2 x3 x4 x5 g u (clear (colF t) k) E K)
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H12]; · iexact H12
  isplitl [H6]; · iexact H6
  isplitl [H7]; · iexact H7
  isplitl [H10]; · iexact H10
  isplitl [H11]; · iexact H11
  iexact Hk

set_option maxHeartbeats 1000000 in
/-- An odd point inside a sequence. -/
theorem run_odd_keep (c : Dev nD) (t : Fin grid0.N) (arg1 : Memref sig .tc .vmem S1024x4096 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1024x512 .bf16) (harg6 : arg6.IsWhole) (arg7 : Memref sig .tc .vmem S1x8x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S22x8x512 .f32) (harg12 : arg12.IsWhole) (h1 : ¬ cond1 (grid0.coords t)) (h2 : ¬ k0_cond2 (grid0.coords t) = 1#1) (h3 : ¬ k0_cond3 (grid0.coords t) = 1#1) (h4 : k0_cond4 (grid0.coords t) = 1#1)
    (x1 : Vec Ideal S1024x4096 .bf16) (x2 x3 : Vec Ideal S1x4096x512 .bf16) (x4 : Vec Ideal S1x3x512 .f32) (x5 : Vec Ideal S1x1x512 .f32)
    (g u : Vec Ideal S1024x512 .f32) (k : Vec Ideal S22x8x512 .f32) (E : Set ℕ) (K : PUnit → sProp 𝕄) :
    iprop(owns (c : Thread nD τ) arg12 fullShare k ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare g ∗ owns (c : Thread nD τ) arg9 fullShare u ∗ (∃ d, owns (c : Thread nD τ) arg6 fullShare d) ∗ (∃ d, owns (c : Thread nD τ) arg7 fullShare d) ∗ (∃ d, owns (c : Thread nD τ) arg10 fullShare d) ∗ (∃ d, owns (c : Thread nD τ) arg11 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare g ∗ owns (c : Thread nD τ) arg9 fullShare u ∗ owns (c : Thread nD τ) arg12 fullShare (carry (colF t) g k) ∗ owns (c : Thread nD τ) arg6 fullShare (tile x4 x5 g u k (colF t)) ∗ owns (c : Thread nD τ) arg7 fullShare (tail g) ∗ owns (c : Thread nD τ) arg10 fullShare (gate x1 x2) ∗ owns (c : Thread nD τ) arg11 fullShare (gate x1 x3)) -∗ K ⟨⟩))
      ⊢ wp frame (wpE (defs₀ (F := Ideal)) Variants.none c none) E (cc0_ffn_up_prompt (F := Ideal) (grid0.coords t) arg1 harg1 arg2 harg2 arg3 harg3 arg4 harg4 arg5 harg5 arg6 harg6 arg7 harg7 arg8 harg8 arg9 harg9 arg10 harg10 arg11 harg11 arg12 harg12) K := by
  rw [body_eq]
  refine start_keep c t arg1 harg1 arg2 harg2 arg3 harg3 arg4 harg4 arg5 harg5 arg6 harg6 arg7 harg7 arg8 harg8 arg9 harg9 arg10 harg10 arg11 harg11 arg12 harg12 h1 h2 k (rest t arg1 harg1 arg2 harg2 arg3 harg3 arg4 harg4 arg5 harg5 arg6 harg6 arg7 harg7 arg8 harg8 arg9 harg9 arg10 harg10 arg11 harg11 arg12 harg12) _ E K fun v => ?_
  iintro ⟨H12, H1, H2, H3, H4, H5, H8, H9, H6, H7, H10, H11, Hk⟩
  iapply (rest_odd c t arg1 harg1 arg2 harg2 arg3 harg3 arg4 harg4 arg5 harg5 arg6 harg6 arg7 harg7 arg8 harg8 arg9 harg9 arg10 harg10 arg11 harg11 arg12 harg12 v h4 h3 x1 x2 x3 x4 x5 g u k E K)
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H12]; · iexact H12
  isplitl [H6]; · iexact H6
  isplitl [H7]; · iexact H7
  isplitl [H10]; · iexact H10
  isplitl [H11]; · iexact H11
  iexact Hk

end Cert.KernelUpIdeal.Up

end
-- ==== Proof.UpSpec.lean ====
/- What the kernel's buffers hold from point to point: the products of the tile before, and the last gate rows of the
   tiles finished within one row block. -/
module

public import proofs.«01_k».proof.Proof.UpRun

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic

variable (m : (ℓ : Loc nD τ sig) → Buf (Elt Ideal) ℓ)

/-- The gate projection of the tile that point `n` multiplies (zero off the grid), -/
def gt (c : Dev nD) (n : ℕ) : Vec Ideal S1024x512 .f32 :=
  if h : n < cfg0.N then gate (iblk m c 0 ⟨n, h⟩) (iblk m c 1 ⟨n, h⟩) else fun _ => 0
/-- and its up projection. -/
def ut (c : Dev nD) (n : ℕ) : Vec Ideal S1024x512 .f32 :=
  if h : n < cfg0.N then gate (iblk m c 0 ⟨n, h⟩) (iblk m c 2 ⟨n, h⟩) else fun _ => 0

/-- The gate projection that point `t` finishes: the point before's (zero at the first point), -/
def pg (c : Dev nD) (t : ℕ) : Vec Ideal S1024x512 .f32 := if t = 0 then fun _ => 0 else gt m c (t - 1)
/-- and the up projection. -/
def pu (c : Dev nD) (t : ℕ) : Vec Ideal S1024x512 .f32 := if t = 0 then fun _ => 0 else ut m c (t - 1)

/-- The carried rows that point `t` reads in its column: zero where a sequence begins, else the last eight gate rows of
    the same column's tile one row block before. -/
def kk (c : Dev nD) (t : ℕ) (y : S22x8x512.Idx) : EReal :=
  if (t - 1) / 22 % 2 = 0 then 0
  else gt m c (t - 1 - 22) (ix2 ⟨1016 + (y 1).val, by have : (y 1).val < 8 := (y 1).isLt; omega⟩ (y 2))

/-- What the scratch buffers hold on entry to point `t`. -/
structure Inv (c : Dev nD) (t : ℕ) (g0 u0 g1 u1 : Vec Ideal S1024x512 .f32) (k : Vec Ideal S22x8x512 .f32) : Prop where
  odd : t % 2 = 1 → g0 = gt m c (t - 1) ∧ u0 = ut m c (t - 1)
  even : t % 2 = 0 → 0 < t → g1 = gt m c (t - 1) ∧ u1 = ut m c (t - 1)
  rows : ∀ n, n + 2 ≤ t → t < n + 24 → ∀ (q : Fin 22) (r : Fin 8) (l : Fin 512), q.val = n % 22 →
    k (ix3 q r l) = gt m c n (ix2 ⟨1016 + r.val, by omega⟩ l)

theorem Inv.zero (c : Dev nD) (g0 u0 g1 u1 k) : Inv m c 0 g0 u0 g1 u1 k where
  odd h := absurd h (by decide)
  even _ h := absurd h (by decide)
  rows n h := absurd h (by omega)

theorem tile_congr (x4 : Vec Ideal S1x3x512 .f32) (x5 : Vec Ideal S1x1x512 .f32) (g u : Vec Ideal S1024x512 .f32)
    (k k' : Vec Ideal S22x8x512 .f32) (q : Fin 22) (h : ∀ r l, k (ix3 q r l) = k' (ix3 q r l)) :
    tile x4 x5 g u k q = tile x4 x5 g u k' q := by
  have hr : row k q g = row k' q g := funext fun i => funext fun l => by
    unfold row
    by_cases hi : i < 8
    · rw [dif_pos hi, dif_pos hi]; exact h _ _
    · rw [dif_neg hi, dif_neg hi]
  funext y
  unfold tile
  rw [hr]

/-- Where a sequence begins the carried rows count as zero. -/
theorem tile_clear (c : Dev nD) (t : Fin cfg0.N) (x4 : Vec Ideal S1x3x512 .f32) (x5 : Vec Ideal S1x1x512 .f32)
    (g u : Vec Ideal S1024x512 .f32) (k : Vec Ideal S22x8x512 .f32) (h : (t.val - 1) / 22 % 2 = 0) :
    tile x4 x5 g u (clear (colF t) k) (colF t) = tile x4 x5 g u (kk m c t.val) (colF t) := by
  refine tile_congr _ _ _ _ _ _ _ fun r l => ?_
  unfold clear kk
  rw [if_pos h]
  exact if_pos rfl

/-- Inside a sequence they are the row block before's last rows. -/
theorem tile_keep (c : Dev nD) (t : Fin cfg0.N) (x4 : Vec Ideal S1x3x512 .f32) (x5 : Vec Ideal S1x1x512 .f32)
    (g u : Vec Ideal S1024x512 .f32) {g0 u0 g1 u1 : Vec Ideal S1024x512 .f32} {k : Vec Ideal S22x8x512 .f32}
    (hI : Inv m c t.val g0 u0 g1 u1 k) (h : ¬ (t.val - 1) / 22 % 2 = 0) :
    tile x4 x5 g u k (colF t) = tile x4 x5 g u (kk m c t.val) (colF t) := by
  refine tile_congr _ _ _ _ _ _ _ fun r l => ?_
  unfold kk
  rw [if_neg h]
  exact hI.rows (t.val - 1 - 22) (by omega) (by omega) _ r l (by show (t.val - 1) % 22 = _; omega)

/-- The carried rows after a point, whether its column was cleared before it or not. -/
theorem rows_step (c : Dev nD) (t : Fin cfg0.N) {g0 u0 g1 u1 : Vec Ideal S1024x512 .f32} {k : Vec Ideal S22x8x512 .f32}
    (hI : Inv m c t.val g0 u0 g1 u1 k) (k' : Vec Ideal S22x8x512 .f32)
    (hk : ∀ q r l, q.val ≠ (colF t).val → k' (ix3 q r l) = k (ix3 q r l)) :
    ∀ n, n + 2 ≤ t.val + 1 → t.val + 1 < n + 24 → ∀ (q : Fin 22) (r : Fin 8) (l : Fin 512), q.val = n % 22 →
      carry (colF t) (pg m c t.val) k' (ix3 q r l) = gt m c n (ix2 ⟨1016 + r.val, by omega⟩ l) := fun n h1 h2 q r l hq => by
  have hc : (colF t).val = (t.val - 1) % 22 := rfl
  unfold carry
  by_cases hn : n + 1 = t.val
  · refine (if_pos (show q.val = (colF t).val by rw [hq, hc]; omega)).trans ?_
    unfold pg
    rw [if_neg (by omega), show t.val - 1 = n by omega]
    rfl
  · have hne : q.val ≠ (colF t).val := by rw [hq, hc]; omega
    refine (if_neg hne).trans ?_
    rw [hk q r l hne]
    exact hI.rows n (by omega) (by omega) q r l hq

theorem clear_ne (q : Fin 22) (k : Vec Ideal S22x8x512 .f32) (p : Fin 22) (r : Fin 8) (l : Fin 512) (h : p.val ≠ q.val) :
    clear q k (ix3 p r l) = k (ix3 p r l) := by
  unfold clear
  exact if_neg h

theorem gt_at (c : Dev nD) (t : Fin cfg0.N) : gt m c t.val = gate (iblk m c 0 t) (iblk m c 1 t) := by
  unfold gt; rw [dif_pos t.isLt]
theorem ut_at (c : Dev nD) (t : Fin cfg0.N) : ut m c t.val = gate (iblk m c 0 t) (iblk m c 2 t) := by
  unfold ut; rw [dif_pos t.isLt]

/-- After an even point, -/
theorem step_even (c : Dev nD) (t : Fin cfg0.N) (ht : t.val % 2 = 0) {g0 u0 g1 u1 : Vec Ideal S1024x512 .f32}
    {k : Vec Ideal S22x8x512 .f32} (hI : Inv m c t.val g0 u0 g1 u1 k) (k' : Vec Ideal S22x8x512 .f32)
    (hk : ∀ q r l, q.val ≠ (colF t).val → k' (ix3 q r l) = k (ix3 q r l)) (g1' u1' : Vec Ideal S1024x512 .f32) :
    Inv m c (t.val + 1) (gate (iblk m c 0 t) (iblk m c 1 t)) (gate (iblk m c 0 t) (iblk m c 2 t)) g1' u1'
      (carry (colF t) (pg m c t.val) k') where
  odd _ := ⟨(gt_at m c t).symm, (ut_at m c t).symm⟩
  even h := absurd h (by omega)
  rows := rows_step m c t hI k' hk

/-- and after an odd one. -/
theorem step_odd (c : Dev nD) (t : Fin cfg0.N) (ht : t.val % 2 = 1) {g0 u0 g1 u1 : Vec Ideal S1024x512 .f32}
    {k : Vec Ideal S22x8x512 .f32} (hI : Inv m c t.val g0 u0 g1 u1 k) (k' : Vec Ideal S22x8x512 .f32)
    (hk : ∀ q r l, q.val ≠ (colF t).val → k' (ix3 q r l) = k (ix3 q r l)) (g0' u0' : Vec Ideal S1024x512 .f32) :
    Inv m c (t.val + 1) g0' u0' (gate (iblk m c 0 t) (iblk m c 1 t)) (gate (iblk m c 0 t) (iblk m c 2 t))
      (carry (colF t) (pg m c t.val) k') where
  odd h := absurd h (by omega)
  even _ _ := ⟨(gt_at m c t).symm, (ut_at m c t).symm⟩
  rows := rows_step m c t hI k' hk

/-- The activation block that point `t` leaves, -/
def actAt (c : Dev nD) (t : Fin cfg0.N) : Vec Ideal S1024x512 .bf16 :=
  tile (iblk m c 3 t) (iblk m c 4 t) (pg m c t.val) (pu m c t.val) (kk m c t.val) (colF t)
/-- and the tail block. -/
def tailAt (c : Dev nD) (t : Fin cfg0.N) : Vec Ideal S1x8x512 .f32 := tail (pg m c t.val)

end Cert.KernelUpIdeal.Up

end
-- ==== Proof.UpFrame.lean ====
/- The gated half of the convolutional feed-forward, with arithmetic exact: the kernel runs to its end from any memory, and
   each point leaves the blocks that its scratch buffers' contents give. -/
module

public import proofs.«01_k».proof.Proof.UpSpec
public import Idealize.ShloMosaic.Lib.Claim

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! Each window's buffer at a point, and the five scratch buffers. -/

abbrev ms0 (t : Fin cfg0.N) : Memref sig .tc .vmem S1024x4096 .bf16 := win0_0.stage (cfg0.slots t 0)
abbrev ms1 (t : Fin cfg0.N) : Memref sig .tc .vmem S1x4096x512 .bf16 := win0_1.stage (cfg0.slots t 1)
abbrev ms2 (t : Fin cfg0.N) : Memref sig .tc .vmem S1x4096x512 .bf16 := win0_2.stage (cfg0.slots t 2)
abbrev ms3 (t : Fin cfg0.N) : Memref sig .tc .vmem S1x3x512 .f32 := win0_3.stage (cfg0.slots t 3)
abbrev ms4 (t : Fin cfg0.N) : Memref sig .tc .vmem S1x1x512 .f32 := win0_4.stage (cfg0.slots t 4)
abbrev ms5 (t : Fin cfg0.N) : Memref sig .tc .vmem S1024x512 .bf16 := win0_5.stage (cfg0.slots t 5)
abbrev ms6 (t : Fin cfg0.N) : Memref sig .tc .vmem S1x8x512 .f32 := win0_6.stage (cfg0.slots t 6)
abbrev sc0 : Memref sig .tc .vmem S1024x512 .f32 := Memref.whole cc0_scratch0
abbrev sc1 : Memref sig .tc .vmem S1024x512 .f32 := Memref.whole cc0_scratch1
abbrev sc2 : Memref sig .tc .vmem S1024x512 .f32 := Memref.whole cc0_scratch2
abbrev sc3 : Memref sig .tc .vmem S1024x512 .f32 := Memref.whole cc0_scratch3
abbrev sc4 : Memref sig .tc .vmem S22x8x512 .f32 := Memref.whole cc0_scratch4

/-- The invariant: the scratch buffers at some contents, and the generator's register. -/
theorem phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The scratch buffers before point `n`: what the points before left in them. -/
def Phi (c : Dev nD) (n : ℕ) : sProp 𝕄 :=
  iprop((∃ g0 u0 g1 u1 k, ⌜Inv m c n g0 u0 g1 u1 k⌝ ∗ owns (c : Thread nD τ) sc0 fullShare g0 ∗ owns (c : Thread nD τ) sc1 fullShare u0 ∗ owns (c : Thread nD τ) sc2 fullShare g1 ∗ owns (c : Thread nD τ) sc3 fullShare u1 ∗ owns (c : Thread nD τ) sc4 fullShare k) ∗ (∃ r, prngReg c r))

/-- The run's data: the arguments' blocks stay, the results' blocks are the finished tiles. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => actAt m c t
    | ⟨6, _⟩ => tailAt m c t
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = actAt m c t := by dsimp only [dats]
theorem after_6 (c : Dev nD) (t : Fin cfg0.N) : (dats m 0 c).after 6 t = tailAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Every point writes both results' blocks. -/
theorem idle_5 : ∀ t : Fin cfg0.N, cfg0.idle 5 (cfg0.grid.coords t) = false := by decide +kernel
theorem idle_6 : ∀ t : Fin cfg0.N, cfg0.idle 6 (cfg0.grid.coords t) = false := by decide +kernel

theorem leaves_5 (c : Dev nD) (t : Fin cfg0.N) :
    (dats m 0 c).leavesExact 5 t = owns (c : Thread nD τ) (ms5 t) fullShare (actAt m c t) := by
  unfold Dat.leavesExact; rw [idle_5, after_5]
theorem leaves_6 (c : Dev nD) (t : Fin cfg0.N) :
    (dats m 0 c).leavesExact 6 t = owns (c : Thread nD τ) (ms6 t) fullShare (tailAt m c t) := by
  unfold Dat.leavesExact; rw [idle_6, after_6]

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
/-- The body at any point, case by case. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.castSucc = Phi m c t.val from rfl, show (dats m 0 c).Φ t.succ = Phi m c (t.val + 1) from rfl,
    leaves_5, leaves_6]
  unfold Phi
  rw [show (dats m 0 c).leavesExact 0 t = owns (c : Thread nD τ) (ms0 t) fullShare ((dats m 0 c).after 0 t) from rfl,
    after_0]
  rw [show (dats m 0 c).leavesExact 1 t = owns (c : Thread nD τ) (ms1 t) fullShare ((dats m 0 c).after 1 t) from rfl,
    after_1]
  rw [show (dats m 0 c).leavesExact 2 t = owns (c : Thread nD τ) (ms2 t) fullShare ((dats m 0 c).after 2 t) from rfl,
    after_2]
  rw [show (dats m 0 c).leavesExact 3 t = owns (c : Thread nD τ) (ms3 t) fullShare ((dats m 0 c).after 3 t) from rfl,
    after_3]
  rw [show (dats m 0 c).leavesExact 4 t = owns (c : Thread nD τ) (ms4 t) fullShare ((dats m 0 c).after 4 t) from rfl,
    after_4]
  by_cases h1 : cond1 (grid0.coords t)
  · have e0 := (cond1_iff t).mp h1
    have h2 : k0_cond2 (grid0.coords t) = 1#1 := (cond2_iff t).mpr (by omega)
    have h3 : k0_cond3 (grid0.coords t) = 1#1 := (cond3_iff t).mpr (by omega)
    have h4 : ¬ k0_cond4 (grid0.coords t) = 1#1 := fun h => by have := (cond4_iff t).mp h; omega
    have p0 := (cond3_iff t).mp h3
    have r0 := (cond2_iff t).mp h2
    iintro ⟨⟨⟨%g0, %u0, %g1, %u1, %k, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    have ea : (fun _ => 0 : Vec Ideal S1024x512 .f32) = pg m c t.val := (if_pos e0).symm
    have eb : (fun _ => 0 : Vec Ideal S1024x512 .f32) = pu m c t.val := (if_pos e0).symm
    have et : tile (iblk m c 3 t) (iblk m c 4 t) (fun _ => 0) (fun _ => 0) (clear (colF t) k) (colF t) = actAt m c t := by
      exact (congrArg₂ (fun g u => tile (iblk m c 3 t) (iblk m c 4 t) g u (clear (colF t) k) (colF t)) ea eb).trans (tile_clear m c t _ _ _ _ _ r0)
    have el : tail (fun _ => 0) = tailAt m c t := by rw [ea]; rfl
    have hN := step_even m c t p0 hI (clear (colF t) k) (fun q r l => clear_ne _ _ q r l) (fun _ => 0) (fun _ => 0)
    rw [← ea] at hN
    rw [← et, ← el]
    iapply (run_first c t _ _ _ _ _ _ _ _ _ _ _ _ _ _ _ _ _ _ _ _ _ _ _ _ h1 h2 h3 h4 (iblk m c 0 t) (iblk m c 1 t) (iblk m c 2 t) (iblk m c 3 t) (iblk m c 4 t) k _ _)
    isplitl [HS2]; · iexists _; iexact HS2
    isplitl [HS3]; · iexists _; iexact HS3
    isplitl [HS4]; · iexact HS4
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexists _; iexact HS0
    isplitl [HS1]; · iexists _; iexact HS1
    iintro ⟨H0, H1, H2, H3, H4, HS2, HS3, HS4, H5, H6, HS0, HS1⟩
    isplitl [HS0 HS1 HS2 HS3 HS4 Hg]
    · isplitl [HS0 HS1 HS2 HS3 HS4]
      · iexists _; iexists _; iexists _; iexists _; iexists _
        isplitr; · ipureintro; exact hN
        isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have n0 : t.val ≠ 0 := fun h => h1 ((cond1_iff t).mpr h)
  by_cases h2 : k0_cond2 (grid0.coords t) = 1#1
  · have r0 := (cond2_iff t).mp h2
    by_cases h3 : k0_cond3 (grid0.coords t) = 1#1
    · have h4 : ¬ k0_cond4 (grid0.coords t) = 1#1 := fun h => by have := (cond4_iff t).mp h; have := (cond3_iff t).mp h3; omega
      have p0 := (cond3_iff t).mp h3
      iintro ⟨⟨⟨%g0, %u0, %g1, %u1, %k, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      obtain ⟨ea, eb⟩ := hI.even p0 (Nat.pos_of_ne_zero n0)
      replace ea : g1 = pg m c t.val := ea.trans (if_neg n0).symm
      replace eb : u1 = pu m c t.val := eb.trans (if_neg n0).symm
      have et : tile (iblk m c 3 t) (iblk m c 4 t) g1 u1 (clear (colF t) k) (colF t) = actAt m c t := by
        exact (congrArg₂ (fun g u => tile (iblk m c 3 t) (iblk m c 4 t) g u (clear (colF t) k) (colF t)) ea eb).trans (tile_clear m c t _ _ _ _ _ r0)
      have el : tail g1 = tailAt m c t := by rw [ea]; rfl
      have hN := step_even m c t p0 hI (clear (colF t) k) (fun q r l => clear_ne _ _ q r l) g1 u1
      rw [← ea] at hN
      rw [← et, ← el]
      iapply (run_even_reset c t _ _ _ _ _ _ _ _ _ _ _ _ _ _ _ _ _ _ _ _ _ _ _ _ h1 h2 h3 h4 (iblk m c 0 t) (iblk m c 1 t) (iblk m c 2 t) (iblk m c 3 t) (iblk m c 4 t) g1 u1 k _ _)
      isplitl [HS4]; · iexact HS4
      isplitl [H0]; · iexact H0
      isplitl [H1]; · iexact H1
      isplitl [H2]; · iexact H2
      isplitl [H3]; · iexact H3
      isplitl [H4]; · iexact H4
      isplitl [HS2]; · iexact HS2
      isplitl [HS3]; · iexact HS3
      isplitl [H5]; · iexists _; iexact H5
      isplitl [H6]; · iexists _; iexact H6
      isplitl [HS0]; · iexists _; iexact HS0
      isplitl [HS1]; · iexists _; iexact HS1
      iintro ⟨H0, H1, H2, H3, H4, HS2, HS3, HS4, H5, H6, HS0, HS1⟩
      isplitl [HS0 HS1 HS2 HS3 HS4 Hg]
      · isplitl [HS0 HS1 HS2 HS3 HS4]
        · iexists _; iexists _; iexists _; iexists _; iexists _
          isplitr; · ipureintro; exact hN
          isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h4 : k0_cond4 (grid0.coords t) = 1#1 := (cond4_iff t).mpr (Nat.mod_two_ne_zero.mp fun h => h3 ((cond3_iff t).mpr h))
      have p0 := (cond4_iff t).mp h4
      iintro ⟨⟨⟨%g0, %u0, %g1, %u1, %k, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      obtain ⟨ea, eb⟩ := hI.odd p0
      replace ea : g0 = pg m c t.val := ea.trans (if_neg n0).symm
      replace eb : u0 = pu m c t.val := eb.trans (if_neg n0).symm
      have et : tile (iblk m c 3 t) (iblk m c 4 t) g0 u0 (clear (colF t) k) (colF t) = actAt m c t := by
        exact (congrArg₂ (fun g u => tile (iblk m c 3 t) (iblk m c 4 t) g u (clear (colF t) k) (colF t)) ea eb).trans (tile_clear m c t _ _ _ _ _ r0)
      have el : tail g0 = tailAt m c t := by rw [ea]; rfl
      have hN := step_odd m c t p0 hI (clear (colF t) k) (fun q r l => clear_ne _ _ q r l) g0 u0
      rw [← ea] at hN
      rw [← et, ← el]
      iapply (run_odd_reset c t _ _ _ _ _ _ _ _ _ _ _ _ _ _ _ _ _ _ _ _ _ _ _ _ h1 h2 h3 h4 (iblk m c 0 t) (iblk m c 1 t) (iblk m c 2 t) (iblk m c 3 t) (iblk m c 4 t) g0 u0 k _ _)
      isplitl [HS4]; · iexact HS4
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [H5]; · iexists _; iexact H5
      isplitl [H6]; · iexists _; iexact H6
      isplitl [HS2]; · iexists _; iexact HS2
      isplitl [HS3]; · iexists _; iexact HS3
      iintro ⟨H0, H1, H2, H3, H4, HS0, HS1, HS4, H5, H6, HS2, HS3⟩
      isplitl [HS0 HS1 HS2 HS3 HS4 Hg]
      · isplitl [HS0 HS1 HS2 HS3 HS4]
        · iexists _; iexists _; iexists _; iexists _; iexists _
          isplitr; · ipureintro; exact hN
          isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have r0 := fun h => h2 ((cond2_iff t).mpr h)
    by_cases h3 : k0_cond3 (grid0.coords t) = 1#1
    · have h4 : ¬ k0_cond4 (grid0.coords t) = 1#1 := fun h => by have := (cond4_iff t).mp h; have := (cond3_iff t).mp h3; omega
      have p0 := (cond3_iff t).mp h3
      iintro ⟨⟨⟨%g0, %u0, %g1, %u1, %k, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      obtain ⟨ea, eb⟩ := hI.even p0 (Nat.pos_of_ne_zero n0)
      replace ea : g1 = pg m c t.val := ea.trans (if_neg n0).symm
      replace eb : u1 = pu m c t.val := eb.trans (if_neg n0).symm
      have et : tile (iblk m c 3 t) (iblk m c 4 t) g1 u1 k (colF t) = actAt m c t := by
        rw [ea, eb]; exact tile_keep m c t _ _ _ _ hI r0
      have el : tail g1 = tailAt m c t := by rw [ea]; rfl
      have hN := step_even m c t p0 hI k (fun _ _ _ _ => rfl) g1 u1
      rw [← ea] at hN
      rw [← et, ← el]
      iapply (run_even_keep c t _ _ _ _ _ _ _ _ _ _ _ _ _ _ _ _ _ _ _ _ _ _ _ _ h1 h2 h3 h4 (iblk m c 0 t) (iblk m c 1 t) (iblk m c 2 t) (iblk m c 3 t) (iblk m c 4 t) g1 u1 k _ _)
      isplitl [HS4]; · iexact HS4
      isplitl [H0]; · iexact H0
      isplitl [H1]; · iexact H1
      isplitl [H2]; · iexact H2
      isplitl [H3]; · iexact H3
      isplitl [H4]; · iexact H4
      isplitl [HS2]; · iexact HS2
      isplitl [HS3]; · iexact HS3
      isplitl [H5]; · iexists _; iexact H5
      isplitl [H6]; · iexists _; iexact H6
      isplitl [HS0]; · iexists _; iexact HS0
      isplitl [HS1]; · iexists _; iexact HS1
      iintro ⟨H0, H1, H2, H3, H4, HS2, HS3, HS4, H5, H6, HS0, HS1⟩
      isplitl [HS0 HS1 HS2 HS3 HS4 Hg]
      · isplitl [HS0 HS1 HS2 HS3 HS4]
        · iexists _; iexists _; iexists _; iexists _; iexists _
          isplitr; · ipureintro; exact hN
          isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h4 : k0_cond4 (grid0.coords t) = 1#1 := (cond4_iff t).mpr (Nat.mod_two_ne_zero.mp fun h => h3 ((cond3_iff t).mpr h))
      have p0 := (cond4_iff t).mp h4
      iintro ⟨⟨⟨%g0, %u0, %g1, %u1, %k, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      obtain ⟨ea, eb⟩ := hI.odd p0
      replace ea : g0 = pg m c t.val := ea.trans (if_neg n0).symm
      replace eb : u0 = pu m c t.val := eb.trans (if_neg n0).symm
      have et : tile (iblk m c 3 t) (iblk m c 4 t) g0 u0 k (colF t) = actAt m c t := by
        rw [ea, eb]; exact tile_keep m c t _ _ _ _ hI r0
      have el : tail g0 = tailAt m c t := by rw [ea]; rfl
      have hN := step_odd m c t p0 hI k (fun _ _ _ _ => rfl) g0 u0
      rw [← ea] at hN
      rw [← et, ← el]
      iapply (run_odd_keep c t _ _ _ _ _ _ _ _ _ _ _ _ _ _ _ _ _ _ _ _ _ _ _ _ h1 h2 h3 h4 (iblk m c 0 t) (iblk m c 1 t) (iblk m c 2 t) (iblk m c 3 t) (iblk m c 4 t) g0 u0 k _ _)
      isplitl [HS4]; · iexact HS4
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [H5]; · iexists _; iexact H5
      isplitl [H6]; · iexists _; iexact H6
      isplitl [HS2]; · iexists _; iexact HS2
      isplitl [HS3]; · iexists _; iexact HS3
      iintro ⟨H0, H1, H2, H3, H4, HS0, HS1, HS4, H5, H6, HS2, HS3⟩
      isplitl [HS0 HS1 HS2 HS3 HS4 Hg]
      · isplitl [HS0 HS1 HS2 HS3 HS4]
        · iexists _; iexists _; iexists _; iexists _; iexists _
          isplitr; · ipureintro; exact hN
          isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Before the first point the scratch buffers may hold anything, -/
theorem phi_in (c : Dev nD) : (Pipeline.ΦA spec0 c : sProp 𝕄) ⊢ (dats m 0 c).Φ 0 := by
  rw [phi_eq, show (dats m 0 c).Φ 0 = Phi m c 0 from rfl]
  unfold Phi
  iintro ⟨⟨⟨%g0, HS0⟩, ⟨%u0, HS1⟩, ⟨%g1, HS2⟩, ⟨%u1, HS3⟩, ⟨%k, HS4⟩⟩, Hg⟩
  isplitl [HS0 HS1 HS2 HS3 HS4]
  · iexists g0; iexists u0; iexists g1; iexists u1; iexists k
    isplitr; · ipureintro; exact Inv.zero m c g0 u0 g1 u1 k
    isplitl [HS0]; · iexact HS0
    isplitl [HS1]; · iexact HS1
    isplitl [HS2]; · iexact HS2
    isplitl [HS3]; · iexact HS3
    iexact HS4
  iexact Hg

/-- and after the last what they hold is given up. -/
theorem phi_out (c : Dev nD) : (dats m 0 c).Φ (Fin.last cfg0.N) ⊢ (Pipeline.ΦA spec0 c : sProp 𝕄) := by
  rw [phi_eq, show (dats m 0 c).Φ (Fin.last cfg0.N) = Phi m c cfg0.N from rfl]
  unfold Phi
  iintro ⟨⟨%g0, %u0, %g1, %u1, %k, %hI, HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
theorem run_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The kernel runs to its end: its two results hold the blocks that the points left, its five arguments are unchanged and
    every counter is back at zero. -/
theorem run : θ_run defs (onTc (τ := τ) (main (F := Ideal))) ⟨m, fun _ => 0, ρ⟩ (fun r => (∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5, (h.1 c).1 6,
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c)))⟩, h.2⟩) (run_quiescent m ρ)

end Cert.KernelUpIdeal.Up

end
-- ==== Proof.UpValue.lean ====
/- The gated half of the convolutional feed-forward, entry by entry: two projections, a causal convolution of the gate over
   three rows of a sequence, silu, and the product with the up projection. -/
module

public import proofs.«01_k».proof.Proof.UpTile

@[expose] public section

set_option maxRecDepth 16384

noncomputable section

namespace Cert.KernelUpIdeal.Up

open Cert.KernelUpIdeal Cert.KernelUpIdeal.Gen
open Idealize.ShloMosaic Idealize.ShloMosaic.TcCoe
open scoped BigOperators

/-- One entry of a projection. -/
def proj (x : FVec Ideal S8192x4096 .bf16) (w : FVec Ideal S1x4096x11264 .bf16) (R : Fin 8192) (K : Fin 11264) : EReal :=
  ∑ k : Fin 4096, x (ix2 R k) * w (ix3 0 k K)

/-- The projection's entry `j` rows before in the same sequence of 2048 rows, zero before the sequence begins. -/
def prev (x : FVec Ideal S8192x4096 .bf16) (w : FVec Ideal S1x4096x11264 .bf16) (R : Fin 8192) (K : Fin 11264) (j : ℕ) : EReal :=
  if R.val % 2048 < j then 0 else proj x w ⟨R.val - j, by have := R.isLt; omega⟩ K

/-- One entry of the hidden activation, by the second layer's taps and bias. -/
def hidden (x : FVec Ideal S8192x4096 .bf16) (wg wu : FVec Ideal S1x4096x11264 .bf16) (cw : FVec Ideal S2x3x11264 .f32)
    (cb : FVec Ideal S2x1x11264 .f32) (R : Fin 8192) (K : Fin 11264) : EReal :=
  fin (cw (ix3 1 0 K)) (cw (ix3 1 1 K)) (cw (ix3 1 2 K)) (cb (ix3 1 0 K)) (prev x wg R K 2) (prev x wg R K 1)
    (prev x wg R K 0) (proj x wu R K)

/-- One entry of the tails: the last eight gate rows of every 1024. -/
def lastRows (x : FVec Ideal S8192x4096 .bf16) (wg : FVec Ideal S1x4096x11264 .bf16) (b r : Fin 8) (K : Fin 11264) : EReal :=
  proj x wg ⟨b.val * 1024 + 1016 + r.val, by omega⟩ K

/-- A tile's product, read at an entry. -/
theorem gate_apply (x : Vec Ideal S1024x4096 .bf16) (w : Vec Ideal S1x4096x512 .bf16) (r : Fin 1024) (l : Fin 512) :
    gate x w (ix2 r l) = ∑ k : Fin 4096, x (ix2 r k) * w (ix3 0 k l) := by
  pointwise [gate, k0_pay2]

end Cert.KernelUpIdeal.Up

end
-- ==== Proof.UpArray.lean ====
/- The kernel's two results after the run, entry by entry. -/
module

public import proofs.«01_k».proof.Proof.UpFrame
public import proofs.«01_k».proof.Proof.UpValue

@[expose] public section

set_option maxRecDepth 16384

noncomputable section

namespace Cert.KernelUpIdeal.Up

open Cert.KernelUpIdeal Cert.KernelUpIdeal.Gen
open Idealize.ShloMosaic Idealize.ShloMosaic.TcCoe Idealize.SL.Sem
open scoped BigOperators

variable (m : (ℓ : Loc nD τ sig) → Buf (Elt Ideal) ℓ)

/-- Device `c`'s five arguments. -/
abbrev xs (c : Dev nD) : FVec Ideal S8192x4096 .bf16 := m ((c : Thread nD τ).loc main_arg0)
abbrev wgs (c : Dev nD) : FVec Ideal S1x4096x11264 .bf16 := m ((c : Thread nD τ).loc main_arg1)
abbrev wus (c : Dev nD) : FVec Ideal S1x4096x11264 .bf16 := m ((c : Thread nD τ).loc main_arg2)
abbrev cws (c : Dev nD) : FVec Ideal S2x3x11264 .f32 := m ((c : Thread nD τ).loc main_arg3)
abbrev cbs (c : Dev nD) : FVec Ideal S2x1x11264 .f32 := m ((c : Thread nD τ).loc main_arg4)

/-- Which blocks point `t` multiplies, -/
theorem mul_facts : ∀ t : Fin cfg0.N, t.val < 176 →
    (win0_0.index t (0 : Fin 2) = t.val / 22 ∧ win0_0.index t (1 : Fin 2) = 0)
    ∧ (win0_1.index t (0 : Fin 3) = 0 ∧ win0_1.index t (1 : Fin 3) = 0 ∧ win0_1.index t (2 : Fin 3) = t.val % 22)
    ∧ (win0_2.index t (0 : Fin 3) = 0 ∧ win0_2.index t (1 : Fin 3) = 0 ∧ win0_2.index t (2 : Fin 3) = t.val % 22) :=
  (by decide +kernel : ∀ t : Fin grid0.N, _)

/-- and which blocks it finishes. -/
theorem out_facts : ∀ t : Fin cfg0.N,
    (win0_3.index t (0 : Fin 3) = 1 ∧ win0_3.index t (1 : Fin 3) = 0 ∧ win0_3.index t (2 : Fin 3) = (t.val - 1) % 22)
    ∧ (win0_4.index t (0 : Fin 3) = 1 ∧ win0_4.index t (1 : Fin 3) = 0 ∧ win0_4.index t (2 : Fin 3) = (t.val - 1) % 22)
    ∧ (win0_5.index t (0 : Fin 2) = (t.val - 1) / 22 ∧ win0_5.index t (1 : Fin 2) = (t.val - 1) % 22)
    ∧ (win0_6.index t (0 : Fin 3) = (t.val - 1) / 22 ∧ win0_6.index t (1 : Fin 3) = 0 ∧ win0_6.index t (2 : Fin 3) = (t.val - 1) % 22) :=
  (by decide +kernel : ∀ t : Fin grid0.N, _)

/-- Each block of the results is written back from the second point on. -/
theorem flush_5 : ∀ t : Fin cfg0.N, (cfg0.win 5).flush t = true → 1 ≤ t.val := (by decide +kernel : ∀ t : Fin grid0.N, _)
theorem flush_6 : ∀ t : Fin cfg0.N, (cfg0.win 6).flush t = true → 1 ≤ t.val := (by decide +kernel : ∀ t : Fin grid0.N, _)

theorem x_apply (c : Dev nD) (t : Fin cfg0.N) (h : t.val < 176) (r : Fin 1024) (k : Fin 4096) (R : Fin 8192)
    (hR : R.val = t.val / 22 * 1024 + r.val) : iblk m c 0 t (ix2 r k) = xs m c (ix2 R k) := by
  obtain ⟨⟨e0, e1⟩, -⟩ := mul_facts t h
  show m ((c : Thread nD τ).loc main_arg0) (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 4096 + 1 * k.val = k.val; rw [e1]; omega

theorem wg_apply (c : Dev nD) (t : Fin cfg0.N) (h : t.val < 176) (k : Fin 4096) (l : Fin 512) (K : Fin 11264)
    (hK : K.val = t.val % 22 * 512 + l.val) : iblk m c 1 t (ix3 0 k l) = wgs m c (ix3 0 k K) := by
  obtain ⟨-, ⟨e0, e1, e2⟩, -⟩ := mul_facts t h
  show m ((c : Thread nD τ).loc main_arg1) (((cfg0.win 1).blk t).view.emb (ix3 0 k l)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * l.val = K.val; rw [e2]; omega

theorem wu_apply (c : Dev nD) (t : Fin cfg0.N) (h : t.val < 176) (k : Fin 4096) (l : Fin 512) (K : Fin 11264)
    (hK : K.val = t.val % 22 * 512 + l.val) : iblk m c 2 t (ix3 0 k l) = wus m c (ix3 0 k K) := by
  obtain ⟨-, -, e0, e1, e2⟩ := mul_facts t h
  show m ((c : Thread nD τ).loc main_arg2) (((cfg0.win 2).blk t).view.emb (ix3 0 k l)) = _
  refine congrArg _ (funext fun a => Fin.ext ?_)
  match a with
  | ⟨0, _⟩ => show win0_2.index t (0 : Fin 3) * 1 + 1 * 0 = 0; rw [e0]
  | ⟨1, _⟩ => show win0_2.index t (1 : Fin 3) * 4096 + 1 * k.val = k.val; rw [e1]; omega
  | ⟨2, _⟩ => show win0_2.index t (2 : Fin 3) * 512 + 1 * l.val = K.val; rw [e2]; omega

theorem cw_apply (c : Dev nD) (t : Fin cfg0.N) (j : Fin 3) (l : Fin 512) (K : Fin 11264)
    (hK : K.val = (t.val - 1) % 22 * 512 + l.val) : iblk m c 3 t (ix3 0 j l) = cws m c (ix3 1 j K) := by
  obtain ⟨⟨e0, e1, e2⟩, -⟩ := out_facts t
  show m ((c : Thread nD τ).loc main_arg3) (((cfg0.win 3).blk t).view.emb (ix3 0 j l)) = _
  refine congrArg _ (funext fun a => Fin.ext ?_)
  match a with
  | ⟨0, _⟩ => show win0_3.index t (0 : Fin 3) * 1 + 1 * 0 = 1; rw [e0]
  | ⟨1, _⟩ => show win0_3.index t (1 : Fin 3) * 3 + 1 * j.val = j.val; rw [e1]; omega
  | ⟨2, _⟩ => show win0_3.index t (2 : Fin 3) * 512 + 1 * l.val = K.val; rw [e2]; omega

theorem cb_apply (c : Dev nD) (t : Fin cfg0.N) (l : Fin 512) (K : Fin 11264)
    (hK : K.val = (t.val - 1) % 22 * 512 + l.val) : iblk m c 4 t (ix3 0 0 l) = cbs m c (ix3 1 0 K) := by
  obtain ⟨-, ⟨e0, e1, e2⟩, -⟩ := out_facts t
  show m ((c : Thread nD τ).loc main_arg4) (((cfg0.win 4).blk t).view.emb (ix3 0 0 l)) = _
  refine congrArg _ (funext fun a => Fin.ext ?_)
  match a with
  | ⟨0, _⟩ => show win0_4.index t (0 : Fin 3) * 1 + 1 * 0 = 1; rw [e0]
  | ⟨1, _⟩ => show win0_4.index t (1 : Fin 3) * 1 + 1 * 0 = 0; rw [e1]
  | ⟨2, _⟩ => show win0_4.index t (2 : Fin 3) * 512 + 1 * l.val = K.val; rw [e2]; omega

/-- The gate projection of a tile, read at an entry, -/
theorem gt_apply (c : Dev nD) (n : ℕ) (h : n < 176) (r : Fin 1024) (l : Fin 512) (R : Fin 8192) (K : Fin 11264)
    (hR : R.val = n / 22 * 1024 + r.val) (hK : K.val = n % 22 * 512 + l.val) :
    gt m c n (ix2 r l) = proj (xs m c) (wgs m c) R K := by
  have hN : cfg0.N = 177 := N_0
  unfold gt proj
  rw [dif_pos (by omega), gate_apply]
  exact Finset.sum_congr rfl fun k _ => congrArg₂ (· * ·) (x_apply m c _ h r k R hR) (wg_apply m c _ h k l K hK)

/-- and its up projection. -/
theorem ut_apply (c : Dev nD) (n : ℕ) (h : n < 176) (r : Fin 1024) (l : Fin 512) (R : Fin 8192) (K : Fin 11264)
    (hR : R.val = n / 22 * 1024 + r.val) (hK : K.val = n % 22 * 512 + l.val) :
    ut m c n (ix2 r l) = proj (xs m c) (wus m c) R K := by
  have hN : cfg0.N = 177 := N_0
  unfold ut proj
  rw [dif_pos (by omega), gate_apply]
  exact Finset.sum_congr rfl fun k _ => congrArg₂ (· * ·) (x_apply m c _ h r k R hR) (wu_apply m c _ h k l K hK)

/-- The gate row `j` before a tile's row: the tile's own, one of the carried ones, or zero before the sequence. -/
theorem row_apply (c : Dev nD) (t : Fin cfg0.N) (ht : 1 ≤ t.val) (r : Fin 1024) (l : Fin 512) (j : ℕ) (hj : j ≤ 2)
    (R : Fin 8192) (K : Fin 11264) (hR : R.val = (t.val - 1) / 22 * 1024 + r.val) (hK : K.val = (t.val - 1) % 22 * 512 + l.val) :
    row (kk m c t.val) (colF t) (pg m c t.val) (r.val + (8 - j)) l = prev (xs m c) (wgs m c) R K j := by
  have hN : t.val < 177 := lt_of_lt_of_eq t.isLt N_0
  have hr := r.isLt
  have hRl := R.isLt
  unfold row prev
  by_cases h : r.val + (8 - j) < 8
  · rw [dif_pos h]
    unfold kk
    by_cases hz : (t.val - 1) / 22 % 2 = 0
    · rw [if_pos hz, if_pos (by omega)]
    · rw [if_neg hz, if_neg (by omega)]
      exact gt_apply m c _ (by omega) _ _ _ _ (by show R.val - j = (t.val - 1 - 22) / 22 * 1024 + (1016 + (r.val + (8 - j))); omega)
        (by show K.val = (t.val - 1 - 22) % 22 * 512 + l.val; omega)
  · rw [dif_neg h, if_neg (by omega)]
    unfold pg
    rw [if_neg (by omega)]
    exact gt_apply m c _ (by omega) _ _ _ _ (by show R.val - j = (t.val - 1) / 22 * 1024 + (r.val + (8 - j) - 8) % 1024; omega) hK

/-- The activation block that a point leaves, read at an entry. -/
theorem act_block (c : Dev nD) (t : Fin cfg0.N) (ht : 1 ≤ t.val) (r : Fin 1024) (l : Fin 512)
    (R : Fin 8192) (K : Fin 11264) (hR : R.val = (t.val - 1) / 22 * 1024 + r.val) (hK : K.val = (t.val - 1) % 22 * 512 + l.val) :
    actAt m c t (ix2 r l) = hidden (xs m c) (wgs m c) (wus m c) (cws m c) (cbs m c) R K := by
  have hN : t.val < 177 := lt_of_lt_of_eq t.isLt N_0
  have hu : pu m c t.val (ix2 r l) = proj (xs m c) (wus m c) R K := by
    unfold pu
    rw [if_neg (by omega)]
    exact ut_apply m c _ (by omega) _ _ _ _ hR hK
  show fin (iblk m c 3 t (ix3 0 0 l)) (iblk m c 3 t (ix3 0 1 l)) (iblk m c 3 t (ix3 0 2 l)) (iblk m c 4 t (ix3 0 0 l))
    (row (kk m c t.val) (colF t) (pg m c t.val) (r.val + 6) l) (row (kk m c t.val) (colF t) (pg m c t.val) (r.val + 7) l)
    (row (kk m c t.val) (colF t) (pg m c t.val) (r.val + 8) l) (pu m c t.val (ix2 r l)) = _
  rw [cw_apply m c t 0 l K hK, cw_apply m c t 1 l K hK, cw_apply m c t 2 l K hK, cb_apply m c t l K hK, hu,
    row_apply m c t ht r l 2 (by omega) R K hR hK, row_apply m c t ht r l 1 (by omega) R K hR hK,
    row_apply m c t ht r l 0 (by omega) R K hR hK]
  rfl

/-- The tail block that a point leaves, read at an entry. -/
theorem tail_block (c : Dev nD) (t : Fin cfg0.N) (ht : 1 ≤ t.val) (r : Fin 8) (l : Fin 512)
    (b : Fin 8) (K : Fin 11264) (hb : b.val = (t.val - 1) / 22) (hK : K.val = (t.val - 1) % 22 * 512 + l.val) :
    tailAt m c t (ix3 0 r l) = lastRows (xs m c) (wgs m c) b r K := by
  have hN : t.val < 177 := lt_of_lt_of_eq t.isLt N_0
  show pg m c t.val (ix2 ⟨1016 + r.val, _⟩ l) = _
  unfold pg
  rw [if_neg (by omega)]
  exact gt_apply m c _ (by omega) _ _ _ _ (by show b.val * 1024 + 1016 + r.val = (t.val - 1) / 22 * 1024 + (1016 + r.val); omega) hK

/-- The hidden activations, -/
def acts (c : Dev nD) : FVec Ideal S8192x11264 .bf16 := fun i =>
  hidden (xs m c) (wgs m c) (wus m c) (cws m c) (cbs m c) (i 0) (i 1)
/-- and the tails. -/
def ends (c : Dev nD) : FVec Ideal S8x8x11264 .f32 := fun i => lastRows (xs m c) (wgs m c) (i 0) (i 1) (i 2)

/-- The first result the run leaves, -/
theorem value_act (c : Dev nD) : (dats m 0 c).arrAt 5 cfg0.N = acts m c := by
  refine (dats m 0 c).arrAt_eq_of_covers 5 _ (by decide +kernel) fun t hf y => ?_
  have ht := flush_5 t hf
  blk_simp
  rw [after_5]
  obtain ⟨-, -, ⟨e0, e1⟩, -⟩ := out_facts t
  obtain ⟨r, l, rfl⟩ : ∃ (r : Fin 1024) (l : Fin 512), y = ix2 r l := ⟨y 0, y 1, eq_ix2 _⟩
  refine act_block m c t ht r l _ _ ?_ ?_
  · show win0_5.index t (0 : Fin 2) * 1024 + 1 * r.val = _; rw [e0]; omega
  · show win0_5.index t (1 : Fin 2) * 512 + 1 * l.val = _; rw [e1]; omega

/-- and the second. -/
theorem value_tail (c : Dev nD) : (dats m 0 c).arrAt 6 cfg0.N = ends m c := by
  refine (dats m 0 c).arrAt_eq_of_covers 6 _ (by decide +kernel) fun t hf y => ?_
  have ht := flush_6 t hf
  blk_simp
  rw [after_6]
  obtain ⟨-, -, -, e0, e1, e2⟩ := out_facts t
  obtain ⟨z, r, l, rfl⟩ : ∃ (z : Fin 1) (r : Fin 8) (l : Fin 512), y = ix3 z r l := ⟨y 0, y 1, y 2, eq_ix3 _⟩
  obtain rfl : z = 0 := Subsingleton.elim _ _
  have hr : ((cfg0.win 6).blk t).view.emb (ix3 0 r l) 1 = r :=
    Fin.ext (by show win0_6.index t (1 : Fin 3) * 8 + 1 * r.val = r.val; rw [e1]; omega)
  refine (tail_block m c t ht r l (((cfg0.win 6).blk t).view.emb (ix3 0 r l) 0) (((cfg0.win 6).blk t).view.emb (ix3 0 r l) 2) ?_ ?_).trans
    (congrArg (fun q => lastRows (xs m c) (wgs m c) _ q _) hr.symm)
  · show win0_6.index t (0 : Fin 3) * 1 + 1 * 0 = _; rw [e0]; omega
  · show win0_6.index t (2 : Fin 3) * 512 + 1 * l.val = _; rw [e2]; omega

end Cert.KernelUpIdeal.Up

end
-- ==== Proof.UpReference.lean ====
/- The reference of the gated half of the convolutional feed-forward, step by step, each step read at an index. -/
module

public import proofs.«01_k».proof.Defs
public import proofs.«01_k».proof.Proof.Gen.ReferenceUpIdeal.Run
public import proofs.«01_k».proof.Proof.UpValue
public import Idealize.ShloMosaic.Lib.Pointwise

@[expose] public section

set_option maxRecDepth 16384

noncomputable section

namespace Cert.UpReference

open Cert.ReferenceUpIdeal Cert.ReferenceUpIdeal.Gen Idealize.ShloMosaic Idealize.ShloMosaic.TcCoe Idealize.SL.Sem
open scoped BigOperators

/-- A projection of every row. -/
def project (x : FVec Ideal S8192x4096 .bf16) (w : FVec Ideal S1x4096x11264 .bf16) : FVec Ideal S8192x11264 .f32 :=
  Host.dotGeneral dot_S8192x4096_S4096x11264_S8192x11264_1_0_0_1_n_n none (extf .f32 x bitsLt_bf16_f32)
    (extf .f32 (shapeCast _ w shapeCasts_S1x4096x11264_S4096x11264) bitsLt_bf16_f32)
/-- The rows by sequence. -/
def seqs (p : FVec Ideal S8192x11264 .f32) : FVec Ideal S4x2048x11264 .f32 :=
  shapeCast _ p shapeCasts_S8192x11264_S4x2048x11264
/-- Two rows of zeros before every sequence. -/
def pad (g : FVec Ideal S4x2048x11264 .f32) : FVec Ideal S4x2050x11264 .f32 :=
  concatenate S4x2050x11264 1 [⟨S4x2x11264, (broadcastInDim S4x2x11264 ![] bcast_S_S4x2x11264 (constant S_ .f32 0x00000000#32))⟩,
    ⟨S4x2048x11264, g⟩] concatenates_S4x2x11264_S4x2048x11264_S4x2050x11264_d1
/-- A row of taps, on every row. -/
def spread (v : FVec Ideal S1x1x11264 .f32) : FVec Ideal S4x2048x11264 .f32 :=
  broadcastInDim S4x2048x11264 ![0, 1, 2] bcast_S1x1x11264_S4x2048x11264_0_1_2 (broadcastInDim S1x1x11264 ![2] bcast_S11264_S1x1x11264_2
    (shapeCast _ v shapeCasts_S1x1x11264_S11264))
/-- The bias, on every row. -/
def bias (cb : FVec Ideal S2x1x11264 .f32) : FVec Ideal S4x2048x11264 .f32 :=
  broadcastInDim S4x2048x11264 ![0, 1, 2] bcast_S1x1x11264_S4x2048x11264_0_1_2 (broadcastInDim S1x1x11264 ![1, 2] bcast_S1x11264_S1x1x11264_1_2
    (shapeCast _ (extractStridedSlice S1x1x11264 ![1, 0, 0] cb slices_S2x1x11264_S1x1x11264_1_0_0) shapeCasts_S1x1x11264_S1x11264))
/-- The convolution of the padded rows. -/
def conv (cw : FVec Ideal S2x3x11264 .f32) (b : FVec Ideal S4x2048x11264 .f32) (e : FVec Ideal S4x2050x11264 .f32) :
    FVec Ideal S4x2048x11264 .f32 :=
  addf (addf (addf b
      (mulf (spread (extractStridedSlice S1x1x11264 ![1, 0, 0] cw slices_S2x3x11264_S1x1x11264_1_0_0))
        (extractStridedSlice S4x2048x11264 ![0, 0, 0] e slices_S4x2050x11264_S4x2048x11264_0_0_0)))
      (mulf (spread (extractStridedSlice S1x1x11264 ![1, 1, 0] cw slices_S2x3x11264_S1x1x11264_1_1_0))
        (extractStridedSlice S4x2048x11264 ![0, 1, 0] e slices_S4x2050x11264_S4x2048x11264_0_1_0)))
      (mulf (spread (extractStridedSlice S1x1x11264 ![1, 2, 0] cw slices_S2x3x11264_S1x1x11264_1_2_0))
        (extractStridedSlice S4x2048x11264 ![0, 2, 0] e slices_S4x2050x11264_S4x2048x11264_0_2_0))
/-- silu, times the up projection. -/
def gated (c u : FVec Ideal S4x2048x11264 .f32) : FVec Ideal S4x2048x11264 .f32 :=
  mulf (mulf c (Host.divf (broadcastInDim S4x2048x11264 ![] bcast_S_S4x2048x11264 (constant S_ .f32 0x3F800000#32))
    (addf (broadcastInDim S4x2048x11264 ![] bcast_S_S4x2048x11264 (constant S_ .f32 0x3F800000#32)) (Host.exp (Host.negf c))))) u
/-- The activation, its rows counted through. -/
def out (h : FVec Ideal S4x2048x11264 .f32) : FVec Ideal S8192x11264 .bf16 :=
  truncf .bf16 (shapeCast _ h shapeCasts_S4x2048x11264_S8192x11264) bitsLt_bf16_f32
/-- The last eight rows of every 1024. -/
def tails (g : FVec Ideal S4x2048x11264 .f32) : FVec Ideal S8x8x11264 .f32 :=
  extractStridedSlice S8x8x11264 ![0, 1016, 0] (shapeCast _ g shapeCasts_S4x2048x11264_S8x1024x11264) slices_S8x1024x11264_S8x8x11264_0_1016_0

theorem project_apply (x : FVec Ideal S8192x4096 .bf16) (w : FVec Ideal S1x4096x11264 .bf16) (R : Fin 8192) (K : Fin 11264) :
    project x w (ix2 R K) = ∑ k : Fin 4096, x (ix2 R k) * w (ix3 0 k K) := by
  pointwise [project]

theorem seqs_apply (p : FVec Ideal S8192x11264 .f32) (b : Fin 4) (n : Fin 2048) (K : Fin 11264) (R : Fin 8192)
    (hR : R.val = b.val * 2048 + n.val) : seqs p (ix3 b n K) = p (ix2 R K) := by
  have e : (⟨b.val * 2048 + n.val, by omega⟩ : Fin 8192) = R := Fin.ext hR.symm
  rw [← e]
  pointwise [seqs]

theorem pad_zero (g : FVec Ideal S4x2048x11264 .f32) (b : Fin 4) (i : Fin 2050) (K : Fin 11264) (h : i.val < 2) :
    pad g (ix3 b i K) = 0 := by
  pointwise [pad]
  simp [h]

theorem pad_row (g : FVec Ideal S4x2048x11264 .f32) (b : Fin 4) (i : Fin 2050) (n : Fin 2048) (K : Fin 11264) (h : i.val = n.val + 2) :
    pad g (ix3 b i K) = g (ix3 b n K) := by
  pointwise [pad]
  simp [h]

theorem bias_apply (cb : FVec Ideal S2x1x11264 .f32) (b : Fin 4) (n : Fin 2048) (K : Fin 11264) :
    bias cb (ix3 b n K) = cb (ix3 1 0 K) := by
  pointwise [bias]

theorem conv_apply (cw : FVec Ideal S2x3x11264 .f32) (d : FVec Ideal S4x2048x11264 .f32) (e : FVec Ideal S4x2050x11264 .f32)
    (b : Fin 4) (n : Fin 2048) (K : Fin 11264) :
    conv cw d e (ix3 b n K) = d (ix3 b n K) + cw (ix3 1 0 K) * e (ix3 b ⟨n.val, by omega⟩ K)
      + cw (ix3 1 1 K) * e (ix3 b ⟨1 + n.val, by omega⟩ K) + cw (ix3 1 2 K) * e (ix3 b ⟨2 + n.val, by omega⟩ K) := by
  pointwise [conv, spread]

theorem gated_apply (c u : FVec Ideal S4x2048x11264 .f32) (j : S4x2048x11264.Idx) :
    gated c u j = c j * Ideal.logistic (c j) * u j := by
  idx_vars j
  pointwise [gated, Ideal.logistic]

theorem out_apply (h : FVec Ideal S4x2048x11264 .f32) (R : Fin 8192) (K : Fin 11264) :
    out h (ix2 R K) = h (ix3 ⟨R.val / 2048, by omega⟩ ⟨R.val % 2048, by omega⟩ K) := by
  pointwise [out]

theorem tails_apply (g : FVec Ideal S4x2048x11264 .f32) (b r : Fin 8) (K : Fin 11264) :
    tails g (ix3 b r K) = g (ix3 ⟨b.val / 2, by omega⟩ ⟨b.val % 2 * 1024 + (1016 + r.val), by omega⟩ K) := by
  pointwise [tails]

open Cert.KernelUpIdeal.Up (proj prev hidden lastRows)

/-- The padded gate, `j` rows before a row. -/
theorem pad_prev (x : FVec Ideal S8192x4096 .bf16) (wg : FVec Ideal S1x4096x11264 .bf16) (R : Fin 8192) (K : Fin 11264)
    (j : ℕ) (hj : j ≤ 2) (b : Fin 4) (i : Fin 2050) (hb : b.val = R.val / 2048) (hi : i.val + j = R.val % 2048 + 2) :
    pad (seqs (project x wg)) (ix3 b i K) = prev x wg R K j := by
  have hR := R.isLt
  unfold prev
  by_cases h : R.val % 2048 < j
  · rw [if_pos h, pad_zero _ _ _ _ (by omega)]
  · rw [if_neg h, pad_row _ b i ⟨i.val - 2, by omega⟩ K (by show i.val = i.val - 2 + 2; omega),
      seqs_apply _ b _ K ⟨R.val - j, by omega⟩ (by show R.val - j = b.val * 2048 + (i.val - 2); omega), project_apply]
    rfl

/-- The reference's activation, read at an entry. -/
theorem out_value (x : FVec Ideal S8192x4096 .bf16) (wg wu : FVec Ideal S1x4096x11264 .bf16) (cw : FVec Ideal S2x3x11264 .f32)
    (cb : FVec Ideal S2x1x11264 .f32) (R : Fin 8192) (K : Fin 11264) :
    out (gated (conv cw (bias cb) (pad (seqs (project x wg)))) (seqs (project x wu))) (ix2 R K) = hidden x wg wu cw cb R K := by
  have hR := R.isLt
  rw [out_apply, gated_apply, conv_apply, bias_apply,
    pad_prev x wg R K 2 (by omega) _ _ rfl (by rfl),
    pad_prev x wg R K 1 (by omega) _ _ rfl (by show 1 + R.val % 2048 + 1 = _; omega),
    pad_prev x wg R K 0 (by omega) _ _ rfl (by show 2 + R.val % 2048 + 0 = _; omega),
    seqs_apply _ _ _ K R (by show R.val = R.val / 2048 * 2048 + R.val % 2048; omega), project_apply]
  rfl

/-- The reference's tails, read at an entry. -/
theorem tails_value (x : FVec Ideal S8192x4096 .bf16) (wg : FVec Ideal S1x4096x11264 .bf16) (b r : Fin 8) (K : Fin 11264) :
    tails (seqs (project x wg)) (ix3 b r K) = lastRows x wg b r K := by
  rw [tails_apply, seqs_apply _ _ _ K ⟨b.val * 1024 + 1016 + r.val, by omega⟩
    (by show b.val * 1024 + 1016 + r.val = b.val / 2 * 2048 + (b.val % 2 * 1024 + (1016 + r.val)); omega), project_apply]
  rfl

/-- The run's results are these steps. -/
theorem result_out (m : (ℓ : Loc nD τ sig) → Buf (Elt Ideal) ℓ) (c : Dev nD) :
    Cert.ReferenceUpIdeal.Value.res_main_v39 m c
      = out (gated (conv (m ((c.tc : Thread nD τ).loc main_arg3)) (bias (m ((c.tc : Thread nD τ).loc main_arg4)))
          (pad (seqs (project (m ((c.tc : Thread nD τ).loc main_arg0)) (m ((c.tc : Thread nD τ).loc main_arg1))))))
        (seqs (project (m ((c.tc : Thread nD τ).loc main_arg0)) (m ((c.tc : Thread nD τ).loc main_arg2))))) := by
  unfold Cert.ReferenceUpIdeal.Value.res_main_v39
  rfl

end Cert.UpReference

end
-- ==== Proof.UpSum.lean ====
/- The gated half of the convolutional feed-forward as a whole: the kernel and the reference end with equal results. -/
module

public import proofs.«01_k».proof.Proof.UpArray
public import proofs.«01_k».proof.Proof.UpReference
public import Idealize.ShloMosaic.Lib.Claim
public import Idealize.ShloMosaic.Lib.Quiescent

@[expose] public section

set_option maxRecDepth 16384

noncomputable section

namespace Cert.UpSum

open Cert.KernelUpIdeal Cert.KernelUpIdeal.Gen Idealize.ShloMosaic Idealize.ShloMosaic.TcCoe Idealize.SL.Sem

/-- The kernel runs, leaves its arguments alone and its counters at zero. -/
theorem frame_kernel : Cert.quiescent_KernelUpIdeal := fun m ρ _ =>
  (θ_run defs _ _).mono (fun _ h => ⟨fun c => (h.1 c).2.2, h.2⟩) (Up.run m ρ)

/-- The reference runs, leaves its arguments alone, and has no semaphore to leave raised. -/
theorem frame_reference : Cert.quiescent_ReferenceUpIdeal := fun m ρ _ =>
  (θ_run Cert.ReferenceUpIdeal.defs _ _).mono (fun r h => ⟨fun c => (h c).2.2,
      Idealize.ShloMosaic.sem_eq_zero_of_no_sems (by decide) r.2⟩)
    (Cert.ReferenceUpIdeal.Value.run (F := Ideal) m ρ)

/-- The kernel's run, its results as functions of its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = Up.acts m c
      ∧ r.2.mem ((c.tc : Thread nD τ).loc main_v0_1) = Up.ends m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1.trans (Up.value_act m c), (h.1 c).2.1.trans (Up.value_tail m c), (h.1 c).2.2⟩)
    (Up.run m ρ)

/-- The kernel and the reference end with equal results. -/
theorem algebraic : Cert.algebraic_KernelUpIdeal_ReferenceUpIdeal := by
  pair_intro
  · run_from kernel_run _ _
  · run_from Cert.ReferenceUpIdeal.Value.run _ _
    · rw [UpReference.result_out, (hagree c).1, (hagree c).2.1, (hagree c).2.2.1, (hagree c).2.2.2.1, (hagree c).2.2.2.2]
      funext j
      obtain ⟨R, K, rfl⟩ : ∃ (R : Fin 8192) (K : Fin 11264), j = ix2 R K := ⟨j 0, j 1, eq_ix2 j⟩
      exact UpReference.out_value _ _ _ _ _ R K
    · funext j
      obtain ⟨b, r, K, rfl⟩ : ∃ (b r : Fin 8) (K : Fin 11264), j = ix3 b r K := ⟨j 0, j 1, j 2, eq_ix3 j⟩
      exact UpReference.tails_value _ _ b r K

end Cert.UpSum

end
-- ==== Proof.QkvTile.lean ====
/- A tile of the projection as one grid point leaves it for the next, and as the next writes it out. -/
module

public import proofs.«01_k».proof.Defs
public import proofs.«01_k».proof.Proof.Gen.KernelQkvIdeal.Value
public import Idealize.ShloMosaic.Lib.Pointwise
public import Idealize.ShloMosaic.Lib.Pipeline.ValueKit

@[expose] public section

set_option maxRecDepth 16384

noncomputable section

namespace Cert.KernelQkvIdeal.Qkv

open Cert.KernelQkvIdeal Cert.KernelQkvIdeal.Gen Idealize.ShloMosaic Idealize.ShloMosaic.TcCoe Idealize.SL.Sem
open scoped BigOperators

variable (m : (ℓ : Loc nD τ sig) → Buf (Elt Ideal) ℓ)

/-- A tile of the projection. -/
def dot (x : FVec Ideal S1024x4096 .bf16) (w : FVec Ideal S1x4096x512 .bf16) : FVec Ideal S1024x512 .f32 :=
  shapeCast S1024x512 (matmul dot_S1024x4096_S4096x512_S1024x512_1_0_0_1_n_n none x (shapeCast S4096x512 w shapeCasts_S1x4096x512_S4096x512)
    (constant S1024x512 .f32 0x00000000#32)) shapeCasts_S1024x512_S1024x512

theorem dot_apply (x : FVec Ideal S1024x4096 .bf16) (w : FVec Ideal S1x4096x512 .bf16) (r : Fin 1024) (l : Fin 512) :
    dot x w (ix2 r l) = ∑ k : Fin 4096, x (ix2 r k) * w (ix3 0 k l) := by
  pointwise [dot]

/-- A head's lanes with the tables. -/
def mix (a : Vec Ideal S1024x128 .f32) (tc ta tb : Vec Ideal S1x1024x128 .f32) : FVec Ideal S1024x128 .f32 :=
  addf (addf (mulf a (shapeCast S1024x128 tc shapeCasts_S1x1024x128_S1024x128))
      (mulf (dynamicRotate 1 112#32 none a rotates_S1024x128_d1) (shapeCast S1024x128 ta shapeCasts_S1x1024x128_S1024x128)))
    (mulf (dynamicRotate 1 16#32 none a rotates_S1024x128_d1) (shapeCast S1024x128 tb shapeCasts_S1x1024x128_S1024x128))

theorem mix_apply (a : FVec Ideal S1024x128 .f32) (tc ta tb : FVec Ideal S1x1024x128 .f32) (r : Fin 1024) (l : Fin 128) :
    mix a tc ta tb (ix2 r l) = a (ix2 r l) * tc (ix3 0 r l)
      + a (ix2 r ⟨(l.val + 16) % 128, Nat.mod_lt _ (by decide)⟩) * ta (ix3 0 r l)
      + a (ix2 r ⟨(l.val + 112) % 128, Nat.mod_lt _ (by decide)⟩) * tb (ix3 0 r l) := by
  pointwise [mix]
  rw [show (⟨(l.val + 128 - 112) % 128, Nat.mod_lt _ (by decide)⟩ : Fin 128) = ⟨(l.val + 16) % 128, Nat.mod_lt _ (by decide)⟩ from
      Fin.ext (by show (l.val + 128 - 112) % 128 = (l.val + 16) % 128; omega),
    show (⟨(l.val + 128 - 16) % 128, Nat.mod_lt _ (by decide)⟩ : Fin 128) = ⟨(l.val + 112) % 128, Nat.mod_lt _ (by decide)⟩ from
      Fin.ext (by show (l.val + 128 - 16) % 128 = (l.val + 112) % 128; omega)]

/-- Lane `l` of head `p` of a tile. -/
def lane (p : Fin 4) (l : Fin 128) : Fin 512 := ⟨p.val * 128 + l.val, by omega⟩

/-- Four heads of a tile with the tables, read at head `p`, lane `l` of row `r`. -/
def mixAt (a : FVec Ideal S1024x512 .f32) (tc ta tb : FVec Ideal S1x1024x128 .f32) (r : Fin 1024) (p : Fin 4) (l : Fin 128) : EReal :=
  a (ix2 r (lane p l)) * tc (ix3 0 r l)
    + a (ix2 r (lane p ⟨(l.val + 16) % 128, Nat.mod_lt _ (by decide)⟩)) * ta (ix3 0 r l)
    + a (ix2 r (lane p ⟨(l.val + 112) % 128, Nat.mod_lt _ (by decide)⟩)) * tb (ix3 0 r l)

/-- The same as a tile. -/
def mixed4 (a : FVec Ideal S1024x512 .f32) (tc ta tb : FVec Ideal S1x1024x128 .f32) : S1024x512.Idx → EReal := fun y =>
  mixAt a tc ta tb ⟨(y 0).val, (y 0).isLt⟩ ⟨(y 1).val / 128, Nat.div_lt_of_lt_mul (y 1).isLt⟩ ⟨(y 1).val % 128, Nat.mod_lt _ (by decide)⟩

theorem mix_head (a : Vec Ideal S1024x512 .f32) (tc ta tb : Vec Ideal S1x1024x128 .f32) (p : Fin 4) (o : ℕ) (ho : o = p.val * 128)
    (inb : ∀ i, (![0, o] : Fin 2 → ℕ) i + (![1024, 128] : Fin 2 → ℕ) i ≤ S1024x512.size i)
    (x : S1024x128.Idx) (y : S1024x512.Idx) (h0 : (y 0).val = (x 0).val) (h1 : (y 1).val = o + (x 1).val) :
    mix (View.ld a (Rect.unit ![0, o] ![1024, 128] inb)) tc ta tb x = mixed4 a tc ta tb y := by
  have hx1 : (x 1).val < 128 := (x 1).isLt
  obtain ⟨r, l, rfl⟩ : ∃ (r : Fin 1024) (l : Fin 128), x = ix2 r l := ⟨x 0, x 1, eq_ix2 _⟩
  change (y 0).val = r.val at h0
  change (y 1).val = o + l.val at h1
  have hk : ∀ l : Fin 128, View.ld a (Rect.unit ![0, o] ![1024, 128] inb) (ix2 r l) = a (ix2 r (lane p l)) := fun l => by
    refine View.ld_unit_apply_of _ _ _ _ _ _ fun i => ?_
    match i with
    | ⟨0, _⟩ => show r.val = 0 + r.val; omega
    | ⟨1, _⟩ => show p.val * 128 + l.val = o + l.val; omega
  rw [mix_apply, hk, hk, hk]
  unfold mixed4
  have e0 : (⟨(y 0).val, (y 0).isLt⟩ : Fin 1024) = r := Fin.ext h0
  have e1 : (⟨(y 1).val / 128, Nat.div_lt_of_lt_mul (y 1).isLt⟩ : Fin 4) = p := Fin.ext (by show (y 1).val / 128 = p.val; omega)
  have e2 : (⟨(y 1).val % 128, Nat.mod_lt _ (by decide)⟩ : Fin 128) = l := Fin.ext (by show (y 1).val % 128 = l.val; omega)
  rw [e0, e1, e2]
  rfl

set_option maxHeartbeats 4000000 in
/-- What an even point leaves. -/
theorem left_even (c : Dev nD) (t : Fin cfg0.N) (h : t.val % 2 = 0) :
    (outsAt0 m c t.val t.isLt).2.2.1 = dot (iblk m c 0 t) (iblk m c 1 t) := by
  funext y
  by_cases h0 : t.val % 97 = 0
  · rw [outsAt0_A m c t h0 h (by omega)]
    frame_out
    unfold k0_pay6 dot
    rfl
  · rw [outsAt0_C m c t h0 h (by omega)]
    frame_out
    unfold k0_pay6 dot
    rfl

set_option maxHeartbeats 4000000 in
/-- What an odd point leaves. -/
theorem left_odd (c : Dev nD) (t : Fin cfg0.N) (h : t.val % 2 = 1) :
    (outsAt0 m c t.val t.isLt).2.2.2 = dot (iblk m c 0 t) (iblk m c 1 t) := by
  have ht : t.val < 97 := lt_of_lt_of_le t.isLt (le_of_eq (by decide))
  funext y
  rw [outsAt0_B m c t (by omega) (by omega) h]
  frame_out
  unfold k0_pay14 dot
  rfl

set_option maxHeartbeats 4000000 in
/-- What an odd point writes among the queries, keys and values: the tile left before it, with the tables. -/
theorem all_odd (c : Dev nD) (t : Fin cfg0.N) (h : t.val % 2 = 1) (y : S1024x512.Idx) :
    (outsAt0 m c t.val t.isLt).1 y = mixed4 (outsAt0 m c (t.val - 1) (Nat.lt_of_le_of_lt (Nat.sub_le _ _) t.isLt)).2.2.1
      (iblk m c 2 t) (iblk m c 3 t) (iblk m c 4 t) y := by
  have ht : t.val < 97 := lt_of_lt_of_le t.isLt (le_of_eq (by decide))
  rw [outsAt0_B m c t (by omega) (by omega) h]
  frame_out
  canon_tiles x hy
  case piece0 =>
    have e := mix_head (outsAt0 m c (t.val - 1) (Nat.lt_of_le_of_lt (Nat.sub_le _ _) t.isLt)).2.2.1
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2.1
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2.1
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2.1
      (iblk m c 2 t) (iblk m c 3 t) (iblk m c 4 t) 0 0 rfl (by decide) x y hy0 (by omega)
    repeat erw [Memref.IsWhole.read_unread]
    open_payloads
    unfold mix at e
    exact e

set_option maxHeartbeats 4000000 in
/-- What an odd point writes among the keys and values: the tile left before it, with the tables. -/
theorem pair_odd (c : Dev nD) (t : Fin cfg0.N) (h : t.val % 2 = 1) (y : S1024x512.Idx) :
    (outsAt0 m c t.val t.isLt).2.1 y = mixed4 (outsAt0 m c (t.val - 1) (Nat.lt_of_le_of_lt (Nat.sub_le _ _) t.isLt)).2.2.1
      (iblk m c 2 t) (iblk m c 3 t) (iblk m c 4 t) y := by
  have ht : t.val < 97 := lt_of_lt_of_le t.isLt (le_of_eq (by decide))
  rw [outsAt0_B m c t (by omega) (by omega) h]
  frame_out
  canon_tiles x hy
  case piece0 =>
    have e := mix_head (outsAt0 m c (t.val - 1) (Nat.lt_of_le_of_lt (Nat.sub_le _ _) t.isLt)).2.2.1
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2.1
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2.1
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2.1
      (iblk m c 2 t) (iblk m c 3 t) (iblk m c 4 t) 0 0 rfl (by decide) x y hy0 (by omega)
    repeat erw [Memref.IsWhole.read_unread]
    open_payloads
    unfold mix at e
    exact e

set_option maxHeartbeats 4000000 in
/-- What an even point writes among the queries, keys and values: the tile left before it, with the tables. -/
theorem all_even (c : Dev nD) (t : Fin cfg0.N) (h1 : 1 ≤ t.val) (h : t.val % 2 = 0) (y : S1024x512.Idx) :
    (outsAt0 m c t.val t.isLt).1 y = mixed4 (outsAt0 m c (t.val - 1) (Nat.lt_of_le_of_lt (Nat.sub_le _ _) t.isLt)).2.2.2
      (iblk m c 2 t) (iblk m c 3 t) (iblk m c 4 t) y := by
  have ht : t.val < 97 := lt_of_lt_of_le t.isLt (le_of_eq (by decide))
  rw [outsAt0_C m c t (by omega) h (by omega)]
  frame_out
  canon_tiles x hy
  case piece0 =>
    have e := mix_head (outsAt0 m c (t.val - 1) (Nat.lt_of_le_of_lt (Nat.sub_le _ _) t.isLt)).2.2.2
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2.2
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2.2
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2.2
      (iblk m c 2 t) (iblk m c 3 t) (iblk m c 4 t) 0 0 rfl (by decide) x y hy0 (by omega)
    repeat erw [Memref.IsWhole.read_unread]
    open_payloads
    unfold mix at e
    exact e

set_option maxHeartbeats 4000000 in
/-- What an even point writes among the keys and values: the tile left before it, with the tables. -/
theorem pair_even (c : Dev nD) (t : Fin cfg0.N) (h1 : 1 ≤ t.val) (h : t.val % 2 = 0) (y : S1024x512.Idx) :
    (outsAt0 m c t.val t.isLt).2.1 y = mixed4 (outsAt0 m c (t.val - 1) (Nat.lt_of_le_of_lt (Nat.sub_le _ _) t.isLt)).2.2.2
      (iblk m c 2 t) (iblk m c 3 t) (iblk m c 4 t) y := by
  have ht : t.val < 97 := lt_of_lt_of_le t.isLt (le_of_eq (by decide))
  rw [outsAt0_C m c t (by omega) h (by omega)]
  frame_out
  canon_tiles x hy
  case piece0 =>
    have e := mix_head (outsAt0 m c (t.val - 1) (Nat.lt_of_le_of_lt (Nat.sub_le _ _) t.isLt)).2.2.2
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2.2
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2.2
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2.2
      (iblk m c 2 t) (iblk m c 3 t) (iblk m c 4 t) 0 0 rfl (by decide) x y hy0 (by omega)
    repeat erw [Memref.IsWhole.read_unread]
    open_payloads
    unfold mix at e
    exact e

end Cert.KernelQkvIdeal.Qkv

end
-- ==== Proof.QkvSpec.lean ====
/-
  What the projection of a group's queries, keys and values should hold: a product of the rows with a head's columns, the first
  thirty-two lanes of every query and key head turned by the angle of the row's position.
-/
module

public import proofs.«01_k».proof.Defs
public import proofs.«01_k».proof.Proof.Gen.KernelQkvIdeal.Launch
public import Idealize.ShloMosaic.Lib.Pointwise

@[expose] public section

set_option maxRecDepth 16384

noncomputable section

namespace Cert.KernelQkvIdeal.Qkv

open Cert.KernelQkvIdeal Cert.KernelQkvIdeal.Gen Idealize.ShloMosaic Idealize.ShloMosaic.TcCoe Idealize.SL.Sem
open scoped BigOperators

/-- The angle of every position and frequency. -/
def ang : FVec Ideal S2048x16 .f32 :=
  mulf (broadcastInDim S2048x16 ![0, 1] bcast_S2048x1_S2048x16_0_1 (broadcastInDim S2048x1 ![0] bcast_S2048_S2048x1_0
      (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x48F42400#32))
        (Host.divf (mulf (Host.negf (sitofp .f32 (iotaInDim S16 32 0))) (broadcastInDim S16 ![] bcast_S_S16 (constant S_ .f32 0x40000000#32)))
          (broadcastInDim S16 ![] bcast_S_S16 (constant S_ .f32 0x42000000#32))))))

/-- A head's lanes turned: the first two sixteens of lanes are the two coordinates of sixteen points, the rest stay. -/
def turn (g : Fin 128 → EReal) (co si : Fin 16 → EReal) (l : Fin 128) : EReal :=
  if h : l.val < 16 then g l * co ⟨l.val, h⟩ - g ⟨l.val + 16, by omega⟩ * si ⟨l.val, h⟩
  else if h' : l.val < 32 then g l * co ⟨l.val - 16, by omega⟩ + g ⟨l.val - 16, by omega⟩ * si ⟨l.val - 16, by omega⟩
  else g l

/-- The weight's column of lane `d` of head `h` of the queries (`s = 0`), keys or values of the first group. -/
def col (s : Fin 3) (h : Fin 16) (d : Fin 128) : Fin 18432 := ⟨s.val * 6144 + h.val * 128 + d.val, by omega⟩

/-- A row times a column. -/
def prod (x : FVec Ideal S8192x4096 .bf16) (w : FVec Ideal S1x4096x18432 .bf16) (R : Fin 8192) (C : Fin 18432) : EReal :=
  ∑ k : Fin 4096, x (ix2 R k) * w (ix3 0 k C)

/-- The cosines and sines of a row. -/
def cosAt (n : Fin 2048) (f : Fin 16) : EReal := Host.cos ang (ix2 n f)
def sinAt (n : Fin 2048) (f : Fin 16) : EReal := Host.sin ang (ix2 n f)

/-- Lane `d` of head `h` of the queries, keys or values of row `R`. -/
def entry (x : FVec Ideal S8192x4096 .bf16) (w : FVec Ideal S1x4096x18432 .bf16) (s : Fin 3) (R : Fin 8192) (h : Fin 16)
    (d : Fin 128) : EReal :=
  if s.val < 2 then turn (fun l => prod x w R (col s h l)) (cosAt ⟨R.val % 2048, by omega⟩) (sinAt ⟨R.val % 2048, by omega⟩) d
  else prod x w R (col s h d)

theorem entry_congr (x : FVec Ideal S8192x4096 .bf16) (w : FVec Ideal S1x4096x18432 .bf16) {s s' : Fin 3} {R R' : Fin 8192}
    {h h' : Fin 16} {d d' : Fin 128} (es : s.val = s'.val) (eR : R.val = R'.val) (eh : h.val = h'.val) (ed : d.val = d'.val) :
    entry x w s R h d = entry x w s' R' h' d' := by
  obtain rfl := Fin.ext es; obtain rfl := Fin.ext eR; obtain rfl := Fin.ext eh; obtain rfl := Fin.ext ed; rfl

/-- The queries, keys and values side by side. -/
def all (x : FVec Ideal S8192x4096 .bf16) (w : FVec Ideal S1x4096x18432 .bf16) : FVec Ideal S8192x6144 .bf16 := fun y =>
  entry x w ⟨(y 1).val / 2048, Nat.div_lt_of_lt_mul (y 1).isLt⟩ ⟨(y 0).val, (y 0).isLt⟩
    ⟨(y 1).val % 2048 / 128, Nat.div_lt_of_lt_mul (Nat.mod_lt _ (by decide))⟩ ⟨(y 1).val % 128, Nat.mod_lt _ (by decide)⟩

/-- The keys and values side by side. -/
def pair (x : FVec Ideal S8192x4096 .bf16) (w : FVec Ideal S1x4096x18432 .bf16) : FVec Ideal S8192x4096 .f32 := fun y =>
  entry x w ⟨(y 1).val / 2048 + 1, Nat.succ_lt_succ (Nat.div_lt_of_lt_mul (y 1).isLt)⟩ ⟨(y 0).val, (y 0).isLt⟩
    ⟨(y 1).val % 2048 / 128, Nat.div_lt_of_lt_mul (Nat.mod_lt _ (by decide))⟩ ⟨(y 1).val % 128, Nat.mod_lt _ (by decide)⟩

end Cert.KernelQkvIdeal.Qkv

end
-- ==== Proof.QkvTable.lean ====
/- The tables of cosines and sines the call is given, read at an index. -/
module

public import proofs.«01_k».proof.Defs
public import proofs.«01_k».proof.Proof.Gen.KernelQkvIdeal.Value
public import proofs.«01_k».proof.Proof.QkvSpec
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.KernelQkvIdeal.Qkv

open Cert.KernelQkvIdeal Cert.KernelQkvIdeal.Gen Idealize.ShloMosaic Idealize.ShloMosaic.TcCoe Idealize.SL.Sem

variable (m : (ℓ : Loc nD τ sig) → Buf (Elt Ideal) ℓ)

/-- Three blocks of lanes side by side. -/
def lanes (a b : FVec Ideal S2048x16 .f32) (z : FVec Ideal S2048x96 .f32) : FVec Ideal S2048x128 .f32 :=
  concatenate S2048x128 1 [⟨S2048x16, a⟩, ⟨S2048x16, b⟩, ⟨S2048x96, z⟩] concatenates_S2048x16_S2048x16_S2048x96_S2048x128_d1
/-- The same table for the one sequence the rows repeat. -/
def once (a : FVec Ideal S2048x128 .f32) : FVec Ideal S2048x128 .f32 :=
  shapeCast _ (broadcastInDim S1x2048x1x128 ![0, 1, 2, 3] bcast_S1x2048x1x128_S1x2048x1x128_0_1_2_3
    (shapeCast _ a shapeCasts_S2048x128_S1x2048x1x128)) shapeCasts_S1x2048x1x128_S2048x128
/-- A table that turns, over one that does not. -/
def stack (a b : FVec Ideal S2048x128 .f32) : FVec Ideal S2x2048x128 .f32 :=
  concatenate S2x2048x128 0 [⟨S1x2048x128, broadcastInDim S1x2048x128 ![1, 2] bcast_S2048x128_S1x2048x128_1_2 a⟩,
    ⟨S1x2048x128, broadcastInDim S1x2048x128 ![1, 2] bcast_S2048x128_S1x2048x128_1_2 b⟩] concatenates_S1x2048x128_S1x2048x128_S2x2048x128_d0
/-- One number everywhere. -/
def flat (v : BitVec 32) : FVec Ideal S2048x128 .f32 := broadcastInDim S2048x128 ![] bcast_S_S2048x128 (constant S_ .f32 v)
def flat96 (v : BitVec 32) : FVec Ideal S2048x96 .f32 := broadcastInDim S2048x96 ![] bcast_S_S2048x96 (constant S_ .f32 v)
def flat16 (v : BitVec 32) : FVec Ideal S2048x16 .f32 := broadcastInDim S2048x16 ![] bcast_S_S2048x16 (constant S_ .f32 v)

theorem once_apply (a : FVec Ideal S2048x128 .f32) (n : Fin 2048) (l : Fin 128) : once a (ix2 n l) = a (ix2 n l) := by
  pointwise [once]
theorem stack_turn (a b : FVec Ideal S2048x128 .f32) (s : Fin 2) (n : Fin 2048) (l : Fin 128) (h : s.val = 0) :
    stack a b (ix3 s n l) = a (ix2 n l) := by
  pointwise [stack]
  simp [h]
theorem stack_stay (a b : FVec Ideal S2048x128 .f32) (s : Fin 2) (n : Fin 2048) (l : Fin 128) (h : s.val = 1) :
    stack a b (ix3 s n l) = b (ix2 n l) := by
  pointwise [stack]
  simp [h]
theorem flat_one (n : Fin 2048) (l : Fin 128) : flat 0x3F800000#32 (ix2 n l) = (1 : EReal) := by pointwise [flat]
theorem flat_zero (n : Fin 2048) (l : Fin 128) : flat 0x00000000#32 (ix2 n l) = (0 : EReal) := by pointwise [flat]
theorem flat96_one (n : Fin 2048) (l : Fin 96) : flat96 0x3F800000#32 (ix2 n l) = (1 : EReal) := by pointwise [flat96]
theorem flat96_zero (n : Fin 2048) (l : Fin 96) : flat96 0x00000000#32 (ix2 n l) = (0 : EReal) := by pointwise [flat96]
theorem flat16_zero (n : Fin 2048) (l : Fin 16) : flat16 0x00000000#32 (ix2 n l) = (0 : EReal) := by pointwise [flat16]
theorem lanes_first (a b : FVec Ideal S2048x16 .f32) (z : FVec Ideal S2048x96 .f32) (n : Fin 2048) (l : Fin 128) (f : Fin 16)
    (h : l.val = f.val) : lanes a b z (ix2 n l) = a (ix2 n f) := by
  pointwise [lanes]
  exact (dif_pos (by omega)).trans (congrArg a (congrArg₂ ix2 rfl (Fin.ext h)))
theorem lanes_second (a b : FVec Ideal S2048x16 .f32) (z : FVec Ideal S2048x96 .f32) (n : Fin 2048) (l : Fin 128) (f : Fin 16)
    (h : l.val = f.val + 16) : lanes a b z (ix2 n l) = b (ix2 n f) := by
  pointwise [lanes]
  exact (dif_neg (by omega)).trans ((dif_pos (by omega)).trans
    (congrArg b (congrArg₂ ix2 rfl (Fin.ext (by show l.val - 16 = f.val; omega)))))
theorem lanes_rest (a b : FVec Ideal S2048x16 .f32) (z : FVec Ideal S2048x96 .f32) (n : Fin 2048) (l : Fin 128) (f : Fin 96)
    (h : l.val = f.val + 32) : lanes a b z (ix2 n l) = z (ix2 n f) := by
  pointwise [lanes]
  exact (dif_neg (by omega)).trans ((dif_neg (by omega)).trans
    (congrArg z (congrArg₂ ix2 rfl (Fin.ext (by show l.val - 16 - 16 = f.val; omega)))))

/-- The three tables as the call is given them. -/
def tabC : FVec Ideal S2x2048x128 .f32 := stack (once (lanes (Host.cos ang) (Host.cos ang) (flat96 0x3F800000#32))) (flat 0x3F800000#32)
def tabA : FVec Ideal S2x2048x128 .f32 :=
  stack (once (lanes (Host.negf (Host.sin ang)) (flat16 0x00000000#32) (flat96 0x00000000#32))) (flat 0x00000000#32)
def tabB : FVec Ideal S2x2048x128 .f32 :=
  stack (once (lanes (flat16 0x00000000#32) (Host.sin ang) (flat96 0x00000000#32))) (flat 0x00000000#32)

set_option maxHeartbeats 4000000 in
theorem V_cos (c : Dev nD) : (V m c main_v36 : Vec Ideal S2x2048x128 .f32) = tabC := by
  unfold_abbrev_sides
  after_reads_simp
  rfl
set_option maxHeartbeats 4000000 in
theorem V_neg (c : Dev nD) : (V m c main_v40 : Vec Ideal S2x2048x128 .f32) = tabA := by
  unfold_abbrev_sides
  after_reads_simp
  rfl
set_option maxHeartbeats 4000000 in
theorem V_sin (c : Dev nD) : (V m c main_v44 : Vec Ideal S2x2048x128 .f32) = tabB := by
  unfold_abbrev_sides
  after_reads_simp
  rfl

/-- A lane times its table entries, with the lanes sixteen on and sixteen back: the turn, or nothing. -/
def mixed (g : Fin 128 → EReal) (s : Fin 2) (n : Fin 2048) (l : Fin 128) : EReal :=
  g l * tabC (ix3 s n l) + g ⟨(l.val + 16) % 128, Nat.mod_lt _ (by decide)⟩ * tabA (ix3 s n l)
    + g ⟨(l.val + 112) % 128, Nat.mod_lt _ (by decide)⟩ * tabB (ix3 s n l)

theorem mixed_stay (g : Fin 128 → EReal) (s : Fin 2) (n : Fin 2048) (l : Fin 128) (h : s.val = 1) : mixed g s n l = g l := by
  unfold mixed tabC tabA tabB
  rw [stack_stay _ _ s n l h, stack_stay _ _ s n l h, stack_stay _ _ s n l h, flat_one, flat_zero, mul_one, mul_zero, mul_zero,
    add_zero, add_zero]

theorem mixed_turn (g : Fin 128 → EReal) (s : Fin 2) (n : Fin 2048) (l : Fin 128) (h : s.val = 0) :
    mixed g s n l = turn g (cosAt n) (sinAt n) l := by
  unfold mixed tabC tabA tabB turn
  rw [stack_turn _ _ s n l h, stack_turn _ _ s n l h, stack_turn _ _ s n l h, once_apply, once_apply, once_apply]
  by_cases h1 : l.val < 16
  · rw [dif_pos h1, lanes_first _ _ _ n l ⟨l.val, h1⟩ rfl, lanes_first _ _ _ n l ⟨l.val, h1⟩ rfl, lanes_first _ _ _ n l ⟨l.val, h1⟩ rfl,
      flat16_zero, mul_zero, add_zero,
      show (⟨(l.val + 16) % 128, Nat.mod_lt _ (by decide)⟩ : Fin 128) = ⟨l.val + 16, by omega⟩ from
        Fin.ext (by show (l.val + 16) % 128 = l.val + 16; omega)]
    show _ + _ * -(sinAt n ⟨l.val, h1⟩) = _
    rw [mul_neg, sub_eq_add_neg]
    rfl
  · rw [dif_neg h1]
    by_cases h2 : l.val < 32
    · rw [dif_pos h2, lanes_second _ _ _ n l ⟨l.val - 16, by omega⟩ (by show l.val = l.val - 16 + 16; omega),
        lanes_second _ _ _ n l ⟨l.val - 16, by omega⟩ (by show l.val = l.val - 16 + 16; omega),
        lanes_second _ _ _ n l ⟨l.val - 16, by omega⟩ (by show l.val = l.val - 16 + 16; omega),
        flat16_zero, mul_zero, add_zero,
        show (⟨(l.val + 112) % 128, Nat.mod_lt _ (by decide)⟩ : Fin 128) = ⟨l.val - 16, by omega⟩ from
          Fin.ext (by show (l.val + 112) % 128 = l.val - 16; omega)]
      rfl
    · rw [dif_neg h2, lanes_rest _ _ _ n l ⟨l.val - 32, by omega⟩ (by show l.val = l.val - 32 + 32; omega),
        lanes_rest _ _ _ n l ⟨l.val - 32, by omega⟩ (by show l.val = l.val - 32 + 32; omega),
        lanes_rest _ _ _ n l ⟨l.val - 32, by omega⟩ (by show l.val = l.val - 32 + 32; omega),
        flat96_one, flat96_zero, mul_one, mul_zero, mul_zero, add_zero, add_zero]

end Cert.KernelQkvIdeal.Qkv

end
-- ==== Proof.QkvArray.lean ====
/- The projection's two results after the run, entry by entry. -/
module

public import proofs.«01_k».proof.Proof.QkvTile
public import proofs.«01_k».proof.Proof.QkvTable

@[expose] public section

set_option maxRecDepth 16384

noncomputable section

namespace Cert.KernelQkvIdeal.Qkv

open Cert.KernelQkvIdeal Cert.KernelQkvIdeal.Gen
open Idealize.ShloMosaic Idealize.ShloMosaic.TcCoe Idealize.SL.Sem
open scoped BigOperators

variable (m : (ℓ : Loc nD τ sig) → Buf (Elt Ideal) ℓ)

/-- Device `c`'s two arguments. -/
abbrev xs (c : Dev nD) : FVec Ideal S8192x4096 .bf16 := m ((c : Thread nD τ).loc main_arg0)
abbrev ws (c : Dev nD) : FVec Ideal S1x4096x18432 .bf16 := m ((c : Thread nD τ).loc main_arg1)

/-- Which blocks point `t` multiplies, -/
theorem mul_facts : ∀ t : Fin cfg0.N, t.val < 96 →
    (win0_0.index t (0 : Fin 2) = t.val / 12 ∧ win0_0.index t (1 : Fin 2) = 0)
    ∧ (win0_1.index t (0 : Fin 3) = 0 ∧ win0_1.index t (1 : Fin 3) = 0
      ∧ win0_1.index t (2 : Fin 3) = t.val % 12 / 4 * 12 + t.val % 12 % 4) :=
  (by decide +kernel : ∀ t : Fin grid0.N, _)

/-- with which rows of the tables it finishes the tile before it, -/
theorem table_facts : ∀ t : Fin cfg0.N, 1 ≤ t.val →
    (win0_2.index t (0 : Fin 3) = (if (t.val - 1) % 12 < 8 then 0 else 1) ∧ win0_2.index t (1 : Fin 3) = (t.val - 1) / 12 % 2
      ∧ win0_2.index t (2 : Fin 3) = 0)
    ∧ (win0_3.index t (0 : Fin 3) = (if (t.val - 1) % 12 < 8 then 0 else 1) ∧ win0_3.index t (1 : Fin 3) = (t.val - 1) / 12 % 2
      ∧ win0_3.index t (2 : Fin 3) = 0)
    ∧ (win0_4.index t (0 : Fin 3) = (if (t.val - 1) % 12 < 8 then 0 else 1) ∧ win0_4.index t (1 : Fin 3) = (t.val - 1) / 12 % 2
      ∧ win0_4.index t (2 : Fin 3) = 0) :=
  (by decide +kernel : ∀ t : Fin grid0.N, _)

/-- and where it writes it. -/
theorem out_facts : ∀ t : Fin cfg0.N, 1 ≤ t.val →
    (win0_5.index t (0 : Fin 2) = (t.val - 1) / 12 ∧ win0_5.index t (1 : Fin 2) = (t.val - 1) % 12)
    ∧ (win0_6.index t (0 : Fin 2) = (t.val - 1) / 12 ∧ win0_6.index t (1 : Fin 2) = (t.val - 1) % 12 - 4) :=
  (by decide +kernel : ∀ t : Fin grid0.N, _)

/-- Queries, keys and values are written back from the second point on, keys and values only at their own tiles. -/
theorem flush_5 : ∀ t : Fin cfg0.N, (cfg0.win 5).flush t = true → 1 ≤ t.val := (by decide +kernel : ∀ t : Fin grid0.N, _)
theorem flush_6 : ∀ t : Fin cfg0.N, (cfg0.win 6).flush t = true → 1 ≤ t.val ∧ 4 ≤ (t.val - 1) % 12 :=
  (by decide +kernel : ∀ t : Fin grid0.N, _)

theorem x_apply (c : Dev nD) (t : Fin cfg0.N) (h : t.val < 96) (r : Fin 1024) (k : Fin 4096) (R : Fin 8192)
    (hR : R.val = t.val / 12 * 1024 + r.val) : iblk m c 0 t (ix2 r k) = xs m c (ix2 R k) := by
  obtain ⟨⟨e0, e1⟩, -⟩ := mul_facts t h
  unfold xs
  rw [← V_main_arg0 m c]
  show V m c main_arg0 (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 4096 + 1 * k.val = k.val; rw [e1]; omega

theorem w_apply (c : Dev nD) (t : Fin cfg0.N) (h : t.val < 96) (k : Fin 4096) (l : Fin 512) (K : Fin 18432)
    (hK : K.val = (t.val % 12 / 4 * 12 + t.val % 12 % 4) * 512 + l.val) : iblk m c 1 t (ix3 0 k l) = ws m c (ix3 0 k K) := by
  obtain ⟨-, e0, e1, e2⟩ := mul_facts t h
  unfold ws
  rw [← V_main_arg1 m c]
  show V m c main_arg1 (((cfg0.win 1).blk t).view.emb (ix3 0 k l)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * l.val = K.val; rw [e2]; omega

/-- The tables' rows at a point. -/
theorem cos_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 2 t (ix3 0 r l) = tabC (ix3 s n l) := by
  obtain ⟨⟨e0, e1, e2⟩, -⟩ := table_facts t ht
  rw [← V_cos m c]
  show (V m c main_v36 : Vec Ideal S2x2048x128 .f32) (((cfg0.win 2).blk t).view.emb (ix3 0 r l)) = _
  refine congrArg _ (funext fun a => Fin.ext ?_)
  match a with
  | ⟨0, _⟩ => show win0_2.index t (0 : Fin 3) * 1 + 1 * 0 = s.val; rw [e0]; omega
  | ⟨1, _⟩ => show win0_2.index t (1 : Fin 3) * 1024 + 1 * r.val = n.val; rw [e1]; omega
  | ⟨2, _⟩ => show win0_2.index t (2 : Fin 3) * 128 + 1 * l.val = l.val; rw [e2]; omega
theorem neg_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 3 t (ix3 0 r l) = tabA (ix3 s n l) := by
  obtain ⟨-, ⟨e0, e1, e2⟩, -⟩ := table_facts t ht
  rw [← V_neg m c]
  show (V m c main_v40 : Vec Ideal S2x2048x128 .f32) (((cfg0.win 3).blk t).view.emb (ix3 0 r l)) = _
  refine congrArg _ (funext fun a => Fin.ext ?_)
  match a with
  | ⟨0, _⟩ => show win0_3.index t (0 : Fin 3) * 1 + 1 * 0 = s.val; rw [e0]; omega
  | ⟨1, _⟩ => show win0_3.index t (1 : Fin 3) * 1024 + 1 * r.val = n.val; rw [e1]; omega
  | ⟨2, _⟩ => show win0_3.index t (2 : Fin 3) * 128 + 1 * l.val = l.val; rw [e2]; omega
theorem sin_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 4 t (ix3 0 r l) = tabB (ix3 s n l) := by
  obtain ⟨-, -, e0, e1, e2⟩ := table_facts t ht
  rw [← V_sin m c]
  show (V m c main_v44 : Vec Ideal S2x2048x128 .f32) (((cfg0.win 4).blk t).view.emb (ix3 0 r l)) = _
  refine congrArg _ (funext fun a => Fin.ext ?_)
  match a with
  | ⟨0, _⟩ => show win0_4.index t (0 : Fin 3) * 1 + 1 * 0 = s.val; rw [e0]; omega
  | ⟨1, _⟩ => show win0_4.index t (1 : Fin 3) * 1024 + 1 * r.val = n.val; rw [e1]; omega
  | ⟨2, _⟩ => show win0_4.index t (2 : Fin 3) * 128 + 1 * l.val = l.val; rw [e2]; omega

/-- A tile's product, read at a head's lane. -/
theorem dot_block (c : Dev nD) (t : Fin cfg0.N) (h : t.val < 96) (r : Fin 1024) (p : Fin 4) (l : Fin 128) (R : Fin 8192) (s : Fin 3) (hd : Fin 16)
    (hR : R.val = t.val / 12 * 1024 + r.val) (hs : s.val = t.val % 12 / 4) (hh : hd.val = t.val % 12 % 4 * 4 + p.val) :
    dot (iblk m c 0 t) (iblk m c 1 t) (ix2 r (lane p l)) = prod (xs m c) (ws m c) R (col s hd l) := by
  rw [dot_apply]
  unfold prod
  exact Finset.sum_congr rfl fun k _ => congrArg₂ (· * ·) (x_apply m c t h r k R hR)
    (w_apply m c t h k (lane p l) (col s hd l)
      (by show s.val * 6144 + hd.val * 128 + l.val = (t.val % 12 / 4 * 12 + t.val % 12 % 4) * 512 + (p.val * 128 + l.val); omega))

/-- The tile finished at a point, read at a head's lane. -/
theorem tile_value (c : Dev nD) (t t' : Fin cfg0.N) (ht : t.val = t'.val + 1) (a : FVec Ideal S1024x512 .f32)
    (ha : a = dot (iblk m c 0 t') (iblk m c 1 t')) (r : Fin 1024) (p : Fin 4) (l : Fin 128) (R : Fin 8192) (s : Fin 3) (hd : Fin 16)
    (hR : R.val = t'.val / 12 * 1024 + r.val) (hs : s.val = t'.val % 12 / 4) (hh : hd.val = t'.val % 12 % 4 * 4 + p.val) :
    mixAt a (iblk m c 2 t) (iblk m c 3 t) (iblk m c 4 t) r p l = entry (xs m c) (ws m c) s R hd l := by
  subst ha
  have hN : t.val < 97 := lt_of_lt_of_eq t.isLt N_0
  have h1 : 1 ≤ t.val := by omega
  have e : t.val - 1 = t'.val := by omega
  have hn : (⟨R.val % 2048, by omega⟩ : Fin 2048).val = (t.val - 1) / 12 % 2 * 1024 + r.val := by
    show R.val % 2048 = _; rw [e]; omega
  by_cases h8 : t'.val % 12 < 8
  · have hz : (0 : Fin 2).val = if (t.val - 1) % 12 < 8 then 0 else 1 := by rw [e, if_pos h8]; rfl
    unfold mixAt entry
    rw [cos_block m c t h1 r l 0 _ hz hn, neg_block m c t h1 r l 0 _ hz hn, sin_block m c t h1 r l 0 _ hz hn,
      dot_block m c t' (by omega) r p _ R s hd hR hs hh, dot_block m c t' (by omega) r p _ R s hd hR hs hh,
      dot_block m c t' (by omega) r p _ R s hd hR hs hh, if_pos (by omega)]
    exact mixed_turn (fun l => prod (xs m c) (ws m c) R (col s hd l)) 0 _ l rfl
  · have hz : (1 : Fin 2).val = if (t.val - 1) % 12 < 8 then 0 else 1 := by rw [e, if_neg h8]; rfl
    unfold mixAt entry
    rw [cos_block m c t h1 r l 1 _ hz hn, neg_block m c t h1 r l 1 _ hz hn, sin_block m c t h1 r l 1 _ hz hn,
      dot_block m c t' (by omega) r p _ R s hd hR hs hh, dot_block m c t' (by omega) r p _ R s hd hR hs hh,
      dot_block m c t' (by omega) r p _ R s hd hR hs hh, if_neg (by omega)]
    exact mixed_stay (fun l => prod (xs m c) (ws m c) R (col s hd l)) 1 _ l rfl

/-- The same, read at the tile's column. -/
theorem tile_column (c : Dev nD) (t t' : Fin cfg0.N) (ht : t.val = t'.val + 1) (a : FVec Ideal S1024x512 .f32)
    (ha : a = dot (iblk m c 0 t') (iblk m c 1 t')) (r : Fin 1024) (k : Fin 512) (R : Fin 8192) (s : Fin 3) (hd : Fin 16) (d : Fin 128)
    (hR : R.val = t'.val / 12 * 1024 + r.val) (hs : s.val = t'.val % 12 / 4) (hh : hd.val = t'.val % 12 % 4 * 4 + k.val / 128)
    (hd' : d.val = k.val % 128) :
    mixed4 a (iblk m c 2 t) (iblk m c 3 t) (iblk m c 4 t) (ix2 r k) = entry (xs m c) (ws m c) s R hd d := by
  obtain rfl : d = ⟨k.val % 128, Nat.mod_lt _ (by decide)⟩ := Fin.ext hd'
  exact tile_value m c t t' ht a ha r ⟨k.val / 128, by omega⟩ _ R s hd hR hs hh

/-- The blocks a point leaves. -/
theorem block_all (c : Dev nD) (t : Fin cfg0.N) (h1 : 1 ≤ t.val) (r : Fin 1024) (k : Fin 512) (R : Fin 8192) (s : Fin 3) (hd : Fin 16) (d : Fin 128)
    (hR : R.val = (t.val - 1) / 12 * 1024 + r.val) (hs : s.val = (t.val - 1) % 12 / 4) (hh : hd.val = (t.val - 1) % 12 % 4 * 4 + k.val / 128)
    (hd' : d.val = k.val % 128) : (outsAt0 m c t.val t.isLt).1 (ix2 r k) = entry (xs m c) (ws m c) s R hd d := by
  have hl : t.val - 1 < cfg0.N := Nat.lt_of_le_of_lt (Nat.sub_le _ _) t.isLt
  by_cases h : t.val % 2 = 1
  · rw [all_odd m c t h]
    exact tile_column m c t ⟨t.val - 1, hl⟩ (by show t.val = t.val - 1 + 1; omega) _
      (left_even m c ⟨t.val - 1, hl⟩ (by show (t.val - 1) % 2 = 0; omega)) r k R s hd d hR hs hh hd'
  · rw [all_even m c t h1 (by omega)]
    exact tile_column m c t ⟨t.val - 1, hl⟩ (by show t.val = t.val - 1 + 1; omega) _
      (left_odd m c ⟨t.val - 1, hl⟩ (by show (t.val - 1) % 2 = 1; omega)) r k R s hd d hR hs hh hd'

theorem block_pair (c : Dev nD) (t : Fin cfg0.N) (h1 : 1 ≤ t.val) (r : Fin 1024) (k : Fin 512) (R : Fin 8192) (s : Fin 3) (hd : Fin 16) (d : Fin 128)
    (hR : R.val = (t.val - 1) / 12 * 1024 + r.val) (hs : s.val = (t.val - 1) % 12 / 4) (hh : hd.val = (t.val - 1) % 12 % 4 * 4 + k.val / 128)
    (hd' : d.val = k.val % 128) : (outsAt0 m c t.val t.isLt).2.1 (ix2 r k) = entry (xs m c) (ws m c) s R hd d := by
  have hl : t.val - 1 < cfg0.N := Nat.lt_of_le_of_lt (Nat.sub_le _ _) t.isLt
  by_cases h : t.val % 2 = 1
  · rw [pair_odd m c t h]
    exact tile_column m c t ⟨t.val - 1, hl⟩ (by show t.val = t.val - 1 + 1; omega) _
      (left_even m c ⟨t.val - 1, hl⟩ (by show (t.val - 1) % 2 = 0; omega)) r k R s hd d hR hs hh hd'
  · rw [pair_even m c t h1 (by omega)]
    exact tile_column m c t ⟨t.val - 1, hl⟩ (by show t.val = t.val - 1 + 1; omega) _
      (left_odd m c ⟨t.val - 1, hl⟩ (by show (t.val - 1) % 2 = 1; omega)) r k R s hd d hR hs hh hd'

/-- The first result the run leaves, -/
theorem value_all (c : Dev nD) : (dats m 0 c).arrAt 5 cfg0.N = all (xs m c) (ws m c) := by
  refine (dats m 0 c).arrAt_eq_of_covers 5 _ (by decide +kernel) fun t hf y => ?_
  have ht := flush_5 t hf
  blk_simp
  rw [after0_5]
  obtain ⟨⟨e0, e1⟩, -⟩ := out_facts t ht
  obtain ⟨r, k, rfl⟩ : ∃ (r : Fin 1024) (k : Fin 512), y = ix2 r k := ⟨y 0, y 1, eq_ix2 _⟩
  have hy0 : (((cfg0.win 5).blk t).view.emb (ix2 r k) 0).val = (t.val - 1) / 12 * 1024 + r.val := by
    show win0_5.index t (0 : Fin 2) * 1024 + 1 * r.val = _; rw [e0]; omega
  have hy1 : (((cfg0.win 5).blk t).view.emb (ix2 r k) 1).val = (t.val - 1) % 12 * 512 + k.val := by
    show win0_5.index t (1 : Fin 2) * 512 + 1 * k.val = _; rw [e1]; omega
  refine block_all m c t ht r k _ _ _ _ hy0 ?_ ?_ ?_
  · show (((cfg0.win 5).blk t).view.emb (ix2 r k) 1).val / 2048 = _; rw [hy1]; omega
  · show (((cfg0.win 5).blk t).view.emb (ix2 r k) 1).val % 2048 / 128 = _; rw [hy1]; omega
  · show (((cfg0.win 5).blk t).view.emb (ix2 r k) 1).val % 128 = _; rw [hy1]; omega

/-- and the second. -/
theorem value_pair (c : Dev nD) : (dats m 0 c).arrAt 6 cfg0.N = pair (xs m c) (ws m c) := by
  refine (dats m 0 c).arrAt_eq_of_covers 6 _ (by decide +kernel) fun t hf y => ?_
  obtain ⟨ht, h4⟩ := flush_6 t hf
  blk_simp
  rw [after0_6]
  obtain ⟨-, e0, e1⟩ := out_facts t ht
  obtain ⟨r, k, rfl⟩ : ∃ (r : Fin 1024) (k : Fin 512), y = ix2 r k := ⟨y 0, y 1, eq_ix2 _⟩
  have hy0 : (((cfg0.win 6).blk t).view.emb (ix2 r k) 0).val = (t.val - 1) / 12 * 1024 + r.val := by
    show win0_6.index t (0 : Fin 2) * 1024 + 1 * r.val = _; rw [e0]; omega
  have hy1 : (((cfg0.win 6).blk t).view.emb (ix2 r k) 1).val = ((t.val - 1) % 12 - 4) * 512 + k.val := by
    show win0_6.index t (1 : Fin 2) * 512 + 1 * k.val = _; rw [e1]; omega
  refine block_pair m c t ht r k _ _ _ _ hy0 ?_ ?_ ?_
  · show (((cfg0.win 6).blk t).view.emb (ix2 r k) 1).val / 2048 + 1 = _; rw [hy1]; omega
  · show (((cfg0.win 6).blk t).view.emb (ix2 r k) 1).val % 2048 / 128 = _; rw [hy1]; omega
  · show (((cfg0.win 6).blk t).view.emb (ix2 r k) 1).val % 128 = _; rw [hy1]; omega

end Cert.KernelQkvIdeal.Qkv

end
-- ==== Proof.QkvReference.lean ====
/- The reference of the projection of a group's queries, keys and values, step by step, each step read at an index. -/
module

public import proofs.«01_k».proof.Defs
public import proofs.«01_k».proof.Proof.Gen.ReferenceQkvIdeal.Run
public import proofs.«01_k».proof.Proof.QkvSpec
public import Idealize.ShloMosaic.Lib.Pointwise

@[expose] public section

set_option maxRecDepth 16384

noncomputable section

namespace Cert.QkvReference

open Cert.ReferenceQkvIdeal Cert.ReferenceQkvIdeal.Gen Idealize.ShloMosaic Idealize.ShloMosaic.TcCoe Idealize.SL.Sem
open Cert.KernelQkvIdeal.Qkv (ang turn col prod cosAt sinAt entry)
open scoped BigOperators

/-- The projection of every row. -/
def project (x : FVec Ideal S8192x4096 .bf16) (w : FVec Ideal S1x4096x18432 .bf16) : FVec Ideal S8192x18432 .f32 :=
  Host.dotGeneral dot_S8192x4096_S4096x18432_S8192x18432_1_0_0_1_n_n none (extf .f32 x bitsLt_bf16_f32)
    (extf .f32 (shapeCast _ w shapeCasts_S1x4096x18432_S4096x18432) bitsLt_bf16_f32)
/-- By sequence, part, group and head. -/
def split (p : FVec Ideal S8192x18432 .f32) : FVec Ideal S4x2048x3x3x16x128 .f32 :=
  shapeCast _ p shapeCasts_S8192x18432_S4x2048x3x3x16x128
/-- The first group's queries, keys, values. -/
def queries (q : FVec Ideal S4x2048x3x3x16x128 .f32) : FVec Ideal S4x2048x16x128 .f32 :=
  shapeCast _ (extractStridedSlice S4x2048x1x1x16x128 ![0, 0, 0, 0, 0, 0] q slices_S4x2048x3x3x16x128_S4x2048x1x1x16x128_0_0_0_0_0_0)
    shapeCasts_S4x2048x1x1x16x128_S4x2048x16x128
def keys (q : FVec Ideal S4x2048x3x3x16x128 .f32) : FVec Ideal S4x2048x16x128 .f32 :=
  shapeCast _ (extractStridedSlice S4x2048x1x1x16x128 ![0, 0, 1, 0, 0, 0] q slices_S4x2048x3x3x16x128_S4x2048x1x1x16x128_0_0_1_0_0_0)
    shapeCasts_S4x2048x1x1x16x128_S4x2048x16x128
def values (q : FVec Ideal S4x2048x3x3x16x128 .f32) : FVec Ideal S4x2048x16x128 .f32 :=
  shapeCast _ (extractStridedSlice S4x2048x1x1x16x128 ![0, 0, 2, 0, 0, 0] q slices_S4x2048x3x3x16x128_S4x2048x1x1x16x128_0_0_2_0_0_0)
    shapeCasts_S4x2048x1x1x16x128_S4x2048x16x128
/-- A row of cosines or sines, for every sequence and head. -/
def spread (t : FVec Ideal S2048x16 .f32) : FVec Ideal S4x2048x16x16 .f32 :=
  broadcastInDim S4x2048x16x16 ![0, 1, 2, 3] bcast_S1x2048x1x16_S4x2048x16x16_0_1_2_3
    (broadcastInDim S1x2048x1x16 ![1, 2, 3] bcast_S2048x1x16_S1x2048x1x16_1_2_3 (shapeCast _ t shapeCasts_S2048x16_S2048x1x16))
/-- The lanes turned. -/
def rope (h : FVec Ideal S4x2048x16x128 .f32) (co si : FVec Ideal S4x2048x16x16 .f32) : FVec Ideal S4x2048x16x128 .f32 :=
  concatenate S4x2048x16x128 3 [⟨S4x2048x16x16, (subf
      (mulf (extractStridedSlice S4x2048x16x16 ![0, 0, 0, 0] h slices_S4x2048x16x128_S4x2048x16x16_0_0_0_0) co)
      (mulf (extractStridedSlice S4x2048x16x16 ![0, 0, 0, 16] h slices_S4x2048x16x128_S4x2048x16x16_0_0_0_16) si))⟩,
    ⟨S4x2048x16x16, (addf
      (mulf (extractStridedSlice S4x2048x16x16 ![0, 0, 0, 16] h slices_S4x2048x16x128_S4x2048x16x16_0_0_0_16) co)
      (mulf (extractStridedSlice S4x2048x16x16 ![0, 0, 0, 0] h slices_S4x2048x16x128_S4x2048x16x16_0_0_0_0) si))⟩,
    ⟨S4x2048x16x96, (extractStridedSlice S4x2048x16x96 ![0, 0, 0, 32] h slices_S4x2048x16x128_S4x2048x16x96_0_0_0_32)⟩]
    concatenates_S4x2048x16x16_S4x2048x16x16_S4x2048x16x96_S4x2048x16x128_d3
/-- The keys beside the values. -/
def two (k v : FVec Ideal S4x2048x16x128 .f32) : FVec Ideal S4x2048x2x16x128 .f32 :=
  concatenate S4x2048x2x16x128 2 [⟨S4x2048x1x16x128, (broadcastInDim S4x2048x1x16x128 ![0, 1, 3, 4] bcast_S4x2048x16x128_S4x2048x1x16x128_0_1_3_4 k)⟩,
    ⟨S4x2048x1x16x128, (broadcastInDim S4x2048x1x16x128 ![0, 1, 3, 4] bcast_S4x2048x16x128_S4x2048x1x16x128_0_1_3_4 v)⟩]
    concatenates_S4x2048x1x16x128_S4x2048x1x16x128_S4x2048x2x16x128_d2
/-- The queries before them. -/
def three (q : FVec Ideal S4x2048x16x128 .f32) (kv : FVec Ideal S4x2048x2x16x128 .f32) : FVec Ideal S4x2048x3x16x128 .f32 :=
  concatenate S4x2048x3x16x128 2 [⟨S4x2048x1x16x128, (broadcastInDim S4x2048x1x16x128 ![0, 1, 3, 4] bcast_S4x2048x16x128_S4x2048x1x16x128_0_1_3_4 q)⟩,
    ⟨S4x2048x2x16x128, kv⟩] concatenates_S4x2048x1x16x128_S4x2048x2x16x128_S4x2048x3x16x128_d2
/-- Rows counted through. -/
def rows3 (a : FVec Ideal S4x2048x3x16x128 .f32) : FVec Ideal S8192x6144 .bf16 :=
  truncf .bf16 (shapeCast _ a shapeCasts_S4x2048x3x16x128_S8192x6144) bitsLt_bf16_f32
def rows2 (a : FVec Ideal S4x2048x2x16x128 .f32) : FVec Ideal S8192x4096 .f32 :=
  shapeCast _ a shapeCasts_S4x2048x2x16x128_S8192x4096

theorem project_apply (x : FVec Ideal S8192x4096 .bf16) (w : FVec Ideal S1x4096x18432 .bf16) (R : Fin 8192) (K : Fin 18432) :
    project x w (ix2 R K) = prod x w R K := by
  unfold prod
  pointwise [project]

theorem queries_apply (p : FVec Ideal S8192x18432 .f32) (b : Fin 4) (n : Fin 2048) (h : Fin 16) (d : Fin 128) (R : Fin 8192)
    (hR : R.val = b.val * 2048 + n.val) : queries (split p) (ix4 b n h d) = p (ix2 R (col 0 h d)) := by
  pointwise [queries, split]
  refine congrArg p (congrArg₂ ix2 (Fin.ext ?_) (Fin.ext ?_))
  · simp; omega
  · simp [col]

theorem keys_apply (p : FVec Ideal S8192x18432 .f32) (b : Fin 4) (n : Fin 2048) (h : Fin 16) (d : Fin 128) (R : Fin 8192)
    (hR : R.val = b.val * 2048 + n.val) : keys (split p) (ix4 b n h d) = p (ix2 R (col 1 h d)) := by
  pointwise [keys, split]
  refine congrArg p (congrArg₂ ix2 (Fin.ext ?_) (Fin.ext ?_))
  · simp; omega
  · simp [col]

theorem values_apply (p : FVec Ideal S8192x18432 .f32) (b : Fin 4) (n : Fin 2048) (h : Fin 16) (d : Fin 128) (R : Fin 8192)
    (hR : R.val = b.val * 2048 + n.val) : values (split p) (ix4 b n h d) = p (ix2 R (col 2 h d)) := by
  pointwise [values, split]
  refine congrArg p (congrArg₂ ix2 (Fin.ext ?_) (Fin.ext ?_))
  · simp; omega
  · simp [col]

theorem spread_apply (t : FVec Ideal S2048x16 .f32) (b : Fin 4) (n : Fin 2048) (h f : Fin 16) :
    spread t (ix4 b n h f) = t (ix2 n f) := by
  pointwise [spread]

theorem rope_apply (a : FVec Ideal S4x2048x16x128 .f32) (co si : FVec Ideal S4x2048x16x16 .f32) (b : Fin 4) (n : Fin 2048)
    (h : Fin 16) (d : Fin 128) :
    rope a co si (ix4 b n h d) = turn (fun l => a (ix4 b n h l)) (fun f => co (ix4 b n h f)) (fun f => si (ix4 b n h f)) d := by
  unfold turn
  pointwise [rope]
  by_cases h1 : d.val < 16
  · refine (dif_pos h1).trans (Eq.trans ?_ (dif_pos h1).symm)
    rw [show (⟨16 + d.val, by omega⟩ : Fin 128) = ⟨d.val + 16, by omega⟩ from Fin.ext (Nat.add_comm _ _)]
  · refine (dif_neg h1).trans (Eq.trans ?_ (dif_neg h1).symm)
    by_cases h2 : d.val < 32
    · refine (dif_pos (by omega)).trans (Eq.trans ?_ (dif_pos h2).symm)
      rw [show (⟨16 + (d.val - 16), by omega⟩ : Fin 128) = d from Fin.ext (by show 16 + (d.val - 16) = d.val; omega)]
    · refine (dif_neg (by omega)).trans (Eq.trans ?_ (dif_neg h2).symm)
      rw [show (⟨32 + (d.val - 16 - 16), by omega⟩ : Fin 128) = d from Fin.ext (by show 32 + (d.val - 16 - 16) = d.val; omega)]

theorem two_key (k v : FVec Ideal S4x2048x16x128 .f32) (b : Fin 4) (n : Fin 2048) (h : Fin 16) (d : Fin 128) (s : Fin 2) (hs : s.val = 0) :
    two k v (ix5 b n s h d) = k (ix4 b n h d) := by
  pointwise [two]
  simp [hs]

theorem two_value (k v : FVec Ideal S4x2048x16x128 .f32) (b : Fin 4) (n : Fin 2048) (h : Fin 16) (d : Fin 128) (s : Fin 2) (hs : s.val = 1) :
    two k v (ix5 b n s h d) = v (ix4 b n h d) := by
  pointwise [two]
  simp [hs]

theorem three_query (q : FVec Ideal S4x2048x16x128 .f32) (kv : FVec Ideal S4x2048x2x16x128 .f32) (b : Fin 4) (n : Fin 2048) (h : Fin 16) (d : Fin 128)
    (s : Fin 3) (hs : s.val = 0) : three q kv (ix5 b n s h d) = q (ix4 b n h d) := by
  pointwise [three]
  simp [hs]

theorem three_rest (q : FVec Ideal S4x2048x16x128 .f32) (kv : FVec Ideal S4x2048x2x16x128 .f32) (b : Fin 4) (n : Fin 2048) (h : Fin 16) (d : Fin 128)
    (s : Fin 3) (e : Fin 2) (hs : s.val = e.val + 1) : three q kv (ix5 b n s h d) = kv (ix5 b n e h d) := by
  pointwise [three]
  simp [hs]

theorem rows3_apply (a : FVec Ideal S4x2048x3x16x128 .f32) (R : Fin 8192) (K : Fin 6144) :
    rows3 a (ix2 R K) = a (ix5 ⟨R.val / 2048, by omega⟩ ⟨R.val % 2048, by omega⟩ ⟨K.val / 2048, by omega⟩
      ⟨K.val % 2048 / 128, by omega⟩ ⟨K.val % 128, by omega⟩) := by
  pointwise [rows3]
  rw [show (⟨K.val / 128 % 16, by omega⟩ : Fin 16) = ⟨K.val % 2048 / 128, by omega⟩ from
    Fin.ext (by show K.val / 128 % 16 = K.val % 2048 / 128; omega)]

theorem rows2_apply (a : FVec Ideal S4x2048x2x16x128 .f32) (R : Fin 8192) (K : Fin 4096) :
    rows2 a (ix2 R K) = a (ix5 ⟨R.val / 2048, by omega⟩ ⟨R.val % 2048, by omega⟩ ⟨K.val / 2048, by omega⟩
      ⟨K.val % 2048 / 128, by omega⟩ ⟨K.val % 128, by omega⟩) := by
  pointwise [rows2]
  rw [show (⟨K.val / 128 % 16, by omega⟩ : Fin 16) = ⟨K.val % 2048 / 128, by omega⟩ from
    Fin.ext (by show K.val / 128 % 16 = K.val % 2048 / 128; omega)]

/-- The reference's keys and values, and with them the queries. -/
def kvs (x : FVec Ideal S8192x4096 .bf16) (w : FVec Ideal S1x4096x18432 .bf16) : FVec Ideal S4x2048x2x16x128 .f32 :=
  two (rope (keys (split (project x w))) (spread (Host.cos ang)) (spread (Host.sin ang))) (values (split (project x w)))
def qkvs (x : FVec Ideal S8192x4096 .bf16) (w : FVec Ideal S1x4096x18432 .bf16) : FVec Ideal S4x2048x3x16x128 .f32 :=
  three (rope (queries (split (project x w))) (spread (Host.cos ang)) (spread (Host.sin ang))) (kvs x w)

theorem kvs_apply (x : FVec Ideal S8192x4096 .bf16) (w : FVec Ideal S1x4096x18432 .bf16) (b : Fin 4) (n : Fin 2048) (h : Fin 16)
    (d : Fin 128) (e : Fin 2) (s : Fin 3) (hs : s.val = e.val + 1) (R : Fin 8192) (hR : R.val = b.val * 2048 + n.val) :
    kvs x w (ix5 b n e h d) = entry x w s R h d := by
  have en : (⟨R.val % 2048, by omega⟩ : Fin 2048) = n := Fin.ext (by show R.val % 2048 = n.val; omega)
  unfold kvs entry
  rw [en]
  by_cases he : e.val = 0
  · obtain rfl : s = 1 := Fin.ext (by show s.val = 1; omega)
    rw [two_key _ _ _ _ _ _ _ he, rope_apply, if_pos (by decide)]
    simp only [keys_apply _ b n h _ R hR, project_apply, spread_apply]
    rfl
  · obtain rfl : s = 2 := Fin.ext (by show s.val = 2; omega)
    rw [two_value _ _ _ _ _ _ _ (by omega), values_apply _ b n h _ R hR, project_apply, if_neg (by decide)]

theorem qkvs_apply (x : FVec Ideal S8192x4096 .bf16) (w : FVec Ideal S1x4096x18432 .bf16) (b : Fin 4) (n : Fin 2048) (h : Fin 16)
    (d : Fin 128) (s : Fin 3) (R : Fin 8192) (hR : R.val = b.val * 2048 + n.val) :
    qkvs x w (ix5 b n s h d) = entry x w s R h d := by
  unfold qkvs
  by_cases he : s.val = 0
  · have en : (⟨R.val % 2048, by omega⟩ : Fin 2048) = n := Fin.ext (by show R.val % 2048 = n.val; omega)
    obtain rfl : s = 0 := Fin.ext he
    unfold entry
    rw [three_query _ _ _ _ _ _ _ rfl, rope_apply, if_pos (by decide), en]
    simp only [queries_apply _ b n h _ R hR, project_apply, spread_apply]
    rfl
  · rw [three_rest _ _ _ _ _ _ s ⟨s.val - 1, by omega⟩ (by show s.val = s.val - 1 + 1; omega),
      kvs_apply x w b n h d _ s (by show s.val = s.val - 1 + 1; omega) R hR]

/-- The run's results are these steps. -/
theorem result_all (m : (ℓ : Loc nD τ sig) → Buf (Elt Ideal) ℓ) (c : Dev nD) :
    Cert.ReferenceQkvIdeal.Value.res_main_v90 m c
      = rows3 (qkvs (m ((c.tc : Thread nD τ).loc main_arg0)) (m ((c.tc : Thread nD τ).loc main_arg1))) := by
  unfold Cert.ReferenceQkvIdeal.Value.res_main_v90
  rfl
theorem result_pair (m : (ℓ : Loc nD τ sig) → Buf (Elt Ideal) ℓ) (c : Dev nD) :
    Cert.ReferenceQkvIdeal.Value.res_main_v91 m c
      = rows2 (kvs (m ((c.tc : Thread nD τ).loc main_arg0)) (m ((c.tc : Thread nD τ).loc main_arg1))) := by
  unfold Cert.ReferenceQkvIdeal.Value.res_main_v91
  rfl

theorem all_value (x : FVec Ideal S8192x4096 .bf16) (w : FVec Ideal S1x4096x18432 .bf16) :
    rows3 (qkvs x w) = Cert.KernelQkvIdeal.Qkv.all x w := by
  funext y
  obtain ⟨R, K, rfl⟩ : ∃ (R : Fin 8192) (K : Fin 6144), y = ix2 R K := ⟨y 0, y 1, eq_ix2 _⟩
  rw [rows3_apply, qkvs_apply x w _ _ _ _ _ R (by show R.val = R.val / 2048 * 2048 + R.val % 2048; omega)]
  rfl

theorem pair_value (x : FVec Ideal S8192x4096 .bf16) (w : FVec Ideal S1x4096x18432 .bf16) :
    rows2 (kvs x w) = Cert.KernelQkvIdeal.Qkv.pair x w := by
  funext y
  obtain ⟨R, K, rfl⟩ : ∃ (R : Fin 8192) (K : Fin 4096), y = ix2 R K := ⟨y 0, y 1, eq_ix2 _⟩
  rw [rows2_apply, kvs_apply x w _ _ _ _ _ ⟨K.val / 2048 + 1, by omega⟩ rfl R (by show R.val = R.val / 2048 * 2048 + R.val % 2048; omega)]
  rfl

end Cert.QkvReference

end
-- ==== Proof.QkvSum.lean ====
/- The projection of the first group's queries, keys and values as a whole: the kernel and the reference end with equal results. -/
module

public import proofs.«01_k».proof.Proof.QkvArray
public import proofs.«01_k».proof.Proof.QkvReference
public import Idealize.ShloMosaic.Lib.Claim
public import Idealize.ShloMosaic.Lib.Quiescent

@[expose] public section

set_option maxRecDepth 16384

noncomputable section

namespace Cert.QkvSum

open Cert.KernelQkvIdeal Cert.KernelQkvIdeal.Gen Idealize.ShloMosaic Idealize.ShloMosaic.TcCoe Idealize.SL.Sem

/-- The reference runs, leaves its arguments alone, and has no semaphore to leave raised. -/
theorem frame_reference : Cert.quiescent_ReferenceQkvIdeal := fun m ρ _ =>
  (θ_run Cert.ReferenceQkvIdeal.defs _ _).mono (fun r h => ⟨fun c => (h c).2.2,
      Idealize.ShloMosaic.sem_eq_zero_of_no_sems (by decide) r.2⟩)
    (Cert.ReferenceQkvIdeal.Value.run (F := Ideal) m ρ)

/-- The kernel's run, its results as functions of its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45_0) = Qkv.all (Qkv.xs m c) (Qkv.ws m c)
      ∧ r.2.mem ((c.tc : Thread nD τ).loc main_v45_1) = Qkv.pair (Qkv.xs m c) (Qkv.ws m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Qkv.value_all m c), (h c).2.1.trans (Qkv.value_pair m c), (h c).2.2⟩)
    (Cert.KernelQkvIdeal.Value.run_blocks m ρ)

/-- The kernel and the reference end with equal results. -/
theorem algebraic : Cert.algebraic_KernelQkvIdeal_ReferenceQkvIdeal := by
  pair_intro
  · run_from kernel_run _ _
  · run_from Cert.ReferenceQkvIdeal.Value.run _ _
    · rw [QkvReference.result_all, (hagree c).1, (hagree c).2]
      exact QkvReference.all_value _ _
    · rw [QkvReference.result_pair, (hagree c).1, (hagree c).2]
      exact QkvReference.pair_value _ _

end Cert.QkvSum

end
-- ==== Proof.QkvGroup.lean ====
/- A dilated group of the projection: its columns of the weight, and what queries, keys and values of it should hold. -/
module

public import proofs.«01_k».proof.Proof.QkvTile
public import proofs.«01_k».proof.Proof.QkvTable

@[expose] public section

set_option maxRecDepth 16384

noncomputable section

namespace Cert.KernelQkvIdeal.Qkv

open Cert.KernelQkvIdeal Cert.KernelQkvIdeal.Gen Idealize.ShloMosaic Idealize.ShloMosaic.TcCoe Idealize.SL.Sem
open scoped BigOperators

/-- The weight's column of lane `d` of head `h` of group `g`'s queries (`s = 0`), keys or values. -/
def colOf (g s : Fin 3) (h : Fin 16) (d : Fin 128) : Fin 18432 := ⟨s.val * 6144 + g.val * 2048 + h.val * 128 + d.val, by omega⟩

/-- Lane `d` of head `h` of group `g`'s queries, keys or values of row `R`. -/
def entryOf (g : Fin 3) (x : FVec Ideal S8192x4096 .bf16) (w : FVec Ideal S1x4096x18432 .bf16) (s : Fin 3) (R : Fin 8192) (h : Fin 16)
    (d : Fin 128) : EReal :=
  if s.val < 2 then turn (fun l => prod x w R (colOf g s h l)) (cosAt ⟨R.val % 2048, by omega⟩) (sinAt ⟨R.val % 2048, by omega⟩) d
  else prod x w R (colOf g s h d)

/-- The group's keys and values side by side. -/
def pairOf (g : Fin 3) (x : FVec Ideal S8192x4096 .bf16) (w : FVec Ideal S1x4096x18432 .bf16) : FVec Ideal S8192x4096 .f32 := fun y =>
  entryOf g x w ⟨(y 1).val / 2048 + 1, Nat.succ_lt_succ (Nat.div_lt_of_lt_mul (y 1).isLt)⟩ ⟨(y 0).val, (y 0).isLt⟩
    ⟨(y 1).val % 2048 / 128, Nat.div_lt_of_lt_mul (Nat.mod_lt _ (by decide))⟩ ⟨(y 1).val % 128, Nat.mod_lt _ (by decide)⟩

end Cert.KernelQkvIdeal.Qkv

end
-- ==== Proof.Qkv4Tile.lean ====
/- The group of dilation 4: a tile of the projection as one grid point leaves it, and as the next writes it out, every 4th row together. -/
module

public import proofs.«01_k».proof.Proof.Gen.KernelQkv4Ideal.Value
public import proofs.«01_k».proof.Proof.QkvGroup

@[expose] public section

set_option maxRecDepth 16384

noncomputable section

namespace Cert.KernelQkv4Ideal.Qkv

open Cert.KernelQkv4Ideal Cert.KernelQkv4Ideal.Gen Idealize.ShloMosaic Idealize.ShloMosaic.TcCoe Idealize.SL.Sem
open Cert.KernelQkvIdeal.Qkv (dot mix mixed4 mix_head)
open scoped BigOperators

variable (m : (ℓ : Loc nD τ sig) → Buf (Elt Ideal) ℓ)

/-- Rows rounded and laid out as a piece of the block. -/
theorem laid (V : FVec Ideal S256x128 .f32) (a b : Fin 1) (p : Fin 256) (l : Fin 128) :
    shapeCast S1x1x256x128 (truncf (F := Ideal) (φ := .f32) .bf16 V bitsLt_bf16_f32) shapeCasts_S256x128_S1x1x256x128 (ix4 a b p l) = V (ix2 p l) := by
  obtain rfl : a = 0 := Subsingleton.elim _ _
  obtain rfl : b = 0 := Subsingleton.elim _ _
  pointwise

/-- A head's finished rows read back 4 apart from row `r` on. -/
theorem slab (v : View sig .tc .vmem S1024x128 .f32) (Z : Vec Ideal S1024x128 .f32) (L : List (View.Piece (Elt Ideal) S1024x128 .f32))
    (r : ℕ) (h : ∀ a, (S256x128.size a = 0 ∨ (![r, 0] : Fin 2 → ℕ) a + (![4, 1] : Fin 2 → ℕ) a * (S256x128.size a - 1) < S1024x128.size a))
    (p : Fin 256) (l : Fin 128) (z : S1024x128.Idx) (h0 : (z 0).val = r + 4 * p.val) (h1 : (z 1).val = l.val) :
    v.readCov (⟨Rect.unit ![0, 0] S1024x128.size inb_S1024x128_S1024x128_0_0, Z⟩ :: L)
      (⟨![r, 0], S256x128.size, ![4, 1], h⟩ : LoadRect S1024x128) (ix2 p l) = Z z := by
  rw [View.readCov_eq_canon', View.canon_cons_unit_lit inb_S1024x128_S1024x128_0_0 _ L (by decide)]
  refine congrArg Z (funext fun i => Fin.ext ?_)
  match i with
  | ⟨0, _⟩ => exact h0.symm
  | ⟨1, _⟩ => exact (show 0 + 1 * l.val = (z 1).val by rw [h1]; omega)

theorem strided (v : View sig .tc .vmem S1024x128 .f32) (Z : Vec Ideal S1024x128 .f32) (L : List (View.Piece (Elt Ideal) S1024x128 .f32))
    (r : ℕ) (h : ∀ a, (S256x128.size a = 0 ∨ (![r, 0] : Fin 2 → ℕ) a + (![4, 1] : Fin 2 → ℕ) a * (S256x128.size a - 1) < S1024x128.size a))
    (x : S1x1x256x128.Idx) (z : S1024x128.Idx) (h0 : (z 0).val = r + 4 * (x 2).val) (h1 : (z 1).val = (x 3).val) :
    shapeCast S1x1x256x128 (truncf (F := Ideal) (φ := .f32) .bf16
      (v.readCov (⟨Rect.unit ![0, 0] S1024x128.size inb_S1024x128_S1024x128_0_0, shapeCast S1024x128 Z shapeCasts_S1024x128_S1024x128⟩ :: L)
        (⟨![r, 0], S256x128.size, ![4, 1], h⟩ : LoadRect S1024x128)) bitsLt_bf16_f32) shapeCasts_S256x128_S1x1x256x128 x = Z z := by
  rw [shapeCast_self Z]
  refine (congrArg _ (eq_ix4 x)).trans ((laid _ (x 0) (x 1) (x 2) (x 3)).trans ?_)
  exact slab v Z L r h (x 2) (x 3) z h0 h1

/-- The tile's row and column of a place in the block written. -/
def place (y : S1x4x256x512.Idx) : S1024x512.Idx :=
  ix2 ⟨(y 2).val * 4 + (y 1).val, by have h : (y 2).val < 256 := (y 2).isLt; have h' : (y 1).val < 4 := (y 1).isLt; omega⟩ ⟨(y 3).val, (y 3).isLt⟩

/-- Rows of head `p` read 4 apart from row `r` on: a piece of the block written. -/
theorem piece (v : View sig .tc .vmem S1024x128 .f32) (A : Vec Ideal S1024x512 .f32) (tc ta tb : Vec Ideal S1x1024x128 .f32)
    (L : List (View.Piece (Elt Ideal) S1024x128 .f32)) (p : Fin 4) (o : ℕ) (ho : o = p.val * 128)
    (inb : ∀ i, (![0, o] : Fin 2 → ℕ) i + (![1024, 128] : Fin 2 → ℕ) i ≤ S1024x512.size i) (r : ℕ)
    (h : ∀ a, (S256x128.size a = 0 ∨ (![r, 0] : Fin 2 → ℕ) a + (![4, 1] : Fin 2 → ℕ) a * (S256x128.size a - 1) < S1024x128.size a))
    (x : S1x1x256x128.Idx) (y : S1x4x256x512.Idx) (h1 : (y 1).val = r + (x 1).val) (h2 : (y 2).val = (x 2).val) (h3 : (y 3).val = o + (x 3).val) :
    shapeCast S1x1x256x128 (truncf (F := Ideal) (φ := .f32) .bf16
      (v.readCov (⟨Rect.unit ![0, 0] S1024x128.size inb_S1024x128_S1024x128_0_0,
          shapeCast S1024x128 (mix (View.ld A (Rect.unit ![0, o] ![1024, 128] inb)) tc ta tb) shapeCasts_S1024x128_S1024x128⟩ :: L)
        (⟨![r, 0], S256x128.size, ![4, 1], h⟩ : LoadRect S1024x128)) bitsLt_bf16_f32) shapeCasts_S256x128_S1x1x256x128 x
      = mixed4 A tc ta tb (place y) := by
  have hr : (y 1).val < 4 := (y 1).isLt
  have hx1 : (x 1).val < 1 := (x 1).isLt
  have hx2 : (x 2).val < 256 := (x 2).isLt
  refine (strided v _ L r h x (ix2 ⟨r + 4 * (x 2).val, by omega⟩ ⟨(x 3).val, (x 3).isLt⟩) rfl rfl).trans
    (mix_head A tc ta tb p o ho inb _ (place y) ?_ ?_)
  · show (y 2).val * 4 + (y 1).val = r + 4 * (x 2).val; omega
  · show (y 3).val = o + (x 3).val; exact h3

set_option maxHeartbeats 4000000 in
/-- What an even point leaves. -/
theorem left_even (c : Dev nD) (t : Fin cfg0.N) (h : t.val % 2 = 0) :
    (outsAt0 m c t.val t.isLt).2.2.1 = dot (iblk m c 0 t) (iblk m c 1 t) := by
  funext y
  by_cases h0 : t.val % 97 = 0
  · rw [outsAt0_A m c t h0 h (by omega)]
    frame_out
    unfold k0_pay2 dot
    rfl
  · rw [outsAt0_C m c t h0 h (by omega)]
    frame_out
    unfold k0_pay2 dot
    rfl

set_option maxHeartbeats 4000000 in
/-- What an odd point leaves. -/
theorem left_odd (c : Dev nD) (t : Fin cfg0.N) (h : t.val % 2 = 1) :
    (outsAt0 m c t.val t.isLt).2.2.2 = dot (iblk m c 0 t) (iblk m c 1 t) := by
  have ht : t.val < 97 := lt_of_lt_of_le t.isLt (le_of_eq (by decide))
  funext y
  rw [outsAt0_B m c t (by omega) (by omega) h]
  frame_out
  unfold k0_pay31 dot
  rfl

set_option maxHeartbeats 16000000 in
/-- What an odd point writes among the queries, keys and values: the tile left before it, with the tables. -/
theorem all_odd (c : Dev nD) (t : Fin cfg0.N) (h : t.val % 2 = 1) (y : S1x4x256x512.Idx) :
    (outsAt0 m c t.val t.isLt).1 y = mixed4 (outsAt0 m c (t.val - 1) (Nat.lt_of_le_of_lt (Nat.sub_le _ _) t.isLt)).2.2.1
      (iblk m c 2 t) (iblk m c 3 t) (iblk m c 4 t) (place y) := by
  have ht : t.val < 97 := lt_of_lt_of_le t.isLt (le_of_eq (by decide))
  rw [outsAt0_B m c t (by omega) (by omega) h]
  frame_out
  canon_tiles x hy
  case piece0 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 3 (by decide) x y hy1 hy2 hy3
  case piece1 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 2 (by decide) x y hy1 hy2 hy3
  case piece2 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 1 (by decide) x y hy1 hy2 hy3
  case piece3 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 0 (by decide) x y (by omega) hy2 hy3
  case piece4 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 3 (by decide) x y hy1 hy2 hy3
  case piece5 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 2 (by decide) x y hy1 hy2 hy3
  case piece6 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 1 (by decide) x y hy1 hy2 hy3
  case piece7 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 0 (by decide) x y (by omega) hy2 hy3
  case piece8 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 3 (by decide) x y hy1 hy2 hy3
  case piece9 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 2 (by decide) x y hy1 hy2 hy3
  case piece10 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 1 (by decide) x y hy1 hy2 hy3
  case piece11 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 0 (by decide) x y (by omega) hy2 hy3
  case piece12 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 3 (by decide) x y hy1 hy2 (by omega)
  case piece13 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 2 (by decide) x y hy1 hy2 (by omega)
  case piece14 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 1 (by decide) x y hy1 hy2 (by omega)
  case piece15 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 0 (by decide) x y (by omega) hy2 (by omega)

set_option maxHeartbeats 4000000 in
/-- What an odd point writes among the keys and values. -/
theorem pair_odd (c : Dev nD) (t : Fin cfg0.N) (h : t.val % 2 = 1) (y : S1024x512.Idx) :
    (outsAt0 m c t.val t.isLt).2.1 y = mixed4 (outsAt0 m c (t.val - 1) (Nat.lt_of_le_of_lt (Nat.sub_le _ _) t.isLt)).2.2.1
      (iblk m c 2 t) (iblk m c 3 t) (iblk m c 4 t) y := by
  have ht : t.val < 97 := lt_of_lt_of_le t.isLt (le_of_eq (by decide))
  rw [outsAt0_B m c t (by omega) (by omega) h]
  frame_out
  canon_tiles x hy
  case piece0 =>
    have e := mix_head (outsAt0 m c (t.val - 1) (Nat.lt_of_le_of_lt (Nat.sub_le _ _) t.isLt)).2.2.1
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2.1
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2.1
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2.1
      (iblk m c 2 t) (iblk m c 3 t) (iblk m c 4 t) 0 0 rfl (by decide) x y hy0 (by omega)
    repeat erw [Memref.IsWhole.read_unread]
    open_payloads
    unfold mix at e
    exact e

set_option maxHeartbeats 16000000 in
/-- What an even point writes among the queries, keys and values: the tile left before it, with the tables. -/
theorem all_even (c : Dev nD) (t : Fin cfg0.N) (h1 : 1 ≤ t.val) (h : t.val % 2 = 0) (y : S1x4x256x512.Idx) :
    (outsAt0 m c t.val t.isLt).1 y = mixed4 (outsAt0 m c (t.val - 1) (Nat.lt_of_le_of_lt (Nat.sub_le _ _) t.isLt)).2.2.2
      (iblk m c 2 t) (iblk m c 3 t) (iblk m c 4 t) (place y) := by
  have ht : t.val < 97 := lt_of_lt_of_le t.isLt (le_of_eq (by decide))
  rw [outsAt0_C m c t (by omega) h (by omega)]
  frame_out
  canon_tiles x hy
  case piece0 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 3 (by decide) x y hy1 hy2 hy3
  case piece1 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 2 (by decide) x y hy1 hy2 hy3
  case piece2 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 1 (by decide) x y hy1 hy2 hy3
  case piece3 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 0 (by decide) x y (by omega) hy2 hy3
  case piece4 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 3 (by decide) x y hy1 hy2 hy3
  case piece5 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 2 (by decide) x y hy1 hy2 hy3
  case piece6 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 1 (by decide) x y hy1 hy2 hy3
  case piece7 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 0 (by decide) x y (by omega) hy2 hy3
  case piece8 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 3 (by decide) x y hy1 hy2 hy3
  case piece9 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 2 (by decide) x y hy1 hy2 hy3
  case piece10 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 1 (by decide) x y hy1 hy2 hy3
  case piece11 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 0 (by decide) x y (by omega) hy2 hy3
  case piece12 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 3 (by decide) x y hy1 hy2 (by omega)
  case piece13 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 2 (by decide) x y hy1 hy2 (by omega)
  case piece14 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 1 (by decide) x y hy1 hy2 (by omega)
  case piece15 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 0 (by decide) x y (by omega) hy2 (by omega)

set_option maxHeartbeats 4000000 in
/-- What an even point writes among the keys and values. -/
theorem pair_even (c : Dev nD) (t : Fin cfg0.N) (h1 : 1 ≤ t.val) (h : t.val % 2 = 0) (y : S1024x512.Idx) :
    (outsAt0 m c t.val t.isLt).2.1 y = mixed4 (outsAt0 m c (t.val - 1) (Nat.lt_of_le_of_lt (Nat.sub_le _ _) t.isLt)).2.2.2
      (iblk m c 2 t) (iblk m c 3 t) (iblk m c 4 t) y := by
  have ht : t.val < 97 := lt_of_lt_of_le t.isLt (le_of_eq (by decide))
  rw [outsAt0_C m c t (by omega) h (by omega)]
  frame_out
  canon_tiles x hy
  case piece0 =>
    have e := mix_head (outsAt0 m c (t.val - 1) (Nat.lt_of_le_of_lt (Nat.sub_le _ _) t.isLt)).2.2.2
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2.2
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2.2
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2.2
      (iblk m c 2 t) (iblk m c 3 t) (iblk m c 4 t) 0 0 rfl (by decide) x y hy0 (by omega)
    repeat erw [Memref.IsWhole.read_unread]
    open_payloads
    unfold mix at e
    exact e

end Cert.KernelQkv4Ideal.Qkv

end
-- ==== Proof.Qkv4Array.lean ====
/- The two results of the group of dilation 4 after the run, entry by entry. -/
module

public import proofs.«01_k».proof.Proof.Qkv4Tile
public import Idealize.ShloMosaic.Lib.StableHlo.RunRead

@[expose] public section

set_option maxRecDepth 16384

noncomputable section

namespace Cert.KernelQkv4Ideal.Qkv

open Cert.KernelQkv4Ideal Cert.KernelQkv4Ideal.Gen
open Idealize.ShloMosaic Idealize.ShloMosaic.TcCoe Idealize.SL.Sem
open Cert.KernelQkvIdeal.Qkv (dot mixAt mixed4 lane dot_apply tabC tabA tabB mixed_stay mixed_turn prod entryOf colOf pairOf)
open scoped BigOperators

variable (m : (ℓ : Loc nD τ sig) → Buf (Elt Ideal) ℓ)

/-- Device `c`'s two arguments. -/
abbrev xs (c : Dev nD) : FVec Ideal S8192x4096 .bf16 := m ((c : Thread nD τ).loc main_arg0)
abbrev ws (c : Dev nD) : FVec Ideal S1x4096x18432 .bf16 := m ((c : Thread nD τ).loc main_arg1)

/-- Which blocks point `t` multiplies, -/
theorem mul_facts : ∀ t : Fin cfg0.N, t.val < 96 →
    (win0_0.index t (0 : Fin 2) = t.val / 12 ∧ win0_0.index t (1 : Fin 2) = 0)
    ∧ (win0_1.index t (0 : Fin 3) = 0 ∧ win0_1.index t (1 : Fin 3) = 0
      ∧ win0_1.index t (2 : Fin 3) = t.val % 12 / 4 * 12 + 4 + t.val % 12 % 4) :=
  (by decide +kernel : ∀ t : Fin grid0.N, _)

/-- with which rows of the tables it finishes the tile before it, -/
theorem table_facts : ∀ t : Fin cfg0.N, 1 ≤ t.val →
    (win0_2.index t (0 : Fin 3) = (if (t.val - 1) % 12 < 8 then 0 else 1) ∧ win0_2.index t (1 : Fin 3) = (t.val - 1) / 12 % 2
      ∧ win0_2.index t (2 : Fin 3) = 0)
    ∧ (win0_3.index t (0 : Fin 3) = (if (t.val - 1) % 12 < 8 then 0 else 1) ∧ win0_3.index t (1 : Fin 3) = (t.val - 1) / 12 % 2
      ∧ win0_3.index t (2 : Fin 3) = 0)
    ∧ (win0_4.index t (0 : Fin 3) = (if (t.val - 1) % 12 < 8 then 0 else 1) ∧ win0_4.index t (1 : Fin 3) = (t.val - 1) / 12 % 2
      ∧ win0_4.index t (2 : Fin 3) = 0) :=
  (by decide +kernel : ∀ t : Fin grid0.N, _)

/-- and where it writes it. -/
theorem out_facts : ∀ t : Fin cfg0.N, 1 ≤ t.val →
    (win0_5.index t (0 : Fin 4) = (t.val - 1) / 12 / 2 ∧ win0_5.index t (1 : Fin 4) = 0 ∧ win0_5.index t (2 : Fin 4) = (t.val - 1) / 12 % 2
      ∧ win0_5.index t (3 : Fin 4) = (t.val - 1) % 12)
    ∧ (win0_6.index t (0 : Fin 2) = (t.val - 1) / 12 ∧ win0_6.index t (1 : Fin 2) = (t.val - 1) % 12 - 4) :=
  (by decide +kernel : ∀ t : Fin grid0.N, _)

/-- Queries, keys and values are written back from the second point on, keys and values only at their own tiles. -/
theorem flush_5 : ∀ t : Fin cfg0.N, (cfg0.win 5).flush t = true → 1 ≤ t.val := (by decide +kernel : ∀ t : Fin grid0.N, _)
theorem flush_6 : ∀ t : Fin cfg0.N, (cfg0.win 6).flush t = true → 1 ≤ t.val ∧ 4 ≤ (t.val - 1) % 12 :=
  (by decide +kernel : ∀ t : Fin grid0.N, _)

theorem x_apply (c : Dev nD) (t : Fin cfg0.N) (h : t.val < 96) (r : Fin 1024) (k : Fin 4096) (R : Fin 8192)
    (hR : R.val = t.val / 12 * 1024 + r.val) : iblk m c 0 t (ix2 r k) = xs m c (ix2 R k) := by
  obtain ⟨⟨e0, e1⟩, -⟩ := mul_facts t h
  unfold xs
  rw [← V_main_arg0 m c]
  show V m c main_arg0 (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 4096 + 1 * k.val = k.val; rw [e1]; omega

theorem w_apply (c : Dev nD) (t : Fin cfg0.N) (h : t.val < 96) (k : Fin 4096) (l : Fin 512) (K : Fin 18432)
    (hK : K.val = (t.val % 12 / 4 * 12 + 4 + t.val % 12 % 4) * 512 + l.val) : iblk m c 1 t (ix3 0 k l) = ws m c (ix3 0 k K) := by
  obtain ⟨-, e0, e1, e2⟩ := mul_facts t h
  unfold ws
  rw [← V_main_arg1 m c]
  show V m c main_arg1 (((cfg0.win 1).blk t).view.emb (ix3 0 k l)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * l.val = K.val; rw [e2]; omega

set_option maxHeartbeats 4000000 in
/-- The tables are those of the first group. -/
theorem V_cos (c : Dev nD) : (V m c main_v36 : Vec Ideal S2x2048x128 .f32) = tabC := by
  unfold_abbrev_sides
  after_reads_simp
  rfl
set_option maxHeartbeats 4000000 in
theorem V_neg (c : Dev nD) : (V m c main_v40 : Vec Ideal S2x2048x128 .f32) = tabA := by
  unfold_abbrev_sides
  after_reads_simp
  rfl
set_option maxHeartbeats 4000000 in
theorem V_sin (c : Dev nD) : (V m c main_v44 : Vec Ideal S2x2048x128 .f32) = tabB := by
  unfold_abbrev_sides
  after_reads_simp
  rfl

/-- The tables' rows at a point. -/
theorem cos_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 2 t (ix3 0 r l) = tabC (ix3 s n l) := by
  obtain ⟨⟨e0, e1, e2⟩, -⟩ := table_facts t ht
  rw [← V_cos m c]
  show (V m c main_v36 : Vec Ideal S2x2048x128 .f32) (((cfg0.win 2).blk t).view.emb (ix3 0 r l)) = _
  refine congrArg _ (funext fun a => Fin.ext ?_)
  match a with
  | ⟨0, _⟩ => show win0_2.index t (0 : Fin 3) * 1 + 1 * 0 = s.val; rw [e0]; omega
  | ⟨1, _⟩ => show win0_2.index t (1 : Fin 3) * 1024 + 1 * r.val = n.val; rw [e1]; omega
  | ⟨2, _⟩ => show win0_2.index t (2 : Fin 3) * 128 + 1 * l.val = l.val; rw [e2]; omega
theorem neg_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 3 t (ix3 0 r l) = tabA (ix3 s n l) := by
  obtain ⟨-, ⟨e0, e1, e2⟩, -⟩ := table_facts t ht
  rw [← V_neg m c]
  show (V m c main_v40 : Vec Ideal S2x2048x128 .f32) (((cfg0.win 3).blk t).view.emb (ix3 0 r l)) = _
  refine congrArg _ (funext fun a => Fin.ext ?_)
  match a with
  | ⟨0, _⟩ => show win0_3.index t (0 : Fin 3) * 1 + 1 * 0 = s.val; rw [e0]; omega
  | ⟨1, _⟩ => show win0_3.index t (1 : Fin 3) * 1024 + 1 * r.val = n.val; rw [e1]; omega
  | ⟨2, _⟩ => show win0_3.index t (2 : Fin 3) * 128 + 1 * l.val = l.val; rw [e2]; omega
theorem sin_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 4 t (ix3 0 r l) = tabB (ix3 s n l) := by
  obtain ⟨-, -, e0, e1, e2⟩ := table_facts t ht
  rw [← V_sin m c]
  show (V m c main_v44 : Vec Ideal S2x2048x128 .f32) (((cfg0.win 4).blk t).view.emb (ix3 0 r l)) = _
  refine congrArg _ (funext fun a => Fin.ext ?_)
  match a with
  | ⟨0, _⟩ => show win0_4.index t (0 : Fin 3) * 1 + 1 * 0 = s.val; rw [e0]; omega
  | ⟨1, _⟩ => show win0_4.index t (1 : Fin 3) * 1024 + 1 * r.val = n.val; rw [e1]; omega
  | ⟨2, _⟩ => show win0_4.index t (2 : Fin 3) * 128 + 1 * l.val = l.val; rw [e2]; omega

/-- A tile's product, read at a head's lane. -/
theorem dot_block (c : Dev nD) (t : Fin cfg0.N) (h : t.val < 96) (r : Fin 1024) (p : Fin 4) (l : Fin 128) (R : Fin 8192) (s : Fin 3) (hd : Fin 16)
    (hR : R.val = t.val / 12 * 1024 + r.val) (hs : s.val = t.val % 12 / 4) (hh : hd.val = t.val % 12 % 4 * 4 + p.val) :
    dot (iblk m c 0 t) (iblk m c 1 t) (ix2 r (lane p l)) = prod (xs m c) (ws m c) R (colOf 1 s hd l) := by
  rw [dot_apply]
  unfold prod
  exact Finset.sum_congr rfl fun k _ => congrArg₂ (· * ·) (x_apply m c t h r k R hR)
    (w_apply m c t h k (lane p l) (colOf 1 s hd l)
      (by show s.val * 6144 + 1 * 2048 + hd.val * 128 + l.val = (t.val % 12 / 4 * 12 + 4 + t.val % 12 % 4) * 512 + (p.val * 128 + l.val); omega))

/-- The tile finished at a point, read at a head's lane. -/
theorem tile_value (c : Dev nD) (t t' : Fin cfg0.N) (ht : t.val = t'.val + 1) (a : FVec Ideal S1024x512 .f32)
    (ha : a = dot (iblk m c 0 t') (iblk m c 1 t')) (r : Fin 1024) (p : Fin 4) (l : Fin 128) (R : Fin 8192) (s : Fin 3) (hd : Fin 16)
    (hR : R.val = t'.val / 12 * 1024 + r.val) (hs : s.val = t'.val % 12 / 4) (hh : hd.val = t'.val % 12 % 4 * 4 + p.val) :
    mixAt a (iblk m c 2 t) (iblk m c 3 t) (iblk m c 4 t) r p l = entryOf 1 (xs m c) (ws m c) s R hd l := by
  subst ha
  have hN : t.val < 97 := lt_of_lt_of_eq t.isLt N_0
  have h1 : 1 ≤ t.val := by omega
  have e : t.val - 1 = t'.val := by omega
  have hn : (⟨R.val % 2048, by omega⟩ : Fin 2048).val = (t.val - 1) / 12 % 2 * 1024 + r.val := by
    show R.val % 2048 = _; rw [e]; omega
  by_cases h8 : t'.val % 12 < 8
  · have hz : (0 : Fin 2).val = if (t.val - 1) % 12 < 8 then 0 else 1 := by rw [e, if_pos h8]; rfl
    unfold mixAt entryOf
    rw [cos_block m c t h1 r l 0 _ hz hn, neg_block m c t h1 r l 0 _ hz hn, sin_block m c t h1 r l 0 _ hz hn,
      dot_block m c t' (by omega) r p _ R s hd hR hs hh, dot_block m c t' (by omega) r p _ R s hd hR hs hh,
      dot_block m c t' (by omega) r p _ R s hd hR hs hh, if_pos (by omega)]
    exact mixed_turn (fun l => prod (xs m c) (ws m c) R (colOf 1 s hd l)) 0 _ l rfl
  · have hz : (1 : Fin 2).val = if (t.val - 1) % 12 < 8 then 0 else 1 := by rw [e, if_neg h8]; rfl
    unfold mixAt entryOf
    rw [cos_block m c t h1 r l 1 _ hz hn, neg_block m c t h1 r l 1 _ hz hn, sin_block m c t h1 r l 1 _ hz hn,
      dot_block m c t' (by omega) r p _ R s hd hR hs hh, dot_block m c t' (by omega) r p _ R s hd hR hs hh,
      dot_block m c t' (by omega) r p _ R s hd hR hs hh, if_neg (by omega)]
    exact mixed_stay (fun l => prod (xs m c) (ws m c) R (colOf 1 s hd l)) 1 _ l rfl

/-- The same, read at the tile's column. -/
theorem tile_column (c : Dev nD) (t t' : Fin cfg0.N) (ht : t.val = t'.val + 1) (a : FVec Ideal S1024x512 .f32)
    (ha : a = dot (iblk m c 0 t') (iblk m c 1 t')) (r : Fin 1024) (k : Fin 512) (R : Fin 8192) (s : Fin 3) (hd : Fin 16) (d : Fin 128)
    (hR : R.val = t'.val / 12 * 1024 + r.val) (hs : s.val = t'.val % 12 / 4) (hh : hd.val = t'.val % 12 % 4 * 4 + k.val / 128)
    (hd' : d.val = k.val % 128) :
    mixed4 a (iblk m c 2 t) (iblk m c 3 t) (iblk m c 4 t) (ix2 r k) = entryOf 1 (xs m c) (ws m c) s R hd d := by
  obtain rfl : d = ⟨k.val % 128, Nat.mod_lt _ (by decide)⟩ := Fin.ext hd'
  exact tile_value m c t t' ht a ha r ⟨k.val / 128, by omega⟩ _ R s hd hR hs hh

/-- The blocks a point leaves. -/
theorem block_all (c : Dev nD) (t : Fin cfg0.N) (h1 : 1 ≤ t.val) (y : S1x4x256x512.Idx) (R : Fin 8192) (s : Fin 3) (hd : Fin 16) (d : Fin 128)
    (hR : R.val = (t.val - 1) / 12 * 1024 + ((y 2).val * 4 + (y 1).val)) (hs : s.val = (t.val - 1) % 12 / 4) (hh : hd.val = (t.val - 1) % 12 % 4 * 4 + (y 3).val / 128)
    (hd' : d.val = (y 3).val % 128) : (outsAt0 m c t.val t.isLt).1 y = entryOf 1 (xs m c) (ws m c) s R hd d := by
  have hl : t.val - 1 < cfg0.N := Nat.lt_of_le_of_lt (Nat.sub_le _ _) t.isLt
  by_cases h : t.val % 2 = 1
  · rw [all_odd m c t h]
    exact tile_column m c t ⟨t.val - 1, hl⟩ (by show t.val = t.val - 1 + 1; omega) _
      (left_even m c ⟨t.val - 1, hl⟩ (by show (t.val - 1) % 2 = 0; omega)) _ _ R s hd d hR hs hh hd'
  · rw [all_even m c t h1 (by omega)]
    exact tile_column m c t ⟨t.val - 1, hl⟩ (by show t.val = t.val - 1 + 1; omega) _
      (left_odd m c ⟨t.val - 1, hl⟩ (by show (t.val - 1) % 2 = 1; omega)) _ _ R s hd d hR hs hh hd'

theorem block_pair (c : Dev nD) (t : Fin cfg0.N) (h1 : 1 ≤ t.val) (r : Fin 1024) (k : Fin 512) (R : Fin 8192) (s : Fin 3) (hd : Fin 16) (d : Fin 128)
    (hR : R.val = (t.val - 1) / 12 * 1024 + r.val) (hs : s.val = (t.val - 1) % 12 / 4) (hh : hd.val = (t.val - 1) % 12 % 4 * 4 + k.val / 128)
    (hd' : d.val = k.val % 128) : (outsAt0 m c t.val t.isLt).2.1 (ix2 r k) = entryOf 1 (xs m c) (ws m c) s R hd d := by
  have hl : t.val - 1 < cfg0.N := Nat.lt_of_le_of_lt (Nat.sub_le _ _) t.isLt
  by_cases h : t.val % 2 = 1
  · rw [pair_odd m c t h]
    exact tile_column m c t ⟨t.val - 1, hl⟩ (by show t.val = t.val - 1 + 1; omega) _
      (left_even m c ⟨t.val - 1, hl⟩ (by show (t.val - 1) % 2 = 0; omega)) r k R s hd d hR hs hh hd'
  · rw [pair_even m c t h1 (by omega)]
    exact tile_column m c t ⟨t.val - 1, hl⟩ (by show t.val = t.val - 1 + 1; omega) _
      (left_odd m c ⟨t.val - 1, hl⟩ (by show (t.val - 1) % 2 = 1; omega)) r k R s hd d hR hs hh hd'

/-- Every 4th row of a sequence together: the queries, keys and values of the group. -/
def all (x : FVec Ideal S8192x4096 .bf16) (w : FVec Ideal S1x4096x18432 .bf16) : FVec Ideal S4x4x512x6144 .bf16 := fun y =>
  entryOf 1 x w ⟨(y 3).val / 2048, Nat.div_lt_of_lt_mul (y 3).isLt⟩
    ⟨(y 0).val * 2048 + (y 2).val * 4 + (y 1).val, by
      have h0 : (y 0).val < 4 := (y 0).isLt
      have h1 : (y 1).val < 4 := (y 1).isLt
      have h2 : (y 2).val < 512 := (y 2).isLt
      omega⟩
    ⟨(y 3).val % 2048 / 128, Nat.div_lt_of_lt_mul (Nat.mod_lt _ (by decide))⟩ ⟨(y 3).val % 128, Nat.mod_lt _ (by decide)⟩

/-- The first result the run leaves, -/
theorem value_all (c : Dev nD) : (dats m 0 c).arrAt 5 cfg0.N = all (xs m c) (ws m c) := by
  refine (dats m 0 c).arrAt_eq_of_covers 5 _ (by decide +kernel) fun t hf y => ?_
  have ht := flush_5 t hf
  blk_simp
  rw [after0_5]
  obtain ⟨⟨e0, e1, e2, e3⟩, -⟩ := out_facts t ht
  have b0 : (y 0).val < 1 := (y 0).isLt
  have b3 : (y 3).val < 512 := (y 3).isLt
  have hy0 : (((cfg0.win 5).blk t).view.emb y 0).val = (t.val - 1) / 12 / 2 := by
    show win0_5.index t (0 : Fin 4) * 1 + 1 * (y 0).val = _; rw [e0]; omega
  have hy1 : (((cfg0.win 5).blk t).view.emb y 1).val = (y 1).val := by
    show win0_5.index t (1 : Fin 4) * 4 + 1 * (y 1).val = _; rw [e1]; omega
  have hy2 : (((cfg0.win 5).blk t).view.emb y 2).val = (t.val - 1) / 12 % 2 * 256 + (y 2).val := by
    show win0_5.index t (2 : Fin 4) * 256 + 1 * (y 2).val = _; rw [e2]; omega
  have hy3 : (((cfg0.win 5).blk t).view.emb y 3).val = (t.val - 1) % 12 * 512 + (y 3).val := by
    show win0_5.index t (3 : Fin 4) * 512 + 1 * (y 3).val = _; rw [e3]; omega
  refine block_all m c t ht y _ _ _ _ ?_ ?_ ?_ ?_
  · show (((cfg0.win 5).blk t).view.emb y 0).val * 2048 + (((cfg0.win 5).blk t).view.emb y 2).val * 4
      + (((cfg0.win 5).blk t).view.emb y 1).val = _
    rw [hy0, hy1, hy2]; omega
  · show (((cfg0.win 5).blk t).view.emb y 3).val / 2048 = _; rw [hy3]; omega
  · show (((cfg0.win 5).blk t).view.emb y 3).val % 2048 / 128 = _; rw [hy3]; omega
  · show (((cfg0.win 5).blk t).view.emb y 3).val % 128 = _; rw [hy3]; omega

/-- and the second. -/
theorem value_pair (c : Dev nD) : (dats m 0 c).arrAt 6 cfg0.N = pairOf 1 (xs m c) (ws m c) := by
  refine (dats m 0 c).arrAt_eq_of_covers 6 _ (by decide +kernel) fun t hf y => ?_
  obtain ⟨ht, h4⟩ := flush_6 t hf
  blk_simp
  rw [after0_6]
  obtain ⟨-, e0, e1⟩ := out_facts t ht
  obtain ⟨r, k, rfl⟩ : ∃ (r : Fin 1024) (k : Fin 512), y = ix2 r k := ⟨y 0, y 1, eq_ix2 _⟩
  have hy0 : (((cfg0.win 6).blk t).view.emb (ix2 r k) 0).val = (t.val - 1) / 12 * 1024 + r.val := by
    show win0_6.index t (0 : Fin 2) * 1024 + 1 * r.val = _; rw [e0]; omega
  have hy1 : (((cfg0.win 6).blk t).view.emb (ix2 r k) 1).val = ((t.val - 1) % 12 - 4) * 512 + k.val := by
    show win0_6.index t (1 : Fin 2) * 512 + 1 * k.val = _; rw [e1]; omega
  refine block_pair m c t ht r k _ _ _ _ hy0 ?_ ?_ ?_
  · show (((cfg0.win 6).blk t).view.emb (ix2 r k) 1).val / 2048 + 1 = _; rw [hy1]; omega
  · show (((cfg0.win 6).blk t).view.emb (ix2 r k) 1).val % 2048 / 128 = _; rw [hy1]; omega
  · show (((cfg0.win 6).blk t).view.emb (ix2 r k) 1).val % 128 = _; rw [hy1]; omega

end Cert.KernelQkv4Ideal.Qkv

end
-- ==== Proof.Qkv4Reference.lean ====
/- The reference of the group of dilation 4, with the steps it shares with the first group's, read at an index. -/
module

public import proofs.«01_k».proof.Proof.Gen.ReferenceQkv4Ideal.Run
public import proofs.«01_k».proof.Proof.QkvReference
public import proofs.«01_k».proof.Proof.Qkv4Array

@[expose] public section

set_option maxRecDepth 16384

noncomputable section

namespace Cert.Qkv4Reference

open Cert.ReferenceQkv4Ideal Cert.ReferenceQkv4Ideal.Gen Idealize.ShloMosaic Idealize.ShloMosaic.TcCoe Idealize.SL.Sem
open Cert.KernelQkvIdeal.Qkv (ang turn prod cosAt sinAt entryOf colOf pairOf)
open Cert.QkvReference (project split spread rope two three rows2 project_apply spread_apply rope_apply two_key two_value three_query three_rest
  rows2_apply)
open scoped BigOperators

/-- The group's queries, keys, values. -/
def queries (q : FVec Ideal S4x2048x3x3x16x128 .f32) : FVec Ideal S4x2048x16x128 .f32 :=
  shapeCast _ (extractStridedSlice S4x2048x1x1x16x128 ![0, 0, 0, 1, 0, 0] q slices_S4x2048x3x3x16x128_S4x2048x1x1x16x128_0_0_0_1_0_0)
    shapeCasts_S4x2048x1x1x16x128_S4x2048x16x128
def keys (q : FVec Ideal S4x2048x3x3x16x128 .f32) : FVec Ideal S4x2048x16x128 .f32 :=
  shapeCast _ (extractStridedSlice S4x2048x1x1x16x128 ![0, 0, 1, 1, 0, 0] q slices_S4x2048x3x3x16x128_S4x2048x1x1x16x128_0_0_1_1_0_0)
    shapeCasts_S4x2048x1x1x16x128_S4x2048x16x128
def values (q : FVec Ideal S4x2048x3x3x16x128 .f32) : FVec Ideal S4x2048x16x128 .f32 :=
  shapeCast _ (extractStridedSlice S4x2048x1x1x16x128 ![0, 0, 2, 1, 0, 0] q slices_S4x2048x3x3x16x128_S4x2048x1x1x16x128_0_0_2_1_0_0)
    shapeCasts_S4x2048x1x1x16x128_S4x2048x16x128
/-- Every 4th row of a sequence together. -/
def lanes (a : FVec Ideal S4x2048x3x16x128 .f32) : FVec Ideal S4x4x512x6144 .bf16 :=
  truncf .bf16 (transpose S4x4x512x6144 [0, 2, 1, 3] (shapeCast _ a shapeCasts_S4x2048x3x16x128_S4x512x4x6144)
    transposes_S4x512x4x6144_S4x4x512x6144_0_2_1_3) bitsLt_bf16_f32

theorem queries_apply (p : FVec Ideal S8192x18432 .f32) (b : Fin 4) (n : Fin 2048) (h : Fin 16) (d : Fin 128) (R : Fin 8192)
    (hR : R.val = b.val * 2048 + n.val) : queries (split p) (ix4 b n h d) = p (ix2 R (colOf 1 0 h d)) := by
  pointwise [queries, split]
  refine congrArg p (congrArg₂ ix2 (Fin.ext ?_) (Fin.ext ?_))
  · simp; omega
  · simp [colOf]

theorem keys_apply (p : FVec Ideal S8192x18432 .f32) (b : Fin 4) (n : Fin 2048) (h : Fin 16) (d : Fin 128) (R : Fin 8192)
    (hR : R.val = b.val * 2048 + n.val) : keys (split p) (ix4 b n h d) = p (ix2 R (colOf 1 1 h d)) := by
  pointwise [keys, split]
  refine congrArg p (congrArg₂ ix2 (Fin.ext ?_) (Fin.ext ?_))
  · simp; omega
  · simp [colOf]

theorem values_apply (p : FVec Ideal S8192x18432 .f32) (b : Fin 4) (n : Fin 2048) (h : Fin 16) (d : Fin 128) (R : Fin 8192)
    (hR : R.val = b.val * 2048 + n.val) : values (split p) (ix4 b n h d) = p (ix2 R (colOf 1 2 h d)) := by
  pointwise [values, split]
  refine congrArg p (congrArg₂ ix2 (Fin.ext ?_) (Fin.ext ?_))
  · simp; omega
  · simp [colOf]

theorem lanes_apply (a : FVec Ideal S4x2048x3x16x128 .f32) (b : Fin 4) (r : Fin 4) (q : Fin 512) (K : Fin 6144) :
    lanes a (ix4 b r q K) = a (ix5 b ⟨q.val * 4 + r.val, by omega⟩ ⟨K.val / 2048, by omega⟩
      ⟨K.val % 2048 / 128, by omega⟩ ⟨K.val % 128, by omega⟩) := by
  pointwise [lanes]
  refine congrArg a ?_
  congr 1 <;> (refine Fin.ext ?_; simp <;> omega)

/-- The reference's keys and values, and with them the queries. -/
def kvs (x : FVec Ideal S8192x4096 .bf16) (w : FVec Ideal S1x4096x18432 .bf16) : FVec Ideal S4x2048x2x16x128 .f32 :=
  two (rope (keys (split (project x w))) (spread (Host.cos ang)) (spread (Host.sin ang))) (values (split (project x w)))
def qkvs (x : FVec Ideal S8192x4096 .bf16) (w : FVec Ideal S1x4096x18432 .bf16) : FVec Ideal S4x2048x3x16x128 .f32 :=
  three (rope (queries (split (project x w))) (spread (Host.cos ang)) (spread (Host.sin ang))) (kvs x w)

theorem kvs_apply (x : FVec Ideal S8192x4096 .bf16) (w : FVec Ideal S1x4096x18432 .bf16) (b : Fin 4) (n : Fin 2048) (h : Fin 16)
    (d : Fin 128) (e : Fin 2) (s : Fin 3) (hs : s.val = e.val + 1) (R : Fin 8192) (hR : R.val = b.val * 2048 + n.val) :
    kvs x w (ix5 b n e h d) = entryOf 1 x w s R h d := by
  have en : (⟨R.val % 2048, by omega⟩ : Fin 2048) = n := Fin.ext (by show R.val % 2048 = n.val; omega)
  unfold kvs entryOf
  rw [en]
  by_cases he : e.val = 0
  · obtain rfl : s = 1 := Fin.ext (by show s.val = 1; omega)
    rw [two_key _ _ _ _ _ _ _ he, rope_apply, if_pos (by decide)]
    simp only [keys_apply _ b n h _ R hR, project_apply, spread_apply]
    rfl
  · obtain rfl : s = 2 := Fin.ext (by show s.val = 2; omega)
    rw [two_value _ _ _ _ _ _ _ (by omega), values_apply _ b n h _ R hR, project_apply, if_neg (by decide)]

theorem qkvs_apply (x : FVec Ideal S8192x4096 .bf16) (w : FVec Ideal S1x4096x18432 .bf16) (b : Fin 4) (n : Fin 2048) (h : Fin 16)
    (d : Fin 128) (s : Fin 3) (R : Fin 8192) (hR : R.val = b.val * 2048 + n.val) :
    qkvs x w (ix5 b n s h d) = entryOf 1 x w s R h d := by
  unfold qkvs
  by_cases he : s.val = 0
  · have en : (⟨R.val % 2048, by omega⟩ : Fin 2048) = n := Fin.ext (by show R.val % 2048 = n.val; omega)
    obtain rfl : s = 0 := Fin.ext he
    unfold entryOf
    rw [three_query _ _ _ _ _ _ _ rfl, rope_apply, if_pos (by decide), en]
    simp only [queries_apply _ b n h _ R hR, project_apply, spread_apply]
    rfl
  · rw [three_rest _ _ _ _ _ _ s ⟨s.val - 1, by omega⟩ (by show s.val = s.val - 1 + 1; omega),
      kvs_apply x w b n h d _ s (by show s.val = s.val - 1 + 1; omega) R hR]

/-- The run's results are these steps. -/
theorem result_all (m : (ℓ : Loc nD τ sig) → Buf (Elt Ideal) ℓ) (c : Dev nD) :
    Cert.ReferenceQkv4Ideal.Value.res_main_v91 m c
      = lanes (qkvs (m ((c.tc : Thread nD τ).loc main_arg0)) (m ((c.tc : Thread nD τ).loc main_arg1))) := by
  unfold Cert.ReferenceQkv4Ideal.Value.res_main_v91
  rfl
theorem result_pair (m : (ℓ : Loc nD τ sig) → Buf (Elt Ideal) ℓ) (c : Dev nD) :
    Cert.ReferenceQkv4Ideal.Value.res_main_v92 m c
      = rows2 (kvs (m ((c.tc : Thread nD τ).loc main_arg0)) (m ((c.tc : Thread nD τ).loc main_arg1))) := by
  unfold Cert.ReferenceQkv4Ideal.Value.res_main_v92
  rfl

theorem all_value (x : FVec Ideal S8192x4096 .bf16) (w : FVec Ideal S1x4096x18432 .bf16) :
    lanes (qkvs x w) = Cert.KernelQkv4Ideal.Qkv.all x w := by
  funext y
  obtain ⟨b, r, q, K, rfl⟩ : ∃ (b : Fin 4) (r : Fin 4) (q : Fin 512) (K : Fin 6144), y = ix4 b r q K := ⟨y 0, y 1, y 2, y 3, eq_ix4 _⟩
  rw [lanes_apply, qkvs_apply x w _ _ _ _ _ ⟨b.val * 2048 + q.val * 4 + r.val, by omega⟩
    (by show b.val * 2048 + q.val * 4 + r.val = b.val * 2048 + (q.val * 4 + r.val); omega)]
  rfl

theorem pair_value (x : FVec Ideal S8192x4096 .bf16) (w : FVec Ideal S1x4096x18432 .bf16) :
    rows2 (kvs x w) = pairOf 1 x w := by
  funext y
  obtain ⟨R, K, rfl⟩ : ∃ (R : Fin 8192) (K : Fin 4096), y = ix2 R K := ⟨y 0, y 1, eq_ix2 _⟩
  rw [rows2_apply, kvs_apply x w _ _ _ _ _ ⟨K.val / 2048 + 1, by omega⟩ rfl R (by show R.val = R.val / 2048 * 2048 + R.val % 2048; omega)]
  rfl

end Cert.Qkv4Reference

end
-- ==== Proof.Qkv4Sum.lean ====
/- The projection of the queries, keys and values of the group of dilation 4 as a whole: the kernel and the reference end with equal results. -/
module

public import proofs.«01_k».proof.Proof.Qkv4Array
public import proofs.«01_k».proof.Proof.Qkv4Reference
public import Idealize.ShloMosaic.Lib.Claim
public import Idealize.ShloMosaic.Lib.Quiescent

@[expose] public section

set_option maxRecDepth 16384

noncomputable section

namespace Cert.Qkv4Sum

open Cert.KernelQkv4Ideal Cert.KernelQkv4Ideal.Gen Idealize.ShloMosaic Idealize.ShloMosaic.TcCoe Idealize.SL.Sem

/-- The reference runs, leaves its arguments alone, and has no semaphore to leave raised. -/
theorem frame_reference : Cert.quiescent_ReferenceQkv4Ideal := fun m ρ _ =>
  (θ_run Cert.ReferenceQkv4Ideal.defs _ _).mono (fun r h => ⟨fun c => (h c).2.2,
      Idealize.ShloMosaic.sem_eq_zero_of_no_sems (by decide) r.2⟩)
    (Cert.ReferenceQkv4Ideal.Value.run (F := Ideal) m ρ)

/-- The kernel's run, its results as functions of its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45_0) = Qkv.all (Qkv.xs m c) (Qkv.ws m c)
      ∧ r.2.mem ((c.tc : Thread nD τ).loc main_v45_1) = Cert.KernelQkvIdeal.Qkv.pairOf 1 (Qkv.xs m c) (Qkv.ws m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Qkv.value_all m c), (h c).2.1.trans (Qkv.value_pair m c), (h c).2.2⟩)
    (Cert.KernelQkv4Ideal.Value.run_blocks m ρ)

/-- The kernel and the reference end with equal results. -/
theorem algebraic : Cert.algebraic_KernelQkv4Ideal_ReferenceQkv4Ideal := by
  pair_intro
  · run_from kernel_run _ _
  · run_from Cert.ReferenceQkv4Ideal.Value.run _ _
    · rw [Qkv4Reference.result_all, (hagree c).1, (hagree c).2]
      exact Qkv4Reference.all_value _ _
    · rw [Qkv4Reference.result_pair, (hagree c).1, (hagree c).2]
      exact Qkv4Reference.pair_value _ _

end Cert.Qkv4Sum

end
-- ==== Proof.Qkv16Tile.lean ====
/- The group of dilation 16: a tile of the projection as one grid point leaves it, and as the next writes it out, every 16th row together. -/
module

public import proofs.«01_k».proof.Proof.Gen.KernelQkv16Ideal.Value
public import proofs.«01_k».proof.Proof.QkvGroup

@[expose] public section

set_option maxRecDepth 16384

noncomputable section

namespace Cert.KernelQkv16Ideal.Qkv

open Cert.KernelQkv16Ideal Cert.KernelQkv16Ideal.Gen Idealize.ShloMosaic Idealize.ShloMosaic.TcCoe Idealize.SL.Sem
open Cert.KernelQkvIdeal.Qkv (dot mix mixed4 mix_head)
open scoped BigOperators

variable (m : (ℓ : Loc nD τ sig) → Buf (Elt Ideal) ℓ)

/-- Rows rounded and laid out as a piece of the block. -/
theorem laid (V : FVec Ideal S64x128 .f32) (a b : Fin 1) (p : Fin 64) (l : Fin 128) :
    shapeCast S1x1x64x128 (truncf (F := Ideal) (φ := .f32) .bf16 V bitsLt_bf16_f32) shapeCasts_S64x128_S1x1x64x128 (ix4 a b p l) = V (ix2 p l) := by
  obtain rfl : a = 0 := Subsingleton.elim _ _
  obtain rfl : b = 0 := Subsingleton.elim _ _
  pointwise

/-- A head's finished rows read back 16 apart from row `r` on. -/
theorem slab (v : View sig .tc .vmem S1024x128 .f32) (Z : Vec Ideal S1024x128 .f32) (L : List (View.Piece (Elt Ideal) S1024x128 .f32))
    (r : ℕ) (h : ∀ a, (S64x128.size a = 0 ∨ (![r, 0] : Fin 2 → ℕ) a + (![16, 1] : Fin 2 → ℕ) a * (S64x128.size a - 1) < S1024x128.size a))
    (p : Fin 64) (l : Fin 128) (z : S1024x128.Idx) (h0 : (z 0).val = r + 16 * p.val) (h1 : (z 1).val = l.val) :
    v.readCov (⟨Rect.unit ![0, 0] S1024x128.size inb_S1024x128_S1024x128_0_0, Z⟩ :: L)
      (⟨![r, 0], S64x128.size, ![16, 1], h⟩ : LoadRect S1024x128) (ix2 p l) = Z z := by
  rw [View.readCov_eq_canon', View.canon_cons_unit_lit inb_S1024x128_S1024x128_0_0 _ L (by decide)]
  refine congrArg Z (funext fun i => Fin.ext ?_)
  match i with
  | ⟨0, _⟩ => exact h0.symm
  | ⟨1, _⟩ => exact (show 0 + 1 * l.val = (z 1).val by rw [h1]; omega)

theorem strided (v : View sig .tc .vmem S1024x128 .f32) (Z : Vec Ideal S1024x128 .f32) (L : List (View.Piece (Elt Ideal) S1024x128 .f32))
    (r : ℕ) (h : ∀ a, (S64x128.size a = 0 ∨ (![r, 0] : Fin 2 → ℕ) a + (![16, 1] : Fin 2 → ℕ) a * (S64x128.size a - 1) < S1024x128.size a))
    (x : S1x1x64x128.Idx) (z : S1024x128.Idx) (h0 : (z 0).val = r + 16 * (x 2).val) (h1 : (z 1).val = (x 3).val) :
    shapeCast S1x1x64x128 (truncf (F := Ideal) (φ := .f32) .bf16
      (v.readCov (⟨Rect.unit ![0, 0] S1024x128.size inb_S1024x128_S1024x128_0_0, shapeCast S1024x128 Z shapeCasts_S1024x128_S1024x128⟩ :: L)
        (⟨![r, 0], S64x128.size, ![16, 1], h⟩ : LoadRect S1024x128)) bitsLt_bf16_f32) shapeCasts_S64x128_S1x1x64x128 x = Z z := by
  rw [shapeCast_self Z]
  refine (congrArg _ (eq_ix4 x)).trans ((laid _ (x 0) (x 1) (x 2) (x 3)).trans ?_)
  exact slab v Z L r h (x 2) (x 3) z h0 h1

/-- The tile's row and column of a place in the block written. -/
def place (y : S1x16x64x512.Idx) : S1024x512.Idx :=
  ix2 ⟨(y 2).val * 16 + (y 1).val, by have h : (y 2).val < 64 := (y 2).isLt; have h' : (y 1).val < 16 := (y 1).isLt; omega⟩ ⟨(y 3).val, (y 3).isLt⟩

/-- Rows of head `p` read 16 apart from row `r` on: a piece of the block written. -/
theorem piece (v : View sig .tc .vmem S1024x128 .f32) (A : Vec Ideal S1024x512 .f32) (tc ta tb : Vec Ideal S1x1024x128 .f32)
    (L : List (View.Piece (Elt Ideal) S1024x128 .f32)) (p : Fin 4) (o : ℕ) (ho : o = p.val * 128)
    (inb : ∀ i, (![0, o] : Fin 2 → ℕ) i + (![1024, 128] : Fin 2 → ℕ) i ≤ S1024x512.size i) (r : ℕ)
    (h : ∀ a, (S64x128.size a = 0 ∨ (![r, 0] : Fin 2 → ℕ) a + (![16, 1] : Fin 2 → ℕ) a * (S64x128.size a - 1) < S1024x128.size a))
    (x : S1x1x64x128.Idx) (y : S1x16x64x512.Idx) (h1 : (y 1).val = r + (x 1).val) (h2 : (y 2).val = (x 2).val) (h3 : (y 3).val = o + (x 3).val) :
    shapeCast S1x1x64x128 (truncf (F := Ideal) (φ := .f32) .bf16
      (v.readCov (⟨Rect.unit ![0, 0] S1024x128.size inb_S1024x128_S1024x128_0_0,
          shapeCast S1024x128 (mix (View.ld A (Rect.unit ![0, o] ![1024, 128] inb)) tc ta tb) shapeCasts_S1024x128_S1024x128⟩ :: L)
        (⟨![r, 0], S64x128.size, ![16, 1], h⟩ : LoadRect S1024x128)) bitsLt_bf16_f32) shapeCasts_S64x128_S1x1x64x128 x
      = mixed4 A tc ta tb (place y) := by
  have hr : (y 1).val < 16 := (y 1).isLt
  have hx1 : (x 1).val < 1 := (x 1).isLt
  have hx2 : (x 2).val < 64 := (x 2).isLt
  refine (strided v _ L r h x (ix2 ⟨r + 16 * (x 2).val, by omega⟩ ⟨(x 3).val, (x 3).isLt⟩) rfl rfl).trans
    (mix_head A tc ta tb p o ho inb _ (place y) ?_ ?_)
  · show (y 2).val * 16 + (y 1).val = r + 16 * (x 2).val; omega
  · show (y 3).val = o + (x 3).val; exact h3

set_option maxHeartbeats 4000000 in
/-- What an even point leaves. -/
theorem left_even (c : Dev nD) (t : Fin cfg0.N) (h : t.val % 2 = 0) :
    (outsAt0 m c t.val t.isLt).2.2.1 = dot (iblk m c 0 t) (iblk m c 1 t) := by
  funext y
  by_cases h0 : t.val % 97 = 0
  · rw [outsAt0_A m c t h0 h (by omega)]
    frame_out
    unfold k0_pay8 dot
    rfl
  · rw [outsAt0_C m c t h0 h (by omega)]
    frame_out
    unfold k0_pay8 dot
    rfl

set_option maxHeartbeats 4000000 in
/-- What an odd point leaves. -/
theorem left_odd (c : Dev nD) (t : Fin cfg0.N) (h : t.val % 2 = 1) :
    (outsAt0 m c t.val t.isLt).2.2.2 = dot (iblk m c 0 t) (iblk m c 1 t) := by
  have ht : t.val < 97 := lt_of_lt_of_le t.isLt (le_of_eq (by decide))
  funext y
  rw [outsAt0_B m c t (by omega) (by omega) h]
  frame_out
  unfold k0_pay93 dot
  rfl

set_option maxHeartbeats 16000000 in
/-- What an odd point writes among the queries, keys and values: the tile left before it, with the tables. -/
theorem all_odd (c : Dev nD) (t : Fin cfg0.N) (h : t.val % 2 = 1) (y : S1x16x64x512.Idx) :
    (outsAt0 m c t.val t.isLt).1 y = mixed4 (outsAt0 m c (t.val - 1) (Nat.lt_of_le_of_lt (Nat.sub_le _ _) t.isLt)).2.2.1
      (iblk m c 2 t) (iblk m c 3 t) (iblk m c 4 t) (place y) := by
  have ht : t.val < 97 := lt_of_lt_of_le t.isLt (le_of_eq (by decide))
  rw [outsAt0_B m c t (by omega) (by omega) h]
  frame_out
  canon_tiles x hy
  case piece0 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 15 (by decide) x y hy1 hy2 hy3
  case piece1 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 14 (by decide) x y hy1 hy2 hy3
  case piece2 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 13 (by decide) x y hy1 hy2 hy3
  case piece3 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 12 (by decide) x y hy1 hy2 hy3
  case piece4 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 11 (by decide) x y hy1 hy2 hy3
  case piece5 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 10 (by decide) x y hy1 hy2 hy3
  case piece6 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 9 (by decide) x y hy1 hy2 hy3
  case piece7 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 8 (by decide) x y hy1 hy2 hy3
  case piece8 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 7 (by decide) x y hy1 hy2 hy3
  case piece9 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 6 (by decide) x y hy1 hy2 hy3
  case piece10 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 5 (by decide) x y hy1 hy2 hy3
  case piece11 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 4 (by decide) x y hy1 hy2 hy3
  case piece12 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 3 (by decide) x y hy1 hy2 hy3
  case piece13 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 2 (by decide) x y hy1 hy2 hy3
  case piece14 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 1 (by decide) x y hy1 hy2 hy3
  case piece15 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 3 384 rfl (by decide) 0 (by decide) x y (by omega) hy2 hy3
  case piece16 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 15 (by decide) x y hy1 hy2 hy3
  case piece17 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 14 (by decide) x y hy1 hy2 hy3
  case piece18 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 13 (by decide) x y hy1 hy2 hy3
  case piece19 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 12 (by decide) x y hy1 hy2 hy3
  case piece20 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 11 (by decide) x y hy1 hy2 hy3
  case piece21 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 10 (by decide) x y hy1 hy2 hy3
  case piece22 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 9 (by decide) x y hy1 hy2 hy3
  case piece23 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 8 (by decide) x y hy1 hy2 hy3
  case piece24 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 7 (by decide) x y hy1 hy2 hy3
  case piece25 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 6 (by decide) x y hy1 hy2 hy3
  case piece26 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 5 (by decide) x y hy1 hy2 hy3
  case piece27 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 4 (by decide) x y hy1 hy2 hy3
  case piece28 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 3 (by decide) x y hy1 hy2 hy3
  case piece29 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 2 (by decide) x y hy1 hy2 hy3
  case piece30 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 1 (by decide) x y hy1 hy2 hy3
  case piece31 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 2 256 rfl (by decide) 0 (by decide) x y (by omega) hy2 hy3
  case piece32 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 15 (by decide) x y hy1 hy2 hy3
  case piece33 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 14 (by decide) x y hy1 hy2 hy3
  case piece34 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 13 (by decide) x y hy1 hy2 hy3
  case piece35 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 12 (by decide) x y hy1 hy2 hy3
  case piece36 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 11 (by decide) x y hy1 hy2 hy3
  case piece37 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 10 (by decide) x y hy1 hy2 hy3
  case piece38 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 9 (by decide) x y hy1 hy2 hy3
  case piece39 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 8 (by decide) x y hy1 hy2 hy3
  case piece40 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 7 (by decide) x y hy1 hy2 hy3
  case piece41 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 6 (by decide) x y hy1 hy2 hy3
  case piece42 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 5 (by decide) x y hy1 hy2 hy3
  case piece43 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 4 (by decide) x y hy1 hy2 hy3
  case piece44 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 3 (by decide) x y hy1 hy2 hy3
  case piece45 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 2 (by decide) x y hy1 hy2 hy3
  case piece46 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 1 (by decide) x y hy1 hy2 hy3
  case piece47 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 1 128 rfl (by decide) 0 (by decide) x y (by omega) hy2 hy3
  case piece48 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 15 (by decide) x y hy1 hy2 (by omega)
  case piece49 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 14 (by decide) x y hy1 hy2 (by omega)
  case piece50 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 13 (by decide) x y hy1 hy2 (by omega)
  case piece51 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 12 (by decide) x y hy1 hy2 (by omega)
  case piece52 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 11 (by decide) x y hy1 hy2 (by omega)
  case piece53 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 10 (by decide) x y hy1 hy2 (by omega)
  case piece54 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 9 (by decide) x y hy1 hy2 (by omega)
  case piece55 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 8 (by decide) x y hy1 hy2 (by omega)
  case piece56 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 7 (by decide) x y hy1 hy2 (by omega)
  case piece57 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 6 (by decide) x y hy1 hy2 (by omega)
  case piece58 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 5 (by decide) x y hy1 hy2 (by omega)
  case piece59 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 4 (by decide) x y hy1 hy2 (by omega)
  case piece60 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 3 (by decide) x y hy1 hy2 (by omega)
  case piece61 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 2 (by decide) x y hy1 hy2 (by omega)
  case piece62 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 1 (by decide) x y hy1 hy2 (by omega)
  case piece63 =>
    repeat erw [Memref.IsWhole.read_unread]
    open_payloads
    exact piece _ (outsAt0 m c (t.val - 1) (Nat.lt_of_le_of_lt (Nat.sub_le _ _) t.isLt)).2.2.1
      (iblk m c 2 t) (iblk m c 3 t) (iblk m c 4 t) _ 0 0 rfl (by decide) 0 (by decide) x y (by omega) hy2 (by omega)

set_option maxHeartbeats 4000000 in
/-- What an odd point writes among the keys and values. -/
theorem pair_odd (c : Dev nD) (t : Fin cfg0.N) (h : t.val % 2 = 1) (y : S1024x512.Idx) :
    (outsAt0 m c t.val t.isLt).2.1 y = mixed4 (outsAt0 m c (t.val - 1) (Nat.lt_of_le_of_lt (Nat.sub_le _ _) t.isLt)).2.2.1
      (iblk m c 2 t) (iblk m c 3 t) (iblk m c 4 t) y := by
  have ht : t.val < 97 := lt_of_lt_of_le t.isLt (le_of_eq (by decide))
  rw [outsAt0_B m c t (by omega) (by omega) h]
  frame_out
  canon_tiles x hy
  case piece0 =>
    have e := mix_head (outsAt0 m c (t.val - 1) (Nat.lt_of_le_of_lt (Nat.sub_le _ _) t.isLt)).2.2.1
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2.1
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2.1
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2.1
      (iblk m c 2 t) (iblk m c 3 t) (iblk m c 4 t) 0 0 rfl (by decide) x y hy0 (by omega)
    repeat erw [Memref.IsWhole.read_unread]
    open_payloads
    unfold mix at e
    exact e

set_option maxHeartbeats 16000000 in
/-- What an even point writes among the queries, keys and values: the tile left before it, with the tables. -/
theorem all_even (c : Dev nD) (t : Fin cfg0.N) (h1 : 1 ≤ t.val) (h : t.val % 2 = 0) (y : S1x16x64x512.Idx) :
    (outsAt0 m c t.val t.isLt).1 y = mixed4 (outsAt0 m c (t.val - 1) (Nat.lt_of_le_of_lt (Nat.sub_le _ _) t.isLt)).2.2.2
      (iblk m c 2 t) (iblk m c 3 t) (iblk m c 4 t) (place y) := by
  have ht : t.val < 97 := lt_of_lt_of_le t.isLt (le_of_eq (by decide))
  rw [outsAt0_C m c t (by omega) h (by omega)]
  frame_out
  canon_tiles x hy
  case piece0 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 15 (by decide) x y hy1 hy2 hy3
  case piece1 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 14 (by decide) x y hy1 hy2 hy3
  case piece2 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 13 (by decide) x y hy1 hy2 hy3
  case piece3 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 12 (by decide) x y hy1 hy2 hy3
  case piece4 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 11 (by decide) x y hy1 hy2 hy3
  case piece5 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 10 (by decide) x y hy1 hy2 hy3
  case piece6 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 9 (by decide) x y hy1 hy2 hy3
  case piece7 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 8 (by decide) x y hy1 hy2 hy3
  case piece8 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 7 (by decide) x y hy1 hy2 hy3
  case piece9 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 6 (by decide) x y hy1 hy2 hy3
  case piece10 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 5 (by decide) x y hy1 hy2 hy3
  case piece11 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 4 (by decide) x y hy1 hy2 hy3
  case piece12 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 3 (by decide) x y hy1 hy2 hy3
  case piece13 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 2 (by decide) x y hy1 hy2 hy3
  case piece14 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 1 (by decide) x y hy1 hy2 hy3
  case piece15 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 3 384 rfl (by decide) 0 (by decide) x y (by omega) hy2 hy3
  case piece16 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 15 (by decide) x y hy1 hy2 hy3
  case piece17 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 14 (by decide) x y hy1 hy2 hy3
  case piece18 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 13 (by decide) x y hy1 hy2 hy3
  case piece19 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 12 (by decide) x y hy1 hy2 hy3
  case piece20 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 11 (by decide) x y hy1 hy2 hy3
  case piece21 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 10 (by decide) x y hy1 hy2 hy3
  case piece22 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 9 (by decide) x y hy1 hy2 hy3
  case piece23 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 8 (by decide) x y hy1 hy2 hy3
  case piece24 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 7 (by decide) x y hy1 hy2 hy3
  case piece25 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 6 (by decide) x y hy1 hy2 hy3
  case piece26 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 5 (by decide) x y hy1 hy2 hy3
  case piece27 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 4 (by decide) x y hy1 hy2 hy3
  case piece28 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 3 (by decide) x y hy1 hy2 hy3
  case piece29 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 2 (by decide) x y hy1 hy2 hy3
  case piece30 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 1 (by decide) x y hy1 hy2 hy3
  case piece31 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 2 256 rfl (by decide) 0 (by decide) x y (by omega) hy2 hy3
  case piece32 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 15 (by decide) x y hy1 hy2 hy3
  case piece33 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 14 (by decide) x y hy1 hy2 hy3
  case piece34 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 13 (by decide) x y hy1 hy2 hy3
  case piece35 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 12 (by decide) x y hy1 hy2 hy3
  case piece36 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 11 (by decide) x y hy1 hy2 hy3
  case piece37 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 10 (by decide) x y hy1 hy2 hy3
  case piece38 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 9 (by decide) x y hy1 hy2 hy3
  case piece39 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 8 (by decide) x y hy1 hy2 hy3
  case piece40 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 7 (by decide) x y hy1 hy2 hy3
  case piece41 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 6 (by decide) x y hy1 hy2 hy3
  case piece42 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 5 (by decide) x y hy1 hy2 hy3
  case piece43 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 4 (by decide) x y hy1 hy2 hy3
  case piece44 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 3 (by decide) x y hy1 hy2 hy3
  case piece45 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 2 (by decide) x y hy1 hy2 hy3
  case piece46 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 1 (by decide) x y hy1 hy2 hy3
  case piece47 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 1 128 rfl (by decide) 0 (by decide) x y (by omega) hy2 hy3
  case piece48 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 15 (by decide) x y hy1 hy2 (by omega)
  case piece49 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 14 (by decide) x y hy1 hy2 (by omega)
  case piece50 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 13 (by decide) x y hy1 hy2 (by omega)
  case piece51 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 12 (by decide) x y hy1 hy2 (by omega)
  case piece52 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 11 (by decide) x y hy1 hy2 (by omega)
  case piece53 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 10 (by decide) x y hy1 hy2 (by omega)
  case piece54 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 9 (by decide) x y hy1 hy2 (by omega)
  case piece55 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 8 (by decide) x y hy1 hy2 (by omega)
  case piece56 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 7 (by decide) x y hy1 hy2 (by omega)
  case piece57 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 6 (by decide) x y hy1 hy2 (by omega)
  case piece58 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 5 (by decide) x y hy1 hy2 (by omega)
  case piece59 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 4 (by decide) x y hy1 hy2 (by omega)
  case piece60 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 3 (by decide) x y hy1 hy2 (by omega)
  case piece61 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 2 (by decide) x y hy1 hy2 (by omega)
  case piece62 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 1 (by decide) x y hy1 hy2 (by omega)
  case piece63 =>
    repeat erw [Memref.IsWhole.read_unread]
    open_payloads
    exact piece _ (outsAt0 m c (t.val - 1) (Nat.lt_of_le_of_lt (Nat.sub_le _ _) t.isLt)).2.2.2
      (iblk m c 2 t) (iblk m c 3 t) (iblk m c 4 t) _ 0 0 rfl (by decide) 0 (by decide) x y (by omega) hy2 (by omega)

set_option maxHeartbeats 4000000 in
/-- What an even point writes among the keys and values. -/
theorem pair_even (c : Dev nD) (t : Fin cfg0.N) (h1 : 1 ≤ t.val) (h : t.val % 2 = 0) (y : S1024x512.Idx) :
    (outsAt0 m c t.val t.isLt).2.1 y = mixed4 (outsAt0 m c (t.val - 1) (Nat.lt_of_le_of_lt (Nat.sub_le _ _) t.isLt)).2.2.2
      (iblk m c 2 t) (iblk m c 3 t) (iblk m c 4 t) y := by
  have ht : t.val < 97 := lt_of_lt_of_le t.isLt (le_of_eq (by decide))
  rw [outsAt0_C m c t (by omega) h (by omega)]
  frame_out
  canon_tiles x hy
  case piece0 =>
    have e := mix_head (outsAt0 m c (t.val - 1) (Nat.lt_of_le_of_lt (Nat.sub_le _ _) t.isLt)).2.2.2
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2.2
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2.2
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2.2
      (iblk m c 2 t) (iblk m c 3 t) (iblk m c 4 t) 0 0 rfl (by decide) x y hy0 (by omega)
    repeat erw [Memref.IsWhole.read_unread]
    open_payloads
    unfold mix at e
    exact e

end Cert.KernelQkv16Ideal.Qkv

end
-- ==== Proof.Qkv16Array.lean ====
/- The two results of the group of dilation 16 after the run, entry by entry. -/
module

public import proofs.«01_k».proof.Proof.Qkv16Tile
public import Idealize.ShloMosaic.Lib.StableHlo.RunRead

@[expose] public section

set_option maxRecDepth 16384

noncomputable section

namespace Cert.KernelQkv16Ideal.Qkv

open Cert.KernelQkv16Ideal Cert.KernelQkv16Ideal.Gen
open Idealize.ShloMosaic Idealize.ShloMosaic.TcCoe Idealize.SL.Sem
open Cert.KernelQkvIdeal.Qkv (dot mixAt mixed4 lane dot_apply tabC tabA tabB mixed_stay mixed_turn prod entryOf colOf pairOf)
open scoped BigOperators

variable (m : (ℓ : Loc nD τ sig) → Buf (Elt Ideal) ℓ)

/-- Device `c`'s two arguments. -/
abbrev xs (c : Dev nD) : FVec Ideal S8192x4096 .bf16 := m ((c : Thread nD τ).loc main_arg0)
abbrev ws (c : Dev nD) : FVec Ideal S1x4096x18432 .bf16 := m ((c : Thread nD τ).loc main_arg1)

/-- Which blocks point `t` multiplies, -/
theorem mul_facts : ∀ t : Fin cfg0.N, t.val < 96 →
    (win0_0.index t (0 : Fin 2) = t.val / 12 ∧ win0_0.index t (1 : Fin 2) = 0)
    ∧ (win0_1.index t (0 : Fin 3) = 0 ∧ win0_1.index t (1 : Fin 3) = 0
      ∧ win0_1.index t (2 : Fin 3) = t.val % 12 / 4 * 12 + 8 + t.val % 12 % 4) :=
  (by decide +kernel : ∀ t : Fin grid0.N, _)

/-- with which rows of the tables it finishes the tile before it, -/
theorem table_facts : ∀ t : Fin cfg0.N, 1 ≤ t.val →
    (win0_2.index t (0 : Fin 3) = (if (t.val - 1) % 12 < 8 then 0 else 1) ∧ win0_2.index t (1 : Fin 3) = (t.val - 1) / 12 % 2
      ∧ win0_2.index t (2 : Fin 3) = 0)
    ∧ (win0_3.index t (0 : Fin 3) = (if (t.val - 1) % 12 < 8 then 0 else 1) ∧ win0_3.index t (1 : Fin 3) = (t.val - 1) / 12 % 2
      ∧ win0_3.index t (2 : Fin 3) = 0)
    ∧ (win0_4.index t (0 : Fin 3) = (if (t.val - 1) % 12 < 8 then 0 else 1) ∧ win0_4.index t (1 : Fin 3) = (t.val - 1) / 12 % 2
      ∧ win0_4.index t (2 : Fin 3) = 0) :=
  (by decide +kernel : ∀ t : Fin grid0.N, _)

/-- and where it writes it. -/
theorem out_facts : ∀ t : Fin cfg0.N, 1 ≤ t.val →
    (win0_5.index t (0 : Fin 4) = (t.val - 1) / 12 / 2 ∧ win0_5.index t (1 : Fin 4) = 0 ∧ win0_5.index t (2 : Fin 4) = (t.val - 1) / 12 % 2
      ∧ win0_5.index t (3 : Fin 4) = (t.val - 1) % 12)
    ∧ (win0_6.index t (0 : Fin 2) = (t.val - 1) / 12 ∧ win0_6.index t (1 : Fin 2) = (t.val - 1) % 12 - 4) :=
  (by decide +kernel : ∀ t : Fin grid0.N, _)

/-- Queries, keys and values are written back from the second point on, keys and values only at their own tiles. -/
theorem flush_5 : ∀ t : Fin cfg0.N, (cfg0.win 5).flush t = true → 1 ≤ t.val := (by decide +kernel : ∀ t : Fin grid0.N, _)
theorem flush_6 : ∀ t : Fin cfg0.N, (cfg0.win 6).flush t = true → 1 ≤ t.val ∧ 4 ≤ (t.val - 1) % 12 :=
  (by decide +kernel : ∀ t : Fin grid0.N, _)

theorem x_apply (c : Dev nD) (t : Fin cfg0.N) (h : t.val < 96) (r : Fin 1024) (k : Fin 4096) (R : Fin 8192)
    (hR : R.val = t.val / 12 * 1024 + r.val) : iblk m c 0 t (ix2 r k) = xs m c (ix2 R k) := by
  obtain ⟨⟨e0, e1⟩, -⟩ := mul_facts t h
  unfold xs
  rw [← V_main_arg0 m c]
  show V m c main_arg0 (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 4096 + 1 * k.val = k.val; rw [e1]; omega

theorem w_apply (c : Dev nD) (t : Fin cfg0.N) (h : t.val < 96) (k : Fin 4096) (l : Fin 512) (K : Fin 18432)
    (hK : K.val = (t.val % 12 / 4 * 12 + 8 + t.val % 12 % 4) * 512 + l.val) : iblk m c 1 t (ix3 0 k l) = ws m c (ix3 0 k K) := by
  obtain ⟨-, e0, e1, e2⟩ := mul_facts t h
  unfold ws
  rw [← V_main_arg1 m c]
  show V m c main_arg1 (((cfg0.win 1).blk t).view.emb (ix3 0 k l)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * l.val = K.val; rw [e2]; omega

set_option maxHeartbeats 4000000 in
/-- The tables are those of the first group. -/
theorem V_cos (c : Dev nD) : (V m c main_v36 : Vec Ideal S2x2048x128 .f32) = tabC := by
  unfold_abbrev_sides
  after_reads_simp
  rfl
set_option maxHeartbeats 4000000 in
theorem V_neg (c : Dev nD) : (V m c main_v40 : Vec Ideal S2x2048x128 .f32) = tabA := by
  unfold_abbrev_sides
  after_reads_simp
  rfl
set_option maxHeartbeats 4000000 in
theorem V_sin (c : Dev nD) : (V m c main_v44 : Vec Ideal S2x2048x128 .f32) = tabB := by
  unfold_abbrev_sides
  after_reads_simp
  rfl

/-- The tables' rows at a point. -/
theorem cos_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 2 t (ix3 0 r l) = tabC (ix3 s n l) := by
  obtain ⟨⟨e0, e1, e2⟩, -⟩ := table_facts t ht
  rw [← V_cos m c]
  show (V m c main_v36 : Vec Ideal S2x2048x128 .f32) (((cfg0.win 2).blk t).view.emb (ix3 0 r l)) = _
  refine congrArg _ (funext fun a => Fin.ext ?_)
  match a with
  | ⟨0, _⟩ => show win0_2.index t (0 : Fin 3) * 1 + 1 * 0 = s.val; rw [e0]; omega
  | ⟨1, _⟩ => show win0_2.index t (1 : Fin 3) * 1024 + 1 * r.val = n.val; rw [e1]; omega
  | ⟨2, _⟩ => show win0_2.index t (2 : Fin 3) * 128 + 1 * l.val = l.val; rw [e2]; omega
theorem neg_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 3 t (ix3 0 r l) = tabA (ix3 s n l) := by
  obtain ⟨-, ⟨e0, e1, e2⟩, -⟩ := table_facts t ht
  rw [← V_neg m c]
  show (V m c main_v40 : Vec Ideal S2x2048x128 .f32) (((cfg0.win 3).blk t).view.emb (ix3 0 r l)) = _
  refine congrArg _ (funext fun a => Fin.ext ?_)
  match a with
  | ⟨0, _⟩ => show win0_3.index t (0 : Fin 3) * 1 + 1 * 0 = s.val; rw [e0]; omega
  | ⟨1, _⟩ => show win0_3.index t (1 : Fin 3) * 1024 + 1 * r.val = n.val; rw [e1]; omega
  | ⟨2, _⟩ => show win0_3.index t (2 : Fin 3) * 128 + 1 * l.val = l.val; rw [e2]; omega
theorem sin_block (c : Dev nD) (t : Fin cfg0.N) (ht : 1 ≤ t.val) (r : Fin 1024) (l : Fin 128) (s : Fin 2) (n : Fin 2048)
    (hs : s.val = if (t.val - 1) % 12 < 8 then 0 else 1) (hn : n.val = (t.val - 1) / 12 % 2 * 1024 + r.val) :
    iblk m c 4 t (ix3 0 r l) = tabB (ix3 s n l) := by
  obtain ⟨-, -, e0, e1, e2⟩ := table_facts t ht
  rw [← V_sin m c]
  show (V m c main_v44 : Vec Ideal S2x2048x128 .f32) (((cfg0.win 4).blk t).view.emb (ix3 0 r l)) = _
  refine congrArg _ (funext fun a => Fin.ext ?_)
  match a with
  | ⟨0, _⟩ => show win0_4.index t (0 : Fin 3) * 1 + 1 * 0 = s.val; rw [e0]; omega
  | ⟨1, _⟩ => show win0_4.index t (1 : Fin 3) * 1024 + 1 * r.val = n.val; rw [e1]; omega
  | ⟨2, _⟩ => show win0_4.index t (2 : Fin 3) * 128 + 1 * l.val = l.val; rw [e2]; omega

/-- A tile's product, read at a head's lane. -/
theorem dot_block (c : Dev nD) (t : Fin cfg0.N) (h : t.val < 96) (r : Fin 1024) (p : Fin 4) (l : Fin 128) (R : Fin 8192) (s : Fin 3) (hd : Fin 16)
    (hR : R.val = t.val / 12 * 1024 + r.val) (hs : s.val = t.val % 12 / 4) (hh : hd.val = t.val % 12 % 4 * 4 + p.val) :
    dot (iblk m c 0 t) (iblk m c 1 t) (ix2 r (lane p l)) = prod (xs m c) (ws m c) R (colOf 2 s hd l) := by
  rw [dot_apply]
  unfold prod
  exact Finset.sum_congr rfl fun k _ => congrArg₂ (· * ·) (x_apply m c t h r k R hR)
    (w_apply m c t h k (lane p l) (colOf 2 s hd l)
      (by show s.val * 6144 + 2 * 2048 + hd.val * 128 + l.val = (t.val % 12 / 4 * 12 + 8 + t.val % 12 % 4) * 512 + (p.val * 128 + l.val); omega))

/-- The tile finished at a point, read at a head's lane. -/
theorem tile_value (c : Dev nD) (t t' : Fin cfg0.N) (ht : t.val = t'.val + 1) (a : FVec Ideal S1024x512 .f32)
    (ha : a = dot (iblk m c 0 t') (iblk m c 1 t')) (r : Fin 1024) (p : Fin 4) (l : Fin 128) (R : Fin 8192) (s : Fin 3) (hd : Fin 16)
    (hR : R.val = t'.val / 12 * 1024 + r.val) (hs : s.val = t'.val % 12 / 4) (hh : hd.val = t'.val % 12 % 4 * 4 + p.val) :
    mixAt a (iblk m c 2 t) (iblk m c 3 t) (iblk m c 4 t) r p l = entryOf 2 (xs m c) (ws m c) s R hd l := by
  subst ha
  have hN : t.val < 97 := lt_of_lt_of_eq t.isLt N_0
  have h1 : 1 ≤ t.val := by omega
  have e : t.val - 1 = t'.val := by omega
  have hn : (⟨R.val % 2048, by omega⟩ : Fin 2048).val = (t.val - 1) / 12 % 2 * 1024 + r.val := by
    show R.val % 2048 = _; rw [e]; omega
  by_cases h8 : t'.val % 12 < 8
  · have hz : (0 : Fin 2).val = if (t.val - 1) % 12 < 8 then 0 else 1 := by rw [e, if_pos h8]; rfl
    unfold mixAt entryOf
    rw [cos_block m c t h1 r l 0 _ hz hn, neg_block m c t h1 r l 0 _ hz hn, sin_block m c t h1 r l 0 _ hz hn,
      dot_block m c t' (by omega) r p _ R s hd hR hs hh, dot_block m c t' (by omega) r p _ R s hd hR hs hh,
      dot_block m c t' (by omega) r p _ R s hd hR hs hh, if_pos (by omega)]
    exact mixed_turn (fun l => prod (xs m c) (ws m c) R (colOf 2 s hd l)) 0 _ l rfl
  · have hz : (1 : Fin 2).val = if (t.val - 1) % 12 < 8 then 0 else 1 := by rw [e, if_neg h8]; rfl
    unfold mixAt entryOf
    rw [cos_block m c t h1 r l 1 _ hz hn, neg_block m c t h1 r l 1 _ hz hn, sin_block m c t h1 r l 1 _ hz hn,
      dot_block m c t' (by omega) r p _ R s hd hR hs hh, dot_block m c t' (by omega) r p _ R s hd hR hs hh,
      dot_block m c t' (by omega) r p _ R s hd hR hs hh, if_neg (by omega)]
    exact mixed_stay (fun l => prod (xs m c) (ws m c) R (colOf 2 s hd l)) 1 _ l rfl

/-- The same, read at the tile's column. -/
theorem tile_column (c : Dev nD) (t t' : Fin cfg0.N) (ht : t.val = t'.val + 1) (a : FVec Ideal S1024x512 .f32)
    (ha : a = dot (iblk m c 0 t') (iblk m c 1 t')) (r : Fin 1024) (k : Fin 512) (R : Fin 8192) (s : Fin 3) (hd : Fin 16) (d : Fin 128)
    (hR : R.val = t'.val / 12 * 1024 + r.val) (hs : s.val = t'.val % 12 / 4) (hh : hd.val = t'.val % 12 % 4 * 4 + k.val / 128)
    (hd' : d.val = k.val % 128) :
    mixed4 a (iblk m c 2 t) (iblk m c 3 t) (iblk m c 4 t) (ix2 r k) = entryOf 2 (xs m c) (ws m c) s R hd d := by
  obtain rfl : d = ⟨k.val % 128, Nat.mod_lt _ (by decide)⟩ := Fin.ext hd'
  exact tile_value m c t t' ht a ha r ⟨k.val / 128, by omega⟩ _ R s hd hR hs hh

/-- The blocks a point leaves. -/
theorem block_all (c : Dev nD) (t : Fin cfg0.N) (h1 : 1 ≤ t.val) (y : S1x16x64x512.Idx) (R : Fin 8192) (s : Fin 3) (hd : Fin 16) (d : Fin 128)
    (hR : R.val = (t.val - 1) / 12 * 1024 + ((y 2).val * 16 + (y 1).val)) (hs : s.val = (t.val - 1) % 12 / 4) (hh : hd.val = (t.val - 1) % 12 % 4 * 4 + (y 3).val / 128)
    (hd' : d.val = (y 3).val % 128) : (outsAt0 m c t.val t.isLt).1 y = entryOf 2 (xs m c) (ws m c) s R hd d := by
  have hl : t.val - 1 < cfg0.N := Nat.lt_of_le_of_lt (Nat.sub_le _ _) t.isLt
  by_cases h : t.val % 2 = 1
  · rw [all_odd m c t h]
    exact tile_column m c t ⟨t.val - 1, hl⟩ (by show t.val = t.val - 1 + 1; omega) _
      (left_even m c ⟨t.val - 1, hl⟩ (by show (t.val - 1) % 2 = 0; omega)) _ _ R s hd d hR hs hh hd'
  · rw [all_even m c t h1 (by omega)]
    exact tile_column m c t ⟨t.val - 1, hl⟩ (by show t.val = t.val - 1 + 1; omega) _
      (left_odd m c ⟨t.val - 1, hl⟩ (by show (t.val - 1) % 2 = 1; omega)) _ _ R s hd d hR hs hh hd'

theorem block_pair (c : Dev nD) (t : Fin cfg0.N) (h1 : 1 ≤ t.val) (r : Fin 1024) (k : Fin 512) (R : Fin 8192) (s : Fin 3) (hd : Fin 16) (d : Fin 128)
    (hR : R.val = (t.val - 1) / 12 * 1024 + r.val) (hs : s.val = (t.val - 1) % 12 / 4) (hh : hd.val = (t.val - 1) % 12 % 4 * 4 + k.val / 128)
    (hd' : d.val = k.val % 128) : (outsAt0 m c t.val t.isLt).2.1 (ix2 r k) = entryOf 2 (xs m c) (ws m c) s R hd d := by
  have hl : t.val - 1 < cfg0.N := Nat.lt_of_le_of_lt (Nat.sub_le _ _) t.isLt
  by_cases h : t.val % 2 = 1
  · rw [pair_odd m c t h]
    exact tile_column m c t ⟨t.val - 1, hl⟩ (by show t.val = t.val - 1 + 1; omega) _
      (left_even m c ⟨t.val - 1, hl⟩ (by show (t.val - 1) % 2 = 0; omega)) r k R s hd d hR hs hh hd'
  · rw [pair_even m c t h1 (by omega)]
    exact tile_column m c t ⟨t.val - 1, hl⟩ (by show t.val = t.val - 1 + 1; omega) _
      (left_odd m c ⟨t.val - 1, hl⟩ (by show (t.val - 1) % 2 = 1; omega)) r k R s hd d hR hs hh hd'

/-- Every 16th row of a sequence together: the queries, keys and values of the group. -/
def all (x : FVec Ideal S8192x4096 .bf16) (w : FVec Ideal S1x4096x18432 .bf16) : FVec Ideal S4x16x128x6144 .bf16 := fun y =>
  entryOf 2 x w ⟨(y 3).val / 2048, Nat.div_lt_of_lt_mul (y 3).isLt⟩
    ⟨(y 0).val * 2048 + (y 2).val * 16 + (y 1).val, by
      have h0 : (y 0).val < 4 := (y 0).isLt
      have h1 : (y 1).val < 16 := (y 1).isLt
      have h2 : (y 2).val < 128 := (y 2).isLt
      omega⟩
    ⟨(y 3).val % 2048 / 128, Nat.div_lt_of_lt_mul (Nat.mod_lt _ (by decide))⟩ ⟨(y 3).val % 128, Nat.mod_lt _ (by decide)⟩

/-- The first result the run leaves, -/
theorem value_all (c : Dev nD) : (dats m 0 c).arrAt 5 cfg0.N = all (xs m c) (ws m c) := by
  refine (dats m 0 c).arrAt_eq_of_covers 5 _ (by decide +kernel) fun t hf y => ?_
  have ht := flush_5 t hf
  blk_simp
  rw [after0_5]
  obtain ⟨⟨e0, e1, e2, e3⟩, -⟩ := out_facts t ht
  have b0 : (y 0).val < 1 := (y 0).isLt
  have b3 : (y 3).val < 512 := (y 3).isLt
  have hy0 : (((cfg0.win 5).blk t).view.emb y 0).val = (t.val - 1) / 12 / 2 := by
    show win0_5.index t (0 : Fin 4) * 1 + 1 * (y 0).val = _; rw [e0]; omega
  have hy1 : (((cfg0.win 5).blk t).view.emb y 1).val = (y 1).val := by
    show win0_5.index t (1 : Fin 4) * 16 + 1 * (y 1).val = _; rw [e1]; omega
  have hy2 : (((cfg0.win 5).blk t).view.emb y 2).val = (t.val - 1) / 12 % 2 * 64 + (y 2).val := by
    show win0_5.index t (2 : Fin 4) * 64 + 1 * (y 2).val = _; rw [e2]; omega
  have hy3 : (((cfg0.win 5).blk t).view.emb y 3).val = (t.val - 1) % 12 * 512 + (y 3).val := by
    show win0_5.index t (3 : Fin 4) * 512 + 1 * (y 3).val = _; rw [e3]; omega
  refine block_all m c t ht y _ _ _ _ ?_ ?_ ?_ ?_
  · show (((cfg0.win 5).blk t).view.emb y 0).val * 2048 + (((cfg0.win 5).blk t).view.emb y 2).val * 16
      + (((cfg0.win 5).blk t).view.emb y 1).val = _
    rw [hy0, hy1, hy2]; omega
  · show (((cfg0.win 5).blk t).view.emb y 3).val / 2048 = _; rw [hy3]; omega
  · show (((cfg0.win 5).blk t).view.emb y 3).val % 2048 / 128 = _; rw [hy3]; omega
  · show (((cfg0.win 5).blk t).view.emb y 3).val % 128 = _; rw [hy3]; omega

/-- and the second. -/
theorem value_pair (c : Dev nD) : (dats m 0 c).arrAt 6 cfg0.N = pairOf 2 (xs m c) (ws m c) := by
  refine (dats m 0 c).arrAt_eq_of_covers 6 _ (by decide +kernel) fun t hf y => ?_
  obtain ⟨ht, h4⟩ := flush_6 t hf
  blk_simp
  rw [after0_6]
  obtain ⟨-, e0, e1⟩ := out_facts t ht
  obtain ⟨r, k, rfl⟩ : ∃ (r : Fin 1024) (k : Fin 512), y = ix2 r k := ⟨y 0, y 1, eq_ix2 _⟩
  have hy0 : (((cfg0.win 6).blk t).view.emb (ix2 r k) 0).val = (t.val - 1) / 12 * 1024 + r.val := by
    show win0_6.index t (0 : Fin 2) * 1024 + 1 * r.val = _; rw [e0]; omega
  have hy1 : (((cfg0.win 6).blk t).view.emb (ix2 r k) 1).val = ((t.val - 1) % 12 - 4) * 512 + k.val := by
    show win0_6.index t (1 : Fin 2) * 512 + 1 * k.val = _; rw [e1]; omega
  refine block_pair m c t ht r k _ _ _ _ hy0 ?_ ?_ ?_
  · show (((cfg0.win 6).blk t).view.emb (ix2 r k) 1).val / 2048 + 1 = _; rw [hy1]; omega
  · show (((cfg0.win 6).blk t).view.emb (ix2 r k) 1).val % 2048 / 128 = _; rw [hy1]; omega
  · show (((cfg0.win 6).blk t).view.emb (ix2 r k) 1).val % 128 = _; rw [hy1]; omega

end Cert.KernelQkv16Ideal.Qkv

end
-- ==== Proof.Qkv16Reference.lean ====
/- The reference of the group of dilation 16, with the steps it shares with the first group's, read at an index. -/
module

public import proofs.«01_k».proof.Proof.Gen.ReferenceQkv16Ideal.Run
public import proofs.«01_k».proof.Proof.QkvReference
public import proofs.«01_k».proof.Proof.Qkv16Array

@[expose] public section

set_option maxRecDepth 16384

noncomputable section

namespace Cert.Qkv16Reference

open Cert.ReferenceQkv16Ideal Cert.ReferenceQkv16Ideal.Gen Idealize.ShloMosaic Idealize.ShloMosaic.TcCoe Idealize.SL.Sem
open Cert.KernelQkvIdeal.Qkv (ang turn prod cosAt sinAt entryOf colOf pairOf)
open Cert.QkvReference (project split spread rope two three rows2 project_apply spread_apply rope_apply two_key two_value three_query three_rest
  rows2_apply)
open scoped BigOperators

/-- The group's queries, keys, values. -/
def queries (q : FVec Ideal S4x2048x3x3x16x128 .f32) : FVec Ideal S4x2048x16x128 .f32 :=
  shapeCast _ (extractStridedSlice S4x2048x1x1x16x128 ![0, 0, 0, 2, 0, 0] q slices_S4x2048x3x3x16x128_S4x2048x1x1x16x128_0_0_0_2_0_0)
    shapeCasts_S4x2048x1x1x16x128_S4x2048x16x128
def keys (q : FVec Ideal S4x2048x3x3x16x128 .f32) : FVec Ideal S4x2048x16x128 .f32 :=
  shapeCast _ (extractStridedSlice S4x2048x1x1x16x128 ![0, 0, 1, 2, 0, 0] q slices_S4x2048x3x3x16x128_S4x2048x1x1x16x128_0_0_1_2_0_0)
    shapeCasts_S4x2048x1x1x16x128_S4x2048x16x128
def values (q : FVec Ideal S4x2048x3x3x16x128 .f32) : FVec Ideal S4x2048x16x128 .f32 :=
  shapeCast _ (extractStridedSlice S4x2048x1x1x16x128 ![0, 0, 2, 2, 0, 0] q slices_S4x2048x3x3x16x128_S4x2048x1x1x16x128_0_0_2_2_0_0)
    shapeCasts_S4x2048x1x1x16x128_S4x2048x16x128
/-- Every 16th row of a sequence together. -/
def lanes (a : FVec Ideal S4x2048x3x16x128 .f32) : FVec Ideal S4x16x128x6144 .bf16 :=
  truncf .bf16 (transpose S4x16x128x6144 [0, 2, 1, 3] (shapeCast _ a shapeCasts_S4x2048x3x16x128_S4x128x16x6144)
    transposes_S4x128x16x6144_S4x16x128x6144_0_2_1_3) bitsLt_bf16_f32

theorem queries_apply (p : FVec Ideal S8192x18432 .f32) (b : Fin 4) (n : Fin 2048) (h : Fin 16) (d : Fin 128) (R : Fin 8192)
    (hR : R.val = b.val * 2048 + n.val) : queries (split p) (ix4 b n h d) = p (ix2 R (colOf 2 0 h d)) := by
  pointwise [queries, split]
  refine congrArg p (congrArg₂ ix2 (Fin.ext ?_) (Fin.ext ?_))
  · simp; omega
  · simp [colOf]

theorem keys_apply (p : FVec Ideal S8192x18432 .f32) (b : Fin 4) (n : Fin 2048) (h : Fin 16) (d : Fin 128) (R : Fin 8192)
    (hR : R.val = b.val * 2048 + n.val) : keys (split p) (ix4 b n h d) = p (ix2 R (colOf 2 1 h d)) := by
  pointwise [keys, split]
  refine congrArg p (congrArg₂ ix2 (Fin.ext ?_) (Fin.ext ?_))
  · simp; omega
  · simp [colOf]

theorem values_apply (p : FVec Ideal S8192x18432 .f32) (b : Fin 4) (n : Fin 2048) (h : Fin 16) (d : Fin 128) (R : Fin 8192)
    (hR : R.val = b.val * 2048 + n.val) : values (split p) (ix4 b n h d) = p (ix2 R (colOf 2 2 h d)) := by
  pointwise [values, split]
  refine congrArg p (congrArg₂ ix2 (Fin.ext ?_) (Fin.ext ?_))
  · simp; omega
  · simp [colOf]

theorem lanes_apply (a : FVec Ideal S4x2048x3x16x128 .f32) (b : Fin 4) (r : Fin 16) (q : Fin 128) (K : Fin 6144) :
    lanes a (ix4 b r q K) = a (ix5 b ⟨q.val * 16 + r.val, by omega⟩ ⟨K.val / 2048, by omega⟩
      ⟨K.val % 2048 / 128, by omega⟩ ⟨K.val % 128, by omega⟩) := by
  pointwise [lanes]
  refine congrArg a ?_
  congr 1 <;> (refine Fin.ext ?_; simp <;> omega)

/-- The reference's keys and values, and with them the queries. -/
def kvs (x : FVec Ideal S8192x4096 .bf16) (w : FVec Ideal S1x4096x18432 .bf16) : FVec Ideal S4x2048x2x16x128 .f32 :=
  two (rope (keys (split (project x w))) (spread (Host.cos ang)) (spread (Host.sin ang))) (values (split (project x w)))
def qkvs (x : FVec Ideal S8192x4096 .bf16) (w : FVec Ideal S1x4096x18432 .bf16) : FVec Ideal S4x2048x3x16x128 .f32 :=
  three (rope (queries (split (project x w))) (spread (Host.cos ang)) (spread (Host.sin ang))) (kvs x w)

theorem kvs_apply (x : FVec Ideal S8192x4096 .bf16) (w : FVec Ideal S1x4096x18432 .bf16) (b : Fin 4) (n : Fin 2048) (h : Fin 16)
    (d : Fin 128) (e : Fin 2) (s : Fin 3) (hs : s.val = e.val + 1) (R : Fin 8192) (hR : R.val = b.val * 2048 + n.val) :
    kvs x w (ix5 b n e h d) = entryOf 2 x w s R h d := by
  have en : (⟨R.val % 2048, by omega⟩ : Fin 2048) = n := Fin.ext (by show R.val % 2048 = n.val; omega)
  unfold kvs entryOf
  rw [en]
  by_cases he : e.val = 0
  · obtain rfl : s = 1 := Fin.ext (by show s.val = 1; omega)
    rw [two_key _ _ _ _ _ _ _ he, rope_apply, if_pos (by decide)]
    simp only [keys_apply _ b n h _ R hR, project_apply, spread_apply]
    rfl
  · obtain rfl : s = 2 := Fin.ext (by show s.val = 2; omega)
    rw [two_value _ _ _ _ _ _ _ (by omega), values_apply _ b n h _ R hR, project_apply, if_neg (by decide)]

theorem qkvs_apply (x : FVec Ideal S8192x4096 .bf16) (w : FVec Ideal S1x4096x18432 .bf16) (b : Fin 4) (n : Fin 2048) (h : Fin 16)
    (d : Fin 128) (s : Fin 3) (R : Fin 8192) (hR : R.val = b.val * 2048 + n.val) :
    qkvs x w (ix5 b n s h d) = entryOf 2 x w s R h d := by
  unfold qkvs
  by_cases he : s.val = 0
  · have en : (⟨R.val % 2048, by omega⟩ : Fin 2048) = n := Fin.ext (by show R.val % 2048 = n.val; omega)
    obtain rfl : s = 0 := Fin.ext he
    unfold entryOf
    rw [three_query _ _ _ _ _ _ _ rfl, rope_apply, if_pos (by decide), en]
    simp only [queries_apply _ b n h _ R hR, project_apply, spread_apply]
    rfl
  · rw [three_rest _ _ _ _ _ _ s ⟨s.val - 1, by omega⟩ (by show s.val = s.val - 1 + 1; omega),
      kvs_apply x w b n h d _ s (by show s.val = s.val - 1 + 1; omega) R hR]

/-- The run's results are these steps. -/
theorem result_all (m : (ℓ : Loc nD τ sig) → Buf (Elt Ideal) ℓ) (c : Dev nD) :
    Cert.ReferenceQkv16Ideal.Value.res_main_v91 m c
      = lanes (qkvs (m ((c.tc : Thread nD τ).loc main_arg0)) (m ((c.tc : Thread nD τ).loc main_arg1))) := by
  unfold Cert.ReferenceQkv16Ideal.Value.res_main_v91
  rfl
theorem result_pair (m : (ℓ : Loc nD τ sig) → Buf (Elt Ideal) ℓ) (c : Dev nD) :
    Cert.ReferenceQkv16Ideal.Value.res_main_v92 m c
      = rows2 (kvs (m ((c.tc : Thread nD τ).loc main_arg0)) (m ((c.tc : Thread nD τ).loc main_arg1))) := by
  unfold Cert.ReferenceQkv16Ideal.Value.res_main_v92
  rfl

theorem all_value (x : FVec Ideal S8192x4096 .bf16) (w : FVec Ideal S1x4096x18432 .bf16) :
    lanes (qkvs x w) = Cert.KernelQkv16Ideal.Qkv.all x w := by
  funext y
  obtain ⟨b, r, q, K, rfl⟩ : ∃ (b : Fin 4) (r : Fin 16) (q : Fin 128) (K : Fin 6144), y = ix4 b r q K := ⟨y 0, y 1, y 2, y 3, eq_ix4 _⟩
  rw [lanes_apply, qkvs_apply x w _ _ _ _ _ ⟨b.val * 2048 + q.val * 16 + r.val, by omega⟩
    (by show b.val * 2048 + q.val * 16 + r.val = b.val * 2048 + (q.val * 16 + r.val); omega)]
  rfl

theorem pair_value (x : FVec Ideal S8192x4096 .bf16) (w : FVec Ideal S1x4096x18432 .bf16) :
    rows2 (kvs x w) = pairOf 2 x w := by
  funext y
  obtain ⟨R, K, rfl⟩ : ∃ (R : Fin 8192) (K : Fin 4096), y = ix2 R K := ⟨y 0, y 1, eq_ix2 _⟩
  rw [rows2_apply, kvs_apply x w _ _ _ _ _ ⟨K.val / 2048 + 1, by omega⟩ rfl R (by show R.val = R.val / 2048 * 2048 + R.val % 2048; omega)]
  rfl

end Cert.Qkv16Reference

end
-- ==== Proof.Qkv16Sum.lean ====
/- The projection of the queries, keys and values of the group of dilation 16 as a whole: the kernel and the reference end with equal results. -/
module

public import proofs.«01_k».proof.Proof.Qkv16Array
public import proofs.«01_k».proof.Proof.Qkv16Reference
public import Idealize.ShloMosaic.Lib.Claim
public import Idealize.ShloMosaic.Lib.Quiescent

@[expose] public section

set_option maxRecDepth 16384

noncomputable section

namespace Cert.Qkv16Sum

open Cert.KernelQkv16Ideal Cert.KernelQkv16Ideal.Gen Idealize.ShloMosaic Idealize.ShloMosaic.TcCoe Idealize.SL.Sem

/-- The reference runs, leaves its arguments alone, and has no semaphore to leave raised. -/
theorem frame_reference : Cert.quiescent_ReferenceQkv16Ideal := fun m ρ _ =>
  (θ_run Cert.ReferenceQkv16Ideal.defs _ _).mono (fun r h => ⟨fun c => (h c).2.2,
      Idealize.ShloMosaic.sem_eq_zero_of_no_sems (by decide) r.2⟩)
    (Cert.ReferenceQkv16Ideal.Value.run (F := Ideal) m ρ)

/-- The kernel's run, its results as functions of its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45_0) = Qkv.all (Qkv.xs m c) (Qkv.ws m c)
      ∧ r.2.mem ((c.tc : Thread nD τ).loc main_v45_1) = Cert.KernelQkvIdeal.Qkv.pairOf 2 (Qkv.xs m c) (Qkv.ws m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Qkv.value_all m c), (h c).2.1.trans (Qkv.value_pair m c), (h c).2.2⟩)
    (Cert.KernelQkv16Ideal.Value.run_blocks m ρ)

/-- The kernel and the reference end with equal results. -/
theorem algebraic : Cert.algebraic_KernelQkv16Ideal_ReferenceQkv16Ideal := by
  pair_intro
  · run_from kernel_run _ _
  · run_from Cert.ReferenceQkv16Ideal.Value.run _ _
    · rw [Qkv16Reference.result_all, (hagree c).1, (hagree c).2]
      exact Qkv16Reference.all_value _ _
    · rw [Qkv16Reference.result_pair, (hagree c).1, (hagree c).2]
      exact Qkv16Reference.pair_value _ _

end Cert.Qkv16Sum

end
-- ==== Proof.KvbRope.lean ====
/- Heads of 64 lanes: the tables of cosines and sines a call is given, the turn they make, and a tile finished with them. -/
module

public import proofs.«01_k».proof.Defs
public import proofs.«01_k».proof.Proof.Gen.KernelKvbIdeal.Value
public import proofs.«01_k».proof.Proof.QkvTile

@[expose] public section

set_option maxRecDepth 16384

noncomputable section

namespace Cert.KernelKvbIdeal.Kvb

open Cert.KernelKvbIdeal Cert.KernelKvbIdeal.Gen Idealize.ShloMosaic Idealize.ShloMosaic.TcCoe Idealize.SL.Sem
open Cert.KernelQkvIdeal.Qkv (lane)
open scoped BigOperators

/-- The angle of every position and frequency. -/
def ang : FVec Ideal S2048x8 .f32 :=
  mulf (broadcastInDim S2048x8 ![0, 1] bcast_S2048x1_S2048x8_0_1 (broadcastInDim S2048x1 ![0] bcast_S2048_S2048x1_0
      (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))

/-- A head's lanes turned: the first two eights of lanes are the two coordinates of eight points, the rest stay. -/
def turn (g : Fin 64 → EReal) (co si : Fin 8 → EReal) (l : Fin 64) : EReal :=
  if h : l.val < 8 then g l * co ⟨l.val, h⟩ - g ⟨l.val + 8, by omega⟩ * si ⟨l.val, h⟩
  else if h' : l.val < 16 then g l * co ⟨l.val - 8, by omega⟩ + g ⟨l.val - 8, by omega⟩ * si ⟨l.val - 8, by omega⟩
  else g l

/-- The cosines and sines of a row. -/
def cosAt (n : Fin 2048) (f : Fin 8) : EReal := Host.cos ang (ix2 n f)
def sinAt (n : Fin 2048) (f : Fin 8) : EReal := Host.sin ang (ix2 n f)

/-- Three blocks of lanes side by side. -/
def lanes (a b : FVec Ideal S2048x8 .f32) (z : FVec Ideal S2048x48 .f32) : FVec Ideal S2048x64 .f32 :=
  concatenate S2048x64 1 [⟨S2048x8, a⟩, ⟨S2048x8, b⟩, ⟨S2048x48, z⟩] concatenates_S2048x8_S2048x8_S2048x48_S2048x64_d1
/-- The same table for the two heads of 128 lanes. -/
def twice (a : FVec Ideal S2048x64 .f32) : FVec Ideal S2048x128 .f32 :=
  shapeCast _ (broadcastInDim S1x2048x2x64 ![0, 1, 2, 3] bcast_S1x2048x1x64_S1x2048x2x64_0_1_2_3
    (shapeCast _ a shapeCasts_S2048x64_S1x2048x1x64)) shapeCasts_S1x2048x2x64_S2048x128
/-- A table that turns, over one that does not. -/
def stack (a b : FVec Ideal S2048x128 .f32) : FVec Ideal S2x2048x128 .f32 :=
  concatenate S2x2048x128 0 [⟨S1x2048x128, broadcastInDim S1x2048x128 ![1, 2] bcast_S2048x128_S1x2048x128_1_2 a⟩,
    ⟨S1x2048x128, broadcastInDim S1x2048x128 ![1, 2] bcast_S2048x128_S1x2048x128_1_2 b⟩] concatenates_S1x2048x128_S1x2048x128_S2x2048x128_d0
/-- One number everywhere. -/
def flat (v : BitVec 32) : FVec Ideal S2048x128 .f32 := broadcastInDim S2048x128 ![] bcast_S_S2048x128 (constant S_ .f32 v)
def flat48 (v : BitVec 32) : FVec Ideal S2048x48 .f32 := broadcastInDim S2048x48 ![] bcast_S_S2048x48 (constant S_ .f32 v)
def flat8 (v : BitVec 32) : FVec Ideal S2048x8 .f32 := broadcastInDim S2048x8 ![] bcast_S_S2048x8 (constant S_ .f32 v)

theorem twice_apply (a : FVec Ideal S2048x64 .f32) (n : Fin 2048) (l : Fin 128) :
    twice a (ix2 n l) = a (ix2 n ⟨l.val % 64, Nat.mod_lt _ (by decide)⟩) := by
  pointwise [twice]
theorem stack_turn (a b : FVec Ideal S2048x128 .f32) (s : Fin 2) (n : Fin 2048) (l : Fin 128) (h : s.val = 0) :
    stack a b (ix3 s n l) = a (ix2 n l) := by
  pointwise [stack]
  simp [h]
theorem stack_stay (a b : FVec Ideal S2048x128 .f32) (s : Fin 2) (n : Fin 2048) (l : Fin 128) (h : s.val = 1) :
    stack a b (ix3 s n l) = b (ix2 n l) := by
  pointwise [stack]
  simp [h]
theorem flat_one (n : Fin 2048) (l : Fin 128) : flat 0x3F800000#32 (ix2 n l) = (1 : EReal) := by pointwise [flat]
theorem flat_zero (n : Fin 2048) (l : Fin 128) : flat 0x00000000#32 (ix2 n l) = (0 : EReal) := by pointwise [flat]
theorem flat48_one (n : Fin 2048) (l : Fin 48) : flat48 0x3F800000#32 (ix2 n l) = (1 : EReal) := by pointwise [flat48]
theorem flat48_zero (n : Fin 2048) (l : Fin 48) : flat48 0x00000000#32 (ix2 n l) = (0 : EReal) := by pointwise [flat48]
theorem flat8_zero (n : Fin 2048) (l : Fin 8) : flat8 0x00000000#32 (ix2 n l) = (0 : EReal) := by pointwise [flat8]
theorem lanes_first (a b : FVec Ideal S2048x8 .f32) (z : FVec Ideal S2048x48 .f32) (n : Fin 2048) (l : Fin 64) (f : Fin 8)
    (h : l.val = f.val) : lanes a b z (ix2 n l) = a (ix2 n f) := by
  pointwise [lanes]
  exact (dif_pos (by omega)).trans (congrArg a (congrArg₂ ix2 rfl (Fin.ext h)))
theorem lanes_second (a b : FVec Ideal S2048x8 .f32) (z : FVec Ideal S2048x48 .f32) (n : Fin 2048) (l : Fin 64) (f : Fin 8)
    (h : l.val = f.val + 8) : lanes a b z (ix2 n l) = b (ix2 n f) := by
  pointwise [lanes]
  exact (dif_neg (by omega)).trans ((dif_pos (by omega)).trans
    (congrArg b (congrArg₂ ix2 rfl (Fin.ext (by show l.val - 8 = f.val; omega)))))
theorem lanes_rest (a b : FVec Ideal S2048x8 .f32) (z : FVec Ideal S2048x48 .f32) (n : Fin 2048) (l : Fin 64) (f : Fin 48)
    (h : l.val = f.val + 16) : lanes a b z (ix2 n l) = z (ix2 n f) := by
  pointwise [lanes]
  exact (dif_neg (by omega)).trans ((dif_neg (by omega)).trans
    (congrArg z (congrArg₂ ix2 rfl (Fin.ext (by show l.val - 8 - 8 = f.val; omega)))))

/-- The three tables as the call is given them. -/
def tabC : FVec Ideal S2x2048x128 .f32 := stack (twice (lanes (Host.cos ang) (Host.cos ang) (flat48 0x3F800000#32))) (flat 0x3F800000#32)
def tabA : FVec Ideal S2x2048x128 .f32 :=
  stack (twice (lanes (Host.negf (Host.sin ang)) (flat8 0x00000000#32) (flat48 0x00000000#32))) (flat 0x00000000#32)
def tabB : FVec Ideal S2x2048x128 .f32 :=
  stack (twice (lanes (flat8 0x00000000#32) (Host.sin ang) (flat48 0x00000000#32))) (flat 0x00000000#32)

/-- A lane times its table entries, with the lanes eight on and eight back: the turn, or nothing. -/
def mixed (g : Fin 128 → EReal) (s : Fin 2) (n : Fin 2048) (l : Fin 128) : EReal :=
  g l * tabC (ix3 s n l) + g ⟨(l.val + 8) % 128, Nat.mod_lt _ (by decide)⟩ * tabA (ix3 s n l)
    + g ⟨(l.val + 120) % 128, Nat.mod_lt _ (by decide)⟩ * tabB (ix3 s n l)

theorem mixed_stay (g : Fin 128 → EReal) (s : Fin 2) (n : Fin 2048) (l : Fin 128) (h : s.val = 1) : mixed g s n l = g l := by
  unfold mixed tabC tabA tabB
  rw [stack_stay _ _ s n l h, stack_stay _ _ s n l h, stack_stay _ _ s n l h, flat_one, flat_zero, mul_one, mul_zero, mul_zero,
    add_zero, add_zero]

theorem mixed_turn (g : Fin 128 → EReal) (s : Fin 2) (n : Fin 2048) (l : Fin 128) (h : s.val = 0) (q : Fin 2) (d : Fin 64)
    (hl : l.val = q.val * 64 + d.val) :
    mixed g s n l = turn (fun e => g ⟨q.val * 64 + e.val, by omega⟩) (cosAt n) (sinAt n) d := by
  have ed : (⟨l.val % 64, Nat.mod_lt _ (by decide)⟩ : Fin 64) = d := Fin.ext (by show l.val % 64 = d.val; omega)
  have el : (⟨q.val * 64 + d.val, by omega⟩ : Fin 128) = l := Fin.ext hl.symm
  unfold mixed tabC tabA tabB turn
  rw [stack_turn _ _ s n l h, stack_turn _ _ s n l h, stack_turn _ _ s n l h, twice_apply, twice_apply, twice_apply, ed]
  by_cases h1 : d.val < 8
  · rw [dif_pos h1, lanes_first _ _ _ n d ⟨d.val, h1⟩ rfl, lanes_first _ _ _ n d ⟨d.val, h1⟩ rfl, lanes_first _ _ _ n d ⟨d.val, h1⟩ rfl,
      flat8_zero, mul_zero, add_zero,
      show (⟨(l.val + 8) % 128, Nat.mod_lt _ (by decide)⟩ : Fin 128) = ⟨q.val * 64 + (d.val + 8), by omega⟩ from
        Fin.ext (by show (l.val + 8) % 128 = q.val * 64 + (d.val + 8); omega)]
    beta_reduce
    rw [el]
    show _ + _ * -(sinAt n ⟨d.val, h1⟩) = _
    rw [mul_neg, sub_eq_add_neg]
    rfl
  · rw [dif_neg h1]
    by_cases h2 : d.val < 16
    · rw [dif_pos h2, lanes_second _ _ _ n d ⟨d.val - 8, by omega⟩ (by show d.val = d.val - 8 + 8; omega),
        lanes_second _ _ _ n d ⟨d.val - 8, by omega⟩ (by show d.val = d.val - 8 + 8; omega),
        lanes_second _ _ _ n d ⟨d.val - 8, by omega⟩ (by show d.val = d.val - 8 + 8; omega),
        flat8_zero, mul_zero, add_zero,
        show (⟨(l.val + 120) % 128, Nat.mod_lt _ (by decide)⟩ : Fin 128) = ⟨q.val * 64 + (d.val - 8), by omega⟩ from
          Fin.ext (by show (l.val + 120) % 128 = q.val * 64 + (d.val - 8); omega)]
      beta_reduce
      rw [el]
      rfl
    · rw [dif_neg h2, lanes_rest _ _ _ n d ⟨d.val - 16, by omega⟩ (by show d.val = d.val - 16 + 16; omega),
        lanes_rest _ _ _ n d ⟨d.val - 16, by omega⟩ (by show d.val = d.val - 16 + 16; omega),
        lanes_rest _ _ _ n d ⟨d.val - 16, by omega⟩ (by show d.val = d.val - 16 + 16; omega),
        flat48_one, flat48_zero, mul_one, mul_zero, mul_zero, add_zero, add_zero]
      beta_reduce
      rw [el]

/-- Two heads' lanes with the tables. -/
def mix (a : Vec Ideal S1024x128 .f32) (tc ta tb : Vec Ideal S1x1024x128 .f32) : FVec Ideal S1024x128 .f32 :=
  addf (addf (mulf a (shapeCast S1024x128 tc shapeCasts_S1x1024x128_S1024x128))
      (mulf (dynamicRotate 1 120#32 none a rotates_S1024x128_d1) (shapeCast S1024x128 ta shapeCasts_S1x1024x128_S1024x128)))
    (mulf (dynamicRotate 1 8#32 none a rotates_S1024x128_d1) (shapeCast S1024x128 tb shapeCasts_S1x1024x128_S1024x128))

theorem mix_apply (a : FVec Ideal S1024x128 .f32) (tc ta tb : FVec Ideal S1x1024x128 .f32) (r : Fin 1024) (l : Fin 128) :
    mix a tc ta tb (ix2 r l) = a (ix2 r l) * tc (ix3 0 r l)
      + a (ix2 r ⟨(l.val + 8) % 128, Nat.mod_lt _ (by decide)⟩) * ta (ix3 0 r l)
      + a (ix2 r ⟨(l.val + 120) % 128, Nat.mod_lt _ (by decide)⟩) * tb (ix3 0 r l) := by
  pointwise [mix]
  rw [show (⟨(l.val + 128 - 120) % 128, Nat.mod_lt _ (by decide)⟩ : Fin 128) = ⟨(l.val + 8) % 128, Nat.mod_lt _ (by decide)⟩ from
      Fin.ext (by show (l.val + 128 - 120) % 128 = (l.val + 8) % 128; omega),
    show (⟨(l.val + 128 - 8) % 128, Nat.mod_lt _ (by decide)⟩ : Fin 128) = ⟨(l.val + 120) % 128, Nat.mod_lt _ (by decide)⟩ from
      Fin.ext (by show (l.val + 128 - 8) % 128 = (l.val + 120) % 128; omega)]

/-- A tile's lanes with the tables, read at lane `l` of the `p`th 128 of row `r`. -/
def mixAt (a : FVec Ideal S1024x512 .f32) (tc ta tb : FVec Ideal S1x1024x128 .f32) (r : Fin 1024) (p : Fin 4) (l : Fin 128) : EReal :=
  a (ix2 r (lane p l)) * tc (ix3 0 r l)
    + a (ix2 r (lane p ⟨(l.val + 8) % 128, Nat.mod_lt _ (by decide)⟩)) * ta (ix3 0 r l)
    + a (ix2 r (lane p ⟨(l.val + 120) % 128, Nat.mod_lt _ (by decide)⟩)) * tb (ix3 0 r l)

/-- The same as a tile. -/
def mixed4 (a : FVec Ideal S1024x512 .f32) (tc ta tb : FVec Ideal S1x1024x128 .f32) : S1024x512.Idx → EReal := fun y =>
  mixAt a tc ta tb ⟨(y 0).val, (y 0).isLt⟩ ⟨(y 1).val / 128, Nat.div_lt_of_lt_mul (y 1).isLt⟩ ⟨(y 1).val % 128, Nat.mod_lt _ (by decide)⟩

theorem mix_head (a : Vec Ideal S1024x512 .f32) (tc ta tb : Vec Ideal S1x1024x128 .f32) (p : Fin 4) (o : ℕ) (ho : o = p.val * 128)
    (inb : ∀ i, (![0, o] : Fin 2 → ℕ) i + (![1024, 128] : Fin 2 → ℕ) i ≤ S1024x512.size i)
    (x : S1024x128.Idx) (y : S1024x512.Idx) (h0 : (y 0).val = (x 0).val) (h1 : (y 1).val = o + (x 1).val) :
    mix (View.ld a (Rect.unit ![0, o] ![1024, 128] inb)) tc ta tb x = mixed4 a tc ta tb y := by
  have hx1 : (x 1).val < 128 := (x 1).isLt
  obtain ⟨r, l, rfl⟩ : ∃ (r : Fin 1024) (l : Fin 128), x = ix2 r l := ⟨x 0, x 1, eq_ix2 _⟩
  change (y 0).val = r.val at h0
  change (y 1).val = o + l.val at h1
  have hk : ∀ l : Fin 128, View.ld a (Rect.unit ![0, o] ![1024, 128] inb) (ix2 r l) = a (ix2 r (lane p l)) := fun l => by
    refine View.ld_unit_apply_of _ _ _ _ _ _ fun i => ?_
    match i with
    | ⟨0, _⟩ => show r.val = 0 + r.val; omega
    | ⟨1, _⟩ => show p.val * 128 + l.val = o + l.val; omega
  rw [mix_apply, hk, hk, hk]
  unfold mixed4
  have e0 : (⟨(y 0).val, (y 0).isLt⟩ : Fin 1024) = r := Fin.ext h0
  have e1 : (⟨(y 1).val / 128, Nat.div_lt_of_lt_mul (y 1).isLt⟩ : Fin 4) = p := Fin.ext (by show (y 1).val / 128 = p.val; omega)
  have e2 : (⟨(y 1).val % 128, Nat.mod_lt _ (by decide)⟩ : Fin 128) = l := Fin.ext (by show (y 1).val % 128 = l.val; omega)
  rw [e0, e1, e2]
  rfl

end Cert.KernelKvbIdeal.Kvb

end
-- ==== Proof.KvbArray.lean ====
/- The projection of the other attention's keys and values: a tile as one grid point leaves it and the next writes it out, and the result after the run. -/
module

public import proofs.«01_k».proof.Proof.Gen.KernelKvbIdeal.Value
public import proofs.«01_k».proof.Proof.KvbRope
public import Idealize.ShloMosaic.Lib.StableHlo.RunRead

@[expose] public section

set_option maxRecDepth 16384

noncomputable section

namespace Cert.KernelKvbIdeal.Kvb

open Cert.KernelKvbIdeal Cert.KernelKvbIdeal.Gen Idealize.ShloMosaic Idealize.ShloMosaic.TcCoe Idealize.SL.Sem
open Cert.KernelQkvIdeal.Qkv (dot dot_apply lane)
open scoped BigOperators

variable (m : (ℓ : Loc nD τ sig) → Buf (Elt Ideal) ℓ)

/-- The weight's column of lane `d` of head `h` of part `s`. -/
def col (s : Fin 2) (h : Fin 8) (d : Fin 64) : Fin 1024 := ⟨s.val * 512 + h.val * 64 + d.val, by omega⟩

/-- A row times a column. -/
def prod (x : FVec Ideal S8192x4096 .bf16) (w : FVec Ideal S1x4096x1024 .bf16) (R : Fin 8192) (C : Fin 1024) : EReal :=
  ∑ k : Fin 4096, x (ix2 R k) * w (ix3 0 k C)

/-- Lane `d` of head `h` of part `s` of row `R`: part 0 is turned. -/
def entry (x : FVec Ideal S8192x4096 .bf16) (w : FVec Ideal S1x4096x1024 .bf16) (s : Fin 2) (R : Fin 8192) (h : Fin 8)
    (d : Fin 64) : EReal :=
  if s.val < 1 then turn (fun l => prod x w R (col s h l)) (cosAt ⟨R.val % 2048, by omega⟩) (sinAt ⟨R.val % 2048, by omega⟩) d
  else prod x w R (col s h d)

/-- The whole result. -/
def all (x : FVec Ideal S8192x4096 .bf16) (w : FVec Ideal S1x4096x1024 .bf16) : FVec Ideal S8192x1024 .f32 := fun y =>
  entry x w ⟨(y 1).val / 512, Nat.div_lt_of_lt_mul (y 1).isLt⟩ ⟨(y 0).val, (y 0).isLt⟩
    ⟨(y 1).val % 512 / 64, Nat.div_lt_of_lt_mul (Nat.mod_lt _ (by decide))⟩ ⟨(y 1).val % 64, Nat.mod_lt _ (by decide)⟩

set_option maxHeartbeats 4000000 in
/-- What an even point leaves. -/
theorem left_even (c : Dev nD) (t : Fin cfg0.N) (h : t.val % 2 = 0) :
    (outsAt0 m c t.val t.isLt).2.1 = dot (iblk m c 0 t) (iblk m c 1 t) := by
  funext y
  by_cases h0 : t.val % 17 = 0
  · rw [outsAt0_A m c t h0 h (by omega)]
    frame_out
    unfold k0_pay4 dot
    rfl
  · rw [outsAt0_C m c t h0 h (by omega)]
    frame_out
    unfold k0_pay4 dot
    rfl

set_option maxHeartbeats 4000000 in
/-- What an odd point leaves. -/
theorem left_odd (c : Dev nD) (t : Fin cfg0.N) (h : t.val % 2 = 1) :
    (outsAt0 m c t.val t.isLt).2.2 = dot (iblk m c 0 t) (iblk m c 1 t) := by
  have ht : t.val < 17 := lt_of_lt_of_le t.isLt (le_of_eq (by decide))
  funext y
  rw [outsAt0_B m c t (by omega) (by omega) h]
  frame_out
  unfold k0_pay12 dot
  rfl

set_option maxHeartbeats 4000000 in
/-- What an odd point writes: the tile left before it, with the tables. -/
theorem all_odd (c : Dev nD) (t : Fin cfg0.N) (h : t.val % 2 = 1) (y : S1024x512.Idx) :
    (outsAt0 m c t.val t.isLt).1 y = mixed4 (outsAt0 m c (t.val - 1) (Nat.lt_of_le_of_lt (Nat.sub_le _ _) t.isLt)).2.1
      (iblk m c 2 t) (iblk m c 3 t) (iblk m c 4 t) y := by
  have ht : t.val < 17 := lt_of_lt_of_le t.isLt (le_of_eq (by decide))
  rw [outsAt0_B m c t (by omega) (by omega) h]
  frame_out
  canon_tiles x hy
  case piece0 =>
    have e := mix_head (outsAt0 m c (t.val - 1) (Nat.lt_of_le_of_lt (Nat.sub_le _ _) t.isLt)).2.1
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.1
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.1
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.1
      (iblk m c 2 t) (iblk m c 3 t) (iblk m c 4 t) 0 0 rfl (by decide) x y hy0 (by omega)
    repeat erw [Memref.IsWhole.read_unread]
    open_payloads
    unfold mix at e
    exact e

set_option maxHeartbeats 4000000 in
/-- What an even point writes: the tile left before it, with the tables. -/
theorem all_even (c : Dev nD) (t : Fin cfg0.N) (h1 : 1 ≤ t.val) (h : t.val % 2 = 0) (y : S1024x512.Idx) :
    (outsAt0 m c t.val t.isLt).1 y = mixed4 (outsAt0 m c (t.val - 1) (Nat.lt_of_le_of_lt (Nat.sub_le _ _) t.isLt)).2.2
      (iblk m c 2 t) (iblk m c 3 t) (iblk m c 4 t) y := by
  have ht : t.val < 17 := lt_of_lt_of_le t.isLt (le_of_eq (by decide))
  rw [outsAt0_C m c t (by omega) h (by omega)]
  frame_out
  canon_tiles x hy
  case piece0 =>
    have e := mix_head (outsAt0 m c (t.val - 1) (Nat.lt_of_le_of_lt (Nat.sub_le _ _) t.isLt)).2.2
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2
      (iblk m c 2 t) (iblk m c 3 t) (iblk m c 4 t) 0 0 rfl (by decide) x y hy0 (by omega)
    repeat erw [Memref.IsWhole.read_unread]
    open_payloads
    unfold mix at e
    exact e

/-- Device `c`'s two arguments. -/
abbrev xs (c : Dev nD) : FVec Ideal S8192x4096 .bf16 := m ((c : Thread nD τ).loc main_arg0)
abbrev ws (c : Dev nD) : FVec Ideal S1x4096x1024 .bf16 := m ((c : Thread nD τ).loc main_arg1)

/-- Which blocks point `t` multiplies, -/
theorem mul_facts : ∀ t : Fin cfg0.N, t.val < 16 →
    (win0_0.index t (0 : Fin 2) = t.val / 2 ∧ win0_0.index t (1 : Fin 2) = 0)
    ∧ (win0_1.index t (0 : Fin 3) = 0 ∧ win0_1.index t (1 : Fin 3) = 0
      ∧ win0_1.index t (2 : Fin 3) = t.val % 2) :=
  (by decide +kernel : ∀ t : Fin grid0.N, _)

/-- with which rows of the tables it finishes the tile before it, -/
theorem table_facts : ∀ t : Fin cfg0.N, 1 ≤ t.val →
    (win0_2.index t (0 : Fin 3) = (if (t.val - 1) % 2 < 1 then 0 else 1) ∧ win0_2.index t (1 : Fin 3) = (t.val - 1) / 2 % 2
      ∧ win0_2.index t (2 : Fin 3) = 0)
    ∧ (win0_3.index t (0 : Fin 3) = (if (t.val - 1) % 2 < 1 then 0 else 1) ∧ win0_3.index t (1 : Fin 3) = (t.val - 1) / 2 % 2
      ∧ win0_3.index t (2 : Fin 3) = 0)
    ∧ (win0_4.index t (0 : Fin 3) = (if (t.val - 1) % 2 < 1 then 0 else 1) ∧ win0_4.index t (1 : Fin 3) = (t.val - 1) / 2 % 2
      ∧ win0_4.index t (2 : Fin 3) = 0) :=
  (by decide +kernel : ∀ t : Fin grid0.N, _)

/-- and where it writes it. -/
theorem out_facts : ∀ t : Fin cfg0.N, 1 ≤ t.val →
    win0_5.index t (0 : Fin 2) = (t.val - 1) / 2 ∧ win0_5.index t (1 : Fin 2) = (t.val - 1) % 2 :=
  (by decide +kernel : ∀ t : Fin grid0.N, _)

/-- The result is written back from the second point on. -/
theorem flush_5 : ∀ t : Fin cfg0.N, (cfg0.win 5).flush t = true → 1 ≤ t.val := (by decide +kernel : ∀ t : Fin grid0.N, _)

theorem x_apply (c : Dev nD) (t : Fin cfg0.N) (h : t.val < 16) (r : Fin 1024) (k : Fin 4096) (R : Fin 8192)
    (hR : R.val = t.val / 2 * 1024 + r.val) : iblk m c 0 t (ix2 r k) = xs m c (ix2 R k) := by
  obtain ⟨⟨e0, e1⟩, -⟩ := mul_facts t h
  unfold xs
  rw [← V_main_arg0 m c]
  show V m c main_arg0 (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 4096 + 1 * k.val = k.val; rw [e1]; omega

theorem w_apply (c : Dev nD) (t : Fin cfg0.N) (h : t.val < 16) (k : Fin 4096) (l : Fin 512) (K : Fin 1024)
    (hK : K.val = (t.val % 2) * 512 + l.val) : iblk m c 1 t (ix3 0 k l) = ws m c (ix3 0 k K) := by
  obtain ⟨-, e0, e1, e2⟩ := mul_facts t h
  unfold ws
  rw [← V_main_arg1 m c]
  show V m c main_arg1 (((cfg0.win 1).blk t).view.emb (ix3 0 k l)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * l.val = K.val; rw [e2]; omega

set_option maxHeartbeats 4000000 in
/-- The tables are those built above. -/
theorem V_cos (c : Dev nD) : (V m c main_v36 : Vec Ideal S2x2048x128 .f32) = tabC := by
  unfold_abbrev_sides
  after_reads_simp
  rfl
set_option maxHeartbeats 4000000 in
theorem V_neg (c : Dev nD) : (V m c main_v40 : Vec Ideal S2x2048x128 .f32) = tabA := by
  unfold_abbrev_sides
  after_reads_simp
  rfl
set_option maxHeartbeats 4000000 in
theorem V_sin (c : Dev nD) : (V m c main_v44 : Vec Ideal S2x2048x128 .f32) = tabB := by
  unfold_abbrev_sides
  after_reads_simp
  rfl

/-- The tables' rows at a point. -/
theorem cos_block (c : Dev nD) (t : Fin cfg0.N) (ht : 1 ≤ t.val) (r : Fin 1024) (l : Fin 128) (s : Fin 2) (n : Fin 2048)
    (hs : s.val = if (t.val - 1) % 2 < 1 then 0 else 1) (hn : n.val = (t.val - 1) / 2 % 2 * 1024 + r.val) :
    iblk m c 2 t (ix3 0 r l) = tabC (ix3 s n l) := by
  obtain ⟨⟨e0, e1, e2⟩, -⟩ := table_facts t ht
  rw [← V_cos m c]
  show (V m c main_v36 : Vec Ideal S2x2048x128 .f32) (((cfg0.win 2).blk t).view.emb (ix3 0 r l)) = _
  refine congrArg _ (funext fun a => Fin.ext ?_)
  match a with
  | ⟨0, _⟩ => show win0_2.index t (0 : Fin 3) * 1 + 1 * 0 = s.val; rw [e0]; omega
  | ⟨1, _⟩ => show win0_2.index t (1 : Fin 3) * 1024 + 1 * r.val = n.val; rw [e1]; omega
  | ⟨2, _⟩ => show win0_2.index t (2 : Fin 3) * 128 + 1 * l.val = l.val; rw [e2]; omega
theorem neg_block (c : Dev nD) (t : Fin cfg0.N) (ht : 1 ≤ t.val) (r : Fin 1024) (l : Fin 128) (s : Fin 2) (n : Fin 2048)
    (hs : s.val = if (t.val - 1) % 2 < 1 then 0 else 1) (hn : n.val = (t.val - 1) / 2 % 2 * 1024 + r.val) :
    iblk m c 3 t (ix3 0 r l) = tabA (ix3 s n l) := by
  obtain ⟨-, ⟨e0, e1, e2⟩, -⟩ := table_facts t ht
  rw [← V_neg m c]
  show (V m c main_v40 : Vec Ideal S2x2048x128 .f32) (((cfg0.win 3).blk t).view.emb (ix3 0 r l)) = _
  refine congrArg _ (funext fun a => Fin.ext ?_)
  match a with
  | ⟨0, _⟩ => show win0_3.index t (0 : Fin 3) * 1 + 1 * 0 = s.val; rw [e0]; omega
  | ⟨1, _⟩ => show win0_3.index t (1 : Fin 3) * 1024 + 1 * r.val = n.val; rw [e1]; omega
  | ⟨2, _⟩ => show win0_3.index t (2 : Fin 3) * 128 + 1 * l.val = l.val; rw [e2]; omega
theorem sin_block (c : Dev nD) (t : Fin cfg0.N) (ht : 1 ≤ t.val) (r : Fin 1024) (l : Fin 128) (s : Fin 2) (n : Fin 2048)
    (hs : s.val = if (t.val - 1) % 2 < 1 then 0 else 1) (hn : n.val = (t.val - 1) / 2 % 2 * 1024 + r.val) :
    iblk m c 4 t (ix3 0 r l) = tabB (ix3 s n l) := by
  obtain ⟨-, -, e0, e1, e2⟩ := table_facts t ht
  rw [← V_sin m c]
  show (V m c main_v44 : Vec Ideal S2x2048x128 .f32) (((cfg0.win 4).blk t).view.emb (ix3 0 r l)) = _
  refine congrArg _ (funext fun a => Fin.ext ?_)
  match a with
  | ⟨0, _⟩ => show win0_4.index t (0 : Fin 3) * 1 + 1 * 0 = s.val; rw [e0]; omega
  | ⟨1, _⟩ => show win0_4.index t (1 : Fin 3) * 1024 + 1 * r.val = n.val; rw [e1]; omega
  | ⟨2, _⟩ => show win0_4.index t (2 : Fin 3) * 128 + 1 * l.val = l.val; rw [e2]; omega

/-- A tile's product, read at a head's lane. -/
theorem dot_block (c : Dev nD) (t : Fin cfg0.N) (h : t.val < 16) (r : Fin 1024) (p : Fin 4) (l : Fin 128) (R : Fin 8192) (C : Fin 1024)
    (hR : R.val = t.val / 2 * 1024 + r.val) (hC : C.val = t.val % 2 * 512 + p.val * 128 + l.val) :
    dot (iblk m c 0 t) (iblk m c 1 t) (ix2 r (lane p l)) = prod (xs m c) (ws m c) R C := by
  rw [dot_apply]
  unfold prod
  exact Finset.sum_congr rfl fun k _ => congrArg₂ (· * ·) (x_apply m c t h r k R hR)
    (w_apply m c t h k (lane p l) C (by show C.val = t.val % 2 * 512 + (p.val * 128 + l.val); omega))

/-- The tile finished at a point, read at a head's lane. -/
theorem tile_value (c : Dev nD) (t t' : Fin cfg0.N) (ht : t.val = t'.val + 1) (a : FVec Ideal S1024x512 .f32)
    (ha : a = dot (iblk m c 0 t') (iblk m c 1 t')) (r : Fin 1024) (p : Fin 4) (l : Fin 128) (R : Fin 8192) (s : Fin 2) (hd : Fin 8) (d : Fin 64)
    (hR : R.val = t'.val / 2 * 1024 + r.val) (hs : s.val = t'.val % 2 / 1) (hh : hd.val = t'.val % 2 % 1 * 8 + p.val * 2 + l.val / 64)
    (hd' : d.val = l.val % 64) :
    mixAt a (iblk m c 2 t) (iblk m c 3 t) (iblk m c 4 t) r p l = entry (xs m c) (ws m c) s R hd d := by
  subst ha
  have hN : t.val < 17 := lt_of_lt_of_eq t.isLt N_0
  have h1 : 1 ≤ t.val := by omega
  have e : t.val - 1 = t'.val := by omega
  have hn : (⟨R.val % 2048, by omega⟩ : Fin 2048).val = (t.val - 1) / 2 % 2 * 1024 + r.val := by
    show R.val % 2048 = _; rw [e]; omega
  have hg : ∀ l' : Fin 128, dot (iblk m c 0 t') (iblk m c 1 t') (ix2 r (lane p l')) = prod (xs m c) (ws m c) R
      ⟨t'.val % 2 * 512 + p.val * 128 + l'.val, by omega⟩ := fun l' => dot_block m c t' (by omega) r p l' R _ hR rfl
  by_cases h8 : t'.val % 2 < 1
  · have hz : (0 : Fin 2).val = if (t.val - 1) % 2 < 1 then 0 else 1 := by rw [e, if_pos h8]; rfl
    unfold mixAt entry
    rw [cos_block m c t h1 r l 0 _ hz hn, neg_block m c t h1 r l 0 _ hz hn, sin_block m c t h1 r l 0 _ hz hn, hg, hg, hg, if_pos (by omega)]
    refine (mixed_turn (fun l' => prod (xs m c) (ws m c) R ⟨t'.val % 2 * 512 + p.val * 128 + l'.val, by omega⟩) 0 _ l rfl
      ⟨l.val / 64, by omega⟩ d (by show l.val = l.val / 64 * 64 + d.val; omega)).trans ?_
    refine congrArg (fun f => turn f _ _ d) (funext fun e => congrArg (prod (xs m c) (ws m c) R) (Fin.ext ?_))
    show t'.val % 2 * 512 + p.val * 128 + (l.val / 64 * 64 + e.val) = s.val * 512 + hd.val * 64 + e.val
    omega
  · have hz : (1 : Fin 2).val = if (t.val - 1) % 2 < 1 then 0 else 1 := by rw [e, if_neg h8]; rfl
    unfold mixAt entry
    rw [cos_block m c t h1 r l 1 _ hz hn, neg_block m c t h1 r l 1 _ hz hn, sin_block m c t h1 r l 1 _ hz hn, hg, hg, hg, if_neg (by omega)]
    refine (mixed_stay (fun l' => prod (xs m c) (ws m c) R ⟨t'.val % 2 * 512 + p.val * 128 + l'.val, by omega⟩) 1 _ l rfl).trans ?_
    refine congrArg (prod (xs m c) (ws m c) R) (Fin.ext ?_)
    show t'.val % 2 * 512 + p.val * 128 + l.val = s.val * 512 + hd.val * 64 + d.val
    omega

/-- The block a point leaves. -/
theorem block_all (c : Dev nD) (t : Fin cfg0.N) (h1 : 1 ≤ t.val) (r : Fin 1024) (k : Fin 512) (R : Fin 8192) (s : Fin 2) (hd : Fin 8) (d : Fin 64)
    (hR : R.val = (t.val - 1) / 2 * 1024 + r.val) (hs : s.val = (t.val - 1) % 2 / 1) (hh : hd.val = (t.val - 1) % 2 % 1 * 8 + k.val / 64)
    (hd' : d.val = k.val % 64) : (outsAt0 m c t.val t.isLt).1 (ix2 r k) = entry (xs m c) (ws m c) s R hd d := by
  have hl : t.val - 1 < cfg0.N := Nat.lt_of_le_of_lt (Nat.sub_le _ _) t.isLt
  by_cases h : t.val % 2 = 1
  · rw [all_odd m c t h]
    exact tile_value m c t ⟨t.val - 1, hl⟩ (by show t.val = t.val - 1 + 1; omega) _
      (left_even m c ⟨t.val - 1, hl⟩ (by show (t.val - 1) % 2 = 0; omega)) r ⟨k.val / 128, by omega⟩ ⟨k.val % 128, by omega⟩ R s hd d hR hs
      (by show hd.val = (t.val - 1) % 2 % 1 * 8 + k.val / 128 * 2 + k.val % 128 / 64; omega) (by show d.val = k.val % 128 % 64; omega)
  · rw [all_even m c t h1 (by omega)]
    exact tile_value m c t ⟨t.val - 1, hl⟩ (by show t.val = t.val - 1 + 1; omega) _
      (left_odd m c ⟨t.val - 1, hl⟩ (by show (t.val - 1) % 2 = 1; omega)) r ⟨k.val / 128, by omega⟩ ⟨k.val % 128, by omega⟩ R s hd d hR hs
      (by show hd.val = (t.val - 1) % 2 % 1 * 8 + k.val / 128 * 2 + k.val % 128 / 64; omega) (by show d.val = k.val % 128 % 64; omega)

/-- The result the run leaves. -/
theorem value_all (c : Dev nD) : (dats m 0 c).arrAt 5 cfg0.N = all (xs m c) (ws m c) := by
  refine (dats m 0 c).arrAt_eq_of_covers 5 _ (by decide +kernel) fun t hf y => ?_
  have ht := flush_5 t hf
  blk_simp
  rw [after0_5]
  obtain ⟨e0, e1⟩ := out_facts t ht
  obtain ⟨r, k, rfl⟩ : ∃ (r : Fin 1024) (k : Fin 512), y = ix2 r k := ⟨y 0, y 1, eq_ix2 _⟩
  have hy0 : (((cfg0.win 5).blk t).view.emb (ix2 r k) 0).val = (t.val - 1) / 2 * 1024 + r.val := by
    show win0_5.index t (0 : Fin 2) * 1024 + 1 * r.val = _; rw [e0]; omega
  have hy1 : (((cfg0.win 5).blk t).view.emb (ix2 r k) 1).val = (t.val - 1) % 2 * 512 + k.val := by
    show win0_5.index t (1 : Fin 2) * 512 + 1 * k.val = _; rw [e1]; omega
  refine block_all m c t ht r k _ _ _ _ hy0 ?_ ?_ ?_
  · show (((cfg0.win 5).blk t).view.emb (ix2 r k) 1).val / 512 = _; rw [hy1]; omega
  · show (((cfg0.win 5).blk t).view.emb (ix2 r k) 1).val % 512 / 64 = _; rw [hy1]; omega
  · show (((cfg0.win 5).blk t).view.emb (ix2 r k) 1).val % 64 = _; rw [hy1]; omega

end Cert.KernelKvbIdeal.Kvb

end
-- ==== Proof.KvbReference.lean ====
/- The reference of the projection of the other attention's keys and values, step by step, each step read at an index. -/
module

public import proofs.«01_k».proof.Proof.Gen.ReferenceKvbIdeal.Run
public import proofs.«01_k».proof.Proof.KvbArray

@[expose] public section

set_option maxRecDepth 16384

noncomputable section

namespace Cert.KvbReference

open Cert.ReferenceKvbIdeal Cert.ReferenceKvbIdeal.Gen Idealize.ShloMosaic Idealize.ShloMosaic.TcCoe Idealize.SL.Sem
open Cert.KernelKvbIdeal.Kvb (ang turn col prod cosAt sinAt entry)
open scoped BigOperators

/-- The projection of every row. -/
def project (x : FVec Ideal S8192x4096 .bf16) (w : FVec Ideal S1x4096x1024 .bf16) : FVec Ideal S8192x1024 .f32 :=
  Host.dotGeneral dot_S8192x4096_S4096x1024_S8192x1024_1_0_0_1_n_n none (extf .f32 x bitsLt_bf16_f32)
    (extf .f32 (shapeCast _ w shapeCasts_S1x4096x1024_S4096x1024) bitsLt_bf16_f32)
/-- By sequence, part and head. -/
def split (p : FVec Ideal S8192x1024 .f32) : FVec Ideal S4x2048x2x8x64 .f32 :=
  shapeCast _ p shapeCasts_S8192x1024_S4x2048x2x8x64
/-- The keys, the values. -/
def keys (q : FVec Ideal S4x2048x2x8x64 .f32) : FVec Ideal S4x2048x8x64 .f32 :=
  shapeCast _ (extractStridedSlice S4x2048x1x8x64 ![0, 0, 0, 0, 0] q slices_S4x2048x2x8x64_S4x2048x1x8x64_0_0_0_0_0)
    shapeCasts_S4x2048x1x8x64_S4x2048x8x64
def values (q : FVec Ideal S4x2048x2x8x64 .f32) : FVec Ideal S4x2048x8x64 .f32 :=
  shapeCast _ (extractStridedSlice S4x2048x1x8x64 ![0, 0, 1, 0, 0] q slices_S4x2048x2x8x64_S4x2048x1x8x64_0_0_1_0_0)
    shapeCasts_S4x2048x1x8x64_S4x2048x8x64
/-- A row of cosines or sines, for every sequence and head. -/
def spread (t : FVec Ideal S2048x8 .f32) : FVec Ideal S4x2048x8x8 .f32 :=
  broadcastInDim S4x2048x8x8 ![0, 1, 2, 3] bcast_S1x2048x1x8_S4x2048x8x8_0_1_2_3
    (broadcastInDim S1x2048x1x8 ![1, 2, 3] bcast_S2048x1x8_S1x2048x1x8_1_2_3 (shapeCast _ t shapeCasts_S2048x8_S2048x1x8))
/-- The lanes turned. -/
def rope (h : FVec Ideal S4x2048x8x64 .f32) (co si : FVec Ideal S4x2048x8x8 .f32) : FVec Ideal S4x2048x8x64 .f32 :=
  concatenate S4x2048x8x64 3 [⟨S4x2048x8x8, (subf
      (mulf (extractStridedSlice S4x2048x8x8 ![0, 0, 0, 0] h slices_S4x2048x8x64_S4x2048x8x8_0_0_0_0) co)
      (mulf (extractStridedSlice S4x2048x8x8 ![0, 0, 0, 8] h slices_S4x2048x8x64_S4x2048x8x8_0_0_0_8) si))⟩,
    ⟨S4x2048x8x8, (addf
      (mulf (extractStridedSlice S4x2048x8x8 ![0, 0, 0, 8] h slices_S4x2048x8x64_S4x2048x8x8_0_0_0_8) co)
      (mulf (extractStridedSlice S4x2048x8x8 ![0, 0, 0, 0] h slices_S4x2048x8x64_S4x2048x8x8_0_0_0_0) si))⟩,
    ⟨S4x2048x8x48, (extractStridedSlice S4x2048x8x48 ![0, 0, 0, 16] h slices_S4x2048x8x64_S4x2048x8x48_0_0_0_16)⟩]
    concatenates_S4x2048x8x8_S4x2048x8x8_S4x2048x8x48_S4x2048x8x64_d3
/-- The keys beside the values. -/
def two (k v : FVec Ideal S4x2048x8x64 .f32) : FVec Ideal S4x2048x2x8x64 .f32 :=
  concatenate S4x2048x2x8x64 2 [⟨S4x2048x1x8x64, (broadcastInDim S4x2048x1x8x64 ![0, 1, 3, 4] bcast_S4x2048x8x64_S4x2048x1x8x64_0_1_3_4 k)⟩,
    ⟨S4x2048x1x8x64, (broadcastInDim S4x2048x1x8x64 ![0, 1, 3, 4] bcast_S4x2048x8x64_S4x2048x1x8x64_0_1_3_4 v)⟩]
    concatenates_S4x2048x1x8x64_S4x2048x1x8x64_S4x2048x2x8x64_d2
/-- Rows counted through. -/
def rows (a : FVec Ideal S4x2048x2x8x64 .f32) : FVec Ideal S8192x1024 .f32 :=
  shapeCast _ a shapeCasts_S4x2048x2x8x64_S8192x1024

theorem project_apply (x : FVec Ideal S8192x4096 .bf16) (w : FVec Ideal S1x4096x1024 .bf16) (R : Fin 8192) (K : Fin 1024) :
    project x w (ix2 R K) = prod x w R K := by
  unfold prod
  pointwise [project]

theorem keys_apply (p : FVec Ideal S8192x1024 .f32) (b : Fin 4) (n : Fin 2048) (h : Fin 8) (d : Fin 64) (R : Fin 8192)
    (hR : R.val = b.val * 2048 + n.val) : keys (split p) (ix4 b n h d) = p (ix2 R (col 0 h d)) := by
  pointwise [keys, split]
  refine congrArg p (congrArg₂ ix2 (Fin.ext ?_) (Fin.ext ?_))
  · simp; omega
  · simp [col]

theorem values_apply (p : FVec Ideal S8192x1024 .f32) (b : Fin 4) (n : Fin 2048) (h : Fin 8) (d : Fin 64) (R : Fin 8192)
    (hR : R.val = b.val * 2048 + n.val) : values (split p) (ix4 b n h d) = p (ix2 R (col 1 h d)) := by
  pointwise [values, split]
  refine congrArg p (congrArg₂ ix2 (Fin.ext ?_) (Fin.ext ?_))
  · simp; omega
  · simp [col]

theorem spread_apply (t : FVec Ideal S2048x8 .f32) (b : Fin 4) (n : Fin 2048) (h : Fin 8) (f : Fin 8) :
    spread t (ix4 b n h f) = t (ix2 n f) := by
  pointwise [spread]

theorem rope_apply (a : FVec Ideal S4x2048x8x64 .f32) (co si : FVec Ideal S4x2048x8x8 .f32) (b : Fin 4) (n : Fin 2048)
    (h : Fin 8) (d : Fin 64) :
    rope a co si (ix4 b n h d) = turn (fun l => a (ix4 b n h l)) (fun f => co (ix4 b n h f)) (fun f => si (ix4 b n h f)) d := by
  unfold turn
  pointwise [rope]
  by_cases h1 : d.val < 8
  · refine (dif_pos h1).trans (Eq.trans ?_ (dif_pos h1).symm)
    rw [show (⟨8 + d.val, by omega⟩ : Fin 64) = ⟨d.val + 8, by omega⟩ from Fin.ext (Nat.add_comm _ _)]
  · refine (dif_neg h1).trans (Eq.trans ?_ (dif_neg h1).symm)
    by_cases h2 : d.val < 16
    · refine (dif_pos (by omega)).trans (Eq.trans ?_ (dif_pos h2).symm)
      rw [show (⟨8 + (d.val - 8), by omega⟩ : Fin 64) = d from Fin.ext (by show 8 + (d.val - 8) = d.val; omega)]
    · refine (dif_neg (by omega)).trans (Eq.trans ?_ (dif_neg h2).symm)
      rw [show (⟨16 + (d.val - 8 - 8), by omega⟩ : Fin 64) = d from Fin.ext (by show 16 + (d.val - 8 - 8) = d.val; omega)]

theorem two_key (k v : FVec Ideal S4x2048x8x64 .f32) (b : Fin 4) (n : Fin 2048) (h : Fin 8) (d : Fin 64) (s : Fin 2) (hs : s.val = 0) :
    two k v (ix5 b n s h d) = k (ix4 b n h d) := by
  pointwise [two]
  simp [hs]

theorem two_value (k v : FVec Ideal S4x2048x8x64 .f32) (b : Fin 4) (n : Fin 2048) (h : Fin 8) (d : Fin 64) (s : Fin 2) (hs : s.val = 1) :
    two k v (ix5 b n s h d) = v (ix4 b n h d) := by
  pointwise [two]
  simp [hs]

theorem rows_apply (a : FVec Ideal S4x2048x2x8x64 .f32) (R : Fin 8192) (K : Fin 1024) :
    rows a (ix2 R K) = a (ix5 ⟨R.val / 2048, by omega⟩ ⟨R.val % 2048, by omega⟩ ⟨K.val / 512, by omega⟩
      ⟨K.val % 512 / 64, by omega⟩ ⟨K.val % 64, by omega⟩) := by
  pointwise [rows]
  rw [show (⟨K.val / 64 % 8, by omega⟩ : Fin 8) = ⟨K.val % 512 / 64, by omega⟩ from
    Fin.ext (by show K.val / 64 % 8 = K.val % 512 / 64; omega)]

/-- The reference's keys and values. -/
def kvs (x : FVec Ideal S8192x4096 .bf16) (w : FVec Ideal S1x4096x1024 .bf16) : FVec Ideal S4x2048x2x8x64 .f32 :=
  two (rope (keys (split (project x w))) (spread (Host.cos ang)) (spread (Host.sin ang))) (values (split (project x w)))

theorem kvs_apply (x : FVec Ideal S8192x4096 .bf16) (w : FVec Ideal S1x4096x1024 .bf16) (b : Fin 4) (n : Fin 2048) (h : Fin 8)
    (d : Fin 64) (s : Fin 2) (R : Fin 8192) (hR : R.val = b.val * 2048 + n.val) :
    kvs x w (ix5 b n s h d) = entry x w s R h d := by
  have en : (⟨R.val % 2048, by omega⟩ : Fin 2048) = n := Fin.ext (by show R.val % 2048 = n.val; omega)
  unfold kvs entry
  rw [en]
  by_cases he : s.val = 0
  · obtain rfl : s = 0 := Fin.ext he
    rw [two_key _ _ _ _ _ _ _ he, rope_apply, if_pos (by decide)]
    simp only [keys_apply _ b n h _ R hR, project_apply, spread_apply]
    rfl
  · obtain rfl : s = 1 := Fin.ext (by show s.val = 1; omega)
    rw [two_value _ _ _ _ _ _ _ rfl, values_apply _ b n h _ R hR, project_apply, if_neg (by decide)]

/-- The run's result is these steps. -/
theorem result_all (m : (ℓ : Loc nD τ sig) → Buf (Elt Ideal) ℓ) (c : Dev nD) :
    Cert.ReferenceKvbIdeal.Value.res_main_v49 m c
      = rows (kvs (m ((c.tc : Thread nD τ).loc main_arg0)) (m ((c.tc : Thread nD τ).loc main_arg1))) := by
  unfold Cert.ReferenceKvbIdeal.Value.res_main_v49
  rfl

theorem all_value (x : FVec Ideal S8192x4096 .bf16) (w : FVec Ideal S1x4096x1024 .bf16) :
    rows (kvs x w) = Cert.KernelKvbIdeal.Kvb.all x w := by
  funext y
  obtain ⟨R, K, rfl⟩ : ∃ (R : Fin 8192) (K : Fin 1024), y = ix2 R K := ⟨y 0, y 1, eq_ix2 _⟩
  rw [rows_apply, kvs_apply x w _ _ _ _ _ R (by show R.val = R.val / 2048 * 2048 + R.val % 2048; omega)]
  rfl

end Cert.KvbReference

end
-- ==== Proof.KvbSum.lean ====
/- The projection of the other attention's keys and values as a whole: the kernel and the reference end with equal results. -/
module

public import proofs.«01_k».proof.Proof.KvbArray
public import proofs.«01_k».proof.Proof.KvbReference
public import Idealize.ShloMosaic.Lib.Claim
public import Idealize.ShloMosaic.Lib.Quiescent

@[expose] public section

set_option maxRecDepth 16384

noncomputable section

namespace Cert.KvbSum

open Cert.KernelKvbIdeal Cert.KernelKvbIdeal.Gen Idealize.ShloMosaic Idealize.ShloMosaic.TcCoe Idealize.SL.Sem

/-- The reference runs, leaves its arguments alone, and has no semaphore to leave raised. -/
theorem frame_reference : Cert.quiescent_ReferenceKvbIdeal := fun m ρ _ =>
  (θ_run Cert.ReferenceKvbIdeal.defs _ _).mono (fun r h => ⟨fun c => (h c).2,
      Idealize.ShloMosaic.sem_eq_zero_of_no_sems (by decide) r.2⟩)
    (Cert.ReferenceKvbIdeal.Value.run (F := Ideal) m ρ)

/-- The kernel's run, its result as a function of its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = Kvb.all (Kvb.xs m c) (Kvb.ws m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Kvb.value_all m c), (h c).2⟩)
    (Cert.KernelKvbIdeal.Value.run_blocks m ρ)

/-- The kernel and the reference end with equal results. -/
theorem algebraic : Cert.algebraic_KernelKvbIdeal_ReferenceKvbIdeal := by
  pair_intro
  · run_from kernel_run _ _
  · run_from Cert.ReferenceKvbIdeal.Value.run _ _
    rw [KvbReference.result_all, (hagree c).1, (hagree c).2]
    exact KvbReference.all_value _ _

end Cert.KvbSum

end
-- ==== Proof.QbArray.lean ====
/- The projection of the other attention's queries: a tile as one grid point leaves it and the next writes it out, and the result after the run. -/
module

public import proofs.«01_k».proof.Proof.Gen.KernelQbIdeal.Value
public import proofs.«01_k».proof.Proof.KvbRope
public import Idealize.ShloMosaic.Lib.StableHlo.RunRead

@[expose] public section

set_option maxRecDepth 16384

noncomputable section

namespace Cert.KernelQbIdeal.Qb

open Cert.KernelQbIdeal Cert.KernelQbIdeal.Gen Idealize.ShloMosaic Idealize.ShloMosaic.TcCoe Idealize.SL.Sem
open Cert.KernelQkvIdeal.Qkv (dot dot_apply lane)
open Cert.KernelKvbIdeal.Kvb (ang turn cosAt sinAt tabC tabA tabB mixed_stay mixed_turn mix mixAt mixed4 mix_head)
open scoped BigOperators

variable (m : (ℓ : Loc nD τ sig) → Buf (Elt Ideal) ℓ)

/-- The weight's column of lane `d` of head `h` of part `s`. -/
def col (s : Fin 1) (h : Fin 64) (d : Fin 64) : Fin 4096 := ⟨s.val * 4096 + h.val * 64 + d.val, by omega⟩

/-- A row times a column. -/
def prod (x : FVec Ideal S8192x4096 .bf16) (w : FVec Ideal S1x4096x4096 .bf16) (R : Fin 8192) (C : Fin 4096) : EReal :=
  ∑ k : Fin 4096, x (ix2 R k) * w (ix3 0 k C)

/-- Lane `d` of head `h` of part `s` of row `R`: part 0 is turned. -/
def entry (x : FVec Ideal S8192x4096 .bf16) (w : FVec Ideal S1x4096x4096 .bf16) (s : Fin 1) (R : Fin 8192) (h : Fin 64)
    (d : Fin 64) : EReal :=
  if s.val < 1 then turn (fun l => prod x w R (col s h l)) (cosAt ⟨R.val % 2048, by omega⟩) (sinAt ⟨R.val % 2048, by omega⟩) d
  else prod x w R (col s h d)

/-- The whole result. -/
def all (x : FVec Ideal S8192x4096 .bf16) (w : FVec Ideal S1x4096x4096 .bf16) : FVec Ideal S8192x4096 .bf16 := fun y =>
  entry x w ⟨(y 1).val / 4096, Nat.div_lt_of_lt_mul (y 1).isLt⟩ ⟨(y 0).val, (y 0).isLt⟩
    ⟨(y 1).val % 4096 / 64, Nat.div_lt_of_lt_mul (Nat.mod_lt _ (by decide))⟩ ⟨(y 1).val % 64, Nat.mod_lt _ (by decide)⟩

set_option maxHeartbeats 4000000 in
/-- What an even point leaves. -/
theorem left_even (c : Dev nD) (t : Fin cfg0.N) (h : t.val % 2 = 0) :
    (outsAt0 m c t.val t.isLt).2.1 = dot (iblk m c 0 t) (iblk m c 1 t) := by
  funext y
  by_cases h0 : t.val % 65 = 0
  · rw [outsAt0_A m c t h0 h (by omega)]
    frame_out
    unfold k0_pay4 dot
    rfl
  · rw [outsAt0_C m c t h0 h (by omega)]
    frame_out
    unfold k0_pay4 dot
    rfl

set_option maxHeartbeats 4000000 in
/-- What an odd point leaves. -/
theorem left_odd (c : Dev nD) (t : Fin cfg0.N) (h : t.val % 2 = 1) :
    (outsAt0 m c t.val t.isLt).2.2 = dot (iblk m c 0 t) (iblk m c 1 t) := by
  have ht : t.val < 65 := lt_of_lt_of_le t.isLt (le_of_eq (by decide))
  funext y
  rw [outsAt0_B m c t (by omega) (by omega) h]
  frame_out
  unfold k0_pay11 dot
  rfl

set_option maxHeartbeats 4000000 in
/-- What an odd point writes: the tile left before it, with the tables. -/
theorem all_odd (c : Dev nD) (t : Fin cfg0.N) (h : t.val % 2 = 1) (y : S1024x512.Idx) :
    (outsAt0 m c t.val t.isLt).1 y = mixed4 (outsAt0 m c (t.val - 1) (Nat.lt_of_le_of_lt (Nat.sub_le _ _) t.isLt)).2.1
      (iblk m c 2 t) (iblk m c 3 t) (iblk m c 4 t) y := by
  have ht : t.val < 65 := lt_of_lt_of_le t.isLt (le_of_eq (by decide))
  rw [outsAt0_B m c t (by omega) (by omega) h]
  frame_out
  canon_tiles x hy
  case piece0 =>
    have e := mix_head (outsAt0 m c (t.val - 1) (Nat.lt_of_le_of_lt (Nat.sub_le _ _) t.isLt)).2.1
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.1
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.1
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.1
      (iblk m c 2 t) (iblk m c 3 t) (iblk m c 4 t) 0 0 rfl (by decide) x y hy0 (by omega)
    repeat erw [Memref.IsWhole.read_unread]
    open_payloads
    unfold mix at e
    exact e

set_option maxHeartbeats 4000000 in
/-- What an even point writes: the tile left before it, with the tables. -/
theorem all_even (c : Dev nD) (t : Fin cfg0.N) (h1 : 1 ≤ t.val) (h : t.val % 2 = 0) (y : S1024x512.Idx) :
    (outsAt0 m c t.val t.isLt).1 y = mixed4 (outsAt0 m c (t.val - 1) (Nat.lt_of_le_of_lt (Nat.sub_le _ _) t.isLt)).2.2
      (iblk m c 2 t) (iblk m c 3 t) (iblk m c 4 t) y := by
  have ht : t.val < 65 := lt_of_lt_of_le t.isLt (le_of_eq (by decide))
  rw [outsAt0_C m c t (by omega) h (by omega)]
  frame_out
  canon_tiles x hy
  case piece0 =>
    have e := mix_head (outsAt0 m c (t.val - 1) (Nat.lt_of_le_of_lt (Nat.sub_le _ _) t.isLt)).2.2
      (iblk m c 2 t) (iblk m c 3 t) (iblk m c 4 t) 3 384 rfl (by decide) x y hy0 hy1
    repeat erw [Memref.IsWhole.read_unread]
    open_payloads
    unfold mix at e
    exact e
  case piece1 =>
    have e := mix_head (outsAt0 m c (t.val - 1) (Nat.lt_of_le_of_lt (Nat.sub_le _ _) t.isLt)).2.2
      (iblk m c 2 t) (iblk m c 3 t) (iblk m c 4 t) 2 256 rfl (by decide) x y hy0 hy1
    repeat erw [Memref.IsWhole.read_unread]
    open_payloads
    unfold mix at e
    exact e
  case piece2 =>
    have e := mix_head (outsAt0 m c (t.val - 1) (Nat.lt_of_le_of_lt (Nat.sub_le _ _) t.isLt)).2.2
      (iblk m c 2 t) (iblk m c 3 t) (iblk m c 4 t) 1 128 rfl (by decide) x y hy0 hy1
    repeat erw [Memref.IsWhole.read_unread]
    open_payloads
    unfold mix at e
    exact e
  case piece3 =>
    have e := mix_head (outsAt0 m c (t.val - 1) (Nat.lt_of_le_of_lt (Nat.sub_le _ _) t.isLt)).2.2
      (iblk m c 2 t) (iblk m c 3 t) (iblk m c 4 t) 0 0 rfl (by decide) x y hy0 (by omega)
    repeat erw [Memref.IsWhole.read_unread]
    open_payloads
    unfold mix at e
    exact e

/-- Device `c`'s two arguments. -/
abbrev xs (c : Dev nD) : FVec Ideal S8192x4096 .bf16 := m ((c : Thread nD τ).loc main_arg0)
abbrev ws (c : Dev nD) : FVec Ideal S1x4096x4096 .bf16 := m ((c : Thread nD τ).loc main_arg1)

/-- Which blocks point `t` multiplies, -/
theorem mul_facts : ∀ t : Fin cfg0.N, t.val < 64 →
    (win0_0.index t (0 : Fin 2) = t.val / 8 ∧ win0_0.index t (1 : Fin 2) = 0)
    ∧ (win0_1.index t (0 : Fin 3) = 0 ∧ win0_1.index t (1 : Fin 3) = 0
      ∧ win0_1.index t (2 : Fin 3) = t.val % 8) :=
  (by decide +kernel : ∀ t : Fin grid0.N, _)

/-- with which rows of the tables it finishes the tile before it, -/
theorem table_facts : ∀ t : Fin cfg0.N, 1 ≤ t.val →
    (win0_2.index t (0 : Fin 3) = (if (t.val - 1) % 8 < 8 then 0 else 1) ∧ win0_2.index t (1 : Fin 3) = (t.val - 1) / 8 % 2
      ∧ win0_2.index t (2 : Fin 3) = 0)
    ∧ (win0_3.index t (0 : Fin 3) = (if (t.val - 1) % 8 < 8 then 0 else 1) ∧ win0_3.index t (1 : Fin 3) = (t.val - 1) / 8 % 2
      ∧ win0_3.index t (2 : Fin 3) = 0)
    ∧ (win0_4.index t (0 : Fin 3) = (if (t.val - 1) % 8 < 8 then 0 else 1) ∧ win0_4.index t (1 : Fin 3) = (t.val - 1) / 8 % 2
      ∧ win0_4.index t (2 : Fin 3) = 0) :=
  (by decide +kernel : ∀ t : Fin grid0.N, _)

/-- and where it writes it. -/
theorem out_facts : ∀ t : Fin cfg0.N, 1 ≤ t.val →
    win0_5.index t (0 : Fin 2) = (t.val - 1) / 8 ∧ win0_5.index t (1 : Fin 2) = (t.val - 1) % 8 :=
  (by decide +kernel : ∀ t : Fin grid0.N, _)

/-- The result is written back from the second point on. -/
theorem flush_5 : ∀ t : Fin cfg0.N, (cfg0.win 5).flush t = true → 1 ≤ t.val := (by decide +kernel : ∀ t : Fin grid0.N, _)

theorem x_apply (c : Dev nD) (t : Fin cfg0.N) (h : t.val < 64) (r : Fin 1024) (k : Fin 4096) (R : Fin 8192)
    (hR : R.val = t.val / 8 * 1024 + r.val) : iblk m c 0 t (ix2 r k) = xs m c (ix2 R k) := by
  obtain ⟨⟨e0, e1⟩, -⟩ := mul_facts t h
  unfold xs
  rw [← V_main_arg0 m c]
  show V m c main_arg0 (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 4096 + 1 * k.val = k.val; rw [e1]; omega

theorem w_apply (c : Dev nD) (t : Fin cfg0.N) (h : t.val < 64) (k : Fin 4096) (l : Fin 512) (K : Fin 4096)
    (hK : K.val = (t.val % 8) * 512 + l.val) : iblk m c 1 t (ix3 0 k l) = ws m c (ix3 0 k K) := by
  obtain ⟨-, e0, e1, e2⟩ := mul_facts t h
  unfold ws
  rw [← V_main_arg1 m c]
  show V m c main_arg1 (((cfg0.win 1).blk t).view.emb (ix3 0 k l)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 512 + 1 * l.val = K.val; rw [e2]; omega

set_option maxHeartbeats 4000000 in
/-- The tables are those of the keys. -/
theorem V_cos (c : Dev nD) : (V m c main_v36 : Vec Ideal S2x2048x128 .f32) = tabC := by
  unfold_abbrev_sides
  after_reads_simp
  rfl
set_option maxHeartbeats 4000000 in
theorem V_neg (c : Dev nD) : (V m c main_v40 : Vec Ideal S2x2048x128 .f32) = tabA := by
  unfold_abbrev_sides
  after_reads_simp
  rfl
set_option maxHeartbeats 4000000 in
theorem V_sin (c : Dev nD) : (V m c main_v44 : Vec Ideal S2x2048x128 .f32) = tabB := by
  unfold_abbrev_sides
  after_reads_simp
  rfl

/-- The tables' rows at a point. -/
theorem cos_block (c : Dev nD) (t : Fin cfg0.N) (ht : 1 ≤ t.val) (r : Fin 1024) (l : Fin 128) (s : Fin 2) (n : Fin 2048)
    (hs : s.val = if (t.val - 1) % 8 < 8 then 0 else 1) (hn : n.val = (t.val - 1) / 8 % 2 * 1024 + r.val) :
    iblk m c 2 t (ix3 0 r l) = tabC (ix3 s n l) := by
  obtain ⟨⟨e0, e1, e2⟩, -⟩ := table_facts t ht
  rw [← V_cos m c]
  show (V m c main_v36 : Vec Ideal S2x2048x128 .f32) (((cfg0.win 2).blk t).view.emb (ix3 0 r l)) = _
  refine congrArg _ (funext fun a => Fin.ext ?_)
  match a with
  | ⟨0, _⟩ => show win0_2.index t (0 : Fin 3) * 1 + 1 * 0 = s.val; rw [e0]; omega
  | ⟨1, _⟩ => show win0_2.index t (1 : Fin 3) * 1024 + 1 * r.val = n.val; rw [e1]; omega
  | ⟨2, _⟩ => show win0_2.index t (2 : Fin 3) * 128 + 1 * l.val = l.val; rw [e2]; omega
theorem neg_block (c : Dev nD) (t : Fin cfg0.N) (ht : 1 ≤ t.val) (r : Fin 1024) (l : Fin 128) (s : Fin 2) (n : Fin 2048)
    (hs : s.val = if (t.val - 1) % 8 < 8 then 0 else 1) (hn : n.val = (t.val - 1) / 8 % 2 * 1024 + r.val) :
    iblk m c 3 t (ix3 0 r l) = tabA (ix3 s n l) := by
  obtain ⟨-, ⟨e0, e1, e2⟩, -⟩ := table_facts t ht
  rw [← V_neg m c]
  show (V m c main_v40 : Vec Ideal S2x2048x128 .f32) (((cfg0.win 3).blk t).view.emb (ix3 0 r l)) = _
  refine congrArg _ (funext fun a => Fin.ext ?_)
  match a with
  | ⟨0, _⟩ => show win0_3.index t (0 : Fin 3) * 1 + 1 * 0 = s.val; rw [e0]; omega
  | ⟨1, _⟩ => show win0_3.index t (1 : Fin 3) * 1024 + 1 * r.val = n.val; rw [e1]; omega
  | ⟨2, _⟩ => show win0_3.index t (2 : Fin 3) * 128 + 1 * l.val = l.val; rw [e2]; omega
theorem sin_block (c : Dev nD) (t : Fin cfg0.N) (ht : 1 ≤ t.val) (r : Fin 1024) (l : Fin 128) (s : Fin 2) (n : Fin 2048)
    (hs : s.val = if (t.val - 1) % 8 < 8 then 0 else 1) (hn : n.val = (t.val - 1) / 8 % 2 * 1024 + r.val) :
    iblk m c 4 t (ix3 0 r l) = tabB (ix3 s n l) := by
  obtain ⟨-, -, e0, e1, e2⟩ := table_facts t ht
  rw [← V_sin m c]
  show (V m c main_v44 : Vec Ideal S2x2048x128 .f32) (((cfg0.win 4).blk t).view.emb (ix3 0 r l)) = _
  refine congrArg _ (funext fun a => Fin.ext ?_)
  match a with
  | ⟨0, _⟩ => show win0_4.index t (0 : Fin 3) * 1 + 1 * 0 = s.val; rw [e0]; omega
  | ⟨1, _⟩ => show win0_4.index t (1 : Fin 3) * 1024 + 1 * r.val = n.val; rw [e1]; omega
  | ⟨2, _⟩ => show win0_4.index t (2 : Fin 3) * 128 + 1 * l.val = l.val; rw [e2]; omega

/-- A tile's product, read at a head's lane. -/
theorem dot_block (c : Dev nD) (t : Fin cfg0.N) (h : t.val < 64) (r : Fin 1024) (p : Fin 4) (l : Fin 128) (R : Fin 8192) (C : Fin 4096)
    (hR : R.val = t.val / 8 * 1024 + r.val) (hC : C.val = t.val % 8 * 512 + p.val * 128 + l.val) :
    dot (iblk m c 0 t) (iblk m c 1 t) (ix2 r (lane p l)) = prod (xs m c) (ws m c) R C := by
  rw [dot_apply]
  unfold prod
  exact Finset.sum_congr rfl fun k _ => congrArg₂ (· * ·) (x_apply m c t h r k R hR)
    (w_apply m c t h k (lane p l) C (by show C.val = t.val % 8 * 512 + (p.val * 128 + l.val); omega))

/-- The tile finished at a point, read at a head's lane. -/
theorem tile_value (c : Dev nD) (t t' : Fin cfg0.N) (ht : t.val = t'.val + 1) (a : FVec Ideal S1024x512 .f32)
    (ha : a = dot (iblk m c 0 t') (iblk m c 1 t')) (r : Fin 1024) (p : Fin 4) (l : Fin 128) (R : Fin 8192) (s : Fin 1) (hd : Fin 64) (d : Fin 64)
    (hR : R.val = t'.val / 8 * 1024 + r.val) (hs : s.val = t'.val % 8 / 8) (hh : hd.val = t'.val % 8 % 8 * 8 + p.val * 2 + l.val / 64)
    (hd' : d.val = l.val % 64) :
    mixAt a (iblk m c 2 t) (iblk m c 3 t) (iblk m c 4 t) r p l = entry (xs m c) (ws m c) s R hd d := by
  subst ha
  have hN : t.val < 65 := lt_of_lt_of_eq t.isLt N_0
  have h1 : 1 ≤ t.val := by omega
  have e : t.val - 1 = t'.val := by omega
  have hn : (⟨R.val % 2048, by omega⟩ : Fin 2048).val = (t.val - 1) / 8 % 2 * 1024 + r.val := by
    show R.val % 2048 = _; rw [e]; omega
  have hg : ∀ l' : Fin 128, dot (iblk m c 0 t') (iblk m c 1 t') (ix2 r (lane p l')) = prod (xs m c) (ws m c) R
      ⟨t'.val % 8 * 512 + p.val * 128 + l'.val, by omega⟩ := fun l' => dot_block m c t' (by omega) r p l' R _ hR rfl
  by_cases h8 : t'.val % 8 < 8
  · have hz : (0 : Fin 2).val = if (t.val - 1) % 8 < 8 then 0 else 1 := by rw [e, if_pos h8]; rfl
    unfold mixAt entry
    rw [cos_block m c t h1 r l 0 _ hz hn, neg_block m c t h1 r l 0 _ hz hn, sin_block m c t h1 r l 0 _ hz hn, hg, hg, hg, if_pos (by omega)]
    refine (mixed_turn (fun l' => prod (xs m c) (ws m c) R ⟨t'.val % 8 * 512 + p.val * 128 + l'.val, by omega⟩) 0 _ l rfl
      ⟨l.val / 64, by omega⟩ d (by show l.val = l.val / 64 * 64 + d.val; omega)).trans ?_
    refine congrArg (fun f => turn f _ _ d) (funext fun e => congrArg (prod (xs m c) (ws m c) R) (Fin.ext ?_))
    show t'.val % 8 * 512 + p.val * 128 + (l.val / 64 * 64 + e.val) = s.val * 4096 + hd.val * 64 + e.val
    omega
  · omega

/-- The block a point leaves. -/
theorem block_all (c : Dev nD) (t : Fin cfg0.N) (h1 : 1 ≤ t.val) (r : Fin 1024) (k : Fin 512) (R : Fin 8192) (s : Fin 1) (hd : Fin 64) (d : Fin 64)
    (hR : R.val = (t.val - 1) / 8 * 1024 + r.val) (hs : s.val = (t.val - 1) % 8 / 8) (hh : hd.val = (t.val - 1) % 8 % 8 * 8 + k.val / 64)
    (hd' : d.val = k.val % 64) : (outsAt0 m c t.val t.isLt).1 (ix2 r k) = entry (xs m c) (ws m c) s R hd d := by
  have hl : t.val - 1 < cfg0.N := Nat.lt_of_le_of_lt (Nat.sub_le _ _) t.isLt
  by_cases h : t.val % 2 = 1
  · rw [all_odd m c t h]
    exact tile_value m c t ⟨t.val - 1, hl⟩ (by show t.val = t.val - 1 + 1; omega) _
      (left_even m c ⟨t.val - 1, hl⟩ (by show (t.val - 1) % 2 = 0; omega)) r ⟨k.val / 128, by omega⟩ ⟨k.val % 128, by omega⟩ R s hd d hR hs
      (by show hd.val = (t.val - 1) % 8 % 8 * 8 + k.val / 128 * 2 + k.val % 128 / 64; omega) (by show d.val = k.val % 128 % 64; omega)
  · rw [all_even m c t h1 (by omega)]
    exact tile_value m c t ⟨t.val - 1, hl⟩ (by show t.val = t.val - 1 + 1; omega) _
      (left_odd m c ⟨t.val - 1, hl⟩ (by show (t.val - 1) % 2 = 1; omega)) r ⟨k.val / 128, by omega⟩ ⟨k.val % 128, by omega⟩ R s hd d hR hs
      (by show hd.val = (t.val - 1) % 8 % 8 * 8 + k.val / 128 * 2 + k.val % 128 / 64; omega) (by show d.val = k.val % 128 % 64; omega)

/-- The result the run leaves. -/
theorem value_all (c : Dev nD) : (dats m 0 c).arrAt 5 cfg0.N = all (xs m c) (ws m c) := by
  refine (dats m 0 c).arrAt_eq_of_covers 5 _ (by decide +kernel) fun t hf y => ?_
  have ht := flush_5 t hf
  blk_simp
  rw [after0_5]
  obtain ⟨e0, e1⟩ := out_facts t ht
  obtain ⟨r, k, rfl⟩ : ∃ (r : Fin 1024) (k : Fin 512), y = ix2 r k := ⟨y 0, y 1, eq_ix2 _⟩
  have hy0 : (((cfg0.win 5).blk t).view.emb (ix2 r k) 0).val = (t.val - 1) / 8 * 1024 + r.val := by
    show win0_5.index t (0 : Fin 2) * 1024 + 1 * r.val = _; rw [e0]; omega
  have hy1 : (((cfg0.win 5).blk t).view.emb (ix2 r k) 1).val = (t.val - 1) % 8 * 512 + k.val := by
    show win0_5.index t (1 : Fin 2) * 512 + 1 * k.val = _; rw [e1]; omega
  refine block_all m c t ht r k _ _ _ _ hy0 ?_ ?_ ?_
  · show (((cfg0.win 5).blk t).view.emb (ix2 r k) 1).val / 4096 = _; rw [hy1]; omega
  · show (((cfg0.win 5).blk t).view.emb (ix2 r k) 1).val % 4096 / 64 = _; rw [hy1]; omega
  · show (((cfg0.win 5).blk t).view.emb (ix2 r k) 1).val % 64 = _; rw [hy1]; omega

end Cert.KernelQbIdeal.Qb

end
-- ==== Proof.QbReference.lean ====
/- The reference of the projection of the other attention's queries, step by step, each step read at an index. -/
module

public import proofs.«01_k».proof.Proof.Gen.ReferenceQbIdeal.Run
public import proofs.«01_k».proof.Proof.QbArray

@[expose] public section

set_option maxRecDepth 16384

noncomputable section

namespace Cert.QbReference

open Cert.ReferenceQbIdeal Cert.ReferenceQbIdeal.Gen Idealize.ShloMosaic Idealize.ShloMosaic.TcCoe Idealize.SL.Sem
open Cert.KernelKvbIdeal.Kvb (ang turn cosAt sinAt)
open Cert.KernelQbIdeal.Qb (col prod entry)
open scoped BigOperators

/-- The projection of every row. -/
def project (x : FVec Ideal S8192x4096 .bf16) (w : FVec Ideal S1x4096x4096 .bf16) : FVec Ideal S8192x4096 .f32 :=
  Host.dotGeneral dot_S8192x4096_S4096x4096_S8192x4096_1_0_0_1_n_n none (extf .f32 x bitsLt_bf16_f32)
    (extf .f32 (shapeCast _ w shapeCasts_S1x4096x4096_S4096x4096) bitsLt_bf16_f32)
/-- By sequence and head. -/
def heads (p : FVec Ideal S8192x4096 .f32) : FVec Ideal S4x2048x64x64 .f32 :=
  shapeCast _ p shapeCasts_S8192x4096_S4x2048x64x64
/-- A row of cosines or sines, for every sequence and head. -/
def spread (t : FVec Ideal S2048x8 .f32) : FVec Ideal S4x2048x64x8 .f32 :=
  broadcastInDim S4x2048x64x8 ![0, 1, 2, 3] bcast_S1x2048x1x8_S4x2048x64x8_0_1_2_3
    (broadcastInDim S1x2048x1x8 ![1, 2, 3] bcast_S2048x1x8_S1x2048x1x8_1_2_3 (shapeCast _ t shapeCasts_S2048x8_S2048x1x8))
/-- The lanes turned. -/
def rope (h : FVec Ideal S4x2048x64x64 .f32) (co si : FVec Ideal S4x2048x64x8 .f32) : FVec Ideal S4x2048x64x64 .f32 :=
  concatenate S4x2048x64x64 3 [⟨S4x2048x64x8, (subf
      (mulf (extractStridedSlice S4x2048x64x8 ![0, 0, 0, 0] h slices_S4x2048x64x64_S4x2048x64x8_0_0_0_0) co)
      (mulf (extractStridedSlice S4x2048x64x8 ![0, 0, 0, 8] h slices_S4x2048x64x64_S4x2048x64x8_0_0_0_8) si))⟩,
    ⟨S4x2048x64x8, (addf
      (mulf (extractStridedSlice S4x2048x64x8 ![0, 0, 0, 8] h slices_S4x2048x64x64_S4x2048x64x8_0_0_0_8) co)
      (mulf (extractStridedSlice S4x2048x64x8 ![0, 0, 0, 0] h slices_S4x2048x64x64_S4x2048x64x8_0_0_0_0) si))⟩,
    ⟨S4x2048x64x48, (extractStridedSlice S4x2048x64x48 ![0, 0, 0, 16] h slices_S4x2048x64x64_S4x2048x64x48_0_0_0_16)⟩]
    concatenates_S4x2048x64x8_S4x2048x64x8_S4x2048x64x48_S4x2048x64x64_d3
/-- Rows counted through. -/
def rows (a : FVec Ideal S4x2048x64x64 .f32) : FVec Ideal S8192x4096 .bf16 :=
  truncf .bf16 (shapeCast _ a shapeCasts_S4x2048x64x64_S8192x4096) bitsLt_bf16_f32

theorem project_apply (x : FVec Ideal S8192x4096 .bf16) (w : FVec Ideal S1x4096x4096 .bf16) (R : Fin 8192) (K : Fin 4096) :
    project x w (ix2 R K) = prod x w R K := by
  unfold prod
  pointwise [project]

theorem heads_apply (p : FVec Ideal S8192x4096 .f32) (b : Fin 4) (n : Fin 2048) (h : Fin 64) (d : Fin 64) (R : Fin 8192)
    (hR : R.val = b.val * 2048 + n.val) : heads p (ix4 b n h d) = p (ix2 R (col 0 h d)) := by
  pointwise [heads]
  refine congrArg p (congrArg₂ ix2 (Fin.ext ?_) (Fin.ext ?_))
  · simp; omega
  · simp [col]

theorem spread_apply (t : FVec Ideal S2048x8 .f32) (b : Fin 4) (n : Fin 2048) (h : Fin 64) (f : Fin 8) :
    spread t (ix4 b n h f) = t (ix2 n f) := by
  pointwise [spread]

theorem rope_apply (a : FVec Ideal S4x2048x64x64 .f32) (co si : FVec Ideal S4x2048x64x8 .f32) (b : Fin 4) (n : Fin 2048)
    (h : Fin 64) (d : Fin 64) :
    rope a co si (ix4 b n h d) = turn (fun l => a (ix4 b n h l)) (fun f => co (ix4 b n h f)) (fun f => si (ix4 b n h f)) d := by
  unfold turn
  pointwise [rope]
  by_cases h1 : d.val < 8
  · refine (dif_pos h1).trans (Eq.trans ?_ (dif_pos h1).symm)
    rw [show (⟨8 + d.val, by omega⟩ : Fin 64) = ⟨d.val + 8, by omega⟩ from Fin.ext (Nat.add_comm _ _)]
  · refine (dif_neg h1).trans (Eq.trans ?_ (dif_neg h1).symm)
    by_cases h2 : d.val < 16
    · refine (dif_pos (by omega)).trans (Eq.trans ?_ (dif_pos h2).symm)
      rw [show (⟨8 + (d.val - 8), by omega⟩ : Fin 64) = d from Fin.ext (by show 8 + (d.val - 8) = d.val; omega)]
    · refine (dif_neg (by omega)).trans (Eq.trans ?_ (dif_neg h2).symm)
      rw [show (⟨16 + (d.val - 8 - 8), by omega⟩ : Fin 64) = d from Fin.ext (by show 16 + (d.val - 8 - 8) = d.val; omega)]

theorem rows_apply (a : FVec Ideal S4x2048x64x64 .f32) (R : Fin 8192) (K : Fin 4096) :
    rows a (ix2 R K) = a (ix4 ⟨R.val / 2048, by omega⟩ ⟨R.val % 2048, by omega⟩ ⟨K.val / 64, by omega⟩ ⟨K.val % 64, by omega⟩) := by
  pointwise [rows]

/-- The reference's queries. -/
def queries (x : FVec Ideal S8192x4096 .bf16) (w : FVec Ideal S1x4096x4096 .bf16) : FVec Ideal S4x2048x64x64 .f32 :=
  rope (heads (project x w)) (spread (Host.cos ang)) (spread (Host.sin ang))

theorem queries_apply (x : FVec Ideal S8192x4096 .bf16) (w : FVec Ideal S1x4096x4096 .bf16) (b : Fin 4) (n : Fin 2048) (h : Fin 64)
    (d : Fin 64) (R : Fin 8192) (hR : R.val = b.val * 2048 + n.val) :
    queries x w (ix4 b n h d) = entry x w 0 R h d := by
  have en : (⟨R.val % 2048, by omega⟩ : Fin 2048) = n := Fin.ext (by show R.val % 2048 = n.val; omega)
  unfold queries entry
  rw [en, rope_apply, if_pos (by decide)]
  simp only [heads_apply _ b n h _ R hR, project_apply, spread_apply]
  rfl

/-- The run's result is these steps. -/
theorem result_all (m : (ℓ : Loc nD τ sig) → Buf (Elt Ideal) ℓ) (c : Dev nD) :
    Cert.ReferenceQbIdeal.Value.res_main_v43 m c
      = rows (queries (m ((c.tc : Thread nD τ).loc main_arg0)) (m ((c.tc : Thread nD τ).loc main_arg1))) := by
  unfold Cert.ReferenceQbIdeal.Value.res_main_v43
  rfl

theorem all_value (x : FVec Ideal S8192x4096 .bf16) (w : FVec Ideal S1x4096x4096 .bf16) :
    rows (queries x w) = Cert.KernelQbIdeal.Qb.all x w := by
  funext y
  obtain ⟨R, K, rfl⟩ : ∃ (R : Fin 8192) (K : Fin 4096), y = ix2 R K := ⟨y 0, y 1, eq_ix2 _⟩
  rw [rows_apply, queries_apply x w _ _ _ _ R (by show R.val = R.val / 2048 * 2048 + R.val % 2048; omega)]
  unfold Cert.KernelQbIdeal.Qb.all
  refine congrArg₂ (fun (s : Fin 1) h => entry x w s R h _) (Subsingleton.elim _ _) (Fin.ext ?_)
  show K.val / 64 = K.val % 4096 / 64
  omega

end Cert.QbReference

end
-- ==== Proof.QbSum.lean ====
/- The projection of the other attention's queries as a whole: the kernel and the reference end with equal results. -/
module

public import proofs.«01_k».proof.Proof.QbArray
public import proofs.«01_k».proof.Proof.QbReference
public import Idealize.ShloMosaic.Lib.Claim
public import Idealize.ShloMosaic.Lib.Quiescent

@[expose] public section

set_option maxRecDepth 16384

noncomputable section

namespace Cert.QbSum

open Cert.KernelQbIdeal Cert.KernelQbIdeal.Gen Idealize.ShloMosaic Idealize.ShloMosaic.TcCoe Idealize.SL.Sem

/-- The reference runs, leaves its arguments alone, and has no semaphore to leave raised. -/
theorem frame_reference : Cert.quiescent_ReferenceQbIdeal := fun m ρ _ =>
  (θ_run Cert.ReferenceQbIdeal.defs _ _).mono (fun r h => ⟨fun c => (h c).2,
      Idealize.ShloMosaic.sem_eq_zero_of_no_sems (by decide) r.2⟩)
    (Cert.ReferenceQbIdeal.Value.run (F := Ideal) m ρ)

/-- The kernel's run, its result as a function of its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = Qb.all (Qb.xs m c) (Qb.ws m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Qb.value_all m c), (h c).2⟩)
    (Cert.KernelQbIdeal.Value.run_blocks m ρ)

/-- The kernel and the reference end with equal results. -/
theorem algebraic : Cert.algebraic_KernelQbIdeal_ReferenceQbIdeal := by
  pair_intro
  · run_from kernel_run _ _
  · run_from Cert.ReferenceQbIdeal.Value.run _ _
    rw [QbReference.result_all, (hagree c).1, (hagree c).2]
    exact QbReference.all_value _ _

end Cert.QbSum

end
-- ==== Proof.OaSum.lean ====
/- The dilated attention's output projection with its residual: the kernel's block is the residual's plus a product over all 2048 columns, and so is the reference's. -/
module

public import proofs.«01_k».proof.Defs
public import proofs.«01_k».proof.Proof.Gen.KernelOaIdeal.Value
public import proofs.«01_k».proof.Proof.Gen.ReferenceOaIdeal.Run
public import Idealize.ShloMosaic.Lib.Pointwise
public import Idealize.ShloMosaic.Lib.Pipeline.ValueKit
public import Idealize.ShloMosaic.Lib.Claim
public import Idealize.ShloMosaic.Lib.Quiescent

@[expose] public section

noncomputable section

namespace Cert.OaSum

open Cert.KernelOaIdeal Cert.KernelOaIdeal.Gen Idealize.ShloMosaic Idealize.ShloMosaic.TcCoe Idealize.SL.Sem
open scoped BigOperators

variable (m : (ℓ : Loc nD τ sig) → Buf (Elt Ideal) ℓ)

/-- Which block of each array grid point `t` reads and writes. -/
theorem index_facts : ∀ t : Fin cfg0.N,
    (win0_0.index t (0 : Fin 2) = t.val / 4 ∧ win0_0.index t (1 : Fin 2) = 0)
    ∧ (win0_1.index t (0 : Fin 3) = 0 ∧ win0_1.index t (1 : Fin 3) = 0 ∧ win0_1.index t (2 : Fin 3) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

/-- Device `c`'s activations, weights and residual. -/
abbrev act (c : Dev nD) : FVec Ideal S8192x2048 .bf16 := m ((c : Thread nD τ).loc main_arg0)
abbrev weight (c : Dev nD) : FVec Ideal S1x2048x4096 .bf16 := m ((c : Thread nD τ).loc main_arg1)
abbrev res (c : Dev nD) : FVec Ideal S8192x4096 .f32 := m ((c : Thread nD τ).loc main_arg2)

theorem act_apply (c : Dev nD) (t : Fin cfg0.N) (r : Fin 1024) (k : Fin 2048) (R : Fin 8192) (hR : R.val = t.val / 4 * 1024 + r.val) :
    iblk m c 0 t (ix2 r k) = act m c (ix2 R k) := by
  obtain ⟨⟨e0, e1⟩, -⟩ := index_facts t
  show m ((c : Thread nD τ).loc main_arg0) (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 2048 + 1 * k.val = k.val; rw [e1]; omega

theorem weight_apply (c : Dev nD) (t : Fin cfg0.N) (k : Fin 2048) (n : Fin 1024) (N : Fin 4096) (hN : N.val = t.val % 4 * 1024 + n.val) :
    iblk m c 1 t (ix3 0 k n) = weight m c (ix3 0 k N) := by
  obtain ⟨-, ⟨e0, e1, e2⟩, -⟩ := index_facts t
  show m ((c : Thread nD τ).loc main_arg1) (((cfg0.win 1).blk t).view.emb (ix3 0 k n)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 2048 + 1 * k.val = k.val; rw [e1]; omega
  | ⟨2, _⟩ => show win0_1.index t (2 : Fin 3) * 1024 + 1 * n.val = N.val; rw [e2]; omega

theorem res_apply (c : Dev nD) (t : Fin cfg0.N) (r n : Fin 1024) (R : Fin 8192) (N : Fin 4096)
    (hR : R.val = t.val / 4 * 1024 + r.val) (hN : N.val = t.val % 4 * 1024 + n.val) :
    iblk m c 2 t (ix2 r n) = res m c (ix2 R N) := by
  obtain ⟨-, -, ⟨e0, e1⟩, -⟩ := index_facts t
  show m ((c : Thread nD τ).loc main_arg2) (((cfg0.win 2).blk t).view.emb (ix2 r n)) = _
  refine congrArg _ (funext fun a => Fin.ext ?_)
  match a with
  | ⟨0, _⟩ => show win0_2.index t (0 : Fin 2) * 1024 + 1 * r.val = R.val; rw [e0]; omega
  | ⟨1, _⟩ => show win0_2.index t (1 : Fin 2) * 1024 + 1 * n.val = N.val; rw [e1]; omega

/-- What the body leaves: the residual's block plus the product of the point's blocks. -/
theorem pay_apply (acc : Vec Ideal S1024x1024 .f32) (x : Vec Ideal S1024x2048 .bf16) (w : Vec Ideal S1x2048x1024 .bf16) (r n : Fin 1024) :
    k0_pay1 acc x w (ix2 r n) = acc (ix2 r n) + ∑ k : Fin 2048, x (ix2 r k) * w (ix3 0 k n) := by
  pointwise [k0_pay1]

set_option maxHeartbeats 4000000 in
/-- The block a point leaves. -/
theorem left (c : Dev nD) (t : Fin cfg0.N) :
    outsAt0 m c t = k0_pay1 (iblk m c 2 t) (iblk m c 0 t) (iblk m c 1 t) := by
  have z2 : (![0, 0] : Fin 2 → Nat) = fun _ => 0 := funext fun a => by fin_cases a <;> rfl
  have z3 : (![0, 0, 0] : Fin 3 → Nat) = fun _ => 0 := funext fun a => by fin_cases a <;> rfl
  unfold outsAt0 out0_A_3
  rw [View.read_writes_eq_canon _ _ _ (cover0_A_3 c _ _ _ _ _ _ _ _ _ _ _ _ _)]
  unfold kernelRun0_A
  dsimp only
  try sl_unfold_words
  rw [View.canon_cons_unit_zero (S := S1024x1024) z2, View.readCov_unit_zero (S := S1024x1024) _ z2]
  simp only [View.readAt_eq_ld, (hs0_0 t).read_unread, (hs0_1 t).read_unread, (hs0_2 t).read_unread,
    View.ld_unit_zero (S := S1024x1024) z2, View.ld_unit_zero (S := S1024x2048) z2, View.ld_unit_zero (S := S1x2048x1024) z3,
    shapeCast_self]

/-- The residual plus the product. -/
def total (a : FVec Ideal S8192x2048 .bf16) (w : FVec Ideal S1x2048x4096 .bf16) (r : FVec Ideal S8192x4096 .f32) : FVec Ideal S8192x4096 .f32 :=
  fun y => r y + ∑ k : Fin 2048, a (ix2 ⟨(y 0).val, (y 0).isLt⟩ k) * w (ix3 0 k ⟨(y 1).val, (y 1).isLt⟩)

/-- The result the run leaves. -/
theorem value (c : Dev nD) : (dats m 0 c).arrAt 3 cfg0.N = total (act m c) (weight m c) (res m c) := by
  refine (dats m 0 c).arrAt_eq_of_covers 3 _ (by decide +kernel) fun t hf y => ?_
  blk_simp
  rw [after0_3, left m c t]
  obtain ⟨-, -, -, e0, e1⟩ := index_facts t
  obtain ⟨r, n, rfl⟩ : ∃ (r n : Fin 1024), y = ix2 r n := ⟨y 0, y 1, eq_ix2 _⟩
  have hy0 : (((cfg0.win 3).blk t).view.emb (ix2 r n) 0).val = t.val / 4 * 1024 + r.val := by
    show win0_3.index t (0 : Fin 2) * 1024 + 1 * r.val = _; rw [e0]; omega
  have hy1 : (((cfg0.win 3).blk t).view.emb (ix2 r n) 1).val = t.val % 4 * 1024 + n.val := by
    show win0_3.index t (1 : Fin 2) * 1024 + 1 * n.val = _; rw [e1]; omega
  generalize ((cfg0.win 3).blk t).view.emb (ix2 r n) = z at hy0 hy1
  obtain ⟨R, N, rfl⟩ : ∃ (R : Fin 8192) (N : Fin 4096), z = ix2 R N := ⟨z 0, z 1, eq_ix2 _⟩
  refine (pay_apply _ _ _ r n).trans (congrArg₂ (· + ·) (res_apply m c t r n R N hy0 hy1) (Finset.sum_congr rfl fun k _ =>
    congrArg₂ (· * ·) (act_apply m c t r k R hy0) (weight_apply m c t k n N hy1)))

/-- The kernel's run, its result as a function of its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = total (act m c) (weight m c) (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value m c), (h c).2⟩) (Cert.KernelOaIdeal.Value.run_blocks m ρ)

/-- What the reference computes at an index. -/
theorem reference_value (x : FVec Ideal S8192x2048 .bf16) (w : FVec Ideal S1x2048x4096 .bf16) (r : FVec Ideal S8192x4096 .f32)
    (R : Fin 8192) (N : Fin 4096) :
    addf r (Host.dotGeneral Cert.ReferenceOaIdeal.dot_S8192x2048_S2048x4096_S8192x4096_1_0_0_1_n_n none
      (extf .f32 x Cert.ReferenceOaIdeal.Gen.facts.bitsLt_bf16_f32)
      (extf .f32 (shapeCast Cert.ReferenceOaIdeal.S2048x4096 w Cert.ReferenceOaIdeal.Gen.facts.shapeCasts_S1x2048x4096_S2048x4096)
        Cert.ReferenceOaIdeal.Gen.facts.bitsLt_bf16_f32)) (ix2 R N)
      = r (ix2 R N) + ∑ k : Fin 2048, x (ix2 R k) * w (ix3 0 k N) := by
  pointwise

/-- The reference runs, leaves its arguments alone, and has no semaphore to leave raised. -/
theorem frame_reference : Cert.quiescent_ReferenceOaIdeal := fun m ρ _ =>
  (θ_run Cert.ReferenceOaIdeal.defs _ _).mono (fun r h => ⟨fun c => (h c).2,
      Idealize.ShloMosaic.sem_eq_zero_of_no_sems (by decide) r.2⟩)
    (Cert.ReferenceOaIdeal.Value.run (F := Ideal) m ρ)

/-- The kernel and the reference end with equal results. -/
theorem algebraic : Cert.algebraic_KernelOaIdeal_ReferenceOaIdeal := by
  pair_intro
  · run_from kernel_run _ _
  · run_from Cert.ReferenceOaIdeal.Value.run _ _
    funext j
    obtain ⟨R, N, rfl⟩ : ∃ (R : Fin 8192) (N : Fin 4096), j = ix2 R N := ⟨j 0, j 1, eq_ix2 j⟩
    exact (reference_value _ _ _ R N)

end Cert.OaSum

end
-- ==== Proof.ObSum.lean ====
/- The other attention's output projection with its residual: the kernel's block is the residual's plus a product over all 4096 columns, and so is the reference's. -/
module

public import proofs.«01_k».proof.Defs
public import proofs.«01_k».proof.Proof.Gen.KernelObIdeal.Value
public import proofs.«01_k».proof.Proof.Gen.ReferenceObIdeal.Run
public import Idealize.ShloMosaic.Lib.Pointwise
public import Idealize.ShloMosaic.Lib.Pipeline.ValueKit
public import Idealize.ShloMosaic.Lib.Claim
public import Idealize.ShloMosaic.Lib.Quiescent

@[expose] public section

noncomputable section

namespace Cert.ObSum

open Cert.KernelObIdeal Cert.KernelObIdeal.Gen Idealize.ShloMosaic Idealize.ShloMosaic.TcCoe Idealize.SL.Sem
open scoped BigOperators

variable (m : (ℓ : Loc nD τ sig) → Buf (Elt Ideal) ℓ)

/-- Which block of each array grid point `t` reads and writes. -/
theorem index_facts : ∀ t : Fin cfg0.N,
    (win0_0.index t (0 : Fin 2) = t.val / 4 ∧ win0_0.index t (1 : Fin 2) = 0)
    ∧ (win0_1.index t (0 : Fin 3) = 0 ∧ win0_1.index t (1 : Fin 3) = 0 ∧ win0_1.index t (2 : Fin 3) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

/-- Device `c`'s activations, weights and residual. -/
abbrev act (c : Dev nD) : FVec Ideal S8192x4096 .bf16 := m ((c : Thread nD τ).loc main_arg0)
abbrev weight (c : Dev nD) : FVec Ideal S1x4096x4096 .bf16 := m ((c : Thread nD τ).loc main_arg1)
abbrev res (c : Dev nD) : FVec Ideal S8192x4096 .f32 := m ((c : Thread nD τ).loc main_arg2)

theorem act_apply (c : Dev nD) (t : Fin cfg0.N) (r : Fin 1024) (k : Fin 4096) (R : Fin 8192) (hR : R.val = t.val / 4 * 1024 + r.val) :
    iblk m c 0 t (ix2 r k) = act m c (ix2 R k) := by
  obtain ⟨⟨e0, e1⟩, -⟩ := index_facts t
  show m ((c : Thread nD τ).loc main_arg0) (((cfg0.win 0).blk t).view.emb (ix2 r k)) = _
  refine congrArg _ (funext fun a => Fin.ext ?_)
  match a with
  | ⟨0, _⟩ => show win0_0.index t (0 : Fin 2) * 1024 + 1 * r.val = R.val; rw [e0]; omega
  | ⟨1, _⟩ => show win0_0.index t (1 : Fin 2) * 4096 + 1 * k.val = k.val; rw [e1]; omega

theorem weight_apply (c : Dev nD) (t : Fin cfg0.N) (k : Fin 4096) (n : Fin 1024) (N : Fin 4096) (hN : N.val = t.val % 4 * 1024 + n.val) :
    iblk m c 1 t (ix3 0 k n) = weight m c (ix3 0 k N) := by
  obtain ⟨-, ⟨e0, e1, e2⟩, -⟩ := index_facts t
  show m ((c : Thread nD τ).loc main_arg1) (((cfg0.win 1).blk t).view.emb (ix3 0 k n)) = _
  refine congrArg _ (funext fun a => Fin.ext ?_)
  match a with
  | ⟨0, _⟩ => show win0_1.index t (0 : Fin 3) * 1 + 1 * 0 = 0; rw [e0]
  | ⟨1, _⟩ => show win0_1.index t (1 : Fin 3) * 4096 + 1 * k.val = k.val; rw [e1]; omega
  | ⟨2, _⟩ => show win0_1.index t (2 : Fin 3) * 1024 + 1 * n.val = N.val; rw [e2]; omega

theorem res_apply (c : Dev nD) (t : Fin cfg0.N) (r n : Fin 1024) (R : Fin 8192) (N : Fin 4096)
    (hR : R.val = t.val / 4 * 1024 + r.val) (hN : N.val = t.val % 4 * 1024 + n.val) :
    iblk m c 2 t (ix2 r n) = res m c (ix2 R N) := by
  obtain ⟨-, -, ⟨e0, e1⟩, -⟩ := index_facts t
  show m ((c : Thread nD τ).loc main_arg2) (((cfg0.win 2).blk t).view.emb (ix2 r n)) = _
  refine congrArg _ (funext fun a => Fin.ext ?_)
  match a with
  | ⟨0, _⟩ => show win0_2.index t (0 : Fin 2) * 1024 + 1 * r.val = R.val; rw [e0]; omega
  | ⟨1, _⟩ => show win0_2.index t (1 : Fin 2) * 1024 + 1 * n.val = N.val; rw [e1]; omega

/-- What the body leaves: the residual's block plus the product of the point's blocks. -/
theorem pay_apply (acc : Vec Ideal S1024x1024 .f32) (x : Vec Ideal S1024x4096 .bf16) (w : Vec Ideal S1x4096x1024 .bf16) (r n : Fin 1024) :
    k0_pay1 acc x w (ix2 r n) = acc (ix2 r n) + ∑ k : Fin 4096, x (ix2 r k) * w (ix3 0 k n) := by
  pointwise [k0_pay1]

set_option maxHeartbeats 4000000 in
/-- The block a point leaves. -/
theorem left (c : Dev nD) (t : Fin cfg0.N) :
    outsAt0 m c t = k0_pay1 (iblk m c 2 t) (iblk m c 0 t) (iblk m c 1 t) := by
  have z2 : (![0, 0] : Fin 2 → Nat) = fun _ => 0 := funext fun a => by fin_cases a <;> rfl
  have z3 : (![0, 0, 0] : Fin 3 → Nat) = fun _ => 0 := funext fun a => by fin_cases a <;> rfl
  unfold outsAt0 out0_A_3
  rw [View.read_writes_eq_canon _ _ _ (cover0_A_3 c _ _ _ _ _ _ _ _ _ _ _ _ _)]
  unfold kernelRun0_A
  dsimp only
  try sl_unfold_words
  rw [View.canon_cons_unit_zero (S := S1024x1024) z2, View.readCov_unit_zero (S := S1024x1024) _ z2]
  simp only [View.readAt_eq_ld, (hs0_0 t).read_unread, (hs0_1 t).read_unread, (hs0_2 t).read_unread,
    View.ld_unit_zero (S := S1024x1024) z2, View.ld_unit_zero (S := S1024x4096) z2, View.ld_unit_zero (S := S1x4096x1024) z3,
    shapeCast_self]

/-- The residual plus the product. -/
def total (a : FVec Ideal S8192x4096 .bf16) (w : FVec Ideal S1x4096x4096 .bf16) (r : FVec Ideal S8192x4096 .f32) : FVec Ideal S8192x4096 .f32 :=
  fun y => r y + ∑ k : Fin 4096, a (ix2 ⟨(y 0).val, (y 0).isLt⟩ k) * w (ix3 0 k ⟨(y 1).val, (y 1).isLt⟩)

/-- The result the run leaves. -/
theorem value (c : Dev nD) : (dats m 0 c).arrAt 3 cfg0.N = total (act m c) (weight m c) (res m c) := by
  refine (dats m 0 c).arrAt_eq_of_covers 3 _ (by decide +kernel) fun t hf y => ?_
  blk_simp
  rw [after0_3, left m c t]
  obtain ⟨-, -, -, e0, e1⟩ := index_facts t
  obtain ⟨r, n, rfl⟩ : ∃ (r n : Fin 1024), y = ix2 r n := ⟨y 0, y 1, eq_ix2 _⟩
  have hy0 : (((cfg0.win 3).blk t).view.emb (ix2 r n) 0).val = t.val / 4 * 1024 + r.val := by
    show win0_3.index t (0 : Fin 2) * 1024 + 1 * r.val = _; rw [e0]; omega
  have hy1 : (((cfg0.win 3).blk t).view.emb (ix2 r n) 1).val = t.val % 4 * 1024 + n.val := by
    show win0_3.index t (1 : Fin 2) * 1024 + 1 * n.val = _; rw [e1]; omega
  generalize ((cfg0.win 3).blk t).view.emb (ix2 r n) = z at hy0 hy1
  obtain ⟨R, N, rfl⟩ : ∃ (R : Fin 8192) (N : Fin 4096), z = ix2 R N := ⟨z 0, z 1, eq_ix2 _⟩
  refine (pay_apply _ _ _ r n).trans (congrArg₂ (· + ·) (res_apply m c t r n R N hy0 hy1) (Finset.sum_congr rfl fun k _ =>
    congrArg₂ (· * ·) (act_apply m c t r k R hy0) (weight_apply m c t k n N hy1)))

/-- The kernel's run, its result as a function of its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = total (act m c) (weight m c) (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value m c), (h c).2⟩) (Cert.KernelObIdeal.Value.run_blocks m ρ)

/-- What the reference computes at an index. -/
theorem reference_value (x : FVec Ideal S8192x4096 .bf16) (w : FVec Ideal S1x4096x4096 .bf16) (r : FVec Ideal S8192x4096 .f32)
    (R : Fin 8192) (N : Fin 4096) :
    addf r (Host.dotGeneral Cert.ReferenceObIdeal.dot_S8192x4096_S4096x4096_S8192x4096_1_0_0_1_n_n none
      (extf .f32 x Cert.ReferenceObIdeal.Gen.facts.bitsLt_bf16_f32)
      (extf .f32 (shapeCast Cert.ReferenceObIdeal.S4096x4096 w Cert.ReferenceObIdeal.Gen.facts.shapeCasts_S1x4096x4096_S4096x4096)
        Cert.ReferenceObIdeal.Gen.facts.bitsLt_bf16_f32)) (ix2 R N)
      = r (ix2 R N) + ∑ k : Fin 4096, x (ix2 R k) * w (ix3 0 k N) := by
  pointwise

/-- The reference runs, leaves its arguments alone, and has no semaphore to leave raised. -/
theorem frame_reference : Cert.quiescent_ReferenceObIdeal := fun m ρ _ =>
  (θ_run Cert.ReferenceObIdeal.defs _ _).mono (fun r h => ⟨fun c => (h c).2,
      Idealize.ShloMosaic.sem_eq_zero_of_no_sems (by decide) r.2⟩)
    (Cert.ReferenceObIdeal.Value.run (F := Ideal) m ρ)

/-- The kernel and the reference end with equal results. -/
theorem algebraic : Cert.algebraic_KernelObIdeal_ReferenceObIdeal := by
  pair_intro
  · run_from kernel_run _ _
  · run_from Cert.ReferenceObIdeal.Value.run _ _
    funext j
    obtain ⟨R, N, rfl⟩ : ∃ (R : Fin 8192) (N : Fin 4096), j = ix2 R N := ⟨j 0, j 1, eq_ix2 j⟩
    exact (reference_value _ _ _ R N)

end Cert.ObSum

end
-- ==== Proof.lean ====
/- The claims, assembled from the generated frames and the modules that prove the equations. -/
module

public import proofs.«01_k».proof.Defs
public import proofs.«01_k».proof.Proof.Gen.KernelAttnIdeal.Value
public import proofs.«01_k».proof.Proof.Gen.KernelDownIdeal.Value
public import proofs.«01_k».proof.Proof.Gen.ReferenceDownIdeal.Run
public import proofs.«01_k».proof.Proof.Gen.KernelAttn
public import proofs.«01_k».proof.Proof.Gen.KernelAttn.Skeleton
public import proofs.«01_k».proof.Proof.Gen.KernelAttn.Launch
public import proofs.«01_k».proof.Proof.Gen.KernelAttn.Points
public import proofs.«01_k».proof.Proof.Gen.KernelAttn.Frame
public import proofs.«01_k».proof.Proof.Gen.KernelAttnIdeal
public import proofs.«01_k».proof.Proof.Gen.KernelAttnIdeal.Skeleton
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.DownSum
public import proofs.«01_k».proof.Proof.AttnSum
public import proofs.«01_k».proof.Proof.UpBitsFrame
public import proofs.«01_k».proof.Proof.UpSum
public import proofs.«01_k».proof.Proof.QkvSum
public import proofs.«01_k».proof.Proof.Gen.ReferenceAttnIdeal
public import proofs.«01_k».proof.Proof.Gen.ReferenceAttnIdeal.Run
public import proofs.«01_k».proof.Proof.Gen.Pre_finite_scores
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.KernelQkv4
public import proofs.«01_k».proof.Proof.Gen.KernelQkv4.Skeleton
public import proofs.«01_k».proof.Proof.Gen.KernelQkv4.Launch
public import proofs.«01_k».proof.Proof.Gen.KernelQkv4.Points
public import proofs.«01_k».proof.Proof.Gen.KernelQkv4.Frame
public import proofs.«01_k».proof.Proof.Gen.KernelQkv4Ideal
public import proofs.«01_k».proof.Proof.Gen.KernelQkv4Ideal.Skeleton
public import proofs.«01_k».proof.Proof.Gen.KernelQkv4Ideal.Launch
public import proofs.«01_k».proof.Proof.Gen.KernelQkv4Ideal.Points
public import proofs.«01_k».proof.Proof.Gen.KernelQkv4Ideal.Frame
public import proofs.«01_k».proof.Proof.Gen.KernelQkv4Ideal.Value
public import proofs.«01_k».proof.Proof.Gen.ReferenceQkv4Ideal
public import proofs.«01_k».proof.Proof.Gen.ReferenceQkv4Ideal.Run
public import proofs.«01_k».proof.Proof.Qkv4Sum
public import proofs.«01_k».proof.Proof.Gen.KernelQkv16
public import proofs.«01_k».proof.Proof.Gen.KernelQkv16.Skeleton
public import proofs.«01_k».proof.Proof.Gen.KernelQkv16.Launch
public import proofs.«01_k».proof.Proof.Gen.KernelQkv16.Points
public import proofs.«01_k».proof.Proof.Gen.KernelQkv16.Frame
public import proofs.«01_k».proof.Proof.Gen.KernelQkv16Ideal
public import proofs.«01_k».proof.Proof.Gen.KernelQkv16Ideal.Skeleton
public import proofs.«01_k».proof.Proof.Gen.KernelQkv16Ideal.Launch
public import proofs.«01_k».proof.Proof.Gen.KernelQkv16Ideal.Points
public import proofs.«01_k».proof.Proof.Gen.KernelQkv16Ideal.Frame
public import proofs.«01_k».proof.Proof.Gen.KernelQkv16Ideal.Value
public import proofs.«01_k».proof.Proof.Gen.ReferenceQkv16Ideal
public import proofs.«01_k».proof.Proof.Gen.ReferenceQkv16Ideal.Run
public import proofs.«01_k».proof.Proof.Qkv16Sum
public import proofs.«01_k».proof.Proof.Gen.KernelKvb
public import proofs.«01_k».proof.Proof.Gen.KernelKvb.Skeleton
public import proofs.«01_k».proof.Proof.Gen.KernelKvb.Launch
public import proofs.«01_k».proof.Proof.Gen.KernelKvb.Points
public import proofs.«01_k».proof.Proof.Gen.KernelKvb.Frame
public import proofs.«01_k».proof.Proof.Gen.KernelKvbIdeal
public import proofs.«01_k».proof.Proof.Gen.KernelKvbIdeal.Skeleton
public import proofs.«01_k».proof.Proof.Gen.KernelKvbIdeal.Launch
public import proofs.«01_k».proof.Proof.Gen.KernelKvbIdeal.Points
public import proofs.«01_k».proof.Proof.Gen.KernelKvbIdeal.Frame
public import proofs.«01_k».proof.Proof.Gen.KernelKvbIdeal.Value
public import proofs.«01_k».proof.Proof.Gen.ReferenceKvbIdeal
public import proofs.«01_k».proof.Proof.Gen.ReferenceKvbIdeal.Run
public import proofs.«01_k».proof.Proof.KvbSum
public import proofs.«01_k».proof.Proof.Gen.KernelQb
public import proofs.«01_k».proof.Proof.Gen.KernelQb.Skeleton
public import proofs.«01_k».proof.Proof.Gen.KernelQb.Launch
public import proofs.«01_k».proof.Proof.Gen.KernelQb.Points
public import proofs.«01_k».proof.Proof.Gen.KernelQb.Frame
public import proofs.«01_k».proof.Proof.Gen.KernelQbIdeal
public import proofs.«01_k».proof.Proof.Gen.KernelQbIdeal.Skeleton
public import proofs.«01_k».proof.Proof.Gen.KernelQbIdeal.Launch
public import proofs.«01_k».proof.Proof.Gen.KernelQbIdeal.Points
public import proofs.«01_k».proof.Proof.Gen.KernelQbIdeal.Frame
public import proofs.«01_k».proof.Proof.Gen.KernelQbIdeal.Value
public import proofs.«01_k».proof.Proof.Gen.ReferenceQbIdeal
public import proofs.«01_k».proof.Proof.Gen.ReferenceQbIdeal.Run
public import proofs.«01_k».proof.Proof.QbSum
public import proofs.«01_k».proof.Proof.Gen.KernelOa
public import proofs.«01_k».proof.Proof.Gen.KernelOa.Skeleton
public import proofs.«01_k».proof.Proof.Gen.KernelOa.Launch
public import proofs.«01_k».proof.Proof.Gen.KernelOa.Points
public import proofs.«01_k».proof.Proof.Gen.KernelOa.Frame
public import proofs.«01_k».proof.Proof.Gen.KernelOaIdeal
public import proofs.«01_k».proof.Proof.Gen.KernelOaIdeal.Skeleton
public import proofs.«01_k».proof.Proof.Gen.KernelOaIdeal.Launch
public import proofs.«01_k».proof.Proof.Gen.KernelOaIdeal.Points
public import proofs.«01_k».proof.Proof.Gen.KernelOaIdeal.Frame
public import proofs.«01_k».proof.Proof.Gen.KernelOaIdeal.Value
public import proofs.«01_k».proof.Proof.Gen.ReferenceOaIdeal
public import proofs.«01_k».proof.Proof.Gen.ReferenceOaIdeal.Run
public import proofs.«01_k».proof.Proof.OaSum
public import proofs.«01_k».proof.Proof.Gen.KernelOb
public import proofs.«01_k».proof.Proof.Gen.KernelOb.Skeleton
public import proofs.«01_k».proof.Proof.Gen.KernelOb.Launch
public import proofs.«01_k».proof.Proof.Gen.KernelOb.Points
public import proofs.«01_k».proof.Proof.Gen.KernelOb.Frame
public import proofs.«01_k».proof.Proof.Gen.KernelObIdeal
public import proofs.«01_k».proof.Proof.Gen.KernelObIdeal.Skeleton
public import proofs.«01_k».proof.Proof.Gen.KernelObIdeal.Launch
public import proofs.«01_k».proof.Proof.Gen.KernelObIdeal.Points
public import proofs.«01_k».proof.Proof.Gen.KernelObIdeal.Frame
public import proofs.«01_k».proof.Proof.Gen.KernelObIdeal.Value
public import proofs.«01_k».proof.Proof.Gen.ReferenceObIdeal
public import proofs.«01_k».proof.Proof.Gen.ReferenceObIdeal.Run
public import proofs.«01_k».proof.Proof.ObSum
public import Idealize.ShloMosaic.Adequacy
public import Idealize.ShloMosaic.Init

@[expose] public section

noncomputable section

namespace Cert.Proof

open Idealize.ShloMosaic Idealize.SL.Sem

theorem claim : Cert.Claim :=
  ⟨Cert.KernelAttn.Gen.facts, Cert.KernelAttnIdeal.Gen.facts, Cert.ReferenceAttnIdeal.Gen.facts,
    Cert.KernelDown.Gen.facts, Cert.KernelDownIdeal.Gen.facts, Cert.ReferenceDownIdeal.Gen.facts,
    Cert.KernelUp.Gen.facts, Cert.KernelUpIdeal.Gen.facts, Cert.ReferenceUpIdeal.Gen.facts,
    Cert.KernelQkv.Gen.facts, Cert.KernelQkvIdeal.Gen.facts, Cert.ReferenceQkvIdeal.Gen.facts,
    Cert.KernelQkv4.Gen.facts, Cert.KernelQkv4Ideal.Gen.facts, Cert.ReferenceQkv4Ideal.Gen.facts,
    Cert.KernelQkv16.Gen.facts, Cert.KernelQkv16Ideal.Gen.facts, Cert.ReferenceQkv16Ideal.Gen.facts,
    Cert.KernelKvb.Gen.facts, Cert.KernelKvbIdeal.Gen.facts, Cert.ReferenceKvbIdeal.Gen.facts,
    Cert.KernelQb.Gen.facts, Cert.KernelQbIdeal.Gen.facts, Cert.ReferenceQbIdeal.Gen.facts,
    Cert.KernelOa.Gen.facts, Cert.KernelOaIdeal.Gen.facts, Cert.ReferenceOaIdeal.Gen.facts,
    Cert.KernelOb.Gen.facts, Cert.KernelObIdeal.Gen.facts, Cert.ReferenceObIdeal.Gen.facts,
    Cert.Pre_finite_scores.Gen.facts,
    fun m ρ _ => Cert.KernelAttn.Gen.frame m ρ, fun m ρ _ => Cert.KernelAttnIdeal.Gen.frame m ρ,
    fun m ρ _ => Cert.KernelAttnIdeal.Gen.frame m ρ,
    AttnSum.frame_reference, AttnSum.frame_reference_pre,
    fun m ρ _ => Cert.KernelDown.Gen.frame m ρ, fun m ρ _ => Cert.KernelDownIdeal.Gen.frame m ρ,
    DownSum.frame_reference,
    fun m ρ _ => Cert.KernelUp.Up.frame m ρ, UpSum.frame_kernel, UpSum.frame_reference,
    fun m ρ _ => Cert.KernelQkv.Gen.frame m ρ, fun m ρ _ => Cert.KernelQkvIdeal.Gen.frame m ρ, QkvSum.frame_reference,
    fun m ρ _ => Cert.KernelQkv4.Gen.frame m ρ, fun m ρ _ => Cert.KernelQkv4Ideal.Gen.frame m ρ, Qkv4Sum.frame_reference,
    fun m ρ _ => Cert.KernelQkv16.Gen.frame m ρ, fun m ρ _ => Cert.KernelQkv16Ideal.Gen.frame m ρ, Qkv16Sum.frame_reference,
    fun m ρ _ => Cert.KernelKvb.Gen.frame m ρ, fun m ρ _ => Cert.KernelKvbIdeal.Gen.frame m ρ, KvbSum.frame_reference,
    fun m ρ _ => Cert.KernelQb.Gen.frame m ρ, fun m ρ _ => Cert.KernelQbIdeal.Gen.frame m ρ, QbSum.frame_reference,
    fun m ρ _ => Cert.KernelOa.Gen.frame m ρ, fun m ρ _ => Cert.KernelOaIdeal.Gen.frame m ρ, OaSum.frame_reference,
    fun m ρ _ => Cert.KernelOb.Gen.frame m ρ, fun m ρ _ => Cert.KernelObIdeal.Gen.frame m ρ, ObSum.frame_reference,
    IdealRules.named_const.statement Cert.KernelAttnIdeal.κ "mask" .f32 0xF149F2CA#32 ⊥ rfl,
    AttnSum.algebraic, trivial, DownSum.algebraic, trivial, UpSum.algebraic, trivial, QkvSum.algebraic,
    trivial, Qkv4Sum.algebraic, trivial, Qkv16Sum.algebraic, trivial, KvbSum.algebraic, trivial, QbSum.algebraic, trivial, OaSum.algebraic, trivial, ObSum.algebraic⟩

end Cert.Proof

end
